-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_ReferenceFrontIdeal (m : (ℓ : Loc Cert.ReferenceFrontIdeal.nD Cert.ReferenceFrontIdeal.τ Cert.ReferenceFrontIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ r.2.sem = fun _ => 0)

def quiescent_ReferenceFrontIdeal [hReferenceFrontIdeal : Cert.ReferenceFrontIdeal.Facts] : Prop :=
  ∀ (m : (ℓ : Loc Cert.ReferenceFrontIdeal.nD Cert.ReferenceFrontIdeal.τ Cert.ReferenceFrontIdeal.sig) → Buf (Elt Ideal) ℓ) (g : Dev Cert.ReferenceFrontIdeal.nD → PrngReg), Pre_ReferenceFrontIdeal m →
    θ_run (Cert.ReferenceFrontIdeal.defs (F := Ideal)) (onTc (τ := Cert.ReferenceFrontIdeal.τ) (Cert.ReferenceFrontIdeal.main (F := Ideal))) ⟨m, fun _ => 0, g⟩ (fun r => (∀ c : Dev Cert.ReferenceFrontIdeal.nD,
      r.2.mem ((c.tc : Thread Cert.ReferenceFrontIdeal.nD Cert.ReferenceFrontIdeal.τ).loc Cert.ReferenceFrontIdeal.main_arg0) = m ((c.tc : Thread Cert.ReferenceFrontIdeal.nD Cert.ReferenceFrontIdeal.τ).loc Cert.ReferenceFrontIdeal.main_arg0)
      ∧ r.2.mem ((c.tc : Thread Cert.ReferenceFrontIdeal.nD Cert.ReferenceFrontIdeal.τ).loc Cert.ReferenceFrontIdeal.main_arg1) = m ((c.tc : Thread Cert.ReferenceFrontIdeal.nD Cert.ReferenceFrontIdeal.τ).loc Cert.ReferenceFrontIdeal.main_arg1)
      ∧ r.2.mem ((c.tc : Thread Cert.ReferenceFrontIdeal.nD Cert.ReferenceFrontIdeal.τ).loc Cert.ReferenceFrontIdeal.main_arg2) = m ((c.tc : Thread Cert.ReferenceFrontIdeal.nD Cert.ReferenceFrontIdeal.τ).loc Cert.ReferenceFrontIdeal.main_arg2)
      ∧ r.2.mem ((c.tc : Thread Cert.ReferenceFrontIdeal.nD Cert.ReferenceFrontIdeal.τ).loc Cert.ReferenceFrontIdeal.main_arg3) = m ((c.tc : Thread Cert.ReferenceFrontIdeal.nD Cert.ReferenceFrontIdeal.τ).loc Cert.ReferenceFrontIdeal.main_arg3)
      ∧ r.2.mem ((c.tc : Thread Cert.ReferenceFrontIdeal.nD Cert.ReferenceFrontIdeal.τ).loc Cert.ReferenceFrontIdeal.main_arg4) = m ((c.tc : Thread Cert.ReferenceFrontIdeal.nD Cert.ReferenceFrontIdeal.τ).loc Cert.ReferenceFrontIdeal.main_arg4)
      ∧ r.2.mem ((c.tc : Thread Cert.ReferenceFrontIdeal.nD Cert.ReferenceFrontIdeal.τ).loc Cert.ReferenceFrontIdeal.main_arg5) = m ((c.tc : Thread Cert.ReferenceFrontIdeal.nD Cert.ReferenceFrontIdeal.τ).loc Cert.ReferenceFrontIdeal.main_arg5)
      ∧ r.2.mem ((c.tc : Thread Cert.ReferenceFrontIdeal.nD Cert.ReferenceFrontIdeal.τ).loc Cert.ReferenceFrontIdeal.main_arg6) = m ((c.tc : Thread Cert.ReferenceFrontIdeal.nD Cert.ReferenceFrontIdeal.τ).loc Cert.ReferenceFrontIdeal.main_arg6))
      ∧ r.2.sem = fun _ => 0)

def preserves_Kernel_KernelIdeal : Prop :=
  IdealRules.named_const.Statement Cert.KernelIdeal.κ "inv_n" .f32 0x39CCCCCD#32 ((1 / 2560 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Front_FrontIdeal : Prop :=
  IdealRules.named_const.Statement Cert.FrontIdeal.κ "inv_n" .f32 0x39CCCCCD#32 ((1 / 2560 : ℝ) : EReal)
  ∧ IdealRules.bf16_pair.PackStatement Cert.FrontIdeal.S256x128
  ∧ IdealRules.bf16_pair.Statement Cert.FrontIdeal.S256x2x128 Cert.FrontIdeal.S256x1x128

def algebraic_FrontIdeal_ReferenceFrontIdeal [hFrontIdeal : Cert.FrontIdeal.Facts] [hReferenceFrontIdeal : Cert.ReferenceFrontIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.ReferenceFrontIdeal.nD Cert.ReferenceFrontIdeal.τ Cert.ReferenceFrontIdeal.sig) → Buf (Elt Ideal) ℓ) (g' : Dev Cert.ReferenceFrontIdeal.nD → PrngReg), Pre_FrontIdeal m →
    (∀ c : Dev Cert.FrontIdeal.nD,
      m' ((c.tc : Thread Cert.ReferenceFrontIdeal.nD Cert.ReferenceFrontIdeal.τ).loc Cert.ReferenceFrontIdeal.main_arg0) = m ((c.tc : Thread Cert.FrontIdeal.nD Cert.FrontIdeal.τ).loc Cert.FrontIdeal.main_arg0)
      ∧ m' ((c.tc : Thread Cert.ReferenceFrontIdeal.nD Cert.ReferenceFrontIdeal.τ).loc Cert.ReferenceFrontIdeal.main_arg1) = m ((c.tc : Thread Cert.FrontIdeal.nD Cert.FrontIdeal.τ).loc Cert.FrontIdeal.main_arg1)
      ∧ m' ((c.tc : Thread Cert.ReferenceFrontIdeal.nD Cert.ReferenceFrontIdeal.τ).loc Cert.ReferenceFrontIdeal.main_arg2) = m ((c.tc : Thread Cert.FrontIdeal.nD Cert.FrontIdeal.τ).loc Cert.FrontIdeal.main_arg2)
      ∧ m' ((c.tc : Thread Cert.ReferenceFrontIdeal.nD Cert.ReferenceFrontIdeal.τ).loc Cert.ReferenceFrontIdeal.main_arg3) = m ((c.tc : Thread Cert.FrontIdeal.nD Cert.FrontIdeal.τ).loc Cert.FrontIdeal.main_arg3)
      ∧ m' ((c.tc : Thread Cert.ReferenceFrontIdeal.nD Cert.ReferenceFrontIdeal.τ).loc Cert.ReferenceFrontIdeal.main_arg4) = m ((c.tc : Thread Cert.FrontIdeal.nD Cert.FrontIdeal.τ).loc Cert.FrontIdeal.main_arg4)
      ∧ m' ((c.tc : Thread Cert.ReferenceFrontIdeal.nD Cert.ReferenceFrontIdeal.τ).loc Cert.ReferenceFrontIdeal.main_arg5) = m ((c.tc : Thread Cert.FrontIdeal.nD Cert.FrontIdeal.τ).loc Cert.FrontIdeal.main_arg5)
      ∧ m' ((c.tc : Thread Cert.ReferenceFrontIdeal.nD Cert.ReferenceFrontIdeal.τ).loc Cert.ReferenceFrontIdeal.main_arg6) = m ((c.tc : Thread Cert.FrontIdeal.nD Cert.FrontIdeal.τ).loc Cert.FrontIdeal.main_arg6)) →
    ∃ (v0 : (c : Dev Cert.FrontIdeal.nD) → Buf (Elt Ideal) ((c.tc : Thread Cert.FrontIdeal.nD Cert.FrontIdeal.τ).loc Cert.FrontIdeal.main_v12_0)) (v1 : (c : Dev Cert.FrontIdeal.nD) → Buf (Elt Ideal) ((c.tc : Thread Cert.FrontIdeal.nD Cert.FrontIdeal.τ).loc Cert.FrontIdeal.main_v12_1)) (v2 : (c : Dev Cert.FrontIdeal.nD) → Buf (Elt Ideal) ((c.tc : Thread Cert.FrontIdeal.nD Cert.FrontIdeal.τ).loc Cert.FrontIdeal.main_v12_2)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v12_0) = v0 c
          ∧ r.2.mem ((c.tc : Thread Cert.FrontIdeal.nD Cert.FrontIdeal.τ).loc Cert.FrontIdeal.main_v12_1) = v1 c
          ∧ r.2.mem ((c.tc : Thread Cert.FrontIdeal.nD Cert.FrontIdeal.τ).loc Cert.FrontIdeal.main_v12_2) = v2 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ θ_run (Cert.ReferenceFrontIdeal.defs (F := Ideal)) (onTc (τ := Cert.ReferenceFrontIdeal.τ) (Cert.ReferenceFrontIdeal.main (F := Ideal))) ⟨m', fun _ => 0, g'⟩ (fun r => ∀ c : Dev Cert.ReferenceFrontIdeal.nD,
          r.2.mem ((c.tc : Thread Cert.ReferenceFrontIdeal.nD Cert.ReferenceFrontIdeal.τ).loc Cert.ReferenceFrontIdeal.main_v14_0) = v0 c
          ∧ r.2.mem ((c.tc : Thread Cert.ReferenceFrontIdeal.nD Cert.ReferenceFrontIdeal.τ).loc Cert.ReferenceFrontIdeal.main_v14_1) = v1 c
          ∧ r.2.mem ((c.tc : Thread Cert.ReferenceFrontIdeal.nD Cert.ReferenceFrontIdeal.τ).loc Cert.ReferenceFrontIdeal.main_v14_2) = v2 c
          ∧ r.2.mem ((c.tc : Thread Cert.ReferenceFrontIdeal.nD Cert.ReferenceFrontIdeal.τ).loc Cert.ReferenceFrontIdeal.main_arg0) = m' ((c.tc : Thread Cert.ReferenceFrontIdeal.nD Cert.ReferenceFrontIdeal.τ).loc Cert.ReferenceFrontIdeal.main_arg0)
          ∧ r.2.mem ((c.tc : Thread Cert.ReferenceFrontIdeal.nD Cert.ReferenceFrontIdeal.τ).loc Cert.ReferenceFrontIdeal.main_arg1) = m' ((c.tc : Thread Cert.ReferenceFrontIdeal.nD Cert.ReferenceFrontIdeal.τ).loc Cert.ReferenceFrontIdeal.main_arg1)
          ∧ r.2.mem ((c.tc : Thread Cert.ReferenceFrontIdeal.nD Cert.ReferenceFrontIdeal.τ).loc Cert.ReferenceFrontIdeal.main_arg2) = m' ((c.tc : Thread Cert.ReferenceFrontIdeal.nD Cert.ReferenceFrontIdeal.τ).loc Cert.ReferenceFrontIdeal.main_arg2)
          ∧ r.2.mem ((c.tc : Thread Cert.ReferenceFrontIdeal.nD Cert.ReferenceFrontIdeal.τ).loc Cert.ReferenceFrontIdeal.main_arg3) = m' ((c.tc : Thread Cert.ReferenceFrontIdeal.nD Cert.ReferenceFrontIdeal.τ).loc Cert.ReferenceFrontIdeal.main_arg3)
          ∧ r.2.mem ((c.tc : Thread Cert.ReferenceFrontIdeal.nD Cert.ReferenceFrontIdeal.τ).loc Cert.ReferenceFrontIdeal.main_arg4) = m' ((c.tc : Thread Cert.ReferenceFrontIdeal.nD Cert.ReferenceFrontIdeal.τ).loc Cert.ReferenceFrontIdeal.main_arg4)
          ∧ r.2.mem ((c.tc : Thread Cert.ReferenceFrontIdeal.nD Cert.ReferenceFrontIdeal.τ).loc Cert.ReferenceFrontIdeal.main_arg5) = m' ((c.tc : Thread Cert.ReferenceFrontIdeal.nD Cert.ReferenceFrontIdeal.τ).loc Cert.ReferenceFrontIdeal.main_arg5)
          ∧ r.2.mem ((c.tc : Thread Cert.ReferenceFrontIdeal.nD Cert.ReferenceFrontIdeal.τ).loc Cert.ReferenceFrontIdeal.main_arg6) = m' ((c.tc : Thread Cert.ReferenceFrontIdeal.nD Cert.ReferenceFrontIdeal.τ).loc Cert.ReferenceFrontIdeal.main_arg6))

def Claim : Prop :=
  ∃ (hKernel : Cert.Kernel.Facts) (hKernelIdeal : Cert.KernelIdeal.Facts) (hReferenceIdeal : Cert.ReferenceIdeal.Facts) (hFront : Cert.Front.Facts) (hFrontIdeal : Cert.FrontIdeal.Facts) (hReferenceFrontIdeal : Cert.ReferenceFrontIdeal.Facts),
    quiescent_Kernel (hKernel := hKernel)
    ∧ quiescent_KernelIdeal (hKernelIdeal := hKernelIdeal)
    ∧ quiescent_ReferenceIdeal (hReferenceIdeal := hReferenceIdeal)
    ∧ quiescent_Front (hFront := hFront)
    ∧ quiescent_FrontIdeal (hFrontIdeal := hFrontIdeal)
    ∧ quiescent_ReferenceFrontIdeal (hReferenceFrontIdeal := hReferenceFrontIdeal)
    ∧ preserves_Kernel_KernelIdeal
    ∧ algebraic_KernelIdeal_ReferenceIdeal (hKernelIdeal := hKernelIdeal) (hReferenceIdeal := hReferenceIdeal)
    ∧ preserves_Front_FrontIdeal
    ∧ algebraic_FrontIdeal_ReferenceFrontIdeal (hFrontIdeal := hFrontIdeal) (hReferenceFrontIdeal := hReferenceFrontIdeal)
-- ==== Kernel.lean ====
abbrev S256x2560 : Shape := ⟨2, ![256, 2560]⟩
abbrev S256x4096 : Shape := ⟨2, ![256, 4096]⟩
abbrev S2560 : Shape := ⟨1, ![2560]⟩
abbrev S4096x2560 : Shape := ⟨2, ![4096, 2560]⟩
abbrev S2560x9728 : Shape := ⟨2, ![2560, 9728]⟩
abbrev S9728 : Shape := ⟨1, ![9728]⟩
abbrev S9728x2560 : Shape := ⟨2, ![9728, 2560]⟩
abbrev S1x2560 : Shape := ⟨2, ![1, 2560]⟩
abbrev S1x9728 : Shape := ⟨2, ![1, 9728]⟩
abbrev S256x9728 : Shape := ⟨2, ![256, 9728]⟩
abbrev S3x4096x256 : Shape := ⟨3, ![3, 4096, 256]⟩
abbrev S3x2560x512 : Shape := ⟨3, ![3, 2560, 512]⟩
abbrev S3x9728x256 : Shape := ⟨3, ![3, 9728, 256]⟩
abbrev S_ : Shape := ⟨0, ![]⟩
abbrev S3 : Shape := ⟨1, ![3]⟩
abbrev S2x3 : Shape := ⟨2, ![2, 3]⟩
abbrev S1 : Shape := ⟨1, ![1]⟩
abbrev S1x4096x256 : Shape := ⟨3, ![1, 4096, 256]⟩
abbrev S4096x256 : Shape := ⟨2, ![4096, 256]⟩
abbrev S1x1 : Shape := ⟨2, ![1, 1]⟩
abbrev S1x2560x512 : Shape := ⟨3, ![1, 2560, 512]⟩
abbrev S2560x512 : Shape := ⟨2, ![2560, 512]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S1x9728x256 : Shape := ⟨3, ![1, 9728, 256]⟩
abbrev S9728x256 : Shape := ⟨2, ![9728, 256]⟩
abbrev S256x512 : Shape := ⟨2, ![256, 512]⟩
abbrev S1x512 : Shape := ⟨2, ![1, 512]⟩

abbrev nBuf : Space → Nat
  | .hbm => 19
  | .vmem => 15
  | .smem => 0
  | _ => 0

abbrev bufTy : (tb : Table) → Fin (tcTables nBuf tb) → BufTy
  | .hbm, ⟨0, _⟩ => ⟨S256x2560, .bf16⟩
  | .hbm, ⟨1, _⟩ => ⟨S256x4096, .bf16⟩
  | .hbm, ⟨2, _⟩ => ⟨S2560, .f32⟩
  | .hbm, ⟨3, _⟩ => ⟨S4096x2560, .fp8e4m3⟩
  | .hbm, ⟨4, _⟩ => ⟨S2560, .f32⟩
  | .hbm, ⟨5, _⟩ => ⟨S2560x9728, .fp8e4m3⟩
  | .hbm, ⟨6, _⟩ => ⟨S9728, .f32⟩
  | .hbm, ⟨7, _⟩ => ⟨S2560x9728, .fp8e4m3⟩
  | .hbm, ⟨8, _⟩ => ⟨S9728, .f32⟩
  | .hbm, ⟨9, _⟩ => ⟨S9728x2560, .fp8e4m3⟩
  | .hbm, ⟨10, _⟩ => ⟨S2560, .f32⟩
  | .hbm, ⟨11, _⟩ => ⟨S1x2560, .f32⟩
  | .hbm, ⟨12, _⟩ => ⟨S1x2560, .f32⟩
  | .hbm, ⟨13, _⟩ => ⟨S1x9728, .f32⟩
  | .hbm, ⟨14, _⟩ => ⟨S1x9728, .f32⟩
  | .hbm, ⟨15, _⟩ => ⟨S1x2560, .f32⟩
  | .hbm, ⟨16, _⟩ => ⟨S256x2560, .bf16⟩
  | .hbm, ⟨17, _⟩ => ⟨S256x2560, .bf16⟩
  | .hbm, ⟨18, _⟩ => ⟨S256x9728, .bf16⟩
  | .local _ .vmem, ⟨0, _⟩ => ⟨S1x2560, .f32⟩
  | .local _ .vmem, ⟨1, _⟩ => ⟨S1x2560, .f32⟩
  | .local _ .vmem, ⟨2, _⟩ => ⟨S1x9728, .f32⟩
  | .local _ .vmem, ⟨3, _⟩ => ⟨S1x9728, .f32⟩
  | .local _ .vmem, ⟨4, _⟩ => ⟨S1x2560, .f32⟩
  | .local _ .vmem, ⟨5, _⟩ => ⟨S256x4096, .bf16⟩
  | .local _ .vmem, ⟨6, _⟩ => ⟨S256x2560, .bf16⟩
  | .local _ .vmem, ⟨7, _⟩ => ⟨S256x2560, .bf16⟩
  | .local _ .vmem, ⟨8, _⟩ => ⟨S256x2560, .f32⟩
  | .local _ .vmem, ⟨9, _⟩ => ⟨S256x2560, .bf16⟩
  | .local _ .vmem, ⟨10, _⟩ => ⟨S3x4096x256, .fp8e4m3⟩
  | .local _ .vmem, ⟨11, _⟩ => ⟨S3x2560x512, .fp8e4m3⟩
  | .local _ .vmem, ⟨12, _⟩ => ⟨S3x2560x512, .fp8e4m3⟩
  | .local _ .vmem, ⟨13, _⟩ => ⟨S3x9728x256, .fp8e4m3⟩
  | .local _ .vmem, ⟨14, _⟩ => ⟨S256x9728, .bf16⟩
  | _, _ => ⟨S256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scoped0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_54 : BitVec 32 := 0#32
  let c10_i32 : BitVec 32 := 10#32
  let v45 : BitVec 32 := Scalar.addi c0_i32_54 c10_i32
  let c1_i32_55 : BitVec 32 := 1#32
  ⟨c0_i32_54, v45, c1_i32_55⟩
def k0_off1 (k0_t1 : Fin k0_t1_loop.trips) : Fin 1 → Nat :=
  let c0_i32_54 : BitVec 32 := 0#32
  let c1_i32_55 : BitVec 32 := 1#32
  let arg27 : BitVec 32 := Scf.iv c0_i32_54 c1_i32_55 k0_t1
  let c3_i32 : BitVec 32 := 3#32
  let v46 : BitVec 32 := Scalar.remsi arg27 c3_i32
  ![v46.toNat]
def k0_off2 (k0_t1 : Fin k0_t1_loop.trips) : Fin 3 → Nat :=
  let c0_i32_54 : BitVec 32 := 0#32
  let c1_i32_55 : BitVec 32 := 1#32
  let arg27 : BitVec 32 := Scf.iv c0_i32_54 c1_i32_55 k0_t1
  let c3_i32 : BitVec 32 := 3#32
  let v46 : BitVec 32 := Scalar.remsi arg27 c3_i32
  let c0_i32_58 : BitVec 32 := 0#32
  let c0_i32_59 : BitVec 32 := 0#32
  ![v46.toNat, 0, 0]
def k0_off3 (k0_t1 : Fin k0_t1_loop.trips) : Fin 2 → Nat :=
  let c0_i32_60 : BitVec 32 := 0#32
  let c0_i32_54 : BitVec 32 := 0#32
  let c1_i32_55 : BitVec 32 := 1#32
  let arg27 : BitVec 32 := Scf.iv c0_i32_54 c1_i32_55 k0_t1
  let c256_i32_57 : BitVec 32 := 256#32
  let v47 : BitVec 32 := Scalar.muli arg27 c256_i32_57
  ![0, v47.toNat]
def k0_mult1 (k0_t1 : Fin k0_t1_loop.trips) : BitVec 32 :=
  let c0_i32_54 : BitVec 32 := 0#32
  let c1_i32_55 : BitVec 32 := 1#32
  let arg27 : BitVec 32 := Scf.iv c0_i32_54 c1_i32_55 k0_t1
  let c256_i32_61 : BitVec 32 := 256#32
  let v53 : BitVec 32 := Scalar.muli arg27 c256_i32_61
  v53
def k0_off4 (k0_t1 : Fin k0_t1_loop.trips) : Fin 3 → Nat :=
  let c0_i32_54 : BitVec 32 := 0#32
  let c1_i32_55 : BitVec 32 := 1#32
  let arg27 : BitVec 32 := Scf.iv c0_i32_54 c1_i32_55 k0_t1
  let c3_i32 : BitVec 32 := 3#32
  let v46 : BitVec 32 := Scalar.remsi arg27 c3_i32
  let v56 : Index := Scalar.indexCast v46
  let c0_63 : Index := 0#32
  let c0_64 : Index := 0#32
  ![v56.toNat, 0, 0]
def k0_off5 (k0_t1 : Fin k0_t1_loop.trips) : Fin 2 → Nat :=
  let c0_65 : Index := 0#32
  let c0_i32_54 : BitVec 32 := 0#32
  let c1_i32_55 : BitVec 32 := 1#32
  let arg27 : BitVec 32 := Scf.iv c0_i32_54 c1_i32_55 k0_t1
  let c256_i32_61 : BitVec 32 := 256#32
  let v53 : BitVec 32 := Scalar.muli arg27 c256_i32_61
  let v54 : BitVec 32 := v53
  let v60 : Index := Scalar.indexCast v54
  ![0, v60.toNat]
def k0_cond1 (k0_t1 : Fin k0_t1_loop.trips) : BitVec 1 :=
  let c0_i32_54 : BitVec 32 := 0#32
  let c1_i32_55 : BitVec 32 := 1#32
  let arg27 : BitVec 32 := Scf.iv c0_i32_54 c1_i32_55 k0_t1
  let c3_i32_66 : BitVec 32 := 3#32
  let v65 : BitVec 32 := Scalar.addi arg27 c3_i32_66
  let c10_i32_67 : BitVec 32 := 10#32
  let v66 : BitVec 1 := Scalar.cmpi .slt v65 c10_i32_67
  let v67 : BitVec 32 := Scalar.extui v66
  let c0_i32_68 : BitVec 32 := 0#32
  let v68 : BitVec 1 := Scalar.cmpi .ne v67 c0_i32_68
  v68

def k0_off6 (k0_t1 : Fin k0_t1_loop.trips) : Fin 1 → Nat :=
  let c0_i32_54 : BitVec 32 := 0#32
  let c1_i32_55 : BitVec 32 := 1#32
  let arg27 : BitVec 32 := Scf.iv c0_i32_54 c1_i32_55 k0_t1
  let c3_i32 : BitVec 32 := 3#32
  let v46 : BitVec 32 := Scalar.remsi arg27 c3_i32
  ![v46.toNat]
def k0_off7 (k0_t1 : Fin k0_t1_loop.trips) : Fin 3 → Nat :=
  let c0_i32_54 : BitVec 32 := 0#32
  let c1_i32_55 : BitVec 32 := 1#32
  let arg27 : BitVec 32 := Scf.iv c0_i32_54 c1_i32_55 k0_t1
  let c3_i32 : BitVec 32 := 3#32
  let v46 : BitVec 32 := Scalar.remsi arg27 c3_i32
  let c0_i32_74 : BitVec 32 := 0#32
  let c0_i32_75 : BitVec 32 := 0#32
  ![v46.toNat, 0, 0]
def k0_off8 (k0_t1 : Fin k0_t1_loop.trips) : Fin 2 → Nat :=
  let c0_i32_76 : BitVec 32 := 0#32
  let c0_i32_54 : BitVec 32 := 0#32
  let c1_i32_55 : BitVec 32 := 1#32
  let arg27 : BitVec 32 := Scf.iv c0_i32_54 c1_i32_55 k0_t1
  let c3_i32_72 : BitVec 32 := 3#32
  let v82 : BitVec 32 := Scalar.addi arg27 c3_i32_72
  let c256_i32_73 : BitVec 32 := 256#32
  let v83 : BitVec 32 := Scalar.muli v82 c256_i32_73
  ![0, v83.toNat]
def k0_off9 (k0_t1 : Fin k0_t1_loop.trips) : Fin 2 → Nat :=
  let c0_69 : Index := 0#32
  let c0_i32_54 : BitVec 32 := 0#32
  let c1_i32_55 : BitVec 32 := 1#32
  let arg27 : BitVec 32 := Scf.iv c0_i32_54 c1_i32_55 k0_t1
  let c256_i32_61 : BitVec 32 := 256#32
  let v53 : BitVec 32 := Scalar.muli arg27 c256_i32_61
  let v54 : BitVec 32 := v53
  let v69 : Index := Scalar.indexCast v54
  ![0, v69.toNat]
@[reducible] def k0_t2_loop : Scf.Loop 32 :=
  let c0_i32_84_r0 : BitVec 32 := 0#32
  let c19_i32_r0 : BitVec 32 := 19#32
  let v82_r0 : BitVec 32 := Scalar.addi c0_i32_84_r0 c19_i32_r0
  let c1_i32_85_r0 : BitVec 32 := 1#32
  ⟨c0_i32_84_r0, v82_r0, c1_i32_85_r0⟩
def k0_off10 (k0_t2 : Fin k0_t2_loop.trips) : Fin 2 → Nat :=
  let c0_i32_160_r0 : BitVec 32 := 0#32
  let c0_i32_84_r0 : BitVec 32 := 0#32
  let c1_i32_85_r0 : BitVec 32 := 1#32
  let arg27_r0 : BitVec 32 := Scf.iv c0_i32_84_r0 c1_i32_85_r0 k0_t2
  let c3_i32_r0 : BitVec 32 := 3#32
  let v192_r0 : BitVec 32 := Scalar.remsi arg27_r0 c3_i32_r0
  ![0, v192_r0.toNat]
def k0_off11 (k0_t2 : Fin k0_t2_loop.trips) : Fin 3 → Nat :=
  let c0_i32_84_r0 : BitVec 32 := 0#32
  let c1_i32_85_r0 : BitVec 32 := 1#32
  let arg27_r0 : BitVec 32 := Scf.iv c0_i32_84_r0 c1_i32_85_r0 k0_t2
  let c3_i32_r0 : BitVec 32 := 3#32
  let v192_r0 : BitVec 32 := Scalar.remsi arg27_r0 c3_i32_r0
  let c0_i32_161_r0 : BitVec 32 := 0#32
  let c0_i32_162_r0 : BitVec 32 := 0#32
  ![v192_r0.toNat, 0, 0]
def k0_off12 (k0_t2 : Fin k0_t2_loop.trips) : Fin 2 → Nat :=
  let c0_i32_163_r0 : BitVec 32 := 0#32
  let c0_i32_84_r0 : BitVec 32 := 0#32
  let c1_i32_85_r0 : BitVec 32 := 1#32
  let arg27_r0 : BitVec 32 := Scf.iv c0_i32_84_r0 c1_i32_85_r0 k0_t2
  let c512_i32_159_r0 : BitVec 32 := 512#32
  let v193_r0 : BitVec 32 := Scalar.muli arg27_r0 c512_i32_159_r0
  ![0, v193_r0.toNat]
def k0_off13 (k0_t2 : Fin k0_t2_loop.trips) : Fin 2 → Nat :=
  let c1_i32_165_r0 : BitVec 32 := 1#32
  let c0_i32_84_r0 : BitVec 32 := 0#32
  let c1_i32_85_r0 : BitVec 32 := 1#32
  let arg27_r0 : BitVec 32 := Scf.iv c0_i32_84_r0 c1_i32_85_r0 k0_t2
  let c3_i32_r0 : BitVec 32 := 3#32
  let v192_r0 : BitVec 32 := Scalar.remsi arg27_r0 c3_i32_r0
  ![1, v192_r0.toNat]
def k0_mult2 (k0_t2 : Fin k0_t2_loop.trips) : BitVec 32 :=
  let c0_i32_84_r0 : BitVec 32 := 0#32
  let c1_i32_85_r0 : BitVec 32 := 1#32
  let arg27_r0 : BitVec 32 := Scf.iv c0_i32_84_r0 c1_i32_85_r0 k0_t2
  let c512_i32_169_r0 : BitVec 32 := 512#32
  let v205_r0 : BitVec 32 := Scalar.muli arg27_r0 c512_i32_169_r0
  v205_r0
def k0_off14 (k0_t2 : Fin k0_t2_loop.trips) : Fin 3 → Nat :=
  let c0_i32_84_r0 : BitVec 32 := 0#32
  let c1_i32_85_r0 : BitVec 32 := 1#32
  let arg27_r0 : BitVec 32 := Scf.iv c0_i32_84_r0 c1_i32_85_r0 k0_t2
  let c3_i32_r0 : BitVec 32 := 3#32
  let v192_r0 : BitVec 32 := Scalar.remsi arg27_r0 c3_i32_r0
  let v208_r0 : Index := Scalar.indexCast v192_r0
  let c0_172_r0 : Index := 0#32
  let c0_173_r0 : Index := 0#32
  ![v208_r0.toNat, 0, 0]
def k0_off15 (k0_t2 : Fin k0_t2_loop.trips) : Fin 2 → Nat :=
  let c0_175_r0 : Index := 0#32
  let c0_i32_84_r0 : BitVec 32 := 0#32
  let c1_i32_85_r0 : BitVec 32 := 1#32
  let arg27_r0 : BitVec 32 := Scf.iv c0_i32_84_r0 c1_i32_85_r0 k0_t2
  let c512_i32_169_r0 : BitVec 32 := 512#32
  let v205_r0 : BitVec 32 := Scalar.muli arg27_r0 c512_i32_169_r0
  let v206_r0 : BitVec 32 := v205_r0
  let v212_r0 : Index := Scalar.indexCast v206_r0
  ![0, v212_r0.toNat]
def k0_cond2 (k0_t2 : Fin k0_t2_loop.trips) : BitVec 1 :=
  let c0_i32_84_r0 : BitVec 32 := 0#32
  let c1_i32_85_r0 : BitVec 32 := 1#32
  let arg27_r0 : BitVec 32 := Scf.iv c0_i32_84_r0 c1_i32_85_r0 k0_t2
  let c3_i32_180_r0 : BitVec 32 := 3#32
  let v226_r0 : BitVec 32 := Scalar.addi arg27_r0 c3_i32_180_r0
  let c19_i32_181_r0 : BitVec 32 := 19#32
  let v227_r0 : BitVec 1 := Scalar.cmpi .slt v226_r0 c19_i32_181_r0
  let v228_r0 : BitVec 32 := Scalar.extui v227_r0
  let c0_i32_182_r0 : BitVec 32 := 0#32
  let v229_r0 : BitVec 1 := Scalar.cmpi .ne v228_r0 c0_i32_182_r0
  v229_r0

def k0_off16 (k0_t2 : Fin k0_t2_loop.trips) : Fin 2 → Nat :=
  let c0_i32_189_r0 : BitVec 32 := 0#32
  let c0_i32_84_r0 : BitVec 32 := 0#32
  let c1_i32_85_r0 : BitVec 32 := 1#32
  let arg27_r0 : BitVec 32 := Scf.iv c0_i32_84_r0 c1_i32_85_r0 k0_t2
  let c3_i32_r0 : BitVec 32 := 3#32
  let v192_r0 : BitVec 32 := Scalar.remsi arg27_r0 c3_i32_r0
  ![0, v192_r0.toNat]
def k0_off17 (k0_t2 : Fin k0_t2_loop.trips) : Fin 3 → Nat :=
  let c0_i32_84_r0 : BitVec 32 := 0#32
  let c1_i32_85_r0 : BitVec 32 := 1#32
  let arg27_r0 : BitVec 32 := Scf.iv c0_i32_84_r0 c1_i32_85_r0 k0_t2
  let c3_i32_r0 : BitVec 32 := 3#32
  let v192_r0 : BitVec 32 := Scalar.remsi arg27_r0 c3_i32_r0
  let c0_i32_190_r0 : BitVec 32 := 0#32
  let c0_i32_191_r0 : BitVec 32 := 0#32
  ![v192_r0.toNat, 0, 0]
def k0_off18 (k0_t2 : Fin k0_t2_loop.trips) : Fin 2 → Nat :=
  let c0_i32_192_r0 : BitVec 32 := 0#32
  let c0_i32_84_r0 : BitVec 32 := 0#32
  let c1_i32_85_r0 : BitVec 32 := 1#32
  let arg27_r0 : BitVec 32 := Scf.iv c0_i32_84_r0 c1_i32_85_r0 k0_t2
  let c3_i32_187_r0 : BitVec 32 := 3#32
  let v241_r0 : BitVec 32 := Scalar.addi arg27_r0 c3_i32_187_r0
  let c512_i32_188_r0 : BitVec 32 := 512#32
  let v242_r0 : BitVec 32 := Scalar.muli v241_r0 c512_i32_188_r0
  ![0, v242_r0.toNat]
def k0_off19 (k0_t2 : Fin k0_t2_loop.trips) : Fin 2 → Nat :=
  let c1_i32_195_r0 : BitVec 32 := 1#32
  let c0_i32_84_r0 : BitVec 32 := 0#32
  let c1_i32_85_r0 : BitVec 32 := 1#32
  let arg27_r0 : BitVec 32 := Scf.iv c0_i32_84_r0 c1_i32_85_r0 k0_t2
  let c3_i32_r0 : BitVec 32 := 3#32
  let v192_r0 : BitVec 32 := Scalar.remsi arg27_r0 c3_i32_r0
  ![1, v192_r0.toNat]
def k0_off20 (k0_t2 : Fin k0_t2_loop.trips) : Fin 2 → Nat :=
  let c0_183_r0 : Index := 0#32
  let c0_i32_84_r0 : BitVec 32 := 0#32
  let c1_i32_85_r0 : BitVec 32 := 1#32
  let arg27_r0 : BitVec 32 := Scf.iv c0_i32_84_r0 c1_i32_85_r0 k0_t2
  let c512_i32_169_r0 : BitVec 32 := 512#32
  let v205_r0 : BitVec 32 := Scalar.muli arg27_r0 c512_i32_169_r0
  let v206_r0 : BitVec 32 := v205_r0
  let v234_r0 : Index := Scalar.indexCast v206_r0
  ![0, v234_r0.toNat]
def k0_cond3 (k0_t2 : Fin k0_t2_loop.trips) : BitVec 1 :=
  let c0_i32_84_r0 : BitVec 32 := 0#32
  let c1_i32_85_r0 : BitVec 32 := 1#32
  let arg27_r0 : BitVec 32 := Scf.iv c0_i32_84_r0 c1_i32_85_r0 k0_t2
  let c0_i32_184_r0 : BitVec 32 := 0#32
  let v238_r0 : BitVec 1 := Scalar.cmpi .sgt arg27_r0 c0_i32_184_r0
  let v239_r0 : BitVec 32 := Scalar.extui v238_r0
  let c0_i32_185_r0 : BitVec 32 := 0#32
  let v240_r0 : BitVec 1 := Scalar.cmpi .ne v239_r0 c0_i32_185_r0
  v240_r0

def k0_mult3 (k0_t2 : Fin k0_t2_loop.trips) : BitVec 32 :=
  let c0_i32_84_r0 : BitVec 32 := 0#32
  let c1_i32_85_r0 : BitVec 32 := 1#32
  let arg27_r0 : BitVec 32 := Scf.iv c0_i32_84_r0 c1_i32_85_r0 k0_t2
  let c1_i32_187_r0 : BitVec 32 := 1#32
  let v241_r0 : BitVec 32 := Scalar.subi arg27_r0 c1_i32_187_r0
  let c512_i32_188_r0 : BitVec 32 := 512#32
  let v242_r0 : BitVec 32 := Scalar.muli v241_r0 c512_i32_188_r0
  v242_r0
def k0_off21 (k0_t2 : Fin k0_t2_loop.trips) : Fin 2 → Nat :=
  let c0_i32_190_r0 : BitVec 32 := 0#32
  let c0_i32_84_r0 : BitVec 32 := 0#32
  let c1_i32_85_r0 : BitVec 32 := 1#32
  let arg27_r0 : BitVec 32 := Scf.iv c0_i32_84_r0 c1_i32_85_r0 k0_t2
  let c1_i32_187_r0 : BitVec 32 := 1#32
  let v241_r0 : BitVec 32 := Scalar.subi arg27_r0 c1_i32_187_r0
  let c512_i32_188_r0 : BitVec 32 := 512#32
  let v242_r0 : BitVec 32 := Scalar.muli v241_r0 c512_i32_188_r0
  let v243_r0 : BitVec 32 := v242_r0
  ![0, v243_r0.toNat]
def k0_mult4 : BitVec 32 :=
  let c9216_i32_r0 : BitVec 32 := 9216#32
  c9216_i32_r0
@[reducible] def k0_t3_loop : Scf.Loop 32 :=
  let c0_i32_92_r0 : BitVec 32 := 0#32
  let c10_i32_93_r0 : BitVec 32 := 10#32
  let v91_r0 : BitVec 32 := Scalar.addi c0_i32_92_r0 c10_i32_93_r0
  let c1_i32_94_r0 : BitVec 32 := 1#32
  ⟨c0_i32_92_r0, v91_r0, c1_i32_94_r0⟩
def k0_off22 (k0_t3 : Fin k0_t3_loop.trips) : Fin 1 → Nat :=
  let c0_i32_92_r0 : BitVec 32 := 0#32
  let c1_i32_94_r0 : BitVec 32 := 1#32
  let arg27_r0 : BitVec 32 := Scf.iv c0_i32_92_r0 c1_i32_94_r0 k0_t3
  let c3_i32_r0 : BitVec 32 := 3#32
  let v192_r0 : BitVec 32 := Scalar.remsi arg27_r0 c3_i32_r0
  ![v192_r0.toNat]
def k0_off23 (k0_t3 : Fin k0_t3_loop.trips) : Fin 3 → Nat :=
  let c0_i32_92_r0 : BitVec 32 := 0#32
  let c1_i32_94_r0 : BitVec 32 := 1#32
  let arg27_r0 : BitVec 32 := Scf.iv c0_i32_92_r0 c1_i32_94_r0 k0_t3
  let c3_i32_r0 : BitVec 32 := 3#32
  let v192_r0 : BitVec 32 := Scalar.remsi arg27_r0 c3_i32_r0
  let c0_i32_160_r0 : BitVec 32 := 0#32
  let c0_i32_161_r0 : BitVec 32 := 0#32
  ![v192_r0.toNat, 0, 0]
def k0_off24 (k0_t3 : Fin k0_t3_loop.trips) : Fin 2 → Nat :=
  let c0_i32_162_r0 : BitVec 32 := 0#32
  let c0_i32_92_r0 : BitVec 32 := 0#32
  let c1_i32_94_r0 : BitVec 32 := 1#32
  let arg27_r0 : BitVec 32 := Scf.iv c0_i32_92_r0 c1_i32_94_r0 k0_t3
  let c256_i32_159_r0 : BitVec 32 := 256#32
  let v193_r0 : BitVec 32 := Scalar.muli arg27_r0 c256_i32_159_r0
  ![0, v193_r0.toNat]
def k0_mult5 (k0_t3 : Fin k0_t3_loop.trips) : BitVec 32 :=
  let c0_i32_92_r0 : BitVec 32 := 0#32
  let c1_i32_94_r0 : BitVec 32 := 1#32
  let arg27_r0 : BitVec 32 := Scf.iv c0_i32_92_r0 c1_i32_94_r0 k0_t3
  let c256_i32_163_r0 : BitVec 32 := 256#32
  let v199_r0 : BitVec 32 := Scalar.muli arg27_r0 c256_i32_163_r0
  v199_r0
def k0_off25 (k0_t3 : Fin k0_t3_loop.trips) : Fin 3 → Nat :=
  let c0_i32_92_r0 : BitVec 32 := 0#32
  let c1_i32_94_r0 : BitVec 32 := 1#32
  let arg27_r0 : BitVec 32 := Scf.iv c0_i32_92_r0 c1_i32_94_r0 k0_t3
  let c3_i32_r0 : BitVec 32 := 3#32
  let v192_r0 : BitVec 32 := Scalar.remsi arg27_r0 c3_i32_r0
  let v202_r0 : Index := Scalar.indexCast v192_r0
  let c0_166_r0 : Index := 0#32
  let c0_167_r0 : Index := 0#32
  ![v202_r0.toNat, 0, 0]
def k0_off26 (k0_t3 : Fin k0_t3_loop.trips) : Fin 2 → Nat :=
  let c0_169_r0 : Index := 0#32
  let c0_i32_92_r0 : BitVec 32 := 0#32
  let c1_i32_94_r0 : BitVec 32 := 1#32
  let arg27_r0 : BitVec 32 := Scf.iv c0_i32_92_r0 c1_i32_94_r0 k0_t3
  let c256_i32_163_r0 : BitVec 32 := 256#32
  let v199_r0 : BitVec 32 := Scalar.muli arg27_r0 c256_i32_163_r0
  let v200_r0 : BitVec 32 := v199_r0
  let v206_r0 : Index := Scalar.indexCast v200_r0
  ![0, v206_r0.toNat]
def k0_cond4 (k0_t3 : Fin k0_t3_loop.trips) : BitVec 1 :=
  let c0_i32_92_r0 : BitVec 32 := 0#32
  let c1_i32_94_r0 : BitVec 32 := 1#32
  let arg27_r0 : BitVec 32 := Scf.iv c0_i32_92_r0 c1_i32_94_r0 k0_t3
  let c3_i32_170_r0 : BitVec 32 := 3#32
  let v211_r0 : BitVec 32 := Scalar.addi arg27_r0 c3_i32_170_r0
  let c10_i32_171_r0 : BitVec 32 := 10#32
  let v212_r0 : BitVec 1 := Scalar.cmpi .slt v211_r0 c10_i32_171_r0
  let v213_r0 : BitVec 32 := Scalar.extui v212_r0
  let c0_i32_172_r0 : BitVec 32 := 0#32
  let v214_r0 : BitVec 1 := Scalar.cmpi .ne v213_r0 c0_i32_172_r0
  v214_r0

def k0_off27 (k0_t3 : Fin k0_t3_loop.trips) : Fin 1 → Nat :=
  let c0_i32_92_r0 : BitVec 32 := 0#32
  let c1_i32_94_r0 : BitVec 32 := 1#32
  let arg27_r0 : BitVec 32 := Scf.iv c0_i32_92_r0 c1_i32_94_r0 k0_t3
  let c3_i32_r0 : BitVec 32 := 3#32
  let v192_r0 : BitVec 32 := Scalar.remsi arg27_r0 c3_i32_r0
  ![v192_r0.toNat]
def k0_off28 (k0_t3 : Fin k0_t3_loop.trips) : Fin 3 → Nat :=
  let c0_i32_92_r0 : BitVec 32 := 0#32
  let c1_i32_94_r0 : BitVec 32 := 1#32
  let arg27_r0 : BitVec 32 := Scf.iv c0_i32_92_r0 c1_i32_94_r0 k0_t3
  let c3_i32_r0 : BitVec 32 := 3#32
  let v192_r0 : BitVec 32 := Scalar.remsi arg27_r0 c3_i32_r0
  let c0_i32_178_r0 : BitVec 32 := 0#32
  let c0_i32_179_r0 : BitVec 32 := 0#32
  ![v192_r0.toNat, 0, 0]
def k0_off29 (k0_t3 : Fin k0_t3_loop.trips) : Fin 2 → Nat :=
  let c0_i32_180_r0 : BitVec 32 := 0#32
  let c0_i32_92_r0 : BitVec 32 := 0#32
  let c1_i32_94_r0 : BitVec 32 := 1#32
  let arg27_r0 : BitVec 32 := Scf.iv c0_i32_92_r0 c1_i32_94_r0 k0_t3
  let c3_i32_176_r0 : BitVec 32 := 3#32
  let v223_r0 : BitVec 32 := Scalar.addi arg27_r0 c3_i32_176_r0
  let c256_i32_177_r0 : BitVec 32 := 256#32
  let v224_r0 : BitVec 32 := Scalar.muli v223_r0 c256_i32_177_r0
  ![0, v224_r0.toNat]
def k0_off30 (k0_t3 : Fin k0_t3_loop.trips) : Fin 2 → Nat :=
  let c0_173_r0 : Index := 0#32
  let c0_i32_92_r0 : BitVec 32 := 0#32
  let c1_i32_94_r0 : BitVec 32 := 1#32
  let arg27_r0 : BitVec 32 := Scf.iv c0_i32_92_r0 c1_i32_94_r0 k0_t3
  let c256_i32_163_r0 : BitVec 32 := 256#32
  let v199_r0 : BitVec 32 := Scalar.muli arg27_r0 c256_i32_163_r0
  let v200_r0 : BitVec 32 := v199_r0
  let v215_r0 : Index := Scalar.indexCast v200_r0
  ![0, v215_r0.toNat]
def k0_mult6 : BitVec 32 :=
  let c0_i32_97_r0 : BitVec 32 := 0#32
  c0_i32_97_r0
def k0_mult7 : BitVec 32 :=
  let c512_i32_101_r0 : BitVec 32 := 512#32
  c512_i32_101_r0
def k0_mult8 : BitVec 32 :=
  let c1024_i32_105_r0 : BitVec 32 := 1024#32
  c1024_i32_105_r0
def k0_mult9 : BitVec 32 :=
  let c1536_i32_r0 : BitVec 32 := 1536#32
  c1536_i32_r0
def k0_mult10 : BitVec 32 :=
  let c2048_i32_r0 : BitVec 32 := 2048#32
  c2048_i32_r0
def k0_mult11 : BitVec 32 :=
  let c2560_i32_r0 : BitVec 32 := 2560#32
  c2560_i32_r0
def k0_mult12 : BitVec 32 :=
  let c3072_i32_r0 : BitVec 32 := 3072#32
  c3072_i32_r0
def k0_mult13 : BitVec 32 :=
  let c3584_i32_r0 : BitVec 32 := 3584#32
  c3584_i32_r0
def k0_mult14 : BitVec 32 :=
  let c4096_i32_r0 : BitVec 32 := 4096#32
  c4096_i32_r0
def k0_mult15 : BitVec 32 :=
  let c4608_i32_r0 : BitVec 32 := 4608#32
  c4608_i32_r0
def k0_mult16 : BitVec 32 :=
  let c5120_i32_r0 : BitVec 32 := 5120#32
  c5120_i32_r0
def k0_mult17 : BitVec 32 :=
  let c5632_i32_r0 : BitVec 32 := 5632#32
  c5632_i32_r0
def k0_mult18 : BitVec 32 :=
  let c6144_i32_r0 : BitVec 32 := 6144#32
  c6144_i32_r0
def k0_mult19 : BitVec 32 :=
  let c6656_i32_r0 : BitVec 32 := 6656#32
  c6656_i32_r0
def k0_mult20 : BitVec 32 :=
  let c7168_i32_r0 : BitVec 32 := 7168#32
  c7168_i32_r0
def k0_mult21 : BitVec 32 :=
  let c7680_i32_r0 : BitVec 32 := 7680#32
  c7680_i32_r0
def k0_mult22 : BitVec 32 :=
  let c8192_i32_r0 : BitVec 32 := 8192#32
  c8192_i32_r0
def k0_mult23 : BitVec 32 :=
  let c8704_i32_r0 : BitVec 32 := 8704#32
  c8704_i32_r0
def k0_mult24 : BitVec 32 :=
  let c9216_i32_154_r0 : BitVec 32 := 9216#32
  c9216_i32_154_r0
abbrev stage0_0 : Fin 1 → Memref sig .tc .vmem S1x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9728 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9728 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_n" => some ((1 / 2560 : ℝ) : EReal)
  | _ => none
-- ==== ReferenceIdeal.lean ====
abbrev S256x2560 : Shape := ⟨2, ![256, 2560]⟩
abbrev S256x4096 : Shape := ⟨2, ![256, 4096]⟩
abbrev S2560 : Shape := ⟨1, ![2560]⟩
abbrev S4096x2560 : Shape := ⟨2, ![4096, 2560]⟩
abbrev S2560x9728 : Shape := ⟨2, ![2560, 9728]⟩
abbrev S9728 : Shape := ⟨1, ![9728]⟩
abbrev S9728x2560 : Shape := ⟨2, ![9728, 2560]⟩
abbrev S1x2560 : Shape := ⟨2, ![1, 2560]⟩
abbrev S1x9728 : Shape := ⟨2, ![1, 9728]⟩
abbrev S256x9728 : Shape := ⟨2, ![256, 9728]⟩
abbrev S256 : Shape := ⟨1, ![256]⟩
abbrev S256x1 : Shape := ⟨2, ![256, 1]⟩

abbrev nBuf : Space → Nat
  | .hbm => 19
  | .vmem => 14
  | .smem => 0
  | _ => 0

abbrev bufTy : (tb : Table) → Fin (tcTables nBuf tb) → BufTy
  | .hbm, ⟨0, _⟩ => ⟨S256x2560, .bf16⟩
  | .hbm, ⟨1, _⟩ => ⟨S256x4096, .bf16⟩
  | .hbm, ⟨2, _⟩ => ⟨S2560, .f32⟩
  | .hbm, ⟨3, _⟩ => ⟨S4096x2560, .fp8e4m3⟩
  | .hbm, ⟨4, _⟩ => ⟨S2560, .f32⟩
  | .hbm, ⟨5, _⟩ => ⟨S2560x9728, .fp8e4m3⟩
  | .hbm, ⟨6, _⟩ => ⟨S9728, .f32⟩
  | .hbm, ⟨7, _⟩ => ⟨S2560x9728, .fp8e4m3⟩
  | .hbm, ⟨8, _⟩ => ⟨S9728, .f32⟩
  | .hbm, ⟨9, _⟩ => ⟨S9728x2560, .fp8e4m3⟩
  | .hbm, ⟨10, _⟩ => ⟨S2560, .f32⟩
  | .hbm, ⟨11, _⟩ => ⟨S1x2560, .f32⟩
  | .hbm, ⟨12, _⟩ => ⟨S1x2560, .f32⟩
  | .hbm, ⟨13, _⟩ => ⟨S1x9728, .f32⟩
  | .hbm, ⟨14, _⟩ => ⟨S1x9728, .f32⟩
  | .hbm, ⟨15, _⟩ => ⟨S1x2560, .f32⟩
  | .hbm, ⟨16, _⟩ => ⟨S256x2560, .bf16⟩
  | .hbm, ⟨17, _⟩ => ⟨S256x2560, .bf16⟩
  | .hbm, ⟨18, _⟩ => ⟨S256x9728, .bf16⟩
  | .local _ .vmem, ⟨0, _⟩ => ⟨S1x2560, .f32⟩
  | .local _ .vmem, ⟨1, _⟩ => ⟨S1x2560, .f32⟩
  | .local _ .vmem, ⟨2, _⟩ => ⟨S1x9728, .f32⟩
  | .local _ .vmem, ⟨3, _⟩ => ⟨S1x9728, .f32⟩
  | .local _ .vmem, ⟨4, _⟩ => ⟨S1x2560, .f32⟩
  | .local _ .vmem, ⟨5, _⟩ => ⟨S256x4096, .bf16⟩
  | .local _ .vmem, ⟨6, _⟩ => ⟨S256x2560, .bf16⟩
  | .local _ .vmem, ⟨7, _⟩ => ⟨S4096x2560, .fp8e4m3⟩
  | .local _ .vmem, ⟨8, _⟩ => ⟨S2560x9728, .fp8e4m3⟩
  | .local _ .vmem, ⟨9, _⟩ => ⟨S2560x9728, .fp8e4m3⟩
  | .local _ .vmem, ⟨10, _⟩ => ⟨S9728x2560, .fp8e4m3⟩
  | .local _ .vmem, ⟨11, _⟩ => ⟨S256x2560, .bf16⟩
  | .local _ .vmem, ⟨12, _⟩ => ⟨S256x2560, .bf16⟩
  | .local _ .vmem, ⟨13, _⟩ => ⟨S256x9728, .bf16⟩
  | _, _ => ⟨S256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9728 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9728 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x9728 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2560x9728 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9728x2560 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x2560 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x2560 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x9728 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Front.lean ====
abbrev S256x2560 : Shape := ⟨2, ![256, 2560]⟩
abbrev S256 : Shape := ⟨1, ![256]⟩
abbrev S1 : Shape := ⟨1, ![1]⟩
abbrev S2560 : Shape := ⟨1, ![2560]⟩
abbrev S2560x6144 : Shape := ⟨2, ![2560, 6144]⟩
abbrev S6144 : Shape := ⟨1, ![6144]⟩
abbrev S64 : Shape := ⟨1, ![64]⟩
abbrev S_ : Shape := ⟨0, ![]⟩
abbrev S128 : Shape := ⟨1, ![128]⟩
abbrev S1x128 : Shape := ⟨2, ![1, 128]⟩
abbrev S1x2560 : Shape := ⟨2, ![1, 2560]⟩
abbrev S1x6144 : Shape := ⟨2, ![1, 6144]⟩
abbrev S256x32x128 : Shape := ⟨3, ![256, 32, 128]⟩
abbrev S256x8x128 : Shape := ⟨3, ![256, 8, 128]⟩
abbrev S264x8x128 : Shape := ⟨3, ![264, 8, 128]⟩
abbrev S3x2560x512 : Shape := ⟨3, ![3, 2560, 512]⟩
abbrev S3 : Shape := ⟨1, ![3]⟩
abbrev S1x2560x512 : Shape := ⟨3, ![1, 2560, 512]⟩
abbrev S2560x512 : Shape := ⟨2, ![2560, 512]⟩
abbrev S32x288x128 : Shape := ⟨3, ![32, 288, 128]⟩
abbrev S256x128 : Shape := ⟨2, ![256, 128]⟩
abbrev S256x1 : Shape := ⟨2, ![256, 1]⟩
abbrev S256x512 : Shape := ⟨2, ![256, 512]⟩
abbrev S1x512 : Shape := ⟨2, ![1, 512]⟩
abbrev S1x256x128 : Shape := ⟨3, ![1, 256, 128]⟩
abbrev S256x16x128 : Shape := ⟨3, ![256, 16, 128]⟩
abbrev S4096x128 : Shape := ⟨2, ![4096, 128]⟩
abbrev S256x2x128 : Shape := ⟨3, ![256, 2, 128]⟩
abbrev S256x1x128 : Shape := ⟨3, ![256, 1, 128]⟩
abbrev S256x4x128 : Shape := ⟨3, ![256, 4, 128]⟩

abbrev nBuf : Space → Nat
  | .hbm => 25
  | .vmem => 12
  | .smem => 3
  | _ => 0

abbrev bufTy : (tb : Table) → Fin (tcTables nBuf tb) → BufTy
  | .hbm, ⟨0, _⟩ => ⟨S256x2560, .bf16⟩
  | .hbm, ⟨1, _⟩ => ⟨S256, .i32⟩
  | .hbm, ⟨2, _⟩ => ⟨S1, .f32⟩
  | .hbm, ⟨3, _⟩ => ⟨S1, .f32⟩
  | .hbm, ⟨4, _⟩ => ⟨S2560, .f32⟩
  | .hbm, ⟨5, _⟩ => ⟨S2560x6144, .fp8e4m3⟩
  | .hbm, ⟨6, _⟩ => ⟨S6144, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S128, .f32⟩
  | .hbm, ⟨19, _⟩ => ⟨S1x128, .f32⟩
  | .hbm, ⟨20, _⟩ => ⟨S1x2560, .f32⟩
  | .hbm, ⟨21, _⟩ => ⟨S1x6144, .f32⟩
  | .hbm, ⟨22, _⟩ => ⟨S256x32x128, .bf16⟩
  | .hbm, ⟨23, _⟩ => ⟨S256x8x128, .fp8e4m3⟩
  | .hbm, ⟨24, _⟩ => ⟨S256x8x128, .fp8e4m3⟩
  | .local _ .vmem, ⟨0, _⟩ => ⟨S1x128, .f32⟩
  | .local _ .vmem, ⟨1, _⟩ => ⟨S1x2560, .f32⟩
  | .local _ .vmem, ⟨2, _⟩ => ⟨S1x6144, .f32⟩
  | .local _ .vmem, ⟨3, _⟩ => ⟨S256x2560, .bf16⟩
  | .local _ .vmem, ⟨4, _⟩ => ⟨S256x2560, .bf16⟩
  | .local _ .vmem, ⟨5, _⟩ => ⟨S264x8x128, .fp8e4m3⟩
  | .local _ .vmem, ⟨6, _⟩ => ⟨S264x8x128, .fp8e4m3⟩
  | .local _ .vmem, ⟨7, _⟩ => ⟨S3x2560x512, .fp8e4m3⟩
  | .local _ .vmem, ⟨8, _⟩ => ⟨S32x288x128, .f32⟩
  | .local _ .vmem, ⟨9, _⟩ => ⟨S256x32x128, .bf16⟩
  | .local _ .vmem, ⟨10, _⟩ => ⟨S256x128, .f32⟩
  | .local _ .vmem, ⟨11, _⟩ => ⟨S256x128, .f32⟩
  | .local _ .smem, ⟨0, _⟩ => ⟨S256, .i32⟩
  | .local _ .smem, ⟨1, _⟩ => ⟨S1, .f32⟩
  | .local _ .smem, ⟨2, _⟩ => ⟨S1, .f32⟩
  | _, _ => ⟨S256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scoped0 : Ref sig .tc := ⟨.vmem, 8, rfl⟩
abbrev cc0_scoped1 : Ref sig .tc := ⟨.vmem, 9, rfl⟩
abbrev cc0_scoped2 : Ref sig .tc := ⟨.vmem, 10, rfl⟩
abbrev cc0_scoped3 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

@[reducible] def k0_t1_loop : Scf.Loop 32 :=
  let c0_i32_17_r0 : BitVec 32 := 0#32
  let c32_i32_r0 : BitVec 32 := 32#32
  let v15_r0 : BitVec 32 := Scalar.addi c0_i32_17_r0 c32_i32_r0
  let c1_i32_18_r0 : BitVec 32 := 1#32
  ⟨c0_i32_17_r0, v15_r0, c1_i32_18_r0⟩
def k0_off1 (k0_t1 : Fin k0_t1_loop.trips) (c0_i32_329_r0 : BitVec 32) : Fin 1 → Nat :=
  let c0_i32_17_r0 : BitVec 32 := 0#32
  let c1_i32_18_r0 : BitVec 32 := 1#32
  let arg19_r0 : BitVec 32 := Scf.iv c0_i32_17_r0 c1_i32_18_r0 k0_t1
  let c8_i32_328_r0 : BitVec 32 := 8#32
  let v533_r0 : BitVec 32 := Scalar.muli arg19_r0 c8_i32_328_r0
  let v534_r0 : BitVec 32 := Scalar.addi v533_r0 c0_i32_329_r0
  let v535_r0 : Index := Scalar.indexCast v534_r0
  ![v535_r0.toNat]
def k0_off2 (k0_t1 : Fin k0_t1_loop.trips) (c0_i32_329_r0 : BitVec 32) : Fin 2 → Nat :=
  let c0_i32_17_r0 : BitVec 32 := 0#32
  let c1_i32_18_r0 : BitVec 32 := 1#32
  let arg19_r0 : BitVec 32 := Scf.iv c0_i32_17_r0 c1_i32_18_r0 k0_t1
  let c8_i32_328_r0 : BitVec 32 := 8#32
  let v533_r0 : BitVec 32 := Scalar.muli arg19_r0 c8_i32_328_r0
  let v534_r0 : BitVec 32 := Scalar.addi v533_r0 c0_i32_329_r0
  let v539_r0 : Index := Scalar.indexCast v534_r0
  let c0_330_r0 : Index := 0#32
  ![v539_r0.toNat, 0]
@[reducible] def k0_t2_loop : Scf.Loop 32 :=
  let c0_i32_38_r0 : BitVec 32 := 0#32
  let c8_i32_r0 : BitVec 32 := 8#32
  let v58_r0 : BitVec 32 := Scalar.addi c0_i32_38_r0 c8_i32_r0
  let c1_i32_39_r0 : BitVec 32 := 1#32
  ⟨c0_i32_38_r0, v58_r0, c1_i32_39_r0⟩
def k0_off3 (k0_t2 : Fin k0_t2_loop.trips) : Fin 1 → Nat :=
  let c0_i32_38_r0 : BitVec 32 := 0#32
  let c1_i32_39_r0 : BitVec 32 := 1#32
  let arg19_r0 : BitVec 32 := Scf.iv c0_i32_38_r0 c1_i32_39_r0 k0_t2
  let c3_i32_328_r0 : BitVec 32 := 3#32
  let v533_r0 : BitVec 32 := Scalar.remsi arg19_r0 c3_i32_328_r0
  ![v533_r0.toNat]
def k0_off4 (k0_t2 : Fin k0_t2_loop.trips) : Fin 3 → Nat :=
  let c0_i32_38_r0 : BitVec 32 := 0#32
  let c1_i32_39_r0 : BitVec 32 := 1#32
  let arg19_r0 : BitVec 32 := Scf.iv c0_i32_38_r0 c1_i32_39_r0 k0_t2
  let c3_i32_328_r0 : BitVec 32 := 3#32
  let v533_r0 : BitVec 32 := Scalar.remsi arg19_r0 c3_i32_328_r0
  let c0_i32_330_r0 : BitVec 32 := 0#32
  let c0_i32_331_r0 : BitVec 32 := 0#32
  ![v533_r0.toNat, 0, 0]
def k0_off5 (k0_t2 : Fin k0_t2_loop.trips) : Fin 2 → Nat :=
  let c0_i32_332_r0 : BitVec 32 := 0#32
  let c0_i32_38_r0 : BitVec 32 := 0#32
  let c1_i32_39_r0 : BitVec 32 := 1#32
  let arg19_r0 : BitVec 32 := Scf.iv c0_i32_38_r0 c1_i32_39_r0 k0_t2
  let c512_i32_329_r0 : BitVec 32 := 512#32
  let v534_r0 : BitVec 32 := Scalar.muli arg19_r0 c512_i32_329_r0
  ![0, v534_r0.toNat]
def k0_off6 (k0_t2 : Fin k0_t2_loop.trips) : Fin 3 → Nat :=
  let c0_i32_38_r0 : BitVec 32 := 0#32
  let c1_i32_39_r0 : BitVec 32 := 1#32
  let arg19_r0 : BitVec 32 := Scf.iv c0_i32_38_r0 c1_i32_39_r0 k0_t2
  let c3_i32_328_r0 : BitVec 32 := 3#32
  let v533_r0 : BitVec 32 := Scalar.remsi arg19_r0 c3_i32_328_r0
  let v541_r0 : Index := Scalar.indexCast v533_r0
  let c0_335_r0 : Index := 0#32
  let c0_336_r0 : Index := 0#32
  ![v541_r0.toNat, 0, 0]
def k0_off7 (k0_t2 : Fin k0_t2_loop.trips) : Fin 2 → Nat :=
  let c0_339_r0 : Index := 0#32
  let c0_i32_38_r0 : BitVec 32 := 0#32
  let c1_i32_39_r0 : BitVec 32 := 1#32
  let arg19_r0 : BitVec 32 := Scf.iv c0_i32_38_r0 c1_i32_39_r0 k0_t2
  let c512_i32_338_r0 : BitVec 32 := 512#32
  let v545_r0 : BitVec 32 := Scalar.muli arg19_r0 c512_i32_338_r0
  let v546_r0 : Index := Scalar.indexCast v545_r0
  ![0, v546_r0.toNat]
def k0_cond1 (k0_t2 : Fin k0_t2_loop.trips) : BitVec 1 :=
  let c0_i32_38_r0 : BitVec 32 := 0#32
  let c1_i32_39_r0 : BitVec 32 := 1#32
  let arg19_r0 : BitVec 32 := Scf.iv c0_i32_38_r0 c1_i32_39_r0 k0_t2
  let c3_i32_340_r0 : BitVec 32 := 3#32
  let v551_r0 : BitVec 32 := Scalar.addi arg19_r0 c3_i32_340_r0
  let c12_i32_r0 : BitVec 32 := 12#32
  let v552_r0 : BitVec 1 := Scalar.cmpi .slt v551_r0 c12_i32_r0
  let v553_r0 : BitVec 32 := Scalar.extui v552_r0
  let c0_i32_341_r0 : BitVec 32 := 0#32
  let v554_r0 : BitVec 1 := Scalar.cmpi .ne v553_r0 c0_i32_341_r0
  v554_r0

def k0_off8 (k0_t2 : Fin k0_t2_loop.trips) : Fin 1 → Nat :=
  let c0_i32_38_r0 : BitVec 32 := 0#32
  let c1_i32_39_r0 : BitVec 32 := 1#32
  let arg19_r0 : BitVec 32 := Scf.iv c0_i32_38_r0 c1_i32_39_r0 k0_t2
  let c3_i32_328_r0 : BitVec 32 := 3#32
  let v533_r0 : BitVec 32 := Scalar.remsi arg19_r0 c3_i32_328_r0
  ![v533_r0.toNat]
def k0_off9 (k0_t2 : Fin k0_t2_loop.trips) : Fin 3 → Nat :=
  let c0_i32_38_r0 : BitVec 32 := 0#32
  let c1_i32_39_r0 : BitVec 32 := 1#32
  let arg19_r0 : BitVec 32 := Scf.iv c0_i32_38_r0 c1_i32_39_r0 k0_t2
  let c3_i32_328_r0 : BitVec 32 := 3#32
  let v533_r0 : BitVec 32 := Scalar.remsi arg19_r0 c3_i32_328_r0
  let c0_i32_380_r0 : BitVec 32 := 0#32
  let c0_i32_381_r0 : BitVec 32 := 0#32
  ![v533_r0.toNat, 0, 0]
def k0_off10 (k0_t2 : Fin k0_t2_loop.trips) : Fin 2 → Nat :=
  let c0_i32_382_r0 : BitVec 32 := 0#32
  let c0_i32_38_r0 : BitVec 32 := 0#32
  let c1_i32_39_r0 : BitVec 32 := 1#32
  let arg19_r0 : BitVec 32 := Scf.iv c0_i32_38_r0 c1_i32_39_r0 k0_t2
  let c3_i32_378_r0 : BitVec 32 := 3#32
  let v615_r0 : BitVec 32 := Scalar.addi arg19_r0 c3_i32_378_r0
  let c512_i32_379_r0 : BitVec 32 := 512#32
  let v616_r0 : BitVec 32 := Scalar.muli v615_r0 c512_i32_379_r0
  ![0, v616_r0.toNat]
def k0_off11 (k0_t2 : Fin k0_t2_loop.trips) (c0_i32_362_r0 : BitVec 32) : Fin 3 → Nat :=
  let c0_i32_38_r0 : BitVec 32 := 0#32
  let c1_i32_39_r0 : BitVec 32 := 1#32
  let arg19_r0 : BitVec 32 := Scf.iv c0_i32_38_r0 c1_i32_39_r0 k0_t2
  let c4_i32_r0 : BitVec 32 := 4#32
  let v585_r0 : BitVec 32 := Scalar.muli arg19_r0 c4_i32_r0
  let v586_r0 : BitVec 32 := Scalar.addi v585_r0 c0_i32_362_r0
  let v587_r0 : Index := Scalar.indexCast v586_r0
  let c0_363_r0 : Index := 0#32
  let c0_364_r0 : Index := 0#32
  ![v587_r0.toNat, 0, 0]
def k0_off12 (c8_i32_139_r0 : BitVec 32) : Fin 1 → Nat :=
  let c3_i32_r0 : BitVec 32 := 3#32
  let v222_r0 : BitVec 32 := Scalar.remsi c8_i32_139_r0 c3_i32_r0
  ![v222_r0.toNat]
def k0_off13 (c8_i32_139_r0 : BitVec 32) : Fin 3 → Nat :=
  let c3_i32_r0 : BitVec 32 := 3#32
  let v222_r0 : BitVec 32 := Scalar.remsi c8_i32_139_r0 c3_i32_r0
  let c0_i32_140_r0 : BitVec 32 := 0#32
  let c0_i32_141_r0 : BitVec 32 := 0#32
  ![v222_r0.toNat, 0, 0]
def k0_off14 (c8_i32_139_r0 : BitVec 32) : Fin 3 → Nat :=
  let c3_i32_r0 : BitVec 32 := 3#32
  let v222_r0 : BitVec 32 := Scalar.remsi c8_i32_139_r0 c3_i32_r0
  let v229_r0 : Index := Scalar.indexCast v222_r0
  let c0_145_r0 : Index := 0#32
  let c0_146_r0 : Index := 0#32
  ![v229_r0.toNat, 0, 0]
abbrev stage0_0 : Fin 1 → Memref sig .tc .smem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== FrontIdeal.lean ====
variable {F : FTy → Type} [FloatOps F] [Named F]
def κ : String → Option EReal := fun
  | "inv_n" => some ((1 / 2560 : ℝ) : EReal)
  | _ => none
-- ==== ReferenceFrontIdeal.lean ====
abbrev S256x2560 : Shape := ⟨2, ![256, 2560]⟩
abbrev S256 : Shape := ⟨1, ![256]⟩
abbrev S1 : Shape := ⟨1, ![1]⟩
abbrev S2560 : Shape := ⟨1, ![2560]⟩
abbrev S2560x6144 : Shape := ⟨2, ![2560, 6144]⟩
abbrev S6144 : Shape := ⟨1, ![6144]⟩
abbrev S64 : Shape := ⟨1, ![64]⟩
abbrev S_ : Shape := ⟨0, ![]⟩
abbrev S256x1 : Shape := ⟨2, ![256, 1]⟩
abbrev S1x1 : Shape := ⟨2, ![1, 1]⟩
abbrev S1x64 : Shape := ⟨2, ![1, 64]⟩
abbrev S1x2560 : Shape := ⟨2, ![1, 2560]⟩
abbrev S1x6144 : Shape := ⟨2, ![1, 6144]⟩
abbrev S256x32x128 : Shape := ⟨3, ![256, 32, 128]⟩
abbrev S256x8x128 : Shape := ⟨3, ![256, 8, 128]⟩
abbrev S256x6144 : Shape := ⟨2, ![256, 6144]⟩
abbrev S256x64 : Shape := ⟨2, ![256, 64]⟩
abbrev S256x128 : Shape := ⟨2, ![256, 128]⟩
abbrev S256x1x128 : Shape := ⟨3, ![256, 1, 128]⟩
abbrev S256x4096 : Shape := ⟨2, ![256, 4096]⟩
abbrev S256x32x64 : Shape := ⟨3, ![256, 32, 64]⟩
abbrev S256x1024 : Shape := ⟨2, ![256, 1024]⟩
abbrev S256x8x64 : Shape := ⟨3, ![256, 8, 64]⟩
abbrev S1x1x1 : Shape := ⟨3, ![1, 1, 1]⟩

abbrev nBuf : Space → Nat
  | .hbm => 27
  | .vmem => 11
  | .smem => 0
  | _ => 0

abbrev bufTy : (tb : Table) → Fin (tcTables nBuf tb) → BufTy
  | .hbm, ⟨0, _⟩ => ⟨S256x2560, .bf16⟩
  | .hbm, ⟨1, _⟩ => ⟨S256, .i32⟩
  | .hbm, ⟨2, _⟩ => ⟨S1, .f32⟩
  | .hbm, ⟨3, _⟩ => ⟨S1, .f32⟩
  | .hbm, ⟨4, _⟩ => ⟨S2560, .f32⟩
  | .hbm, ⟨5, _⟩ => ⟨S2560x6144, .fp8e4m3⟩
  | .hbm, ⟨6, _⟩ => ⟨S6144, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S256x1, .i32⟩
  | .hbm, ⟨19, _⟩ => ⟨S1x1, .f32⟩
  | .hbm, ⟨20, _⟩ => ⟨S1x1, .f32⟩
  | .hbm, ⟨21, _⟩ => ⟨S1x64, .f32⟩
  | .hbm, ⟨22, _⟩ => ⟨S1x2560, .f32⟩
  | .hbm, ⟨23, _⟩ => ⟨S1x6144, .f32⟩
  | .hbm, ⟨24, _⟩ => ⟨S256x32x128, .bf16⟩
  | .hbm, ⟨25, _⟩ => ⟨S256x8x128, .fp8e4m3⟩
  | .hbm, ⟨26, _⟩ => ⟨S256x8x128, .fp8e4m3⟩
  | .local _ .vmem, ⟨0, _⟩ => ⟨S256x1, .i32⟩
  | .local _ .vmem, ⟨1, _⟩ => ⟨S1x1, .f32⟩
  | .local _ .vmem, ⟨2, _⟩ => ⟨S1x1, .f32⟩
  | .local _ .vmem, ⟨3, _⟩ => ⟨S1x64, .f32⟩
  | .local _ .vmem, ⟨4, _⟩ => ⟨S1x2560, .f32⟩
  | .local _ .vmem, ⟨5, _⟩ => ⟨S1x6144, .f32⟩
  | .local _ .vmem, ⟨6, _⟩ => ⟨S256x2560, .bf16⟩
  | .local _ .vmem, ⟨7, _⟩ => ⟨S2560x6144, .fp8e4m3⟩
  | .local _ .vmem, ⟨8, _⟩ => ⟨S256x32x128, .bf16⟩
  | .local _ .vmem, ⟨9, _⟩ => ⟨S256x8x128, .fp8e4m3⟩
  | .local _ .vmem, ⟨10, _⟩ => ⟨S256x8x128, .fp8e4m3⟩
  | _, _ => ⟨S256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x6144 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x32x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x8x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x8x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelIdealRings.lean ====
/-
  Names for the four weight rings: a column block of a weight, a slot of a ring, a slot's semaphore, a slot in flight.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

/-- The resource algebra: the pipeline library's, beside the counters the kernel's own copies ride on. -/
abbrev UU (nD : Nat) (τ : Topo) : Type := Pipeline.UD sig nD τ
local notation "𝕄" => MT nD τ sig Unit (Elt F) ℕ (UU nD τ) ℕ
abbrev 𝒱₀ : Variants := Variants.none

omit [FloatOps F] [Named F] in
theorem entails_of_eq {P Q : sProp 𝕄} (e : P = Q) : P ⊢ Q := e ▸ .rfl

abbrev xM : Memref sig .tc .hbm S256x2560 .bf16 := Memref.whole main_arg0
abbrev outM : Memref sig .tc .hbm S256x2560 .bf16 := Memref.whole main_v5_0
abbrev hmidM : Memref sig .tc .hbm S256x2560 .bf16 := Memref.whole main_v5_1
abbrev actH : Memref sig .tc .hbm S256x9728 .bf16 := Memref.whole main_v5_2
abbrev xvM : Memref sig .tc .vmem S256x2560 .bf16 := Memref.whole cc0_scratch0
abbrev hvM : Memref sig .tc .vmem S256x2560 .bf16 := Memref.whole cc0_scratch1
abbrev hmM : Memref sig .tc .vmem S256x2560 .f32 := Memref.whole cc0_scratch2
abbrev obM : Memref sig .tc .vmem S256x2560 .bf16 := Memref.whole cc0_scratch3
abbrev actM : Memref sig .tc .vmem S256x9728 .bf16 := Memref.whole cc0_scoped0

theorem trips1 : k0_t1_loop.trips = 10 := by decide +kernel
theorem trips2 : k0_t2_loop.trips = 19 := by decide +kernel
theorem trips3 : k0_t3_loop.trips = 10 := by decide +kernel
theorem lt1 (k : Fin k0_t1_loop.trips) : k.val < 10 := Nat.lt_of_lt_of_eq k.isLt trips1
theorem lt2 (k : Fin k0_t2_loop.trips) : k.val < 19 := Nat.lt_of_lt_of_eq k.isLt trips2
theorem lt3 (k : Fin k0_t3_loop.trips) : k.val < 10 := Nat.lt_of_lt_of_eq k.isLt trips3

/-! Each issue is taken exactly on the trips whose block three ahead exists; an activation block is sent from the second trip on. -/
theorem cond1_iff : ∀ k : Fin k0_t1_loop.trips, k0_cond1 k = 1#1 ↔ k.val + 3 < 10 := by decide +kernel
theorem cond2_iff : ∀ k : Fin k0_t2_loop.trips, k0_cond2 k = 1#1 ↔ k.val + 3 < 19 := by decide +kernel
theorem cond3_iff : ∀ k : Fin k0_t2_loop.trips, k0_cond3 k = 1#1 ↔ 0 < k.val := by decide +kernel
theorem cond4_iff : ∀ k : Fin k0_t3_loop.trips, k0_cond4 k = 1#1 ↔ k.val + 3 < 10 := by decide +kernel

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem bk10_0 : Ring.bk 10 0 = 0 := Fin.ext (by rfl)
theorem bk10_1 : Ring.bk 10 (0 + 1) = 1 := Fin.ext (by rfl)
theorem bk10_2 : Ring.bk 10 (0 + 2) = 2 := Fin.ext (by rfl)
theorem bk19_0 : Ring.bk 19 0 = 0 := Fin.ext (by rfl)
theorem bk19_1 : Ring.bk 19 (0 + 1) = 1 := Fin.ext (by rfl)
theorem bk19_2 : Ring.bk 19 (0 + 2) = 2 := Fin.ext (by rfl)

abbrev slotOff (s : Fin 3) : Fin 3 → Nat := ![s.val, 0, 0]
instance (s : Fin 3) : ClosedOff (slotOff s) := ⟨slotOff s, rfl⟩
abbrev semOff (s : Fin 3) : Fin 1 → Nat := ![s.val]
theorem semOff_inb (s : Fin 3) : ∀ a, semOff s a + S1.size a ≤ S3.size a := by
  have := s.isLt; intro a; fin_cases a; show s.val + 1 ≤ 3; omega
abbrev semOffG (s : Fin 3) : Fin 2 → Nat := ![0, s.val]
theorem semOffG_inb (s : Fin 3) : ∀ a, semOffG s a + S1x1.size a ≤ S2x3.size a := by
  have := s.isLt; intro a; fin_cases a
  · show 0 + 1 ≤ 2; omega
  · show s.val + 1 ≤ 3; omega
abbrev semOffU (s : Fin 3) : Fin 2 → Nat := ![1, s.val]
theorem semOffU_inb (s : Fin 3) : ∀ a, semOffU s a + S1x1.size a ≤ S2x3.size a := by
  have := s.isLt; intro a; fin_cases a
  · show 1 + 1 ≤ 2; omega
  · show s.val + 1 ≤ 3; omega

/-! ## The ring of the output projection -/

abbrev wMO : Memref sig .tc .hbm S4096x2560 .fp8e4m3 := Memref.whole main_arg3
abbrev ringMO : Memref sig .tc .vmem S3x4096x256 .fp8e4m3 := Memref.whole cc0_scratch4

abbrev blkOffO (b : Fin 10) : Fin 2 → Nat := ![0, 256 * b.val]
theorem blkOffO_inb (b : Fin 10) : ∀ a, blkOffO b a + S4096x256.size a ≤ S4096x2560.size a := by
  have := b.isLt; intro a; fin_cases a
  · show 0 + 4096 ≤ 4096; omega
  · show 256 * b.val + 256 ≤ 2560; omega
theorem slotOffO_inb (s : Fin 3) : ∀ a, slotOff s a + S1x4096x256.size a ≤ S3x4096x256.size a := by
  have := s.isLt; intro a; fin_cases a
  · show s.val + 1 ≤ 3; omega
  · show 0 + 4096 ≤ 4096; omega
  · show 0 + 256 ≤ 256; omega

/-- Column block `b` of the weight in HBM, as the body slices it. -/
def blkO (b : Fin 10) : Memref sig .tc .hbm S4096x256 .fp8e4m3 :=
  wMO.slice (Rect.unit (s := S4096x2560) (blkOffO b) S4096x256.size (blkOffO_inb b)) (fun _ => rfl)
/-- Slot `s` of the ring, as the body slices and squeezes it. -/
def rslotO (s : Fin 3) : Memref sig .tc .vmem S4096x256 .fp8e4m3 :=
  (ringMO.slice (Rect.unit (s := S3x4096x256) (slotOff s) S1x4096x256.size (slotOffO_inb s)) (fun _ => rfl)).squeeze S4096x256 squeezes_S1x4096x256_S4096x256
/-- Slot `s`'s DMA semaphore. -/
def csmO (s : Fin 3) : DmaSems sig S_ := (cc0_scratch9.slice (Rect.unit (s := S3) (semOff s) S1.size (semOff_inb s))).squeeze S_ squeezes_S1_S_

instance (b : Fin 10) : ClosedOff (blkOffO b) := ⟨blkOffO b, rfl⟩

theorem off1_eqO (k : Fin k0_t1_loop.trips) : k0_off1 k = semOff (Ring.sl 3 k.val) := by
  rw [k0_off1_eq]; simp [Ring.sl, Fin.ofNat]
theorem off6_eqO (k : Fin k0_t1_loop.trips) : k0_off6 k = semOff (Ring.sl 3 k.val) := by
  rw [k0_off6_eq]; simp [Ring.sl, Fin.ofNat]
theorem off2_eqO (k : Fin k0_t1_loop.trips) : k0_off2 k = slotOff (Ring.sl 3 k.val) := by
  rw [k0_off2_eq]; simp [Ring.sl, Fin.ofNat]
theorem off4_eqO (k : Fin k0_t1_loop.trips) : k0_off4 k = slotOff (Ring.sl 3 k.val) := by
  rw [k0_off4_eq]; simp [Ring.sl, Fin.ofNat]
theorem off7_eqO (k : Fin k0_t1_loop.trips) : k0_off7 k = slotOff (Ring.sl 3 k.val) := by
  rw [k0_off7_eq]; simp [Ring.sl, Fin.ofNat]
theorem off3_eqO (k : Fin k0_t1_loop.trips) : k0_off3 k = blkOffO (Ring.bk 10 k.val) := by
  rw [k0_off3_eq]; unfold blkOffO; rw [Ring.bk_val (lt1 k)]
theorem off8_eqO (k : Fin k0_t1_loop.trips) (h : k.val + 3 < 10) : k0_off8 k = blkOffO (Ring.bk 10 (k.val + 3)) := by
  rw [k0_off8_eq]; unfold blkOffO; rw [Ring.bk_val h, Nat.mul_add]

/-- The slot's window at trip `k`, by the slot's number. -/
instance (k : Fin k0_t1_loop.trips) : ClosedOff (k0_off4 k) := ⟨slotOff (Ring.sl 3 k.val), off4_eqO k⟩

private theorem csmO_congr {off : Fin 1 → Nat} {s : Fin 3} (e : off = semOff s) (hh) :
    (cc0_scratch9.slice (Rect.unit (s := S3) off S1.size hh)).squeeze S_ squeezes_S1_S_ = csmO s :=
  congrArg (fun A : DmaSems sig S1 => A.squeeze S_ squeezes_S1_S_) (SemArray.slice_unit_congr _ e _ _)
private theorem rslotO_congr {off : Fin 3 → Nat} {s : Fin 3} (e : off = slotOff s) (hh hs) :
    (ringMO.slice (Rect.unit (s := S3x4096x256) off S1x4096x256.size hh) hs).squeeze S4096x256 squeezes_S1x4096x256_S4096x256 = rslotO s :=
  congrArg (fun M : Memref sig .tc .vmem S1x4096x256 .fp8e4m3 => M.squeeze S4096x256 squeezes_S1x4096x256_S4096x256) (Memref.slice_unit_congr _ e _ _ _ _)
private theorem blkO_congr {off : Fin 2 → Nat} {b : Fin 10} (e : off = blkOffO b) (hh hs) :
    wMO.slice (Rect.unit (s := S4096x2560) off S4096x256.size hh) hs = blkO b :=
  Memref.slice_unit_congr _ e _ (blkOffO_inb b) _ (fun _ => rfl)

@[sl_canon] theorem semOL0 (hh) : (cc0_scratch9.slice (Rect.unit (s := S3) ![0] S1.size hh)).squeeze S_ squeezes_S1_S_ = csmO 0 := csmO_congr (by decide) _
@[sl_canon] theorem slotOL0 (hh hs) : (ringMO.slice (Rect.unit (s := S3x4096x256) ![0, 0, 0] S1x4096x256.size hh) hs).squeeze S4096x256 squeezes_S1x4096x256_S4096x256 = rslotO 0 := rslotO_congr (by decide) _ _
@[sl_canon] theorem blkOL0 (hh hs) : wMO.slice (Rect.unit (s := S4096x2560) ![0, 0] S4096x256.size hh) hs = blkO 0 := blkO_congr (by decide) _ _
@[sl_canon] theorem semOL1 (hh) : (cc0_scratch9.slice (Rect.unit (s := S3) ![1] S1.size hh)).squeeze S_ squeezes_S1_S_ = csmO 1 := csmO_congr (by decide) _
@[sl_canon] theorem slotOL1 (hh hs) : (ringMO.slice (Rect.unit (s := S3x4096x256) ![1, 0, 0] S1x4096x256.size hh) hs).squeeze S4096x256 squeezes_S1x4096x256_S4096x256 = rslotO 1 := rslotO_congr (by decide) _ _
@[sl_canon] theorem blkOL1 (hh hs) : wMO.slice (Rect.unit (s := S4096x2560) ![0, 256] S4096x256.size hh) hs = blkO 1 := blkO_congr (by decide) _ _
@[sl_canon] theorem semOL2 (hh) : (cc0_scratch9.slice (Rect.unit (s := S3) ![2] S1.size hh)).squeeze S_ squeezes_S1_S_ = csmO 2 := csmO_congr (by decide) _
@[sl_canon] theorem slotOL2 (hh hs) : (ringMO.slice (Rect.unit (s := S3x4096x256) ![2, 0, 0] S1x4096x256.size hh) hs).squeeze S4096x256 squeezes_S1x4096x256_S4096x256 = rslotO 2 := rslotO_congr (by decide) _ _
@[sl_canon] theorem blkOL2 (hh hs) : wMO.slice (Rect.unit (s := S4096x2560) ![0, 512] S4096x256.size hh) hs = blkO 2 := blkO_congr (by decide) _ _

@[sl_canon] theorem semOK (k : Fin k0_t1_loop.trips) (hh) :
    (cc0_scratch9.slice (Rect.unit (s := S3) (k0_off1 k) S1.size hh)).squeeze S_ squeezes_S1_S_ = csmO (Ring.sl 3 k.val) := csmO_congr (off1_eqO k) _
@[sl_canon] theorem slotOK (k : Fin k0_t1_loop.trips) (hh hs) :
    (ringMO.slice (Rect.unit (s := S3x4096x256) (k0_off2 k) S1x4096x256.size hh) hs).squeeze S4096x256 squeezes_S1x4096x256_S4096x256 = rslotO (Ring.sl 3 k.val) := rslotO_congr (off2_eqO k) _ _
@[sl_canon] theorem blkOW (k : Fin k0_t1_loop.trips) (hh hs) :
    wMO.slice (Rect.unit (s := S4096x2560) (k0_off3 k) S4096x256.size hh) hs = blkO (Ring.bk 10 k.val) := blkO_congr (off3_eqO k) _ _
@[sl_canon] theorem semOK' (k : Fin k0_t1_loop.trips) (hh) :
    (cc0_scratch9.slice (Rect.unit (s := S3) (k0_off6 k) S1.size hh)).squeeze S_ squeezes_S1_S_ = csmO (Ring.sl 3 k.val) := csmO_congr (off6_eqO k) _
@[sl_canon] theorem slotOK' (k : Fin k0_t1_loop.trips) (hh hs) :
    (ringMO.slice (Rect.unit (s := S3x4096x256) (k0_off7 k) S1x4096x256.size hh) hs).squeeze S4096x256 squeezes_S1x4096x256_S4096x256 = rslotO (Ring.sl 3 k.val) := rslotO_congr (off7_eqO k) _ _
@[sl_canon] theorem blkOI (k : Fin k0_t1_loop.trips) (h : k.val + 3 < 10) (hh hs) :
    wMO.slice (Rect.unit (s := S4096x2560) (k0_off8 k) S4096x256.size hh) hs = blkO (Ring.bk 10 (k.val + 3)) := blkO_congr (off8_eqO k h) _ _

section PiecesO
variable (c : Dev nD) (XW : Buf (Elt F) (wMO.view.loc (c : Thread nD τ)))

abbrev cellO (s : Fin 3) : sProp 𝕄 := semVal ((c : Thread nD τ), SemLoc.dma (csmO s).sem) 0
abbrev slotO (s : Fin 3) (f : Buf (Elt F) ((rslotO s).view.loc (c : Thread nD τ))) : sProp 𝕄 :=
  (rslotO s).view.loc (c : Thread nD τ) ↦[(rslotO s).view.set]{fullShare} f
/-- Block `b` home: held on its elements at the weight's contents. -/
abbrev homeO (b : Fin 10) : sProp 𝕄 := (blkO b).view.loc (c : Thread nD τ) ↦[(blkO b).view.set]{fullShare} XW
/-- Block `b`'s elements as a slot's payload. -/
abbrev payloadO (b : Fin 10) : S4096x256.Idx → Elt F .fp8e4m3 := ReadAs.same.apply ((blkO b).view.read (Elt F) XW)
/-- What block `b`'s copy leaves in slot `s` over prior contents `f`: the block, written whole. -/
abbrev landedO (s : Fin 3) (b : Fin 10) (f : Buf (Elt F) ((rslotO s).view.loc (c : Thread nD τ))) : Buf (Elt F) ((rslotO s).view.loc (c : Thread nD τ)) :=
  (rslotO s).view.writes (Elt F) f [⟨Rect.whole S4096x256, payloadO c XW b⟩]
/-- Slot `s` in flight with block `b`, issued over `f`. -/
abbrev flightO (s : Fin 3) (b : Fin 10) (f : Buf (Elt F) ((rslotO s).view.loc (c : Thread nD τ))) : sProp 𝕄 :=
  Transfers.Flight countersEmb (c : Thread nD τ) (SemLoc.dma (csmO s).sem) () 32768 iprop(slotO c s (landedO c XW s b f) ∗ homeO c XW b)

/-- The blocks home before trip `k`: the one about to go out beside the rest; -/
theorem homesO_here (k : ℕ) (h : k + 3 < 10) :
    bigSep (Ring.homeSet 3 k) (homeO c XW) = iprop(homeO c XW (Ring.bk 10 (k + 3)) ∗ bigSep ((Ring.homeSet 3 k).erase (Ring.bk 10 (k + 3))) (homeO c XW)) := by
  conv_lhs => rw [Ring.homeSet_out 3 k h, bigSep_insert (Ring.bkL_not_mem_erase 3 k)]
  rfl
/-- after it: the one just back beside that rest; -/
theorem homesO_next (k : ℕ) (h : k + 3 < 10) :
    bigSep (Ring.homeSet 3 (k + 1)) (homeO c XW) = iprop(homeO c XW (Ring.bk 10 k) ∗ bigSep ((Ring.homeSet 3 k).erase (Ring.bk 10 (k + 3))) (homeO c XW)) := by
  conv_lhs => rw [Ring.homeSet_succ 3 k h, bigSep_insert (Ring.bk_not_mem_erase 3 k (by omega) (by decide))]
  rfl
/-- after a trip that sends none out: the one just back beside all that were home. -/
theorem homesO_tail (k : ℕ) (h : 10 ≤ k + 3) (hk : k < 10) :
    bigSep (Ring.homeSet 3 (k + 1)) (homeO c XW) = iprop(homeO c XW (Ring.bk 10 k) ∗ bigSep (Ring.homeSet 3 k) (homeO c XW)) := by
  conv_lhs => rw [Ring.homeSet_succ_tail 3 k h hk, bigSep_insert (Ring.bk_not_mem_homeSet 3 k hk (by decide))]
  rfl

/-- Slot `s` free: its elements at anything, its semaphore at zero. -/
def freeO (s : Fin 3) : sProp 𝕄 := iprop((∃ f, slotO (F := F) c s f) ∗ cellO (F := F) c s)
/-- Slot `s` in flight with block `b`. -/
def inflO (s : Fin 3) (b : Fin 10) : sProp 𝕄 := iprop(∃ f, flightO c XW s b f)
/-- The slot that carries block `p`: in flight while the block exists, else free. -/
@[irreducible] def roleO (p : ℕ) : sProp 𝕄 := Ring.roleAt (freeO (F := F) c (Ring.sl 3 p)) (inflO c XW (Ring.sl 3 p)) p

/-- The flight a trip issues: into the slot as the earlier block's flight left it, the new block written over it. -/
theorem flightO_after (s : Fin 3) (b b' : Fin 10) :
    flightO c XW s b' ((rslotO s).view.writes (Elt F) (rslotO s).view.junk [⟨Rect.whole S4096x256, payloadO c XW b⟩])
      = Transfers.Flight countersEmb (c : Thread nD τ) (SemLoc.dma (csmO s).sem) () 32768
          iprop(((rslotO s).view.loc (c : Thread nD τ) ↦[(rslotO s).view.set]{fullShare}
                  (rslotO s).view.writes (Elt F) (rslotO s).view.junk [⟨Rect.whole S4096x256, payloadO c XW b'⟩, ⟨Rect.whole S4096x256, payloadO c XW b⟩])
                ∗ homeO c XW b') := by
  simp only [flightO, landedO, slotO, View.writes]

theorem roleO_here (k : ℕ) (h : k < 10) : roleO (F := F) c XW k = iprop(∃ f, flightO c XW (Ring.sl 3 k) (Ring.bk 10 k) f) := by
  unfold roleO; exact Ring.roleAt_of_lt _ _ k h
theorem roleO_next (k : ℕ) (h : k + 3 < 10) :
    roleO (F := F) c XW (k + 1 + 2) = iprop(∃ f, flightO c XW (Ring.sl 3 k) (Ring.bk 10 (k + 3)) f) := by
  unfold roleO; rw [Ring.sl_succ_add 3 k 2 rfl]; exact Ring.roleAt_of_lt _ _ (k + 3) h
theorem roleO_free (k : ℕ) (h : 10 ≤ k + 3) :
    roleO (F := F) c XW (k + 1 + 2) = iprop((∃ f, slotO (F := F) c (Ring.sl 3 k) f) ∗ cellO (F := F) c (Ring.sl 3 k)) := by
  unfold roleO; rw [Ring.sl_succ_add 3 k 2 rfl]; exact Ring.roleAt_of_le _ _ (k + 3) h

/-- The ring before trip `k`: the blocks at home, and the slots by the blocks they carry next. -/
abbrev ringO (k : ℕ) : sProp 𝕄 := iprop(bigSep (Ring.homeSet 3 k) (homeO c XW) ∗ roleO c XW k ∗ roleO c XW (k + 1) ∗ roleO c XW (k + 2))

/-- Past the last trip the three slots are free. -/
theorem rolesO_exit (n : ℕ) (hn : n = 10) :
    iprop(roleO (F := F) c XW n ∗ roleO (F := F) c XW (n + 1) ∗ roleO (F := F) c XW (n + 2))
      ⊢ iprop(freeO (F := F) c 0 ∗ freeO (F := F) c 1 ∗ freeO (F := F) c 2) := by
  subst hn
  have e0 : roleO (F := F) c XW 10 = freeO (F := F) c 1 := by unfold roleO; exact Ring.roleAt_of_le _ _ 10 (by decide)
  have e1 : roleO (F := F) c XW (10 + 1) = freeO (F := F) c 2 := by unfold roleO; exact Ring.roleAt_of_le _ _ (10 + 1) (by decide)
  have e2 : roleO (F := F) c XW (10 + 2) = freeO (F := F) c 0 := by unfold roleO; exact Ring.roleAt_of_le _ _ (10 + 2) (by decide)
  rw [e0, e1, e2]
  iintro ⟨H1, H2, H0⟩
  isplitl [H0]; · iexact H0
  isplitl [H1]; · iexact H1
  iexact H2

/-- A slot's load, its unit axis dropped, is the block its copy brought. -/
theorem slotO_load_at {off : Fin 3 → Nat} {s : Fin 3} (e : off = slotOff s) (hh) (x : S4096x256.Idx → Elt F .fp8e4m3) :
    shapeCast S4096x256 (ringMO.view.readAt (Elt F) (Rect.unit (s := S3x4096x256) off S1x4096x256.size hh).toLoadRect
      ((rslotO s).view.writes (Elt F) (rslotO s).view.junk [⟨Rect.whole S4096x256, x⟩])) shapeCasts_S1x4096x256_S4096x256 = x := by
  subst e
  exact (Memref.read_squeeze_slice (Val := Elt F) ringMO (Rect.unit (s := S3x4096x256) (slotOff s) S1x4096x256.size hh) (fun _ => rfl)
    squeezes_S1x4096x256_S4096x256 shapeCasts_S1x4096x256_S4096x256 _).symm.trans (View.read_writes_whole (rslotO s).view _ x)
theorem slotO_load (k : Fin k0_t1_loop.trips) :
    shapeCast S4096x256 (ringMO.view.readAt (Elt F) (Rect.unit (s := S3x4096x256) (k0_off4 k) S1x4096x256.size (k0_off4_inb k)).toLoadRect
      ((rslotO (Ring.sl 3 k.val)).view.writes (Elt F) (rslotO (Ring.sl 3 k.val)).view.junk
        [⟨Rect.whole S4096x256, payloadO c XW (Ring.bk 10 k.val)⟩])) shapeCasts_S1x4096x256_S4096x256
      = payloadO c XW (Ring.bk 10 k.val) := slotO_load_at (off4_eqO k) _ _

end PiecesO

/-! ## The ring of the gate projection -/

abbrev wMG : Memref sig .tc .hbm S2560x9728 .fp8e4m3 := Memref.whole main_arg5
abbrev ringMG : Memref sig .tc .vmem S3x2560x512 .fp8e4m3 := Memref.whole cc0_scratch5

abbrev blkOffG (b : Fin 19) : Fin 2 → Nat := ![0, 512 * b.val]
theorem blkOffG_inb (b : Fin 19) : ∀ a, blkOffG b a + S2560x512.size a ≤ S2560x9728.size a := by
  have := b.isLt; intro a; fin_cases a
  · show 0 + 2560 ≤ 2560; omega
  · show 512 * b.val + 512 ≤ 9728; omega
theorem slotOffG_inb (s : Fin 3) : ∀ a, slotOff s a + S1x2560x512.size a ≤ S3x2560x512.size a := by
  have := s.isLt; intro a; fin_cases a
  · show s.val + 1 ≤ 3; omega
  · show 0 + 2560 ≤ 2560; omega
  · show 0 + 512 ≤ 512; omega

/-- Column block `b` of the weight in HBM, as the body slices it. -/
def blkG (b : Fin 19) : Memref sig .tc .hbm S2560x512 .fp8e4m3 :=
  wMG.slice (Rect.unit (s := S2560x9728) (blkOffG b) S2560x512.size (blkOffG_inb b)) (fun _ => rfl)
/-- Slot `s` of the ring, as the body slices and squeezes it. -/
def rslotG (s : Fin 3) : Memref sig .tc .vmem S2560x512 .fp8e4m3 :=
  (ringMG.slice (Rect.unit (s := S3x2560x512) (slotOff s) S1x2560x512.size (slotOffG_inb s)) (fun _ => rfl)).squeeze S2560x512 squeezes_S1x2560x512_S2560x512
/-- Slot `s`'s DMA semaphore. -/
def csmG (s : Fin 3) : DmaSems sig S_ := (cc0_scratch10.slice (Rect.unit (s := S2x3) (semOffG s) S1x1.size (semOffG_inb s))).squeeze S_ squeezes_S1x1_S_

instance (b : Fin 19) : ClosedOff (blkOffG b) := ⟨blkOffG b, rfl⟩

theorem off10_eqG (k : Fin k0_t2_loop.trips) : k0_off10 k = semOffG (Ring.sl 3 k.val) := by
  rw [k0_off10_eq]; simp [Ring.sl, Fin.ofNat]
theorem off16_eqG (k : Fin k0_t2_loop.trips) : k0_off16 k = semOffG (Ring.sl 3 k.val) := by
  rw [k0_off16_eq]; simp [Ring.sl, Fin.ofNat]
theorem off11_eqG (k : Fin k0_t2_loop.trips) : k0_off11 k = slotOff (Ring.sl 3 k.val) := by
  rw [k0_off11_eq]; simp [Ring.sl, Fin.ofNat]
theorem off14_eqG (k : Fin k0_t2_loop.trips) : k0_off14 k = slotOff (Ring.sl 3 k.val) := by
  rw [k0_off14_eq]; simp [Ring.sl, Fin.ofNat]
theorem off17_eqG (k : Fin k0_t2_loop.trips) : k0_off17 k = slotOff (Ring.sl 3 k.val) := by
  rw [k0_off17_eq]; simp [Ring.sl, Fin.ofNat]
theorem off12_eqG (k : Fin k0_t2_loop.trips) : k0_off12 k = blkOffG (Ring.bk 19 k.val) := by
  rw [k0_off12_eq]; unfold blkOffG; rw [Ring.bk_val (lt2 k)]
theorem off18_eqG (k : Fin k0_t2_loop.trips) (h : k.val + 3 < 19) : k0_off18 k = blkOffG (Ring.bk 19 (k.val + 3)) := by
  rw [k0_off18_eq]; unfold blkOffG; rw [Ring.bk_val h, Nat.mul_add]

/-- The slot's window at trip `k`, by the slot's number. -/
instance (k : Fin k0_t2_loop.trips) : ClosedOff (k0_off14 k) := ⟨slotOff (Ring.sl 3 k.val), off14_eqG k⟩

private theorem csmG_congr {off : Fin 2 → Nat} {s : Fin 3} (e : off = semOffG s) (hh) :
    (cc0_scratch10.slice (Rect.unit (s := S2x3) off S1x1.size hh)).squeeze S_ squeezes_S1x1_S_ = csmG s :=
  congrArg (fun A : DmaSems sig S1x1 => A.squeeze S_ squeezes_S1x1_S_) (SemArray.slice_unit_congr _ e _ _)
private theorem rslotG_congr {off : Fin 3 → Nat} {s : Fin 3} (e : off = slotOff s) (hh hs) :
    (ringMG.slice (Rect.unit (s := S3x2560x512) off S1x2560x512.size hh) hs).squeeze S2560x512 squeezes_S1x2560x512_S2560x512 = rslotG s :=
  congrArg (fun M : Memref sig .tc .vmem S1x2560x512 .fp8e4m3 => M.squeeze S2560x512 squeezes_S1x2560x512_S2560x512) (Memref.slice_unit_congr _ e _ _ _ _)
private theorem blkG_congr {off : Fin 2 → Nat} {b : Fin 19} (e : off = blkOffG b) (hh hs) :
    wMG.slice (Rect.unit (s := S2560x9728) off S2560x512.size hh) hs = blkG b :=
  Memref.slice_unit_congr _ e _ (blkOffG_inb b) _ (fun _ => rfl)

@[sl_canon] theorem semGL0 (hh) : (cc0_scratch10.slice (Rect.unit (s := S2x3) ![0, 0] S1x1.size hh)).squeeze S_ squeezes_S1x1_S_ = csmG 0 := csmG_congr (by decide) _
@[sl_canon] theorem slotGL0 (hh hs) : (ringMG.slice (Rect.unit (s := S3x2560x512) ![0, 0, 0] S1x2560x512.size hh) hs).squeeze S2560x512 squeezes_S1x2560x512_S2560x512 = rslotG 0 := rslotG_congr (by decide) _ _
@[sl_canon] theorem blkGL0 (hh hs) : wMG.slice (Rect.unit (s := S2560x9728) ![0, 0] S2560x512.size hh) hs = blkG 0 := blkG_congr (by decide) _ _
@[sl_canon] theorem semGL1 (hh) : (cc0_scratch10.slice (Rect.unit (s := S2x3) ![0, 1] S1x1.size hh)).squeeze S_ squeezes_S1x1_S_ = csmG 1 := csmG_congr (by decide) _
@[sl_canon] theorem slotGL1 (hh hs) : (ringMG.slice (Rect.unit (s := S3x2560x512) ![1, 0, 0] S1x2560x512.size hh) hs).squeeze S2560x512 squeezes_S1x2560x512_S2560x512 = rslotG 1 := rslotG_congr (by decide) _ _
@[sl_canon] theorem blkGL1 (hh hs) : wMG.slice (Rect.unit (s := S2560x9728) ![0, 512] S2560x512.size hh) hs = blkG 1 := blkG_congr (by decide) _ _
@[sl_canon] theorem semGL2 (hh) : (cc0_scratch10.slice (Rect.unit (s := S2x3) ![0, 2] S1x1.size hh)).squeeze S_ squeezes_S1x1_S_ = csmG 2 := csmG_congr (by decide) _
@[sl_canon] theorem slotGL2 (hh hs) : (ringMG.slice (Rect.unit (s := S3x2560x512) ![2, 0, 0] S1x2560x512.size hh) hs).squeeze S2560x512 squeezes_S1x2560x512_S2560x512 = rslotG 2 := rslotG_congr (by decide) _ _
@[sl_canon] theorem blkGL2 (hh hs) : wMG.slice (Rect.unit (s := S2560x9728) ![0, 1024] S2560x512.size hh) hs = blkG 2 := blkG_congr (by decide) _ _

@[sl_canon] theorem semGK (k : Fin k0_t2_loop.trips) (hh) :
    (cc0_scratch10.slice (Rect.unit (s := S2x3) (k0_off10 k) S1x1.size hh)).squeeze S_ squeezes_S1x1_S_ = csmG (Ring.sl 3 k.val) := csmG_congr (off10_eqG k) _
@[sl_canon] theorem slotGK (k : Fin k0_t2_loop.trips) (hh hs) :
    (ringMG.slice (Rect.unit (s := S3x2560x512) (k0_off11 k) S1x2560x512.size hh) hs).squeeze S2560x512 squeezes_S1x2560x512_S2560x512 = rslotG (Ring.sl 3 k.val) := rslotG_congr (off11_eqG k) _ _
@[sl_canon] theorem blkGW (k : Fin k0_t2_loop.trips) (hh hs) :
    wMG.slice (Rect.unit (s := S2560x9728) (k0_off12 k) S2560x512.size hh) hs = blkG (Ring.bk 19 k.val) := blkG_congr (off12_eqG k) _ _
@[sl_canon] theorem semGK' (k : Fin k0_t2_loop.trips) (hh) :
    (cc0_scratch10.slice (Rect.unit (s := S2x3) (k0_off16 k) S1x1.size hh)).squeeze S_ squeezes_S1x1_S_ = csmG (Ring.sl 3 k.val) := csmG_congr (off16_eqG k) _
@[sl_canon] theorem slotGK' (k : Fin k0_t2_loop.trips) (hh hs) :
    (ringMG.slice (Rect.unit (s := S3x2560x512) (k0_off17 k) S1x2560x512.size hh) hs).squeeze S2560x512 squeezes_S1x2560x512_S2560x512 = rslotG (Ring.sl 3 k.val) := rslotG_congr (off17_eqG k) _ _
@[sl_canon] theorem blkGI (k : Fin k0_t2_loop.trips) (h : k.val + 3 < 19) (hh hs) :
    wMG.slice (Rect.unit (s := S2560x9728) (k0_off18 k) S2560x512.size hh) hs = blkG (Ring.bk 19 (k.val + 3)) := blkG_congr (off18_eqG k h) _ _

section PiecesG
variable (c : Dev nD) (XW : Buf (Elt F) (wMG.view.loc (c : Thread nD τ)))

abbrev cellG (s : Fin 3) : sProp 𝕄 := semVal ((c : Thread nD τ), SemLoc.dma (csmG s).sem) 0
abbrev slotG (s : Fin 3) (f : Buf (Elt F) ((rslotG s).view.loc (c : Thread nD τ))) : sProp 𝕄 :=
  (rslotG s).view.loc (c : Thread nD τ) ↦[(rslotG s).view.set]{fullShare} f
/-- Block `b` home: held on its elements at the weight's contents. -/
abbrev homeG (b : Fin 19) : sProp 𝕄 := (blkG b).view.loc (c : Thread nD τ) ↦[(blkG b).view.set]{fullShare} XW
/-- Block `b`'s elements as a slot's payload. -/
abbrev payloadG (b : Fin 19) : S2560x512.Idx → Elt F .fp8e4m3 := ReadAs.same.apply ((blkG b).view.read (Elt F) XW)
/-- What block `b`'s copy leaves in slot `s` over prior contents `f`: the block, written whole. -/
abbrev landedG (s : Fin 3) (b : Fin 19) (f : Buf (Elt F) ((rslotG s).view.loc (c : Thread nD τ))) : Buf (Elt F) ((rslotG s).view.loc (c : Thread nD τ)) :=
  (rslotG s).view.writes (Elt F) f [⟨Rect.whole S2560x512, payloadG c XW b⟩]
/-- Slot `s` in flight with block `b`, issued over `f`. -/
abbrev flightG (s : Fin 3) (b : Fin 19) (f : Buf (Elt F) ((rslotG s).view.loc (c : Thread nD τ))) : sProp 𝕄 :=
  Transfers.Flight countersEmb (c : Thread nD τ) (SemLoc.dma (csmG s).sem) () 40960 iprop(slotG c s (landedG c XW s b f) ∗ homeG c XW b)

/-- The blocks home before trip `k`: the one about to go out beside the rest; -/
theorem homesG_here (k : ℕ) (h : k + 3 < 19) :
    bigSep (Ring.homeSet 3 k) (homeG c XW) = iprop(homeG c XW (Ring.bk 19 (k + 3)) ∗ bigSep ((Ring.homeSet 3 k).erase (Ring.bk 19 (k + 3))) (homeG c XW)) := by
  conv_lhs => rw [Ring.homeSet_out 3 k h, bigSep_insert (Ring.bkL_not_mem_erase 3 k)]
  rfl
/-- after it: the one just back beside that rest; -/
theorem homesG_next (k : ℕ) (h : k + 3 < 19) :
    bigSep (Ring.homeSet 3 (k + 1)) (homeG c XW) = iprop(homeG c XW (Ring.bk 19 k) ∗ bigSep ((Ring.homeSet 3 k).erase (Ring.bk 19 (k + 3))) (homeG c XW)) := by
  conv_lhs => rw [Ring.homeSet_succ 3 k h, bigSep_insert (Ring.bk_not_mem_erase 3 k (by omega) (by decide))]
  rfl
/-- after a trip that sends none out: the one just back beside all that were home. -/
theorem homesG_tail (k : ℕ) (h : 19 ≤ k + 3) (hk : k < 19) :
    bigSep (Ring.homeSet 3 (k + 1)) (homeG c XW) = iprop(homeG c XW (Ring.bk 19 k) ∗ bigSep (Ring.homeSet 3 k) (homeG c XW)) := by
  conv_lhs => rw [Ring.homeSet_succ_tail 3 k h hk, bigSep_insert (Ring.bk_not_mem_homeSet 3 k hk (by decide))]
  rfl

/-- Slot `s` free: its elements at anything, its semaphore at zero. -/
def freeG (s : Fin 3) : sProp 𝕄 := iprop((∃ f, slotG (F := F) c s f) ∗ cellG (F := F) c s)
/-- Slot `s` in flight with block `b`. -/
def inflG (s : Fin 3) (b : Fin 19) : sProp 𝕄 := iprop(∃ f, flightG c XW s b f)
/-- The slot that carries block `p`: in flight while the block exists, else free. -/
@[irreducible] def roleG (p : ℕ) : sProp 𝕄 := Ring.roleAt (freeG (F := F) c (Ring.sl 3 p)) (inflG c XW (Ring.sl 3 p)) p

/-- The flight a trip issues: into the slot as the earlier block's flight left it, the new block written over it. -/
theorem flightG_after (s : Fin 3) (b b' : Fin 19) :
    flightG c XW s b' ((rslotG s).view.writes (Elt F) (rslotG s).view.junk [⟨Rect.whole S2560x512, payloadG c XW b⟩])
      = Transfers.Flight countersEmb (c : Thread nD τ) (SemLoc.dma (csmG s).sem) () 40960
          iprop(((rslotG s).view.loc (c : Thread nD τ) ↦[(rslotG s).view.set]{fullShare}
                  (rslotG s).view.writes (Elt F) (rslotG s).view.junk [⟨Rect.whole S2560x512, payloadG c XW b'⟩, ⟨Rect.whole S2560x512, payloadG c XW b⟩])
                ∗ homeG c XW b') := by
  simp only [flightG, landedG, slotG, View.writes]

theorem roleG_here (k : ℕ) (h : k < 19) : roleG (F := F) c XW k = iprop(∃ f, flightG c XW (Ring.sl 3 k) (Ring.bk 19 k) f) := by
  unfold roleG; exact Ring.roleAt_of_lt _ _ k h
theorem roleG_next (k : ℕ) (h : k + 3 < 19) :
    roleG (F := F) c XW (k + 1 + 2) = iprop(∃ f, flightG c XW (Ring.sl 3 k) (Ring.bk 19 (k + 3)) f) := by
  unfold roleG; rw [Ring.sl_succ_add 3 k 2 rfl]; exact Ring.roleAt_of_lt _ _ (k + 3) h
theorem roleG_free (k : ℕ) (h : 19 ≤ k + 3) :
    roleG (F := F) c XW (k + 1 + 2) = iprop((∃ f, slotG (F := F) c (Ring.sl 3 k) f) ∗ cellG (F := F) c (Ring.sl 3 k)) := by
  unfold roleG; rw [Ring.sl_succ_add 3 k 2 rfl]; exact Ring.roleAt_of_le _ _ (k + 3) h

/-- The ring before trip `k`: the blocks at home, and the slots by the blocks they carry next. -/
abbrev ringG (k : ℕ) : sProp 𝕄 := iprop(bigSep (Ring.homeSet 3 k) (homeG c XW) ∗ roleG c XW k ∗ roleG c XW (k + 1) ∗ roleG c XW (k + 2))

/-- Past the last trip the three slots are free. -/
theorem rolesG_exit (n : ℕ) (hn : n = 19) :
    iprop(roleG (F := F) c XW n ∗ roleG (F := F) c XW (n + 1) ∗ roleG (F := F) c XW (n + 2))
      ⊢ iprop(freeG (F := F) c 0 ∗ freeG (F := F) c 1 ∗ freeG (F := F) c 2) := by
  subst hn
  have e0 : roleG (F := F) c XW 19 = freeG (F := F) c 1 := by unfold roleG; exact Ring.roleAt_of_le _ _ 19 (by decide)
  have e1 : roleG (F := F) c XW (19 + 1) = freeG (F := F) c 2 := by unfold roleG; exact Ring.roleAt_of_le _ _ (19 + 1) (by decide)
  have e2 : roleG (F := F) c XW (19 + 2) = freeG (F := F) c 0 := by unfold roleG; exact Ring.roleAt_of_le _ _ (19 + 2) (by decide)
  rw [e0, e1, e2]
  iintro ⟨H1, H2, H0⟩
  isplitl [H0]; · iexact H0
  isplitl [H1]; · iexact H1
  iexact H2

/-- A slot's load, its unit axis dropped, is the block its copy brought. -/
theorem slotG_load_at {off : Fin 3 → Nat} {s : Fin 3} (e : off = slotOff s) (hh) (x : S2560x512.Idx → Elt F .fp8e4m3) :
    shapeCast S2560x512 (ringMG.view.readAt (Elt F) (Rect.unit (s := S3x2560x512) off S1x2560x512.size hh).toLoadRect
      ((rslotG s).view.writes (Elt F) (rslotG s).view.junk [⟨Rect.whole S2560x512, x⟩])) shapeCasts_S1x2560x512_S2560x512 = x := by
  subst e
  exact (Memref.read_squeeze_slice (Val := Elt F) ringMG (Rect.unit (s := S3x2560x512) (slotOff s) S1x2560x512.size hh) (fun _ => rfl)
    squeezes_S1x2560x512_S2560x512 shapeCasts_S1x2560x512_S2560x512 _).symm.trans (View.read_writes_whole (rslotG s).view _ x)
theorem slotG_load (k : Fin k0_t2_loop.trips) :
    shapeCast S2560x512 (ringMG.view.readAt (Elt F) (Rect.unit (s := S3x2560x512) (k0_off14 k) S1x2560x512.size (k0_off14_inb k)).toLoadRect
      ((rslotG (Ring.sl 3 k.val)).view.writes (Elt F) (rslotG (Ring.sl 3 k.val)).view.junk
        [⟨Rect.whole S2560x512, payloadG c XW (Ring.bk 19 k.val)⟩])) shapeCasts_S1x2560x512_S2560x512
      = payloadG c XW (Ring.bk 19 k.val) := slotG_load_at (off14_eqG k) _ _

end PiecesG

/-! ## The ring of the up projection -/

abbrev wMU : Memref sig .tc .hbm S2560x9728 .fp8e4m3 := Memref.whole main_arg7
abbrev ringMU : Memref sig .tc .vmem S3x2560x512 .fp8e4m3 := Memref.whole cc0_scratch6

abbrev blkOffU (b : Fin 19) : Fin 2 → Nat := ![0, 512 * b.val]
theorem blkOffU_inb (b : Fin 19) : ∀ a, blkOffU b a + S2560x512.size a ≤ S2560x9728.size a := by
  have := b.isLt; intro a; fin_cases a
  · show 0 + 2560 ≤ 2560; omega
  · show 512 * b.val + 512 ≤ 9728; omega
theorem slotOffU_inb (s : Fin 3) : ∀ a, slotOff s a + S1x2560x512.size a ≤ S3x2560x512.size a := by
  have := s.isLt; intro a; fin_cases a
  · show s.val + 1 ≤ 3; omega
  · show 0 + 2560 ≤ 2560; omega
  · show 0 + 512 ≤ 512; omega

/-- Column block `b` of the weight in HBM, as the body slices it. -/
def blkU (b : Fin 19) : Memref sig .tc .hbm S2560x512 .fp8e4m3 :=
  wMU.slice (Rect.unit (s := S2560x9728) (blkOffU b) S2560x512.size (blkOffU_inb b)) (fun _ => rfl)
/-- Slot `s` of the ring, as the body slices and squeezes it. -/
def rslotU (s : Fin 3) : Memref sig .tc .vmem S2560x512 .fp8e4m3 :=
  (ringMU.slice (Rect.unit (s := S3x2560x512) (slotOff s) S1x2560x512.size (slotOffU_inb s)) (fun _ => rfl)).squeeze S2560x512 squeezes_S1x2560x512_S2560x512
/-- Slot `s`'s DMA semaphore. -/
def csmU (s : Fin 3) : DmaSems sig S_ := (cc0_scratch10.slice (Rect.unit (s := S2x3) (semOffU s) S1x1.size (semOffU_inb s))).squeeze S_ squeezes_S1x1_S_

instance (b : Fin 19) : ClosedOff (blkOffU b) := ⟨blkOffU b, rfl⟩

theorem off13_eqU (k : Fin k0_t2_loop.trips) : k0_off13 k = semOffU (Ring.sl 3 k.val) := by
  rw [k0_off13_eq]; simp [Ring.sl, Fin.ofNat]
theorem off19_eqU (k : Fin k0_t2_loop.trips) : k0_off19 k = semOffU (Ring.sl 3 k.val) := by
  rw [k0_off19_eq]; simp [Ring.sl, Fin.ofNat]
theorem off11_eqU (k : Fin k0_t2_loop.trips) : k0_off11 k = slotOff (Ring.sl 3 k.val) := by
  rw [k0_off11_eq]; simp [Ring.sl, Fin.ofNat]
theorem off14_eqU (k : Fin k0_t2_loop.trips) : k0_off14 k = slotOff (Ring.sl 3 k.val) := by
  rw [k0_off14_eq]; simp [Ring.sl, Fin.ofNat]
theorem off17_eqU (k : Fin k0_t2_loop.trips) : k0_off17 k = slotOff (Ring.sl 3 k.val) := by
  rw [k0_off17_eq]; simp [Ring.sl, Fin.ofNat]
theorem off12_eqU (k : Fin k0_t2_loop.trips) : k0_off12 k = blkOffU (Ring.bk 19 k.val) := by
  rw [k0_off12_eq]; unfold blkOffU; rw [Ring.bk_val (lt2 k)]
theorem off18_eqU (k : Fin k0_t2_loop.trips) (h : k.val + 3 < 19) : k0_off18 k = blkOffU (Ring.bk 19 (k.val + 3)) := by
  rw [k0_off18_eq]; unfold blkOffU; rw [Ring.bk_val h, Nat.mul_add]

private theorem csmU_congr {off : Fin 2 → Nat} {s : Fin 3} (e : off = semOffU s) (hh) :
    (cc0_scratch10.slice (Rect.unit (s := S2x3) off S1x1.size hh)).squeeze S_ squeezes_S1x1_S_ = csmU s :=
  congrArg (fun A : DmaSems sig S1x1 => A.squeeze S_ squeezes_S1x1_S_) (SemArray.slice_unit_congr _ e _ _)
private theorem rslotU_congr {off : Fin 3 → Nat} {s : Fin 3} (e : off = slotOff s) (hh hs) :
    (ringMU.slice (Rect.unit (s := S3x2560x512) off S1x2560x512.size hh) hs).squeeze S2560x512 squeezes_S1x2560x512_S2560x512 = rslotU s :=
  congrArg (fun M : Memref sig .tc .vmem S1x2560x512 .fp8e4m3 => M.squeeze S2560x512 squeezes_S1x2560x512_S2560x512) (Memref.slice_unit_congr _ e _ _ _ _)
private theorem blkU_congr {off : Fin 2 → Nat} {b : Fin 19} (e : off = blkOffU b) (hh hs) :
    wMU.slice (Rect.unit (s := S2560x9728) off S2560x512.size hh) hs = blkU b :=
  Memref.slice_unit_congr _ e _ (blkOffU_inb b) _ (fun _ => rfl)

@[sl_canon] theorem semUL0 (hh) : (cc0_scratch10.slice (Rect.unit (s := S2x3) ![1, 0] S1x1.size hh)).squeeze S_ squeezes_S1x1_S_ = csmU 0 := csmU_congr (by decide) _
@[sl_canon] theorem slotUL0 (hh hs) : (ringMU.slice (Rect.unit (s := S3x2560x512) ![0, 0, 0] S1x2560x512.size hh) hs).squeeze S2560x512 squeezes_S1x2560x512_S2560x512 = rslotU 0 := rslotU_congr (by decide) _ _
@[sl_canon] theorem blkUL0 (hh hs) : wMU.slice (Rect.unit (s := S2560x9728) ![0, 0] S2560x512.size hh) hs = blkU 0 := blkU_congr (by decide) _ _
@[sl_canon] theorem semUL1 (hh) : (cc0_scratch10.slice (Rect.unit (s := S2x3) ![1, 1] S1x1.size hh)).squeeze S_ squeezes_S1x1_S_ = csmU 1 := csmU_congr (by decide) _
@[sl_canon] theorem slotUL1 (hh hs) : (ringMU.slice (Rect.unit (s := S3x2560x512) ![1, 0, 0] S1x2560x512.size hh) hs).squeeze S2560x512 squeezes_S1x2560x512_S2560x512 = rslotU 1 := rslotU_congr (by decide) _ _
@[sl_canon] theorem blkUL1 (hh hs) : wMU.slice (Rect.unit (s := S2560x9728) ![0, 512] S2560x512.size hh) hs = blkU 1 := blkU_congr (by decide) _ _
@[sl_canon] theorem semUL2 (hh) : (cc0_scratch10.slice (Rect.unit (s := S2x3) ![1, 2] S1x1.size hh)).squeeze S_ squeezes_S1x1_S_ = csmU 2 := csmU_congr (by decide) _
@[sl_canon] theorem slotUL2 (hh hs) : (ringMU.slice (Rect.unit (s := S3x2560x512) ![2, 0, 0] S1x2560x512.size hh) hs).squeeze S2560x512 squeezes_S1x2560x512_S2560x512 = rslotU 2 := rslotU_congr (by decide) _ _
@[sl_canon] theorem blkUL2 (hh hs) : wMU.slice (Rect.unit (s := S2560x9728) ![0, 1024] S2560x512.size hh) hs = blkU 2 := blkU_congr (by decide) _ _

@[sl_canon] theorem semUK (k : Fin k0_t2_loop.trips) (hh) :
    (cc0_scratch10.slice (Rect.unit (s := S2x3) (k0_off13 k) S1x1.size hh)).squeeze S_ squeezes_S1x1_S_ = csmU (Ring.sl 3 k.val) := csmU_congr (off13_eqU k) _
@[sl_canon] theorem slotUK (k : Fin k0_t2_loop.trips) (hh hs) :
    (ringMU.slice (Rect.unit (s := S3x2560x512) (k0_off11 k) S1x2560x512.size hh) hs).squeeze S2560x512 squeezes_S1x2560x512_S2560x512 = rslotU (Ring.sl 3 k.val) := rslotU_congr (off11_eqU k) _ _
@[sl_canon] theorem blkUW (k : Fin k0_t2_loop.trips) (hh hs) :
    wMU.slice (Rect.unit (s := S2560x9728) (k0_off12 k) S2560x512.size hh) hs = blkU (Ring.bk 19 k.val) := blkU_congr (off12_eqU k) _ _
@[sl_canon] theorem semUK' (k : Fin k0_t2_loop.trips) (hh) :
    (cc0_scratch10.slice (Rect.unit (s := S2x3) (k0_off19 k) S1x1.size hh)).squeeze S_ squeezes_S1x1_S_ = csmU (Ring.sl 3 k.val) := csmU_congr (off19_eqU k) _
@[sl_canon] theorem slotUK' (k : Fin k0_t2_loop.trips) (hh hs) :
    (ringMU.slice (Rect.unit (s := S3x2560x512) (k0_off17 k) S1x2560x512.size hh) hs).squeeze S2560x512 squeezes_S1x2560x512_S2560x512 = rslotU (Ring.sl 3 k.val) := rslotU_congr (off17_eqU k) _ _
@[sl_canon] theorem blkUI (k : Fin k0_t2_loop.trips) (h : k.val + 3 < 19) (hh hs) :
    wMU.slice (Rect.unit (s := S2560x9728) (k0_off18 k) S2560x512.size hh) hs = blkU (Ring.bk 19 (k.val + 3)) := blkU_congr (off18_eqU k h) _ _

section PiecesU
variable (c : Dev nD) (XW : Buf (Elt F) (wMU.view.loc (c : Thread nD τ)))

abbrev cellU (s : Fin 3) : sProp 𝕄 := semVal ((c : Thread nD τ), SemLoc.dma (csmU s).sem) 0
abbrev slotU (s : Fin 3) (f : Buf (Elt F) ((rslotU s).view.loc (c : Thread nD τ))) : sProp 𝕄 :=
  (rslotU s).view.loc (c : Thread nD τ) ↦[(rslotU s).view.set]{fullShare} f
/-- Block `b` home: held on its elements at the weight's contents. -/
abbrev homeU (b : Fin 19) : sProp 𝕄 := (blkU b).view.loc (c : Thread nD τ) ↦[(blkU b).view.set]{fullShare} XW
/-- Block `b`'s elements as a slot's payload. -/
abbrev payloadU (b : Fin 19) : S2560x512.Idx → Elt F .fp8e4m3 := ReadAs.same.apply ((blkU b).view.read (Elt F) XW)
/-- What block `b`'s copy leaves in slot `s` over prior contents `f`: the block, written whole. -/
abbrev landedU (s : Fin 3) (b : Fin 19) (f : Buf (Elt F) ((rslotU s).view.loc (c : Thread nD τ))) : Buf (Elt F) ((rslotU s).view.loc (c : Thread nD τ)) :=
  (rslotU s).view.writes (Elt F) f [⟨Rect.whole S2560x512, payloadU c XW b⟩]
/-- Slot `s` in flight with block `b`, issued over `f`. -/
abbrev flightU (s : Fin 3) (b : Fin 19) (f : Buf (Elt F) ((rslotU s).view.loc (c : Thread nD τ))) : sProp 𝕄 :=
  Transfers.Flight countersEmb (c : Thread nD τ) (SemLoc.dma (csmU s).sem) () 40960 iprop(slotU c s (landedU c XW s b f) ∗ homeU c XW b)

/-- The blocks home before trip `k`: the one about to go out beside the rest; -/
theorem homesU_here (k : ℕ) (h : k + 3 < 19) :
    bigSep (Ring.homeSet 3 k) (homeU c XW) = iprop(homeU c XW (Ring.bk 19 (k + 3)) ∗ bigSep ((Ring.homeSet 3 k).erase (Ring.bk 19 (k + 3))) (homeU c XW)) := by
  conv_lhs => rw [Ring.homeSet_out 3 k h, bigSep_insert (Ring.bkL_not_mem_erase 3 k)]
  rfl
/-- after it: the one just back beside that rest; -/
theorem homesU_next (k : ℕ) (h : k + 3 < 19) :
    bigSep (Ring.homeSet 3 (k + 1)) (homeU c XW) = iprop(homeU c XW (Ring.bk 19 k) ∗ bigSep ((Ring.homeSet 3 k).erase (Ring.bk 19 (k + 3))) (homeU c XW)) := by
  conv_lhs => rw [Ring.homeSet_succ 3 k h, bigSep_insert (Ring.bk_not_mem_erase 3 k (by omega) (by decide))]
  rfl
/-- after a trip that sends none out: the one just back beside all that were home. -/
theorem homesU_tail (k : ℕ) (h : 19 ≤ k + 3) (hk : k < 19) :
    bigSep (Ring.homeSet 3 (k + 1)) (homeU c XW) = iprop(homeU c XW (Ring.bk 19 k) ∗ bigSep (Ring.homeSet 3 k) (homeU c XW)) := by
  conv_lhs => rw [Ring.homeSet_succ_tail 3 k h hk, bigSep_insert (Ring.bk_not_mem_homeSet 3 k hk (by decide))]
  rfl

/-- Slot `s` free: its elements at anything, its semaphore at zero. -/
def freeU (s : Fin 3) : sProp 𝕄 := iprop((∃ f, slotU (F := F) c s f) ∗ cellU (F := F) c s)
/-- Slot `s` in flight with block `b`. -/
def inflU (s : Fin 3) (b : Fin 19) : sProp 𝕄 := iprop(∃ f, flightU c XW s b f)
/-- The slot that carries block `p`: in flight while the block exists, else free. -/
@[irreducible] def roleU (p : ℕ) : sProp 𝕄 := Ring.roleAt (freeU (F := F) c (Ring.sl 3 p)) (inflU c XW (Ring.sl 3 p)) p

/-- The flight a trip issues: into the slot as the earlier block's flight left it, the new block written over it. -/
theorem flightU_after (s : Fin 3) (b b' : Fin 19) :
    flightU c XW s b' ((rslotU s).view.writes (Elt F) (rslotU s).view.junk [⟨Rect.whole S2560x512, payloadU c XW b⟩])
      = Transfers.Flight countersEmb (c : Thread nD τ) (SemLoc.dma (csmU s).sem) () 40960
          iprop(((rslotU s).view.loc (c : Thread nD τ) ↦[(rslotU s).view.set]{fullShare}
                  (rslotU s).view.writes (Elt F) (rslotU s).view.junk [⟨Rect.whole S2560x512, payloadU c XW b'⟩, ⟨Rect.whole S2560x512, payloadU c XW b⟩])
                ∗ homeU c XW b') := by
  simp only [flightU, landedU, slotU, View.writes]

theorem roleU_here (k : ℕ) (h : k < 19) : roleU (F := F) c XW k = iprop(∃ f, flightU c XW (Ring.sl 3 k) (Ring.bk 19 k) f) := by
  unfold roleU; exact Ring.roleAt_of_lt _ _ k h
theorem roleU_next (k : ℕ) (h : k + 3 < 19) :
    roleU (F := F) c XW (k + 1 + 2) = iprop(∃ f, flightU c XW (Ring.sl 3 k) (Ring.bk 19 (k + 3)) f) := by
  unfold roleU; rw [Ring.sl_succ_add 3 k 2 rfl]; exact Ring.roleAt_of_lt _ _ (k + 3) h
theorem roleU_free (k : ℕ) (h : 19 ≤ k + 3) :
    roleU (F := F) c XW (k + 1 + 2) = iprop((∃ f, slotU (F := F) c (Ring.sl 3 k) f) ∗ cellU (F := F) c (Ring.sl 3 k)) := by
  unfold roleU; rw [Ring.sl_succ_add 3 k 2 rfl]; exact Ring.roleAt_of_le _ _ (k + 3) h

/-- The ring before trip `k`: the blocks at home, and the slots by the blocks they carry next. -/
abbrev ringU (k : ℕ) : sProp 𝕄 := iprop(bigSep (Ring.homeSet 3 k) (homeU c XW) ∗ roleU c XW k ∗ roleU c XW (k + 1) ∗ roleU c XW (k + 2))

/-- Past the last trip the three slots are free. -/
theorem rolesU_exit (n : ℕ) (hn : n = 19) :
    iprop(roleU (F := F) c XW n ∗ roleU (F := F) c XW (n + 1) ∗ roleU (F := F) c XW (n + 2))
      ⊢ iprop(freeU (F := F) c 0 ∗ freeU (F := F) c 1 ∗ freeU (F := F) c 2) := by
  subst hn
  have e0 : roleU (F := F) c XW 19 = freeU (F := F) c 1 := by unfold roleU; exact Ring.roleAt_of_le _ _ 19 (by decide)
  have e1 : roleU (F := F) c XW (19 + 1) = freeU (F := F) c 2 := by unfold roleU; exact Ring.roleAt_of_le _ _ (19 + 1) (by decide)
  have e2 : roleU (F := F) c XW (19 + 2) = freeU (F := F) c 0 := by unfold roleU; exact Ring.roleAt_of_le _ _ (19 + 2) (by decide)
  rw [e0, e1, e2]
  iintro ⟨H1, H2, H0⟩
  isplitl [H0]; · iexact H0
  isplitl [H1]; · iexact H1
  iexact H2

/-- A slot's load, its unit axis dropped, is the block its copy brought. -/
theorem slotU_load_at {off : Fin 3 → Nat} {s : Fin 3} (e : off = slotOff s) (hh) (x : S2560x512.Idx → Elt F .fp8e4m3) :
    shapeCast S2560x512 (ringMU.view.readAt (Elt F) (Rect.unit (s := S3x2560x512) off S1x2560x512.size hh).toLoadRect
      ((rslotU s).view.writes (Elt F) (rslotU s).view.junk [⟨Rect.whole S2560x512, x⟩])) shapeCasts_S1x2560x512_S2560x512 = x := by
  subst e
  exact (Memref.read_squeeze_slice (Val := Elt F) ringMU (Rect.unit (s := S3x2560x512) (slotOff s) S1x2560x512.size hh) (fun _ => rfl)
    squeezes_S1x2560x512_S2560x512 shapeCasts_S1x2560x512_S2560x512 _).symm.trans (View.read_writes_whole (rslotU s).view _ x)
theorem slotU_load (k : Fin k0_t2_loop.trips) :
    shapeCast S2560x512 (ringMU.view.readAt (Elt F) (Rect.unit (s := S3x2560x512) (k0_off14 k) S1x2560x512.size (k0_off14_inb k)).toLoadRect
      ((rslotU (Ring.sl 3 k.val)).view.writes (Elt F) (rslotU (Ring.sl 3 k.val)).view.junk
        [⟨Rect.whole S2560x512, payloadU c XW (Ring.bk 19 k.val)⟩])) shapeCasts_S1x2560x512_S2560x512
      = payloadU c XW (Ring.bk 19 k.val) := slotU_load_at (off14_eqU k) _ _

end PiecesU

/-! ## The ring of the down projection -/

abbrev wMD : Memref sig .tc .hbm S9728x2560 .fp8e4m3 := Memref.whole main_arg9
abbrev ringMD : Memref sig .tc .vmem S3x9728x256 .fp8e4m3 := Memref.whole cc0_scratch7

abbrev blkOffD (b : Fin 10) : Fin 2 → Nat := ![0, 256 * b.val]
theorem blkOffD_inb (b : Fin 10) : ∀ a, blkOffD b a + S9728x256.size a ≤ S9728x2560.size a := by
  have := b.isLt; intro a; fin_cases a
  · show 0 + 9728 ≤ 9728; omega
  · show 256 * b.val + 256 ≤ 2560; omega
theorem slotOffD_inb (s : Fin 3) : ∀ a, slotOff s a + S1x9728x256.size a ≤ S3x9728x256.size a := by
  have := s.isLt; intro a; fin_cases a
  · show s.val + 1 ≤ 3; omega
  · show 0 + 9728 ≤ 9728; omega
  · show 0 + 256 ≤ 256; omega

/-- Column block `b` of the weight in HBM, as the body slices it. -/
def blkD (b : Fin 10) : Memref sig .tc .hbm S9728x256 .fp8e4m3 :=
  wMD.slice (Rect.unit (s := S9728x2560) (blkOffD b) S9728x256.size (blkOffD_inb b)) (fun _ => rfl)
/-- Slot `s` of the ring, as the body slices and squeezes it. -/
def rslotD (s : Fin 3) : Memref sig .tc .vmem S9728x256 .fp8e4m3 :=
  (ringMD.slice (Rect.unit (s := S3x9728x256) (slotOff s) S1x9728x256.size (slotOffD_inb s)) (fun _ => rfl)).squeeze S9728x256 squeezes_S1x9728x256_S9728x256
/-- Slot `s`'s DMA semaphore. -/
def csmD (s : Fin 3) : DmaSems sig S_ := (cc0_scratch11.slice (Rect.unit (s := S3) (semOff s) S1.size (semOff_inb s))).squeeze S_ squeezes_S1_S_

instance (b : Fin 10) : ClosedOff (blkOffD b) := ⟨blkOffD b, rfl⟩

theorem off22_eqD (k : Fin k0_t3_loop.trips) : k0_off22 k = semOff (Ring.sl 3 k.val) := by
  rw [k0_off22_eq]; simp [Ring.sl, Fin.ofNat]
theorem off27_eqD (k : Fin k0_t3_loop.trips) : k0_off27 k = semOff (Ring.sl 3 k.val) := by
  rw [k0_off27_eq]; simp [Ring.sl, Fin.ofNat]
theorem off23_eqD (k : Fin k0_t3_loop.trips) : k0_off23 k = slotOff (Ring.sl 3 k.val) := by
  rw [k0_off23_eq]; simp [Ring.sl, Fin.ofNat]
theorem off25_eqD (k : Fin k0_t3_loop.trips) : k0_off25 k = slotOff (Ring.sl 3 k.val) := by
  rw [k0_off25_eq]; simp [Ring.sl, Fin.ofNat]
theorem off28_eqD (k : Fin k0_t3_loop.trips) : k0_off28 k = slotOff (Ring.sl 3 k.val) := by
  rw [k0_off28_eq]; simp [Ring.sl, Fin.ofNat]
theorem off24_eqD (k : Fin k0_t3_loop.trips) : k0_off24 k = blkOffD (Ring.bk 10 k.val) := by
  rw [k0_off24_eq]; unfold blkOffD; rw [Ring.bk_val (lt3 k)]
theorem off29_eqD (k : Fin k0_t3_loop.trips) (h : k.val + 3 < 10) : k0_off29 k = blkOffD (Ring.bk 10 (k.val + 3)) := by
  rw [k0_off29_eq]; unfold blkOffD; rw [Ring.bk_val h, Nat.mul_add]

/-- The slot's window at trip `k`, by the slot's number. -/
instance (k : Fin k0_t3_loop.trips) : ClosedOff (k0_off25 k) := ⟨slotOff (Ring.sl 3 k.val), off25_eqD k⟩

private theorem csmD_congr {off : Fin 1 → Nat} {s : Fin 3} (e : off = semOff s) (hh) :
    (cc0_scratch11.slice (Rect.unit (s := S3) off S1.size hh)).squeeze S_ squeezes_S1_S_ = csmD s :=
  congrArg (fun A : DmaSems sig S1 => A.squeeze S_ squeezes_S1_S_) (SemArray.slice_unit_congr _ e _ _)
private theorem rslotD_congr {off : Fin 3 → Nat} {s : Fin 3} (e : off = slotOff s) (hh hs) :
    (ringMD.slice (Rect.unit (s := S3x9728x256) off S1x9728x256.size hh) hs).squeeze S9728x256 squeezes_S1x9728x256_S9728x256 = rslotD s :=
  congrArg (fun M : Memref sig .tc .vmem S1x9728x256 .fp8e4m3 => M.squeeze S9728x256 squeezes_S1x9728x256_S9728x256) (Memref.slice_unit_congr _ e _ _ _ _)
private theorem blkD_congr {off : Fin 2 → Nat} {b : Fin 10} (e : off = blkOffD b) (hh hs) :
    wMD.slice (Rect.unit (s := S9728x2560) off S9728x256.size hh) hs = blkD b :=
  Memref.slice_unit_congr _ e _ (blkOffD_inb b) _ (fun _ => rfl)

@[sl_canon] theorem semDL0 (hh) : (cc0_scratch11.slice (Rect.unit (s := S3) ![0] S1.size hh)).squeeze S_ squeezes_S1_S_ = csmD 0 := csmD_congr (by decide) _
@[sl_canon] theorem slotDL0 (hh hs) : (ringMD.slice (Rect.unit (s := S3x9728x256) ![0, 0, 0] S1x9728x256.size hh) hs).squeeze S9728x256 squeezes_S1x9728x256_S9728x256 = rslotD 0 := rslotD_congr (by decide) _ _
@[sl_canon] theorem blkDL0 (hh hs) : wMD.slice (Rect.unit (s := S9728x2560) ![0, 0] S9728x256.size hh) hs = blkD 0 := blkD_congr (by decide) _ _
@[sl_canon] theorem semDL1 (hh) : (cc0_scratch11.slice (Rect.unit (s := S3) ![1] S1.size hh)).squeeze S_ squeezes_S1_S_ = csmD 1 := csmD_congr (by decide) _
@[sl_canon] theorem slotDL1 (hh hs) : (ringMD.slice (Rect.unit (s := S3x9728x256) ![1, 0, 0] S1x9728x256.size hh) hs).squeeze S9728x256 squeezes_S1x9728x256_S9728x256 = rslotD 1 := rslotD_congr (by decide) _ _
@[sl_canon] theorem blkDL1 (hh hs) : wMD.slice (Rect.unit (s := S9728x2560) ![0, 256] S9728x256.size hh) hs = blkD 1 := blkD_congr (by decide) _ _
@[sl_canon] theorem semDL2 (hh) : (cc0_scratch11.slice (Rect.unit (s := S3) ![2] S1.size hh)).squeeze S_ squeezes_S1_S_ = csmD 2 := csmD_congr (by decide) _
@[sl_canon] theorem slotDL2 (hh hs) : (ringMD.slice (Rect.unit (s := S3x9728x256) ![2, 0, 0] S1x9728x256.size hh) hs).squeeze S9728x256 squeezes_S1x9728x256_S9728x256 = rslotD 2 := rslotD_congr (by decide) _ _
@[sl_canon] theorem blkDL2 (hh hs) : wMD.slice (Rect.unit (s := S9728x2560) ![0, 512] S9728x256.size hh) hs = blkD 2 := blkD_congr (by decide) _ _

@[sl_canon] theorem semDK (k : Fin k0_t3_loop.trips) (hh) :
    (cc0_scratch11.slice (Rect.unit (s := S3) (k0_off22 k) S1.size hh)).squeeze S_ squeezes_S1_S_ = csmD (Ring.sl 3 k.val) := csmD_congr (off22_eqD k) _
@[sl_canon] theorem slotDK (k : Fin k0_t3_loop.trips) (hh hs) :
    (ringMD.slice (Rect.unit (s := S3x9728x256) (k0_off23 k) S1x9728x256.size hh) hs).squeeze S9728x256 squeezes_S1x9728x256_S9728x256 = rslotD (Ring.sl 3 k.val) := rslotD_congr (off23_eqD k) _ _
@[sl_canon] theorem blkDW (k : Fin k0_t3_loop.trips) (hh hs) :
    wMD.slice (Rect.unit (s := S9728x2560) (k0_off24 k) S9728x256.size hh) hs = blkD (Ring.bk 10 k.val) := blkD_congr (off24_eqD k) _ _
@[sl_canon] theorem semDK' (k : Fin k0_t3_loop.trips) (hh) :
    (cc0_scratch11.slice (Rect.unit (s := S3) (k0_off27 k) S1.size hh)).squeeze S_ squeezes_S1_S_ = csmD (Ring.sl 3 k.val) := csmD_congr (off27_eqD k) _
@[sl_canon] theorem slotDK' (k : Fin k0_t3_loop.trips) (hh hs) :
    (ringMD.slice (Rect.unit (s := S3x9728x256) (k0_off28 k) S1x9728x256.size hh) hs).squeeze S9728x256 squeezes_S1x9728x256_S9728x256 = rslotD (Ring.sl 3 k.val) := rslotD_congr (off28_eqD k) _ _
@[sl_canon] theorem blkDI (k : Fin k0_t3_loop.trips) (h : k.val + 3 < 10) (hh hs) :
    wMD.slice (Rect.unit (s := S9728x2560) (k0_off29 k) S9728x256.size hh) hs = blkD (Ring.bk 10 (k.val + 3)) := blkD_congr (off29_eqD k h) _ _

section PiecesD
variable (c : Dev nD) (XW : Buf (Elt F) (wMD.view.loc (c : Thread nD τ)))

abbrev cellD (s : Fin 3) : sProp 𝕄 := semVal ((c : Thread nD τ), SemLoc.dma (csmD s).sem) 0
abbrev slotD (s : Fin 3) (f : Buf (Elt F) ((rslotD s).view.loc (c : Thread nD τ))) : sProp 𝕄 :=
  (rslotD s).view.loc (c : Thread nD τ) ↦[(rslotD s).view.set]{fullShare} f
/-- Block `b` home: held on its elements at the weight's contents. -/
abbrev homeD (b : Fin 10) : sProp 𝕄 := (blkD b).view.loc (c : Thread nD τ) ↦[(blkD b).view.set]{fullShare} XW
/-- Block `b`'s elements as a slot's payload. -/
abbrev payloadD (b : Fin 10) : S9728x256.Idx → Elt F .fp8e4m3 := ReadAs.same.apply ((blkD b).view.read (Elt F) XW)
/-- What block `b`'s copy leaves in slot `s` over prior contents `f`: the block, written whole. -/
abbrev landedD (s : Fin 3) (b : Fin 10) (f : Buf (Elt F) ((rslotD s).view.loc (c : Thread nD τ))) : Buf (Elt F) ((rslotD s).view.loc (c : Thread nD τ)) :=
  (rslotD s).view.writes (Elt F) f [⟨Rect.whole S9728x256, payloadD c XW b⟩]
/-- Slot `s` in flight with block `b`, issued over `f`. -/
abbrev flightD (s : Fin 3) (b : Fin 10) (f : Buf (Elt F) ((rslotD s).view.loc (c : Thread nD τ))) : sProp 𝕄 :=
  Transfers.Flight countersEmb (c : Thread nD τ) (SemLoc.dma (csmD s).sem) () 77824 iprop(slotD c s (landedD c XW s b f) ∗ homeD c XW b)

/-- The blocks home before trip `k`: the one about to go out beside the rest; -/
theorem homesD_here (k : ℕ) (h : k + 3 < 10) :
    bigSep (Ring.homeSet 3 k) (homeD c XW) = iprop(homeD c XW (Ring.bk 10 (k + 3)) ∗ bigSep ((Ring.homeSet 3 k).erase (Ring.bk 10 (k + 3))) (homeD c XW)) := by
  conv_lhs => rw [Ring.homeSet_out 3 k h, bigSep_insert (Ring.bkL_not_mem_erase 3 k)]
  rfl
/-- after it: the one just back beside that rest; -/
theorem homesD_next (k : ℕ) (h : k + 3 < 10) :
    bigSep (Ring.homeSet 3 (k + 1)) (homeD c XW) = iprop(homeD c XW (Ring.bk 10 k) ∗ bigSep ((Ring.homeSet 3 k).erase (Ring.bk 10 (k + 3))) (homeD c XW)) := by
  conv_lhs => rw [Ring.homeSet_succ 3 k h, bigSep_insert (Ring.bk_not_mem_erase 3 k (by omega) (by decide))]
  rfl
/-- after a trip that sends none out: the one just back beside all that were home. -/
theorem homesD_tail (k : ℕ) (h : 10 ≤ k + 3) (hk : k < 10) :
    bigSep (Ring.homeSet 3 (k + 1)) (homeD c XW) = iprop(homeD c XW (Ring.bk 10 k) ∗ bigSep (Ring.homeSet 3 k) (homeD c XW)) := by
  conv_lhs => rw [Ring.homeSet_succ_tail 3 k h hk, bigSep_insert (Ring.bk_not_mem_homeSet 3 k hk (by decide))]
  rfl

/-- Slot `s` free: its elements at anything, its semaphore at zero. -/
def freeD (s : Fin 3) : sProp 𝕄 := iprop((∃ f, slotD (F := F) c s f) ∗ cellD (F := F) c s)
/-- Slot `s` in flight with block `b`. -/
def inflD (s : Fin 3) (b : Fin 10) : sProp 𝕄 := iprop(∃ f, flightD c XW s b f)
/-- The slot that carries block `p`: in flight while the block exists, else free. -/
@[irreducible] def roleD (p : ℕ) : sProp 𝕄 := Ring.roleAt (freeD (F := F) c (Ring.sl 3 p)) (inflD c XW (Ring.sl 3 p)) p

/-- The flight a trip issues: into the slot as the earlier block's flight left it, the new block written over it. -/
theorem flightD_after (s : Fin 3) (b b' : Fin 10) :
    flightD c XW s b' ((rslotD s).view.writes (Elt F) (rslotD s).view.junk [⟨Rect.whole S9728x256, payloadD c XW b⟩])
      = Transfers.Flight countersEmb (c : Thread nD τ) (SemLoc.dma (csmD s).sem) () 77824
          iprop(((rslotD s).view.loc (c : Thread nD τ) ↦[(rslotD s).view.set]{fullShare}
                  (rslotD s).view.writes (Elt F) (rslotD s).view.junk [⟨Rect.whole S9728x256, payloadD c XW b'⟩, ⟨Rect.whole S9728x256, payloadD c XW b⟩])
                ∗ homeD c XW b') := by
  simp only [flightD, landedD, slotD, View.writes]

theorem roleD_here (k : ℕ) (h : k < 10) : roleD (F := F) c XW k = iprop(∃ f, flightD c XW (Ring.sl 3 k) (Ring.bk 10 k) f) := by
  unfold roleD; exact Ring.roleAt_of_lt _ _ k h
theorem roleD_next (k : ℕ) (h : k + 3 < 10) :
    roleD (F := F) c XW (k + 1 + 2) = iprop(∃ f, flightD c XW (Ring.sl 3 k) (Ring.bk 10 (k + 3)) f) := by
  unfold roleD; rw [Ring.sl_succ_add 3 k 2 rfl]; exact Ring.roleAt_of_lt _ _ (k + 3) h
theorem roleD_free (k : ℕ) (h : 10 ≤ k + 3) :
    roleD (F := F) c XW (k + 1 + 2) = iprop((∃ f, slotD (F := F) c (Ring.sl 3 k) f) ∗ cellD (F := F) c (Ring.sl 3 k)) := by
  unfold roleD; rw [Ring.sl_succ_add 3 k 2 rfl]; exact Ring.roleAt_of_le _ _ (k + 3) h

/-- The ring before trip `k`: the blocks at home, and the slots by the blocks they carry next. -/
abbrev ringD (k : ℕ) : sProp 𝕄 := iprop(bigSep (Ring.homeSet 3 k) (homeD c XW) ∗ roleD c XW k ∗ roleD c XW (k + 1) ∗ roleD c XW (k + 2))

/-- Past the last trip the three slots are free. -/
theorem rolesD_exit (n : ℕ) (hn : n = 10) :
    iprop(roleD (F := F) c XW n ∗ roleD (F := F) c XW (n + 1) ∗ roleD (F := F) c XW (n + 2))
      ⊢ iprop(freeD (F := F) c 0 ∗ freeD (F := F) c 1 ∗ freeD (F := F) c 2) := by
  subst hn
  have e0 : roleD (F := F) c XW 10 = freeD (F := F) c 1 := by unfold roleD; exact Ring.roleAt_of_le _ _ 10 (by decide)
  have e1 : roleD (F := F) c XW (10 + 1) = freeD (F := F) c 2 := by unfold roleD; exact Ring.roleAt_of_le _ _ (10 + 1) (by decide)
  have e2 : roleD (F := F) c XW (10 + 2) = freeD (F := F) c 0 := by unfold roleD; exact Ring.roleAt_of_le _ _ (10 + 2) (by decide)
  rw [e0, e1, e2]
  iintro ⟨H1, H2, H0⟩
  isplitl [H0]; · iexact H0
  isplitl [H1]; · iexact H1
  iexact H2

/-- A slot's load, its unit axis dropped, is the block its copy brought. -/
theorem slotD_load_at {off : Fin 3 → Nat} {s : Fin 3} (e : off = slotOff s) (hh) (x : S9728x256.Idx → Elt F .fp8e4m3) :
    shapeCast S9728x256 (ringMD.view.readAt (Elt F) (Rect.unit (s := S3x9728x256) off S1x9728x256.size hh).toLoadRect
      ((rslotD s).view.writes (Elt F) (rslotD s).view.junk [⟨Rect.whole S9728x256, x⟩])) shapeCasts_S1x9728x256_S9728x256 = x := by
  subst e
  exact (Memref.read_squeeze_slice (Val := Elt F) ringMD (Rect.unit (s := S3x9728x256) (slotOff s) S1x9728x256.size hh) (fun _ => rfl)
    squeezes_S1x9728x256_S9728x256 shapeCasts_S1x9728x256_S9728x256 _).symm.trans (View.read_writes_whole (rslotD s).view _ x)
theorem slotD_load (k : Fin k0_t3_loop.trips) :
    shapeCast S9728x256 (ringMD.view.readAt (Elt F) (Rect.unit (s := S3x9728x256) (k0_off25 k) S1x9728x256.size (k0_off25_inb k)).toLoadRect
      ((rslotD (Ring.sl 3 k.val)).view.writes (Elt F) (rslotD (Ring.sl 3 k.val)).view.junk
        [⟨Rect.whole S9728x256, payloadD c XW (Ring.bk 10 k.val)⟩])) shapeCasts_S1x9728x256_S9728x256
      = payloadD c XW (Ring.bk 10 k.val) := slotD_load_at (off25_eqD k) _ _

end PiecesD

end Cert.Proof.KernelIdeal

end
-- ==== Proof.KernelIdealO.lean ====
/-
  The output projection's column loop, run once per trip at a symbolic trip.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.KernelIdealRings

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

/-! ## One trip -/

section TripO

variable (c : Dev nD) (XO : Buf (Elt F) (wMO.view.loc (c : Thread nD τ)))
  (arg0 : Memref sig .tc .vmem S1x2560 .f32) (harg0 : arg0.IsWhole) (arg1 : Memref sig .tc .vmem S1x2560 .f32) (harg1 : arg1.IsWhole)
  (arg2 : Memref sig .tc .vmem S1x9728 .f32) (harg2 : arg2.IsWhole) (arg3 : Memref sig .tc .vmem S1x9728 .f32) (harg3 : arg3.IsWhole)
  (arg4 : Memref sig .tc .vmem S1x2560 .f32) (harg4 : arg4.IsWhole) (arg5 : Memref sig .tc .vmem S256x4096 .bf16) (harg5 : arg5.IsWhole)
  (g1 : Buf (Elt F) (arg1.view.loc (c : Thread nD τ))) (g5 : Buf (Elt F) (arg5.view.loc (c : Thread nD τ)))
  (gx : Buf (Elt F) (xvM.view.loc (c : Thread nD τ)))

abbrev xvP (f : Buf (Elt F) (xvM.view.loc (c : Thread nD τ))) : sProp 𝕄 := xvM.view.loc (c : Thread nD τ) ↦[xvM.view.set]{fullShare} f
/-- What a trip reads: the scale, the activations and the residual, each held whole at its contents. -/
abbrev inO : sProp 𝕄 :=
  iprop((arg1.view.loc (c : Thread nD τ) ↦[arg1.view.set]{fullShare} g1)
    ∗ (arg5.view.loc (c : Thread nD τ) ↦[arg5.view.set]{fullShare} g5)
    ∗ xvP c gx)
abbrev hmP (f : Buf (Elt F) (hmM.view.loc (c : Thread nD τ))) : sProp 𝕄 := hmM.view.loc (c : Thread nD τ) ↦[hmM.view.set]{fullShare} f
abbrev obP (f : Buf (Elt F) (obM.view.loc (c : Thread nD τ))) : sProp 𝕄 := obM.view.loc (c : Thread nD τ) ↦[obM.view.set]{fullShare} f

/-- The resources before trip `k`, the two results' buffers at `fh` and `fo`. -/
def resO (k : ℕ) (fh : Buf (Elt F) (hmM.view.loc (c : Thread nD τ))) (fo : Buf (Elt F) (obM.view.loc (c : Thread nD τ))) : sProp 𝕄 :=
  iprop(inO c arg1 arg5 g1 g5 gx ∗ hmP c fh ∗ obP c fo ∗ (∃ W, owes (c : Thread nD τ) 0 W) ∗ ringO c XO k)

abbrev tripOG (k : Fin k0_t1_loop.trips) : Prog (TpuEff nD τ sig (Elt F) Λ₀ .tc) Unit :=
  k0_t1_body (F := F) arg0 harg0 arg1 harg1 arg2 harg2 arg3 harg3 arg4 harg4 arg5 harg5 xM (Memref.isWhole_whole _) wMO (Memref.isWhole_whole _) wMG (Memref.isWhole_whole _) wMU (Memref.isWhole_whole _) wMD (Memref.isWhole_whole _) outM (Memref.isWhole_whole _) hmidM (Memref.isWhole_whole _) actH (Memref.isWhole_whole _) xvM (Memref.isWhole_whole _) hvM (Memref.isWhole_whole _) hmM (Memref.isWhole_whole _) obM (Memref.isWhole_whole _) ringMO (Memref.isWhole_whole _) ringMG (Memref.isWhole_whole _) ringMU (Memref.isWhole_whole _) ringMD (Memref.isWhole_whole _) cc0_scratch8 cc0_scratch9 cc0_scratch10 cc0_scratch11 cc0_scratch12 actM (Memref.isWhole_whole _) 0#32 1#32 k ()

/-- The trip's window of the two results. -/
abbrev RkO (k : Fin k0_t1_loop.trips) : Rect S256x2560 := Rect.unit (s := S256x2560) (k0_off9 k) S256x256.size (k0_off9_inb k)

set_option backward.proofsInPublic true in
/-- One trip with a block three ahead to issue. -/
def tripOI (k : Fin k0_t1_loop.trips) (h : k.val + 3 < 10) (fh : Buf (Elt F) (hmM.view.loc (c : Thread nD τ))) (fo : Buf (Elt F) (obM.view.loc (c : Thread nD τ))) :
    Σ' (w1 : (RkO k).shape.Idx → Elt F .f32), { w2 : (RkO k).shape.Idx → Elt F .bf16 //
      resO c XO arg1 arg5 g1 g5 gx k fh fo ⊢ wp frame (wpE (defs₀ (F := F)) 𝒱₀ (c : Thread nD τ) none) Set.univ
        (tripOG arg0 harg0 arg1 harg1 arg2 harg2 arg3 harg3 arg4 harg4 arg5 harg5 k)
        (fun _ => resO c XO arg1 arg5 g1 g5 gx (k.val + 1) (hmM.view.writes (Elt F) fh [⟨RkO k, w1⟩]) (obM.view.writes (Elt F) fo [⟨RkO k, w2⟩])) } := by
  refine ⟨?_, ?_, ?run⟩
  case run =>
    have hk : k.val < 10 := lt1 k
    have hc : k0_cond1 k = 1#1 := (cond1_iff k).2 h
    unfold resO ringO
    rw [roleO_next _ _ _ h, homesO_next _ _ _ h, homesO_here _ _ _ h, roleO_here _ _ _ hk]
    iintro ⟨⟨H1, H5, HX⟩, HM, HO, ⟨%W, HW⟩, ⟨Hg, Hrest⟩, ⟨%f0, HF0⟩, HR1, HR2⟩
    dsimp only [tripOG]
    sl_unfold [k0_t1_body]
    sl_exec
    sl_step
    isplitl [H1 H5 HX]
    · isplitl [H1]; · iexact H1
      isplitl [H5]; · iexact H5
      iexact HX
    isplitl [HM]; · iexact HM
    isplitl [HO]; · iexact HO
    isplitl [HW]; · iexists _; iexact HW
    isplitl [HF0_src Hrest]
    · isplitl [HF0_src]; · iexact HF0_src
      iexact Hrest
    isplitl [HR1]; · iexact HR1
    isplitl [HR2]; · iexact HR2
    iexists ((rslotO (Ring.sl 3 k.val)).view.writes (Elt F) (rslotO (Ring.sl 3 k.val)).view.junk [⟨Rect.whole S4096x256, payloadO c XO (Ring.bk 10 k.val)⟩])
    irw [flightO_after]
    iexact HF0

set_option backward.proofsInPublic true in
/-- One trip with no block left to issue. -/
def tripOT (k : Fin k0_t1_loop.trips) (h : ¬ k.val + 3 < 10) (fh : Buf (Elt F) (hmM.view.loc (c : Thread nD τ))) (fo : Buf (Elt F) (obM.view.loc (c : Thread nD τ))) :
    Σ' (w1 : (RkO k).shape.Idx → Elt F .f32), { w2 : (RkO k).shape.Idx → Elt F .bf16 //
      resO c XO arg1 arg5 g1 g5 gx k fh fo ⊢ wp frame (wpE (defs₀ (F := F)) 𝒱₀ (c : Thread nD τ) none) Set.univ
        (tripOG arg0 harg0 arg1 harg1 arg2 harg2 arg3 harg3 arg4 harg4 arg5 harg5 k)
        (fun _ => resO c XO arg1 arg5 g1 g5 gx (k.val + 1) (hmM.view.writes (Elt F) fh [⟨RkO k, w1⟩]) (obM.view.writes (Elt F) fo [⟨RkO k, w2⟩])) } := by
  refine ⟨?_, ?_, ?run⟩
  case run =>
    have hk : k.val < 10 := lt1 k
    have hc : ¬ k0_cond1 k = 1#1 := fun e => h ((cond1_iff k).1 e)
    unfold resO ringO
    rw [roleO_free _ _ _ (by omega), homesO_tail _ _ _ (by omega) hk, roleO_here _ _ _ hk]
    iintro ⟨⟨H1, H5, HX⟩, HM, HO, ⟨%W, HW⟩, Hrest, ⟨%f0, HF0⟩, HR1, HR2⟩
    dsimp only [tripOG]
    sl_unfold [k0_t1_body]
    sl_exec
    sl_step
    isplitl [H1 H5 HX]
    · isplitl [H1]; · iexact H1
      isplitl [H5]; · iexact H5
      iexact HX
    isplitl [HM]; · iexact HM
    isplitl [HO]; · iexact HO
    isplitl [HW]; · iexists _; iexact HW
    isplitl [HF0_src Hrest]
    · isplitl [HF0_src]; · iexact HF0_src
      iexact Hrest
    isplitl [HR1]; · iexact HR1
    isplitl [HR2]; · iexact HR2
    isplitl [HF0_dst]; · iexists _; iexact HF0_dst
    iexact HF0

/-! ### The tiles a trip stores -/

/-- A trip's tile over the block of the weight it waited for, as a matrix. -/
def tileOV (a : Vec F S256x4096 .bf16) (w : FVec F S4096x256 .fp8e4m3) (s : Vec F S1x256 .f32) (x : Vec F S256x256 .bf16) : FVec F S256x256 .f32 :=
  addf (extf .f32 x bitsLt_bf16_f32) (mulf
    (matmul dot_S256x4096_S4096x256_S256x256_1_0_0_1_n_n none a w (constant S256x256 .f32 0x00000000#32))
    (broadcastTo S256x256 (shapeCast S1x256 s shapeCasts_S1x256_S1x256) broadcasts_S1x256_S256x256))

/-- The tile of trip `k`, over the operands' contents and the weight's. -/
def tileO (k : Fin k0_t1_loop.trips) : FVec F S256x256 .f32 :=
  tileOV (arg5.view.readAt (Elt F) (Rect.unit (s := S256x4096) ![0, 0] S256x4096.size inb_S256x4096_S256x4096_0_0).toLoadRect g5)
    (payloadO c XO (Ring.bk 10 k.val))
    (arg1.view.readAt (Elt F) (Rect.unit (s := S1x2560) (k0_off5 k) S1x256.size (k0_off5_inb k)).toLoadRect g1)
    (xvM.view.readAt (Elt F) (Rect.unit (s := S256x2560) (k0_off9 k) S256x256.size (k0_off9_inb k)).toLoadRect gx)
/-- What it stores: the tile in f32, and rounded to bf16. -/
def tileH (k : Fin k0_t1_loop.trips) : FVec F S256x256 .f32 := shapeCast S256x256 (tileO c XO arg1 arg5 g1 g5 gx k) shapeCasts_S256x256_S256x256
def tileB (k : Fin k0_t1_loop.trips) : FVec F S256x256 .bf16 := shapeCast S256x256 (truncf .bf16 (tileO c XO arg1 arg5 g1 g5 gx k) bitsLt_bf16_f32) shapeCasts_S256x256_S256x256

theorem tripOI_val (k : Fin k0_t1_loop.trips) (h : k.val + 3 < 10) (fh fo) :
    (tripOI c XO arg0 harg0 arg1 harg1 arg2 harg2 arg3 harg3 arg4 harg4 arg5 harg5 g1 g5 gx k h fh fo).1 = tileH c XO arg1 arg5 g1 g5 gx k ∧ (tripOI c XO arg0 harg0 arg1 harg1 arg2 harg2 arg3 harg3 arg4 harg4 arg5 harg5 g1 g5 gx k h fh fo).2.1 = tileB c XO arg1 arg5 g1 g5 gx k := by
  unfold tileH tileB tileO
  rw [← slotO_load c XO k]
  exact ⟨rfl, rfl⟩
theorem tripOT_val (k : Fin k0_t1_loop.trips) (h : ¬ k.val + 3 < 10) (fh fo) :
    (tripOT c XO arg0 harg0 arg1 harg1 arg2 harg2 arg3 harg3 arg4 harg4 arg5 harg5 g1 g5 gx k h fh fo).1 = tileH c XO arg1 arg5 g1 g5 gx k ∧ (tripOT c XO arg0 harg0 arg1 harg1 arg2 harg2 arg3 harg3 arg4 harg4 arg5 harg5 g1 g5 gx k h fh fo).2.1 = tileB c XO arg1 arg5 g1 g5 gx k := by
  unfold tileH tileB tileO
  rw [← slotO_load c XO k]
  exact ⟨rfl, rfl⟩

/-- One trip, at any trip: the tiles are put over the trip's columns. -/
theorem tripO (k : Fin k0_t1_loop.trips) (fh : Buf (Elt F) (hmM.view.loc (c : Thread nD τ))) (fo : Buf (Elt F) (obM.view.loc (c : Thread nD τ))) :
    resO c XO arg1 arg5 g1 g5 gx k fh fo ⊢ wp frame (wpE (defs₀ (F := F)) 𝒱₀ (c : Thread nD τ) none) Set.univ
        (tripOG arg0 harg0 arg1 harg1 arg2 harg2 arg3 harg3 arg4 harg4 arg5 harg5 k)
        (fun _ => resO c XO arg1 arg5 g1 g5 gx (k.val + 1) (hmM.view.writes (Elt F) fh [⟨RkO k, tileH c XO arg1 arg5 g1 g5 gx k⟩]) (obM.view.writes (Elt F) fo [⟨RkO k, tileB c XO arg1 arg5 g1 g5 gx k⟩])) := by
  by_cases h : k.val + 3 < 10
  · rw [← (tripOI_val c XO arg0 harg0 arg1 harg1 arg2 harg2 arg3 harg3 arg4 harg4 arg5 harg5 g1 g5 gx k h fh fo).1, ← (tripOI_val c XO arg0 harg0 arg1 harg1 arg2 harg2 arg3 harg3 arg4 harg4 arg5 harg5 g1 g5 gx k h fh fo).2]
    exact (tripOI c XO arg0 harg0 arg1 harg1 arg2 harg2 arg3 harg3 arg4 harg4 arg5 harg5 g1 g5 gx k h fh fo).2.2
  · rw [← (tripOT_val c XO arg0 harg0 arg1 harg1 arg2 harg2 arg3 harg3 arg4 harg4 arg5 harg5 g1 g5 gx k h fh fo).1, ← (tripOT_val c XO arg0 harg0 arg1 harg1 arg2 harg2 arg3 harg3 arg4 harg4 arg5 harg5 g1 g5 gx k h fh fo).2]
    exact (tripOT c XO arg0 harg0 arg1 harg1 arg2 harg2 arg3 harg3 arg4 harg4 arg5 harg5 g1 g5 gx k h fh fo).2.2

/-! ### The results' buffers: the trips' tiles side by side -/

abbrev tripAt1 (y : S256x2560.Idx) : Fin k0_t1_loop.trips :=
  ⟨(y 1).val / 256, Nat.lt_of_lt_of_eq (by have : (y 1).val < 2560 := (y 1).isLt; omega) trips1.symm⟩
abbrev colAt (y : S256x2560.Idx) : S256x256.Idx := ix2 (n0 := 256) (n1 := 256) (y 0) ⟨(y 1).val % 256, Nat.mod_lt _ (by decide)⟩

/-- The result at an element: its column's trip's tile there. -/
def valH (y : S256x2560.Idx) : Elt F .f32 := tileH c XO arg1 arg5 g1 g5 gx (tripAt1 y) (colAt y)
def valB (y : S256x2560.Idx) : Elt F .bf16 := tileB c XO arg1 arg5 g1 g5 gx (tripAt1 y) (colAt y)

/-- A buffer with a trip's tile put over its columns: right on the columns before the next trip if it was right before this one. -/
theorem good_tile {e : EltTy} (m : Memref sig .tc .vmem S256x2560 e) (v : S256x2560.Idx → Elt F e) (k : ℕ) (hk : k < 10)
    (fo : Buf (Elt F) (m.view.loc (c : Thread nD τ))) {off : Fin 2 → ℕ} (ho : off = ![0, 256 * k]) (hi) (w : S256x256.Idx → Elt F e)
    (hw : ∀ y : S256x2560.Idx, (y 1).val / 256 = k → w (colAt y) = v y)
    (h : ∀ y : S256x2560.Idx, (y 1).val < 256 * k → m.view.read (Elt F) fo y = v y) :
    ∀ y : S256x2560.Idx, (y 1).val < 256 * (k + 1) →
      m.view.read (Elt F) (m.view.writes (Elt F) fo [⟨Rect.unit (s := S256x2560) off S256x256.size hi, w⟩]) y = v y := by
  intro y hy
  by_cases hlt : (y 1).val < 256 * k
  · rw [View.read_writes_cons_unit_of_not_mem m.view fo _ _ [] y ho 1 (.inl hlt)]
    exact h y hlt
  · rw [← hw y (by omega)]
    refine View.read_writes_cons_unit_of_mem m.view fo _ _ [] y _ ho fun a => ?_
    fin_cases a
    · show (y 0).val = 0 + (y 0).val; omega
    · show (y 1).val = 256 * k + (y 1).val % 256; omega

/-- The results' buffers are right on the columns of the trips before `k`. -/
def GoodO (k : ℕ) (fh : Buf (Elt F) (hmM.view.loc (c : Thread nD τ))) (fo : Buf (Elt F) (obM.view.loc (c : Thread nD τ))) : Prop :=
  (∀ y : S256x2560.Idx, (y 1).val < 256 * k → hmM.view.read (Elt F) fh y = valH c XO arg1 arg5 g1 g5 gx y)
  ∧ (∀ y : S256x2560.Idx, (y 1).val < 256 * k → obM.view.read (Elt F) fo y = valB c XO arg1 arg5 g1 g5 gx y)

theorem goodO_step (k : Fin k0_t1_loop.trips) (fh fo) (h : GoodO c XO arg1 arg5 g1 g5 gx k.val fh fo) :
    GoodO c XO arg1 arg5 g1 g5 gx (k.val + 1) (hmM.view.writes (Elt F) fh [⟨RkO k, tileH c XO arg1 arg5 g1 g5 gx k⟩]) (obM.view.writes (Elt F) fo [⟨RkO k, tileB c XO arg1 arg5 g1 g5 gx k⟩]) := by
  refine ⟨good_tile c hmM _ k.val (lt1 k) fh (k0_off9_eq k) _ _ (fun y hy => ?_) h.1, good_tile c obM _ k.val (lt1 k) fo (k0_off9_eq k) _ _ (fun y hy => ?_) h.2⟩
  · unfold valH; rw [show tripAt1 y = k from Fin.ext hy]
  · unfold valB; rw [show tripAt1 y = k from Fin.ext hy]

/-- The loop's invariant: the resources before trip `k`, the results' buffers right on the earlier trips' columns. -/
def invO (k : ℕ) (_ : Unit) : sProp 𝕄 := iprop(∃ fh fo, ⌜GoodO c XO arg1 arg5 g1 g5 gx k fh fo⌝ ∗ resO c XO arg1 arg5 g1 g5 gx k fh fo)

theorem stepO (k : Fin k0_t1_loop.trips) (u : Unit) :
    invO c XO arg1 arg5 g1 g5 gx k u ⊢ wp frame (wpE (defs₀ (F := F)) 𝒱₀ (c : Thread nD τ) none) Set.univ (tripOG arg0 harg0 arg1 harg1 arg2 harg2 arg3 harg3 arg4 harg4 arg5 harg5 k) (invO c XO arg1 arg5 g1 g5 gx (k.val + 1)) := by
  unfold invO
  iintro ⟨%fh, %fo, %hg, H⟩
  iapply (wp_wand_r Idealize.ShloMosaic.frame (wpE (defs₀ (F := F)) 𝒱₀ (c : Thread nD τ) none) Set.univ)
  isplitl [H]
  · iapply (tripO c XO arg0 harg0 arg1 harg1 arg2 harg2 arg3 harg3 arg4 harg4 arg5 harg5 g1 g5 gx k fh fo); iexact H
  · iintro %_ H'
    iexists _, _
    isplitr
    · ipureintro; exact goodO_step c XO arg1 arg5 g1 g5 gx k fh fo hg
    · iexact H'

end TripO

end Cert.Proof.KernelIdeal

end
-- ==== Proof.KernelIdealD.lean ====
/-
  The down projection's column loop, run once per trip at a symbolic trip.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.KernelIdealRings
public import proofs.«01_k».proof.Proof.KernelIdealO

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

section TripD

variable (c : Dev nD) (XD : Buf (Elt F) (wMD.view.loc (c : Thread nD τ)))
  (arg0 : Memref sig .tc .vmem S1x2560 .f32) (harg0 : arg0.IsWhole) (arg1 : Memref sig .tc .vmem S1x2560 .f32) (harg1 : arg1.IsWhole)
  (arg2 : Memref sig .tc .vmem S1x9728 .f32) (harg2 : arg2.IsWhole) (arg3 : Memref sig .tc .vmem S1x9728 .f32) (harg3 : arg3.IsWhole)
  (arg4 : Memref sig .tc .vmem S1x2560 .f32) (harg4 : arg4.IsWhole) (arg5 : Memref sig .tc .vmem S256x4096 .bf16) (harg5 : arg5.IsWhole)
  (g4 : Buf (Elt F) (arg4.view.loc (c : Thread nD τ))) (ga : Buf (Elt F) (actM.view.loc (c : Thread nD τ)))
  (gm : Buf (Elt F) (hmM.view.loc (c : Thread nD τ)))

abbrev actP (q : PosShare TreeShare) (f : Buf (Elt F) (actM.view.loc (c : Thread nD τ))) : sProp 𝕄 := actM.view.loc (c : Thread nD τ) ↦[actM.view.set]{q} f
/-- What a trip reads: the scale, the activation and the residual stream. -/
abbrev inD : sProp 𝕄 :=
  iprop((arg4.view.loc (c : Thread nD τ) ↦[arg4.view.set]{fullShare} g4) ∗ actP c fullShare.left ga ∗ hmP c gm)

/-- The resources before trip `k`, the result's buffer at `fo`. -/
def resD (k : ℕ) (fo : Buf (Elt F) (obM.view.loc (c : Thread nD τ))) : sProp 𝕄 :=
  iprop(inD c arg4 g4 ga gm ∗ obP c fo ∗ (∃ W, owes (c : Thread nD τ) 0 W) ∗ ringD c XD k)

abbrev tripDG (k : Fin k0_t3_loop.trips) (a : BitVec 32) : Prog (TpuEff nD τ sig (Elt F) Λ₀ .tc) (BitVec 32) :=
  k0_t3_body (F := F) arg0 harg0 arg1 harg1 arg2 harg2 arg3 harg3 arg4 harg4 arg5 harg5 xM (Memref.isWhole_whole _) wMO (Memref.isWhole_whole _) wMG (Memref.isWhole_whole _) wMU (Memref.isWhole_whole _) wMD (Memref.isWhole_whole _) outM (Memref.isWhole_whole _) hmidM (Memref.isWhole_whole _) actH (Memref.isWhole_whole _) xvM (Memref.isWhole_whole _) hvM (Memref.isWhole_whole _) hmM (Memref.isWhole_whole _) obM (Memref.isWhole_whole _) ringMO (Memref.isWhole_whole _) ringMG (Memref.isWhole_whole _) ringMU (Memref.isWhole_whole _) ringMD (Memref.isWhole_whole _) cc0_scratch8 cc0_scratch9 cc0_scratch10 cc0_scratch11 cc0_scratch12 actM (Memref.isWhole_whole _) k a

/-- The trip's window of the result. -/
abbrev RkD (k : Fin k0_t3_loop.trips) : Rect S256x2560 := Rect.unit (s := S256x2560) (k0_off30 k) S256x256.size (k0_off30_inb k)

set_option backward.proofsInPublic true in
/-- One trip with a block three ahead to issue. -/
def tripDI (k : Fin k0_t3_loop.trips) (h : k.val + 3 < 10) (a : BitVec 32) (fo : Buf (Elt F) (obM.view.loc (c : Thread nD τ))) :
    { w : (RkD k).shape.Idx → Elt F .bf16 //
      resD c XD arg4 g4 ga gm k fo ⊢ wp frame (wpE (defs₀ (F := F)) 𝒱₀ (c : Thread nD τ) none) Set.univ
        (tripDG arg0 harg0 arg1 harg1 arg2 harg2 arg3 harg3 arg4 harg4 arg5 harg5 k a)
        (fun _ => resD c XD arg4 g4 ga gm (k.val + 1) (obM.view.writes (Elt F) fo [⟨RkD k, w⟩])) } := by
  refine ⟨?_, ?run⟩
  case run =>
    have hk : k.val < 10 := lt3 k
    have hc : k0_cond4 k = 1#1 := (cond4_iff k).2 h
    unfold resD ringD
    rw [roleD_next _ _ _ h, homesD_next _ _ _ h, homesD_here _ _ _ h, roleD_here _ _ _ hk]
    iintro ⟨⟨H4, HA, HM⟩, HO, ⟨%W, HW⟩, ⟨Hg, Hrest⟩, ⟨%f0, HF0⟩, HR1, HR2⟩
    dsimp only [tripDG]
    sl_unfold [k0_t3_body]
    sl_exec
    sl_step
    isplitl [H4 HA HM]
    · isplitl [H4]; · iexact H4
      isplitl [HA]; · iexact HA
      iexact HM
    isplitl [HO]; · iexact HO
    isplitl [HW]; · iexists _; iexact HW
    isplitl [HF0_src Hrest]
    · isplitl [HF0_src]; · iexact HF0_src
      iexact Hrest
    isplitl [HR1]; · iexact HR1
    isplitl [HR2]; · iexact HR2
    iexists ((rslotD (Ring.sl 3 k.val)).view.writes (Elt F) (rslotD (Ring.sl 3 k.val)).view.junk [⟨Rect.whole S9728x256, payloadD c XD (Ring.bk 10 k.val)⟩])
    irw [flightD_after]
    iexact HF0

set_option backward.proofsInPublic true in
/-- One trip with no block left to issue. -/
def tripDT (k : Fin k0_t3_loop.trips) (h : ¬ k.val + 3 < 10) (a : BitVec 32) (fo : Buf (Elt F) (obM.view.loc (c : Thread nD τ))) :
    { w : (RkD k).shape.Idx → Elt F .bf16 //
      resD c XD arg4 g4 ga gm k fo ⊢ wp frame (wpE (defs₀ (F := F)) 𝒱₀ (c : Thread nD τ) none) Set.univ
        (tripDG arg0 harg0 arg1 harg1 arg2 harg2 arg3 harg3 arg4 harg4 arg5 harg5 k a)
        (fun _ => resD c XD arg4 g4 ga gm (k.val + 1) (obM.view.writes (Elt F) fo [⟨RkD k, w⟩])) } := by
  refine ⟨?_, ?run⟩
  case run =>
    have hk : k.val < 10 := lt3 k
    have hc : ¬ k0_cond4 k = 1#1 := fun e => h ((cond4_iff k).1 e)
    unfold resD ringD
    rw [roleD_free _ _ _ (by omega), homesD_tail _ _ _ (by omega) hk, roleD_here _ _ _ hk]
    iintro ⟨⟨H4, HA, HM⟩, HO, ⟨%W, HW⟩, Hrest, ⟨%f0, HF0⟩, HR1, HR2⟩
    dsimp only [tripDG]
    sl_unfold [k0_t3_body]
    sl_exec
    sl_step
    isplitl [H4 HA HM]
    · isplitl [H4]; · iexact H4
      isplitl [HA]; · iexact HA
      iexact HM
    isplitl [HO]; · iexact HO
    isplitl [HW]; · iexists _; iexact HW
    isplitl [HF0_src Hrest]
    · isplitl [HF0_src]; · iexact HF0_src
      iexact Hrest
    isplitl [HR1]; · iexact HR1
    isplitl [HR2]; · iexact HR2
    isplitl [HF0_dst]; · iexists _; iexact HF0_dst
    iexact HF0

/-! ### The tile a trip stores -/

/-- A trip's stored tile over the block of the weight it waited for, as a matrix. -/
def tileDV (a : Vec F S256x9728 .bf16) (w : FVec F S9728x256 .fp8e4m3) (s : Vec F S1x256 .f32) (h : Vec F S256x256 .f32) : FVec F S256x256 .bf16 :=
  shapeCast S256x256 (truncf .bf16 (addf h (mulf
    (matmul dot_S256x9728_S9728x256_S256x256_1_0_0_1_n_n none a w (constant S256x256 .f32 0x00000000#32))
    (broadcastTo S256x256 (shapeCast S1x256 s shapeCasts_S1x256_S1x256) broadcasts_S1x256_S256x256))) bitsLt_bf16_f32) shapeCasts_S256x256_S256x256

/-- The tile of trip `k`, over the operands' contents and the weight's. -/
def tileD (k : Fin k0_t3_loop.trips) : FVec F S256x256 .bf16 :=
  tileDV (actM.view.readAt (Elt F) (Rect.unit (s := S256x9728) ![0, 0] S256x9728.size inb_S256x9728_S256x9728_0_0).toLoadRect ga)
    (payloadD c XD (Ring.bk 10 k.val))
    (arg4.view.readAt (Elt F) (Rect.unit (s := S1x2560) (k0_off26 k) S1x256.size (k0_off26_inb k)).toLoadRect g4)
    (hmM.view.readAt (Elt F) (Rect.unit (s := S256x2560) (k0_off30 k) S256x256.size (k0_off30_inb k)).toLoadRect gm)

theorem tripDI_val (k : Fin k0_t3_loop.trips) (h : k.val + 3 < 10) (a fo) :
    (tripDI c XD arg0 harg0 arg1 harg1 arg2 harg2 arg3 harg3 arg4 harg4 arg5 harg5 g4 ga gm k h a fo).1 = tileD c XD arg4 g4 ga gm k := by
  unfold tileD
  rw [← slotD_load c XD k]
  rfl
theorem tripDT_val (k : Fin k0_t3_loop.trips) (h : ¬ k.val + 3 < 10) (a fo) :
    (tripDT c XD arg0 harg0 arg1 harg1 arg2 harg2 arg3 harg3 arg4 harg4 arg5 harg5 g4 ga gm k h a fo).1 = tileD c XD arg4 g4 ga gm k := by
  unfold tileD
  rw [← slotD_load c XD k]
  rfl

/-- One trip, at any trip: the tile is put over the trip's columns. -/
theorem tripD (k : Fin k0_t3_loop.trips) (a : BitVec 32) (fo : Buf (Elt F) (obM.view.loc (c : Thread nD τ))) :
    resD c XD arg4 g4 ga gm k fo ⊢ wp frame (wpE (defs₀ (F := F)) 𝒱₀ (c : Thread nD τ) none) Set.univ
        (tripDG arg0 harg0 arg1 harg1 arg2 harg2 arg3 harg3 arg4 harg4 arg5 harg5 k a)
        (fun _ => resD c XD arg4 g4 ga gm (k.val + 1) (obM.view.writes (Elt F) fo [⟨RkD k, tileD c XD arg4 g4 ga gm k⟩])) := by
  by_cases h : k.val + 3 < 10
  · rw [← tripDI_val c XD arg0 harg0 arg1 harg1 arg2 harg2 arg3 harg3 arg4 harg4 arg5 harg5 g4 ga gm k h a fo]
    exact (tripDI c XD arg0 harg0 arg1 harg1 arg2 harg2 arg3 harg3 arg4 harg4 arg5 harg5 g4 ga gm k h a fo).2
  · rw [← tripDT_val c XD arg0 harg0 arg1 harg1 arg2 harg2 arg3 harg3 arg4 harg4 arg5 harg5 g4 ga gm k h a fo]
    exact (tripDT c XD arg0 harg0 arg1 harg1 arg2 harg2 arg3 harg3 arg4 harg4 arg5 harg5 g4 ga gm k h a fo).2

abbrev tripAt3 (y : S256x2560.Idx) : Fin k0_t3_loop.trips :=
  ⟨(y 1).val / 256, Nat.lt_of_lt_of_eq (by have : (y 1).val < 2560 := (y 1).isLt; omega) trips3.symm⟩

/-- The result at an element: its column's trip's tile there. -/
def valD (y : S256x2560.Idx) : Elt F .bf16 := tileD c XD arg4 g4 ga gm (tripAt3 y) (colAt y)

/-- The result's buffer is right on the columns of the trips before `k`. -/
def GoodD (k : ℕ) (fo : Buf (Elt F) (obM.view.loc (c : Thread nD τ))) : Prop :=
  ∀ y : S256x2560.Idx, (y 1).val < 256 * k → obM.view.read (Elt F) fo y = valD c XD arg4 g4 ga gm y

theorem goodD_step (k : Fin k0_t3_loop.trips) (fo) (h : GoodD c XD arg4 g4 ga gm k.val fo) :
    GoodD c XD arg4 g4 ga gm (k.val + 1) (obM.view.writes (Elt F) fo [⟨RkD k, tileD c XD arg4 g4 ga gm k⟩]) := by
  refine good_tile c obM _ k.val (lt3 k) fo (k0_off30_eq k) _ _ (fun y hy => ?_) h
  unfold valD; rw [show tripAt3 y = k from Fin.ext hy]

/-- The loop's invariant: the resources before trip `k`, the result's buffer right on the earlier trips' columns. -/
def invD (k : ℕ) (_ : BitVec 32) : sProp 𝕄 := iprop(∃ fo, ⌜GoodD c XD arg4 g4 ga gm k fo⌝ ∗ resD c XD arg4 g4 ga gm k fo)

theorem stepD (k : Fin k0_t3_loop.trips) (a : BitVec 32) :
    invD c XD arg4 g4 ga gm k a ⊢ wp frame (wpE (defs₀ (F := F)) 𝒱₀ (c : Thread nD τ) none) Set.univ (tripDG arg0 harg0 arg1 harg1 arg2 harg2 arg3 harg3 arg4 harg4 arg5 harg5 k a) (invD c XD arg4 g4 ga gm (k.val + 1)) := by
  unfold invD
  iintro ⟨%fo, %hg, H⟩
  iapply (wp_wand_r Idealize.ShloMosaic.frame (wpE (defs₀ (F := F)) 𝒱₀ (c : Thread nD τ) none) Set.univ)
  isplitl [H]
  · iapply (tripD c XD arg0 harg0 arg1 harg1 arg2 harg2 arg3 harg3 arg4 harg4 arg5 harg5 g4 ga gm k a fo); iexact H
  · iintro %_ H'
    iexists _
    isplitr
    · ipureintro; exact goodD_step c XD arg4 g4 ga gm k fo hg
    · iexact H'

end TripD

end Cert.Proof.KernelIdeal

end
-- ==== Proof.KernelIdealF.lean ====
/-
  The gate and up projections' column loop, run once per trip at a symbolic trip; each trip also sends the block of the activation stored by the trip before it.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.KernelIdealRings
public import proofs.«01_k».proof.Proof.KernelIdealO
public import proofs.«01_k».proof.Proof.KernelIdealD

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

/-! ## Names: column block `b` of the activation, in VMEM and in HBM -/

abbrev aOff (b : Fin 19) : Fin 2 → Nat := ![0, 512 * b.val]
theorem aOff_inb (b : Fin 19) : ∀ a, aOff b a + S256x512.size a ≤ S256x9728.size a := by
  have := b.isLt; intro a; fin_cases a
  · show 0 + 256 ≤ 256; omega
  · show 512 * b.val + 512 ≤ 9728; omega
instance (b : Fin 19) : ClosedOff (aOff b) := ⟨aOff b, rfl⟩

def aV (b : Fin 19) : Memref sig .tc .vmem S256x512 .bf16 :=
  actM.slice (Rect.unit (s := S256x9728) (aOff b) S256x512.size (aOff_inb b)) (fun _ => rfl)
def aH (b : Fin 19) : Memref sig .tc .hbm S256x512 .bf16 :=
  actH.slice (Rect.unit (s := S256x9728) (aOff b) S256x512.size (aOff_inb b)) (fun _ => rfl)

theorem off20_eqA (k : Fin k0_t2_loop.trips) : k0_off20 k = aOff (Ring.bk 19 k.val) := by
  rw [k0_off20_eq]; unfold aOff; rw [Ring.bk_val (lt2 k)]
theorem off21_eq : ∀ k : Fin k0_t2_loop.trips, 0 < k.val → k0_off21 k = ![0, 512 * (k.val - 1)] := by decide +kernel
theorem off21_eqA (k : Fin k0_t2_loop.trips) (h : 0 < k.val) : k0_off21 k = aOff (Ring.bk 19 (k.val - 1)) := by
  rw [off21_eq k h]; unfold aOff; rw [Ring.bk_val (by have := lt2 k; omega)]

instance (k : Fin k0_t2_loop.trips) : ClosedOff (k0_off20 k) := ⟨aOff (Ring.bk 19 k.val), off20_eqA k⟩

private theorem aV_congr {off : Fin 2 → Nat} {b : Fin 19} (e : off = aOff b) (hh hs) :
    actM.slice (Rect.unit (s := S256x9728) off S256x512.size hh) hs = aV b :=
  Memref.slice_unit_congr _ e _ (aOff_inb b) _ (fun _ => rfl)
private theorem aH_congr {off : Fin 2 → Nat} {b : Fin 19} (e : off = aOff b) (hh hs) :
    actH.slice (Rect.unit (s := S256x9728) off S256x512.size hh) hs = aH b :=
  Memref.slice_unit_congr _ e _ (aOff_inb b) _ (fun _ => rfl)
@[sl_canon] theorem aV_issue (k : Fin k0_t2_loop.trips) (h : 0 < k.val) (hh hs) :
    actM.slice (Rect.unit (s := S256x9728) (k0_off21 k) S256x512.size hh) hs = aV (Ring.bk 19 (k.val - 1)) := aV_congr (off21_eqA k h) _ _
@[sl_canon] theorem aH_issue (k : Fin k0_t2_loop.trips) (h : 0 < k.val) (hh hs) :
    actH.slice (Rect.unit (s := S256x9728) (k0_off21 k) S256x512.size hh) hs = aH (Ring.bk 19 (k.val - 1)) := aH_congr (off21_eqA k h) _ _
@[sl_canon] theorem aV_last (hh hs) : actM.slice (Rect.unit (s := S256x9728) ![0, 9216] S256x512.size hh) hs = aV (Ring.bk 19 18) := aV_congr (by decide) _ _
@[sl_canon] theorem aH_last (hh hs) : actH.slice (Rect.unit (s := S256x9728) ![0, 9216] S256x512.size hh) hs = aH (Ring.bk 19 18) := aH_congr (by decide) _ _

/-- The result copies' semaphores. -/
abbrev osm (i : Fin 3) : SemLoc sig := .dma ((cc0_scratch12.slice (Rect.unit (s := S3) (semOff i) S1.size (semOff_inb i))).squeeze S_ squeezes_S1_S_).sem

section TripF

variable (c : Dev nD) (XG : Buf (Elt F) (wMG.view.loc (c : Thread nD τ))) (XU : Buf (Elt F) (wMU.view.loc (c : Thread nD τ)))
  (arg0 : Memref sig .tc .vmem S1x2560 .f32) (harg0 : arg0.IsWhole) (arg1 : Memref sig .tc .vmem S1x2560 .f32) (harg1 : arg1.IsWhole)
  (arg2 : Memref sig .tc .vmem S1x9728 .f32) (harg2 : arg2.IsWhole) (arg3 : Memref sig .tc .vmem S1x9728 .f32) (harg3 : arg3.IsWhole)
  (arg4 : Memref sig .tc .vmem S1x2560 .f32) (harg4 : arg4.IsWhole) (arg5 : Memref sig .tc .vmem S256x4096 .bf16) (harg5 : arg5.IsWhole)
  (g2 : Buf (Elt F) (arg2.view.loc (c : Thread nD τ))) (g3 : Buf (Elt F) (arg3.view.loc (c : Thread nD τ)))
  (gh : Buf (Elt F) (hvM.view.loc (c : Thread nD τ))) (fr : Buf (Elt F) (actH.view.loc (c : Thread nD τ)))

abbrev hvP (f : Buf (Elt F) (hvM.view.loc (c : Thread nD τ))) : sProp 𝕄 := hvM.view.loc (c : Thread nD τ) ↦[hvM.view.set]{fullShare} f
abbrev aVP (q : PosShare TreeShare) (b : Fin 19) (f : Buf (Elt F) (actM.view.loc (c : Thread nD τ))) : sProp 𝕄 :=
  (aV b).view.loc (c : Thread nD τ) ↦[(aV b).view.set]{q} f
abbrev aHP (b : Fin 19) (f : Buf (Elt F) (actH.view.loc (c : Thread nD τ))) : sProp 𝕄 :=
  (aH b).view.loc (c : Thread nD τ) ↦[(aH b).view.set]{fullShare} f

/-! ### The tile a trip stores -/

/-- A projection's tile over a block of its weight, as a matrix. -/
def projV (h : Vec F S256x2560 .bf16) (w : FVec F S2560x512 .fp8e4m3) (s : Vec F S1x512 .f32) : FVec F S256x512 .f32 :=
  mulf (matmul dot_S256x2560_S2560x512_S256x512_1_0_0_1_n_n none h w (constant S256x512 .f32 0x00000000#32))
    (broadcastTo S256x512 (shapeCast S1x512 s shapeCasts_S1x512_S1x512) broadcasts_S1x512_S256x512)

/-- The gate's tile of trip `k`, over the operands' contents and the weight's, and the up projection's; -/
def gateV (k : Fin k0_t2_loop.trips) : FVec F S256x512 .f32 :=
  projV (hvM.view.readAt (Elt F) (Rect.unit (s := S256x2560) ![0, 0] S256x2560.size inb_S256x2560_S256x2560_0_0).toLoadRect gh)
    (payloadG c XG (Ring.bk 19 k.val))
    (arg2.view.readAt (Elt F) (Rect.unit (s := S1x9728) (k0_off15 k) S1x512.size (k0_off15_inb k)).toLoadRect g2)
def upV (k : Fin k0_t2_loop.trips) : FVec F S256x512 .f32 :=
  projV (hvM.view.readAt (Elt F) (Rect.unit (s := S256x2560) ![0, 0] S256x2560.size inb_S256x2560_S256x2560_0_0).toLoadRect gh)
    (payloadU c XU (Ring.bk 19 k.val))
    (arg3.view.readAt (Elt F) (Rect.unit (s := S1x9728) (k0_off15 k) S1x512.size (k0_off15_inb k)).toLoadRect g3)
/-- the tile it stores. -/
def tileF (k : Fin k0_t2_loop.trips) : FVec F S256x512 .bf16 := k0_pay7 (gateV c XG arg2 g2 gh k) (upV c XU arg3 g3 gh k)

abbrev tripAt2 (y : S256x9728.Idx) : Fin k0_t2_loop.trips :=
  ⟨(y 1).val / 512, Nat.lt_of_lt_of_eq (by have : (y 1).val < 9728 := (y 1).isLt; omega) trips2.symm⟩
abbrev colAt2 (y : S256x9728.Idx) : S256x512.Idx := ix2 (n0 := 256) (n1 := 512) (y 0) ⟨(y 1).val % 512, Nat.mod_lt _ (by decide)⟩

/-- The activation at an element: its column's trip's tile there; -/
def valF (y : S256x9728.Idx) : Elt F .bf16 := tileF c XG XU arg2 arg3 g2 g3 gh (tripAt2 y) (colAt2 y)
/-- as the contents of its buffer. -/
def ACT : Buf (Elt F) (actM.view.loc (c : Thread nD τ)) := actM.view.rep (valF c XG XU arg2 arg3 g2 g3 gh)

/-- What block `b`'s copy leaves in HBM over the array's contents `fr`. -/
abbrev landedA (b : Fin 19) : Buf (Elt F) (actH.view.loc (c : Thread nD τ)) :=
  (aH b).view.writes (Elt F) fr [⟨Rect.whole S256x512, ReadAs.same.apply ((aV b).view.read (Elt F) (ACT c XG XU arg2 arg3 g2 g3 gh))⟩]
/-- What block `t`'s copy delivers: the block in HBM, and the half of the block's elements it read under. -/
abbrev deliv (t : Fin 19) : sProp 𝕄 :=
  iprop(aHP c (Ring.bk 19 t.val) (landedA c XG XU arg2 arg3 g2 g3 gh fr (Ring.bk 19 t.val)) ∗ aVP c fullShare.right (Ring.bk 19 t.val) (ACT c XG XU arg2 arg3 g2 g3 gh))
/-- The batch of the activation's copies, `j` sent, `u` units taken. -/
abbrev batchA (j u : ℕ) : sProp 𝕄 :=
  Transfers.Batch (countersEmb (U := UU nD τ)) (c : Thread nD τ) (osm 0) () 8192 (deliv c XG XU arg2 arg3 g2 g3 gh fr) j u

/-- What a trip reads. -/
abbrev inF : sProp 𝕄 :=
  iprop((arg2.view.loc (c : Thread nD τ) ↦[arg2.view.set]{fullShare} g2)
    ∗ (arg3.view.loc (c : Thread nD τ) ↦[arg3.view.set]{fullShare} g3)
    ∗ hvP c gh)

/-- What every trip `k` touches, the block it stores at `f`. -/
def resF (k : ℕ) (b : Fin 19) (f : Buf (Elt F) (actM.view.loc (c : Thread nD τ))) : sProp 𝕄 :=
  iprop(inF c arg2 arg3 g2 g3 gh ∗ aVP c fullShare b f ∗ (∃ W, owes (c : Thread nD τ) 0 W) ∗ ringG c XG k ∗ ringU c XU k)

abbrev tripFG (k : Fin k0_t2_loop.trips) (a : BitVec 32) : Prog (TpuEff nD τ sig (Elt F) Λ₀ .tc) (BitVec 32) :=
  k0_t2_body (F := F) arg0 harg0 arg1 harg1 arg2 harg2 arg3 harg3 arg4 harg4 arg5 harg5 xM (Memref.isWhole_whole _) wMO (Memref.isWhole_whole _) wMG (Memref.isWhole_whole _) wMU (Memref.isWhole_whole _) wMD (Memref.isWhole_whole _) outM (Memref.isWhole_whole _) hmidM (Memref.isWhole_whole _) actH (Memref.isWhole_whole _) xvM (Memref.isWhole_whole _) hvM (Memref.isWhole_whole _) hmM (Memref.isWhole_whole _) obM (Memref.isWhole_whole _) ringMO (Memref.isWhole_whole _) ringMG (Memref.isWhole_whole _) ringMU (Memref.isWhole_whole _) ringMD (Memref.isWhole_whole _) cc0_scratch8 cc0_scratch9 cc0_scratch10 cc0_scratch11 cc0_scratch12 actM (Memref.isWhole_whole _) k a

/-- The trip's window of the activation. -/
abbrev RkF (k : Fin k0_t2_loop.trips) : Rect S256x9728 := Rect.unit (s := S256x9728) (k0_off20 k) S256x512.size (k0_off20_inb k)

/-- The activation's buffer with trip `k`'s window set to `w`. -/
abbrev putF (k : Fin k0_t2_loop.trips) (f : Buf (Elt F) (actM.view.loc (c : Thread nD τ))) (w : (RkF k).shape.Idx → Elt F .bf16) :
    Buf (Elt F) (actM.view.loc (c : Thread nD τ)) :=
  View.write (Elt F) (actM.access (RkF k)) f w Finset.univ

set_option backward.proofsInPublic true in
/-- One trip with a block three ahead to issue, the first. -/
def tripF0 (k : Fin k0_t2_loop.trips) (h : k.val = 0) (a : BitVec 32) (f : Buf (Elt F) (actM.view.loc (c : Thread nD τ))) :
    { w : Buf (Elt F) (actM.view.loc (c : Thread nD τ)) //
      iprop(resF c XG XU arg2 arg3 g2 g3 gh k (Ring.bk 19 k.val) f ) ⊢ wp frame (wpE (defs₀ (F := F)) 𝒱₀ (c : Thread nD τ) none) Set.univ
        (tripFG arg0 harg0 arg1 harg1 arg2 harg2 arg3 harg3 arg4 harg4 arg5 harg5 k a)
        (fun _ => iprop(resF c XG XU arg2 arg3 g2 g3 gh (k.val + 1) (Ring.bk 19 k.val) w)) } := by
  refine ⟨?_, ?run⟩
  case run =>
    have hk : k.val < 19 := lt2 k
    have hc2 : k0_cond2 k = 1#1 := (cond2_iff k).2 (by omega)
    have hc3 : ¬ k0_cond3 k = 1#1 := fun e => absurd ((cond3_iff k).1 e) (by omega)
    replace h : k.val + 3 < 19 := by omega
    unfold resF ringG ringU
    rw [roleG_next _ _ _ h, homesG_next _ _ _ h, homesG_here _ _ _ h, roleU_next _ _ _ h, homesU_next _ _ _ h, homesU_here _ _ _ h, roleG_here _ _ _ hk, roleU_here _ _ _ hk]
    iintro ⟨⟨H2, H3, HH⟩, HV, ⟨%W, HW⟩, ⟨⟨HGg, HGrest⟩, ⟨%fG, HGF⟩, HGR1, HGR2⟩, ⟨⟨HUg, HUrest⟩, ⟨%fU, HUF⟩, HUR1, HUR2⟩⟩
    dsimp only [tripFG]
    sl_unfold [k0_t2_body]
    sl_exec
    sl_step
    isplitl [H2 H3 HH]
    · isplitl [H2]; · iexact H2
      isplitl [H3]; · iexact H3
      iexact HH
    isplitl [HV]; · iexact HV
    isplitl [HW]; · iexists _; iexact HW
    isplitl [HGF HGF_src HGrest HGR1 HGR2]
    · isplitl [HGF_src HGrest]
      · isplitl [HGF_src]; · iexact HGF_src
        iexact HGrest
      isplitl [HGR1]; · iexact HGR1
      isplitl [HGR2]; · iexact HGR2
      · iexists ((rslotG (Ring.sl 3 k.val)).view.writes (Elt F) (rslotG (Ring.sl 3 k.val)).view.junk [⟨Rect.whole S2560x512, payloadG c XG (Ring.bk 19 k.val)⟩])
        irw [flightG_after]
        iexact HGF
    · isplitl [HUF_src HUrest]
      · isplitl [HUF_src]; · iexact HUF_src
        iexact HUrest
      isplitl [HUR1]; · iexact HUR1
      isplitl [HUR2]; · iexact HUR2
      · iexists ((rslotU (Ring.sl 3 k.val)).view.writes (Elt F) (rslotU (Ring.sl 3 k.val)).view.junk [⟨Rect.whole S2560x512, payloadU c XU (Ring.bk 19 k.val)⟩])
        irw [flightU_after]
        iexact HUF

set_option backward.proofsInPublic true in
/-- One trip with a block three ahead to issue, one to send. -/
def tripFI (k : Fin k0_t2_loop.trips) (h : k.val + 3 < 19) (h0 : 0 < k.val) (a : BitVec 32) (f : Buf (Elt F) (actM.view.loc (c : Thread nD τ))) :
    { w : Buf (Elt F) (actM.view.loc (c : Thread nD τ)) //
      iprop(resF c XG XU arg2 arg3 g2 g3 gh k (Ring.bk 19 k.val) f ∗ aVP c fullShare.right (Ring.bk 19 (k.val - 1)) (ACT c XG XU arg2 arg3 g2 g3 gh) ∗ aHP c (Ring.bk 19 (k.val - 1)) fr ∗ batchA c XG XU arg2 arg3 g2 g3 gh fr (k.val - 1) 0) ⊢ wp frame (wpE (defs₀ (F := F)) 𝒱₀ (c : Thread nD τ) none) Set.univ
        (tripFG arg0 harg0 arg1 harg1 arg2 harg2 arg3 harg3 arg4 harg4 arg5 harg5 k a)
        (fun _ => iprop(resF c XG XU arg2 arg3 g2 g3 gh (k.val + 1) (Ring.bk 19 k.val) w ∗ batchA c XG XU arg2 arg3 g2 g3 gh fr (k.val - 1 + 1) 0)) } := by
  refine ⟨?_, ?run⟩
  case run =>
    have hk : k.val < 19 := lt2 k
    have hc2 : k0_cond2 k = 1#1 := (cond2_iff k).2 h
    have hc3 : k0_cond3 k = 1#1 := (cond3_iff k).2 h0
    unfold resF ringG ringU
    rw [roleG_next _ _ _ h, homesG_next _ _ _ h, homesG_here _ _ _ h, roleU_next _ _ _ h, homesU_next _ _ _ h, homesU_here _ _ _ h, roleG_here _ _ _ hk, roleU_here _ _ _ hk]
    iintro ⟨⟨⟨H2, H3, HH⟩, HV, ⟨%W, HW⟩, ⟨⟨HGg, HGrest⟩, ⟨%fG, HGF⟩, HGR1, HGR2⟩, ⟨⟨HUg, HUrest⟩, ⟨%fU, HUF⟩, HUR1, HUR2⟩⟩, HR, HA, HB⟩
    dsimp only [tripFG]
    sl_unfold [k0_t2_body]
    sl_exec
    sl_step
    isplitr [HB]
    swap
    · iexact HB
    isplitl [H2 H3 HH]
    · isplitl [H2]; · iexact H2
      isplitl [H3]; · iexact H3
      iexact HH
    isplitl [HV]; · iexact HV
    isplitl [HW]; · iexists _; iexact HW
    isplitl [HGF HGF_src HGrest HGR1 HGR2]
    · isplitl [HGF_src HGrest]
      · isplitl [HGF_src]; · iexact HGF_src
        iexact HGrest
      isplitl [HGR1]; · iexact HGR1
      isplitl [HGR2]; · iexact HGR2
      · iexists ((rslotG (Ring.sl 3 k.val)).view.writes (Elt F) (rslotG (Ring.sl 3 k.val)).view.junk [⟨Rect.whole S2560x512, payloadG c XG (Ring.bk 19 k.val)⟩])
        irw [flightG_after]
        iexact HGF
    · isplitl [HUF_src HUrest]
      · isplitl [HUF_src]; · iexact HUF_src
        iexact HUrest
      isplitl [HUR1]; · iexact HUR1
      isplitl [HUR2]; · iexact HUR2
      · iexists ((rslotU (Ring.sl 3 k.val)).view.writes (Elt F) (rslotU (Ring.sl 3 k.val)).view.junk [⟨Rect.whole S2560x512, payloadU c XU (Ring.bk 19 k.val)⟩])
        irw [flightU_after]
        iexact HUF

set_option backward.proofsInPublic true in
/-- One trip with no block left to issue, one to send. -/
def tripFT (k : Fin k0_t2_loop.trips) (h : ¬ k.val + 3 < 19) (a : BitVec 32) (f : Buf (Elt F) (actM.view.loc (c : Thread nD τ))) :
    { w : Buf (Elt F) (actM.view.loc (c : Thread nD τ)) //
      iprop(resF c XG XU arg2 arg3 g2 g3 gh k (Ring.bk 19 k.val) f ∗ aVP c fullShare.right (Ring.bk 19 (k.val - 1)) (ACT c XG XU arg2 arg3 g2 g3 gh) ∗ aHP c (Ring.bk 19 (k.val - 1)) fr ∗ batchA c XG XU arg2 arg3 g2 g3 gh fr (k.val - 1) 0) ⊢ wp frame (wpE (defs₀ (F := F)) 𝒱₀ (c : Thread nD τ) none) Set.univ
        (tripFG arg0 harg0 arg1 harg1 arg2 harg2 arg3 harg3 arg4 harg4 arg5 harg5 k a)
        (fun _ => iprop(resF c XG XU arg2 arg3 g2 g3 gh (k.val + 1) (Ring.bk 19 k.val) w ∗ batchA c XG XU arg2 arg3 g2 g3 gh fr (k.val - 1 + 1) 0)) } := by
  refine ⟨?_, ?run⟩
  case run =>
    have hk : k.val < 19 := lt2 k
    have hc2 : ¬ k0_cond2 k = 1#1 := fun e => h ((cond2_iff k).1 e)
    have h0 : 0 < k.val := by omega
    have hc3 : k0_cond3 k = 1#1 := (cond3_iff k).2 h0
    unfold resF ringG ringU
    rw [roleG_free _ _ _ (by omega), homesG_tail _ _ _ (by omega) hk, roleU_free _ _ _ (by omega), homesU_tail _ _ _ (by omega) hk, roleG_here _ _ _ hk, roleU_here _ _ _ hk]
    iintro ⟨⟨⟨H2, H3, HH⟩, HV, ⟨%W, HW⟩, ⟨HGrest, ⟨%fG, HGF⟩, HGR1, HGR2⟩, ⟨HUrest, ⟨%fU, HUF⟩, HUR1, HUR2⟩⟩, HR, HA, HB⟩
    dsimp only [tripFG]
    sl_unfold [k0_t2_body]
    sl_exec
    sl_step
    isplitr [HB]
    swap
    · iexact HB
    isplitl [H2 H3 HH]
    · isplitl [H2]; · iexact H2
      isplitl [H3]; · iexact H3
      iexact HH
    isplitl [HV]; · iexact HV
    isplitl [HW]; · iexists _; iexact HW
    isplitl [HGF HGF_src HGrest HGR1 HGR2 HGF_dst]
    · isplitl [HGF_src HGrest]
      · isplitl [HGF_src]; · iexact HGF_src
        iexact HGrest
      isplitl [HGR1]; · iexact HGR1
      isplitl [HGR2]; · iexact HGR2
      · isplitl [HGF_dst]; · iexists _; iexact HGF_dst
        iexact HGF
    · isplitl [HUF_src HUrest]
      · isplitl [HUF_src]; · iexact HUF_src
        iexact HUrest
      isplitl [HUR1]; · iexact HUR1
      isplitl [HUR2]; · iexact HUR2
      · isplitl [HUF_dst]; · iexists _; iexact HUF_dst
        iexact HUF

end TripF

end Cert.Proof.KernelIdeal

end
-- ==== Proof.KernelIdealFInv.lean ====
/-
  The gate and up projections' loop: the tile each trip stores, and the loop's invariant over the activation's blocks and their copies to HBM.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.KernelIdealF

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

section LoopF

variable (c : Dev nD) (XG : Buf (Elt F) (wMG.view.loc (c : Thread nD τ))) (XU : Buf (Elt F) (wMU.view.loc (c : Thread nD τ)))
  (arg0 : Memref sig .tc .vmem S1x2560 .f32) (harg0 : arg0.IsWhole) (arg1 : Memref sig .tc .vmem S1x2560 .f32) (harg1 : arg1.IsWhole)
  (arg2 : Memref sig .tc .vmem S1x9728 .f32) (harg2 : arg2.IsWhole) (arg3 : Memref sig .tc .vmem S1x9728 .f32) (harg3 : arg3.IsWhole)
  (arg4 : Memref sig .tc .vmem S1x2560 .f32) (harg4 : arg4.IsWhole) (arg5 : Memref sig .tc .vmem S256x4096 .bf16) (harg5 : arg5.IsWhole)
  (g2 : Buf (Elt F) (arg2.view.loc (c : Thread nD τ))) (g3 : Buf (Elt F) (arg3.view.loc (c : Thread nD τ)))
  (gh : Buf (Elt F) (hvM.view.loc (c : Thread nD τ))) (fr : Buf (Elt F) (actH.view.loc (c : Thread nD τ)))

/-! ### What a trip stores is the trip's tile -/

theorem tripF0_val (k : Fin k0_t2_loop.trips) (h) (a) (f) :
    (tripF0 c XG XU arg0 harg0 arg1 harg1 arg2 harg2 arg3 harg3 arg4 harg4 arg5 harg5 g2 g3 gh k h a f).1 = putF c k f (tileF c XG XU arg2 arg3 g2 g3 gh k) := by
  have eG : tripF0.sl.v216_r0 c XG arg2 g2 gh k = gateV c XG arg2 g2 gh k := by unfold gateV; rw [← slotG_load c XG k]; rfl
  have eU : tripF0.sl.v225_r0 c XU arg3 g3 gh k = upV c XU arg3 g3 gh k := by unfold upV; rw [← slotU_load c XU k]; rfl
  unfold tileF
  rw [← eG, ← eU]
  delta tripF0 tripF0.sl.HV_w1 putF
  with_reducible rfl
theorem tripFI_val (k : Fin k0_t2_loop.trips) (h) (h0) (a) (f) :
    (tripFI c XG XU arg0 harg0 arg1 harg1 arg2 harg2 arg3 harg3 arg4 harg4 arg5 harg5 g2 g3 gh fr k h h0 a f).1 = putF c k f (tileF c XG XU arg2 arg3 g2 g3 gh k) := by
  have eG : tripFI.sl.v216_r0 c XG arg2 g2 gh k = gateV c XG arg2 g2 gh k := by unfold gateV; rw [← slotG_load c XG k]; rfl
  have eU : tripFI.sl.v225_r0 c XU arg3 g3 gh k = upV c XU arg3 g3 gh k := by unfold upV; rw [← slotU_load c XU k]; rfl
  unfold tileF
  rw [← eG, ← eU]
  delta tripFI tripFI.sl.HV_w1 putF
  with_reducible rfl
theorem tripFT_val (k : Fin k0_t2_loop.trips) (h) (a) (f) :
    (tripFT c XG XU arg0 harg0 arg1 harg1 arg2 harg2 arg3 harg3 arg4 harg4 arg5 harg5 g2 g3 gh fr k h a f).1 = putF c k f (tileF c XG XU arg2 arg3 g2 g3 gh k) := by
  have eG : tripFT.sl.v216_r0 c XG arg2 g2 gh k = gateV c XG arg2 g2 gh k := by unfold gateV; rw [← slotG_load c XG k]; rfl
  have eU : tripFT.sl.v225_r0 c XU arg3 g3 gh k = upV c XU arg3 g3 gh k := by unfold upV; rw [← slotU_load c XU k]; rfl
  unfold tileF
  rw [← eG, ← eU]
  delta tripFT tripFT.sl.HV_w1 putF
  with_reducible rfl

/-- A block's window read back after the trip's store is the trip's tile; -/
theorem aV_read_put (k : Fin k0_t2_loop.trips) (f : Buf (Elt F) (actM.view.loc (c : Thread nD τ))) (w : S256x512.Idx → Elt F .bf16) :
    (aV (Ring.bk 19 k.val)).view.read (Elt F) (putF c k f w) = w := by
  have key : ∀ (off : Fin 2 → ℕ) (e : off = aOff (Ring.bk 19 k.val)) (hh : ∀ a, off a + S256x512.size a ≤ S256x9728.size a),
      (aV (Ring.bk 19 k.val)).view.read (Elt F) (View.write (Elt F) (actM.access (Rect.unit (s := S256x9728) off S256x512.size hh)) f w Finset.univ) = w := by
    rintro _ rfl hh
    exact View.read_write_univ _ _
  exact key _ (off20_eqA k) _
/-- read in the whole activation it is that tile too. -/
theorem aV_read_ACT (k : Fin k0_t2_loop.trips) :
    (aV (Ring.bk 19 k.val)).view.read (Elt F) (ACT c XG XU arg2 arg3 g2 g3 gh) = tileF c XG XU arg2 arg3 g2 g3 gh k := by
  funext x
  have hx1 : (x 1).val < 512 := (x 1).isLt
  have e1 : (aV (Ring.bk 19 k.val)).view.read (Elt F) (ACT c XG XU arg2 arg3 g2 g3 gh) x
      = actM.view.read (Elt F) (ACT c XG XU arg2 arg3 g2 g3 gh) ((Rect.unit (s := S256x9728) (aOff (Ring.bk 19 k.val)) S256x512.size (aOff_inb _)).emb x) := rfl
  have c0 : (((Rect.unit (s := S256x9728) (aOff (Ring.bk 19 k.val)) S256x512.size (aOff_inb _)).emb x) 0).val = (x 0).val := by
    show 0 + 1 * (x 0).val = (x 0).val; omega
  have c1 : (((Rect.unit (s := S256x9728) (aOff (Ring.bk 19 k.val)) S256x512.size (aOff_inb _)).emb x) 1).val = 512 * k.val + (x 1).val := by
    show 512 * (Ring.bk 19 k.val).val + 1 * (x 1).val = 512 * k.val + (x 1).val; rw [Ring.bk_val (lt2 k)]; omega
  rw [e1, ACT, View.read_rep, valF]
  generalize (Rect.unit (s := S256x9728) (aOff (Ring.bk 19 k.val)) S256x512.size (aOff_inb _)).emb x = y at c0 c1
  have et : tripAt2 y = k := Fin.ext (by show (y 1).val / 512 = k.val; omega)
  have ec : colAt2 y = x := by
    funext i
    fin_cases i
    · exact Fin.ext c0
    · exact Fin.ext (by show (y 1).val % 512 = (x 1).val; omega)
  rw [et, ec]

/-- So a block as its trip leaves it is held at the whole activation's contents, in two halves. -/
theorem block_done (k : Fin k0_t2_loop.trips) (f : Buf (Elt F) (actM.view.loc (c : Thread nD τ))) :
    aVP c fullShare (Ring.bk 19 k.val) (putF c k f (tileF c XG XU arg2 arg3 g2 g3 gh k))
      ⊢ iprop(aVP c fullShare.left (Ring.bk 19 k.val) (ACT c XG XU arg2 arg3 g2 g3 gh) ∗ aVP c fullShare.right (Ring.bk 19 k.val) (ACT c XG XU arg2 arg3 g2 g3 gh)) := by
  have e : aVP c fullShare (Ring.bk 19 k.val) (putF c k f (tileF c XG XU arg2 arg3 g2 g3 gh k)) = aVP c fullShare (Ring.bk 19 k.val) (ACT c XG XU arg2 arg3 g2 g3 gh) := by
    refine (pointsTo_rep (c : Thread nD τ) (aV (Ring.bk 19 k.val)) (putF c k f (tileF c XG XU arg2 arg3 g2 g3 gh k)) fullShare).trans ?_
    rw [aV_read_put, ← aV_read_ACT c XG XU arg2 arg3 g2 g3 gh k]
    exact (pointsTo_rep (c : Thread nD τ) (aV (Ring.bk 19 k.val)) (ACT c XG XU arg2 arg3 g2 g3 gh) fullShare).symm
  rw [e]
  exact (pointsTo_share (PosShare.mem_left_op_right fullShare)).1

/-- One trip, its stored block in two halves: the first; -/
theorem tripF_first (k : Fin k0_t2_loop.trips) (h : k.val = 0) (a : BitVec 32) (f : Buf (Elt F) (actM.view.loc (c : Thread nD τ))) :
    resF c XG XU arg2 arg3 g2 g3 gh k (Ring.bk 19 k.val) f ⊢ wp frame (wpE (defs₀ (F := F)) 𝒱₀ (c : Thread nD τ) none) Set.univ
        (tripFG arg0 harg0 arg1 harg1 arg2 harg2 arg3 harg3 arg4 harg4 arg5 harg5 k a) (fun _ => resF c XG XU arg2 arg3 g2 g3 gh (k.val + 1) (Ring.bk 19 k.val) (putF c k f (tileF c XG XU arg2 arg3 g2 g3 gh k))) := by
  rw [← tripF0_val c XG XU arg0 harg0 arg1 harg1 arg2 harg2 arg3 harg3 arg4 harg4 arg5 harg5 g2 g3 gh k h a f]
  exact (tripF0 c XG XU arg0 harg0 arg1 harg1 arg2 harg2 arg3 harg3 arg4 harg4 arg5 harg5 g2 g3 gh k h a f).2
/-- a later one, which sends the block before it. -/
theorem tripF_next (k : Fin k0_t2_loop.trips) (h : 0 < k.val) (a : BitVec 32) (f : Buf (Elt F) (actM.view.loc (c : Thread nD τ))) :
    iprop(resF c XG XU arg2 arg3 g2 g3 gh k (Ring.bk 19 k.val) f ∗ aVP c fullShare.right (Ring.bk 19 (k.val - 1)) (ACT c XG XU arg2 arg3 g2 g3 gh) ∗ aHP c (Ring.bk 19 (k.val - 1)) fr ∗ batchA c XG XU arg2 arg3 g2 g3 gh fr (k.val - 1) 0)
      ⊢ wp frame (wpE (defs₀ (F := F)) 𝒱₀ (c : Thread nD τ) none) Set.univ
        (tripFG arg0 harg0 arg1 harg1 arg2 harg2 arg3 harg3 arg4 harg4 arg5 harg5 k a) (fun _ => iprop(resF c XG XU arg2 arg3 g2 g3 gh (k.val + 1) (Ring.bk 19 k.val) (putF c k f (tileF c XG XU arg2 arg3 g2 g3 gh k)) ∗ batchA c XG XU arg2 arg3 g2 g3 gh fr (k.val - 1 + 1) 0)) := by
  by_cases h3 : k.val + 3 < 19
  · rw [← tripFI_val c XG XU arg0 harg0 arg1 harg1 arg2 harg2 arg3 harg3 arg4 harg4 arg5 harg5 g2 g3 gh fr k h3 h a f]
    exact (tripFI c XG XU arg0 harg0 arg1 harg1 arg2 harg2 arg3 harg3 arg4 harg4 arg5 harg5 g2 g3 gh fr k h3 h a f).2
  · rw [← tripFT_val c XG XU arg0 harg0 arg1 harg1 arg2 harg2 arg3 harg3 arg4 harg4 arg5 harg5 g2 g3 gh fr k h3 a f]
    exact (tripFT c XG XU arg0 harg0 arg1 harg1 arg2 harg2 arg3 harg3 arg4 harg4 arg5 harg5 g2 g3 gh fr k h3 a f).2

/-! ### The loop's invariant -/

/-- The right half of the block stored last, not sent yet. -/
def lastF (k : ℕ) : sProp 𝕄 := if k = 0 then BI.emp else aVP c fullShare.right (Ring.bk 19 (k - 1)) (ACT c XG XU arg2 arg3 g2 g3 gh)
/-- The blocks not stored yet, the left halves of the stored ones, the last one's right half, the HBM blocks not sent to yet and
    the copies so far. -/
def blksF (k : ℕ) : sProp 𝕄 :=
  iprop(bigSep (Ring.rangeSet 19 k 19) (fun b => iprop(∃ f, aVP (F := F) c fullShare b f))
    ∗ bigSep (Ring.rangeSet 19 0 k) (fun b => aVP c fullShare.left b (ACT c XG XU arg2 arg3 g2 g3 gh))
    ∗ lastF c XG XU arg2 arg3 g2 g3 gh k
    ∗ bigSep (Ring.rangeSet 19 (k - 1) 19) (fun b => aHP c b fr)
    ∗ batchA c XG XU arg2 arg3 g2 g3 gh fr (k - 1) 0)
/-- What the loop holds before trip `k`. -/
def invF (k : ℕ) (_ : BitVec 32) : sProp 𝕄 :=
  iprop(inF c arg2 arg3 g2 g3 gh ∗ (∃ W, owes (c : Thread nD τ) 0 W) ∗ ringG c XG k ∗ ringU c XU k ∗ blksF c XG XU arg2 arg3 g2 g3 gh fr k)

theorem blks_head (k : ℕ) (hk : k < 19) :
    bigSep (Ring.rangeSet 19 k 19) (fun b => iprop(∃ f, aVP (F := F) c fullShare b f))
      = iprop((∃ f, aVP (F := F) c fullShare (Ring.bk 19 k) f) ∗ bigSep (Ring.rangeSet 19 (k + 1) 19) (fun b => iprop(∃ f, aVP (F := F) c fullShare b f))) := by
  rw [Ring.bigSep_rangeSet_head hk hk, Ring.bk_eq_mk hk]
theorem lefts_last (k : ℕ) (hk : k < 19) :
    bigSep (Ring.rangeSet 19 0 (k + 1)) (fun b => aVP c fullShare.left b (ACT c XG XU arg2 arg3 g2 g3 gh))
      = iprop(aVP c fullShare.left (Ring.bk 19 k) (ACT c XG XU arg2 arg3 g2 g3 gh) ∗ bigSep (Ring.rangeSet 19 0 k) (fun b => aVP c fullShare.left b (ACT c XG XU arg2 arg3 g2 g3 gh))) := by
  rw [Ring.bigSep_rangeSet_last (Nat.succ_pos k) hk, Ring.bk_eq_mk hk]; rfl
theorem outs_head (k : ℕ) (hk : k < 19) :
    bigSep (Ring.rangeSet 19 k 19) (fun b => aHP c b fr)
      = iprop(aHP c (Ring.bk 19 k) fr ∗ bigSep (Ring.rangeSet 19 (k + 1) 19) (fun b => aHP c b fr)) := by
  rw [Ring.bigSep_rangeSet_head hk hk, Ring.bk_eq_mk hk]
theorem lastF_zero : lastF c XG XU arg2 arg3 g2 g3 gh 0 = BI.emp := if_pos rfl
theorem lastF_pos (k : ℕ) (h : 0 < k) : lastF c XG XU arg2 arg3 g2 g3 gh k = aVP c fullShare.right (Ring.bk 19 (k - 1)) (ACT c XG XU arg2 arg3 g2 g3 gh) := if_neg (by omega)

theorem stepF (k : Fin k0_t2_loop.trips) (a : BitVec 32) :
    invF c XG XU arg2 arg3 g2 g3 gh fr k.val a ⊢ wp frame (wpE (defs₀ (F := F)) 𝒱₀ (c : Thread nD τ) none) Set.univ (tripFG arg0 harg0 arg1 harg1 arg2 harg2 arg3 harg3 arg4 harg4 arg5 harg5 k a) (invF c XG XU arg2 arg3 g2 g3 gh fr (k.val + 1)) := by
  have hk : k.val < 19 := lt2 k
  unfold invF blksF
  rw [blks_head c k.val hk, lefts_last c XG XU arg2 arg3 g2 g3 gh k.val hk, lastF_pos c XG XU arg2 arg3 g2 g3 gh (k.val + 1) (by omega), Nat.add_sub_cancel]
  rcases Nat.eq_zero_or_pos k.val with h | h
  · rw [show lastF c XG XU arg2 arg3 g2 g3 gh k.val = BI.emp by rw [h]; exact lastF_zero c XG XU arg2 arg3 g2 g3 gh, show k.val - 1 = k.val by omega]
    iintro ⟨Hin, HW, HG, HU, ⟨⟨%f, HV⟩, Hr⟩, Hl, -, Ho, HB⟩
    iapply (wp_wand_r Idealize.ShloMosaic.frame (wpE (defs₀ (F := F)) 𝒱₀ (c : Thread nD τ) none) Set.univ)
    isplitl [Hin HW HG HU HV]
    · iapply (tripF_first c XG XU arg0 harg0 arg1 harg1 arg2 harg2 arg3 harg3 arg4 harg4 arg5 harg5 g2 g3 gh k h a f)
      unfold resF
      isplitl [Hin]; · iexact Hin
      isplitl [HV]; · iexact HV
      isplitl [HW]; · iexact HW
      isplitl [HG]; · iexact HG
      iexact HU
    · iintro %_ H
      unfold resF
      icases H with ⟨Hin, HV, HW, HG, HU⟩
      ihave HV2 := (block_done c XG XU arg2 arg3 g2 g3 gh k f) $$ HV
      icases HV2 with ⟨HVl, HVr⟩
      isplitl [Hin]; · iexact Hin
      isplitl [HW]; · iexact HW
      isplitl [HG]; · iexact HG
      isplitl [HU]; · iexact HU
      isplitl [Hr]; · iexact Hr
      isplitl [HVl Hl]
      · isplitl [HVl]; · iexact HVl
        iexact Hl
      isplitl [HVr]; · iexact HVr
      isplitl [Ho]; · iexact Ho
      iexact HB
  · rw [lastF_pos c XG XU arg2 arg3 g2 g3 gh k.val h, outs_head c fr (k.val - 1) (by omega), show k.val - 1 + 1 = k.val by omega]
    iintro ⟨Hin, HW, HG, HU, ⟨⟨%f, HV⟩, Hr⟩, Hl, HR, ⟨Hb, Ho⟩, HB⟩
    iapply (wp_wand_r Idealize.ShloMosaic.frame (wpE (defs₀ (F := F)) 𝒱₀ (c : Thread nD τ) none) Set.univ)
    isplitl [Hin HW HG HU HV HR Hb HB]
    · iapply (tripF_next c XG XU arg0 harg0 arg1 harg1 arg2 harg2 arg3 harg3 arg4 harg4 arg5 harg5 g2 g3 gh fr k h a f)
      isplitl [Hin HW HG HU HV]
      · unfold resF
        isplitl [Hin]; · iexact Hin
        isplitl [HV]; · iexact HV
        isplitl [HW]; · iexact HW
        isplitl [HG]; · iexact HG
        iexact HU
      isplitl [HR]; · iexact HR
      isplitl [Hb]; · iexact Hb
      iexact HB
    · rw [show k.val - 1 + 1 = k.val by omega]
      iintro %_ ⟨H, HB⟩
      unfold resF
      icases H with ⟨Hin, HV, HW, HG, HU⟩
      ihave HV2 := (block_done c XG XU arg2 arg3 g2 g3 gh k f) $$ HV
      icases HV2 with ⟨HVl, HVr⟩
      isplitl [Hin]; · iexact Hin
      isplitl [HW]; · iexact HW
      isplitl [HG]; · iexact HG
      isplitl [HU]; · iexact HU
      isplitl [Hr]; · iexact Hr
      isplitl [HVl Hl]
      · isplitl [HVl]; · iexact HVl
        iexact Hl
      isplitl [HVr]; · iexact HVr
      isplitl [Ho]; · iexact Ho
      iexact HB

end LoopF

end Cert.Proof.KernelIdeal

end
-- ==== Proof.KernelIdealBlocks.lean ====
/-
  Whole buffers as their blocks: the weights and the rings, the activation in VMEM and in HBM.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.KernelIdealFInv

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

omit [FloatOps F] [Named F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

omit [FloatOps F] [Named F] in
theorem blocks_mono {s : Finset (Fin 19)} {Φ Ψ : Fin 19 → sProp 𝕄} (h : ∀ b, Φ b ⊢ Ψ b) : bigSep s Φ ⊢ bigSep s Ψ := bigSep_mono fun b _ => h b

abbrev GBO (b : Fin 10) : Finset S4096x2560.Idx := (Rect.unit (s := S4096x2560) (blkOffO b) S4096x256.size (blkOffO_inb b)).set
abbrev SBO (s : Fin 3) : Finset S3x4096x256.Idx := (Rect.unit (s := S3x4096x256) (slotOff s) S1x4096x256.size (slotOffO_inb s)).set
theorem blkO_set (b : Fin 10) : (blkO b).view.set = GBO b := View.set_slice_whole _ _
theorem rslotO_set (s : Fin 3) : (rslotO s).view.set = SBO s := (View.set_reshape _ _).trans (View.set_slice_whole _ _)
theorem mem_GBO (b : Fin 10) (y : S4096x2560.Idx) : y ∈ GBO b ↔ (y 1).val / 256 = b.val := by
  rw [Rect.mem_set_unit]
  have h0 : (y 0).val < 4096 := (y 0).isLt
  constructor
  · intro H; have a1 : 256 * b.val ≤ (y 1).val ∧ (y 1).val < 256 * b.val + 256 := H 1; omega
  · intro H i; fin_cases i
    · show 0 ≤ (y 0).val ∧ (y 0).val < 0 + 4096; omega
    · show 256 * b.val ≤ (y 1).val ∧ (y 1).val < 256 * b.val + 256; omega
theorem GBO_disjoint : ∀ b b' : Fin 10, b ≠ b' → Disjoint (GBO b) (GBO b') := by
  intro b b' hne; rw [Finset.disjoint_left]; intro y hy hy'; rw [mem_GBO] at hy hy'; exact hne (Fin.ext (hy.symm.trans hy'))
theorem GBO_cover : (Finset.univ : Finset (Fin 10)).biUnion GBO = Finset.univ := by
  ext y; simp only [Finset.mem_biUnion, Finset.mem_univ, true_and, iff_true]
  exact ⟨⟨(y 1).val / 256, by have : (y 1).val < 2560 := (y 1).isLt; omega⟩, by rw [mem_GBO]⟩
theorem mem_SBO (s : Fin 3) (y : S3x4096x256.Idx) : y ∈ SBO s ↔ (y 0).val = s.val := by
  rw [Rect.mem_set_unit]
  have h1 : (y 1).val < 4096 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 256; omega
theorem SBO_disjoint : ∀ s s' : Fin 3, s ≠ s' → Disjoint (SBO s) (SBO s') := by
  intro s s' hne; rw [Finset.disjoint_left]; intro y hy hy'; rw [mem_SBO] at hy hy'; exact hne (Fin.ext (hy.symm.trans hy'))
theorem SBO_cover : (Finset.univ : Finset (Fin 3)).biUnion SBO = Finset.univ := by
  ext y; simp only [Finset.mem_biUnion, Finset.mem_univ, true_and, iff_true]
  exact ⟨⟨(y 0).val, (y 0).isLt⟩, by rw [mem_SBO]⟩

/-- The weight whole is its blocks home; -/
theorem wO_eq (c : Dev nD) (X : Buf (Elt F) ((c : Thread nD τ).loc main_arg3)) :
    (((c : Thread nD τ).loc main_arg3) ↦{fullShare} X : sProp 𝕄) = bigSep Finset.univ (homeO c X) := by
  rw [Ring.pointsTo_blocks (ℓ := (c : Thread nD τ).loc main_arg3) GBO GBO_disjoint GBO_cover]
  exact bigSep_congr fun b _ => by rw [← blkO_set]; rfl
/-- at the body's entry, blocks 0, 1 and 2 apart from the rest; -/
theorem homesO_zero (c : Dev nD) (XW : Buf (Elt F) (wMO.view.loc (c : Thread nD τ))) :
    bigSep Finset.univ (homeO c XW) = iprop(homeO c XW 0 ∗ homeO c XW 1 ∗ homeO c XW 2 ∗ bigSep (Ring.homeSet 3 0) (homeO c XW)) := by
  have e : (Finset.univ : Finset (Fin 10)) = insert 0 (insert 1 (insert 2 (Ring.homeSet (NB := 10) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]),
    bigSep_insert (by simp [Ring.mem_homeSet])]; rfl
/-- at its end all of them. -/
theorem homesO_end : Ring.homeSet (NB := 10) 3 10 = Finset.univ := by
  ext b; simp only [Finset.mem_univ, Ring.mem_homeSet, iff_true]; have := b.isLt; omega

omit [FloatOps F] [Named F] in
theorem slotO_eq (c : Dev nD) (s : Fin 3) (f) : slotO (F := F) c s f = (((c : Thread nD τ).loc cc0_scratch4) ↦[SBO s]{fullShare} f : sProp 𝕄) :=
  congrArg (fun S => (_ ↦[S]{fullShare} f : sProp 𝕄)) (rslotO_set s)
/-- The ring whole is its three slots, and back. -/
theorem ringO_split (c : Dev nD) :
    iprop(∃ f : Buf (Elt F) ((c : Thread nD τ).loc cc0_scratch4), ((c : Thread nD τ).loc cc0_scratch4) ↦{fullShare} f)
      ⊢ (iprop((∃ f, slotO (F := F) c 0 f) ∗ (∃ f, slotO (F := F) c 1 f) ∗ ∃ f, slotO (F := F) c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch4) SBO SBO_disjoint SBO_cover f).trans (bigSep_fin3 _))) $$ H
  icases H2 with ⟨H0, H1, H2⟩
  isplitl [H0]
  · iexists f; iapply (entails_of_eq (slotO_eq c 0 f).symm); iexact H0
  isplitl [H1]
  · iexists f; iapply (entails_of_eq (slotO_eq c 1 f).symm); iexact H1
  · iexists f; iapply (entails_of_eq (slotO_eq c 2 f).symm); iexact H2
theorem ringO_join (c : Dev nD) :
    iprop((∃ f, slotO (F := F) c 0 f) ∗ (∃ f, slotO (F := F) c 1 f) ∗ ∃ f, slotO (F := F) c 2 f)
      ⊢ (iprop(∃ f : Buf (Elt F) ((c : Thread nD τ).loc cc0_scratch4), ((c : Thread nD τ).loc cc0_scratch4) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch4) SBO SBO_disjoint SBO_cover f0)
  irw [bigSep_fin3]
  isplitl [H0]
  · iexists f0; iapply (entails_of_eq (slotO_eq c 0 f0)); iexact H0
  isplitl [H1]
  · iexists f1; iapply (entails_of_eq (slotO_eq c 1 f1)); iexact H1
  · iexists f2; iapply (entails_of_eq (slotO_eq c 2 f2)); iexact H2

abbrev GBG (b : Fin 19) : Finset S2560x9728.Idx := (Rect.unit (s := S2560x9728) (blkOffG b) S2560x512.size (blkOffG_inb b)).set
abbrev SBG (s : Fin 3) : Finset S3x2560x512.Idx := (Rect.unit (s := S3x2560x512) (slotOff s) S1x2560x512.size (slotOffG_inb s)).set
theorem blkG_set (b : Fin 19) : (blkG b).view.set = GBG b := View.set_slice_whole _ _
theorem rslotG_set (s : Fin 3) : (rslotG s).view.set = SBG s := (View.set_reshape _ _).trans (View.set_slice_whole _ _)
theorem mem_GBG (b : Fin 19) (y : S2560x9728.Idx) : y ∈ GBG b ↔ (y 1).val / 512 = b.val := by
  rw [Rect.mem_set_unit]
  have h0 : (y 0).val < 2560 := (y 0).isLt
  constructor
  · intro H; have a1 : 512 * b.val ≤ (y 1).val ∧ (y 1).val < 512 * b.val + 512 := H 1; omega
  · intro H i; fin_cases i
    · show 0 ≤ (y 0).val ∧ (y 0).val < 0 + 2560; omega
    · show 512 * b.val ≤ (y 1).val ∧ (y 1).val < 512 * b.val + 512; omega
theorem GBG_disjoint : ∀ b b' : Fin 19, b ≠ b' → Disjoint (GBG b) (GBG b') := by
  intro b b' hne; rw [Finset.disjoint_left]; intro y hy hy'; rw [mem_GBG] at hy hy'; exact hne (Fin.ext (hy.symm.trans hy'))
theorem GBG_cover : (Finset.univ : Finset (Fin 19)).biUnion GBG = Finset.univ := by
  ext y; simp only [Finset.mem_biUnion, Finset.mem_univ, true_and, iff_true]
  exact ⟨⟨(y 1).val / 512, by have : (y 1).val < 9728 := (y 1).isLt; omega⟩, by rw [mem_GBG]⟩
theorem mem_SBG (s : Fin 3) (y : S3x2560x512.Idx) : y ∈ SBG s ↔ (y 0).val = s.val := by
  rw [Rect.mem_set_unit]
  have h1 : (y 1).val < 2560 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2560; omega
    · show 0 ≤ (y 2).val ∧ (y 2).val < 0 + 512; omega
theorem SBG_disjoint : ∀ s s' : Fin 3, s ≠ s' → Disjoint (SBG s) (SBG s') := by
  intro s s' hne; rw [Finset.disjoint_left]; intro y hy hy'; rw [mem_SBG] at hy hy'; exact hne (Fin.ext (hy.symm.trans hy'))
theorem SBG_cover : (Finset.univ : Finset (Fin 3)).biUnion SBG = Finset.univ := by
  ext y; simp only [Finset.mem_biUnion, Finset.mem_univ, true_and, iff_true]
  exact ⟨⟨(y 0).val, (y 0).isLt⟩, by rw [mem_SBG]⟩

/-- The weight whole is its blocks home; -/
theorem wG_eq (c : Dev nD) (X : Buf (Elt F) ((c : Thread nD τ).loc main_arg5)) :
    (((c : Thread nD τ).loc main_arg5) ↦{fullShare} X : sProp 𝕄) = bigSep Finset.univ (homeG c X) := by
  rw [Ring.pointsTo_blocks (ℓ := (c : Thread nD τ).loc main_arg5) GBG GBG_disjoint GBG_cover]
  exact bigSep_congr fun b _ => by rw [← blkG_set]; rfl
/-- at the body's entry, blocks 0, 1 and 2 apart from the rest; -/
theorem homesG_zero (c : Dev nD) (XW : Buf (Elt F) (wMG.view.loc (c : Thread nD τ))) :
    bigSep Finset.univ (homeG c XW) = iprop(homeG c XW 0 ∗ homeG c XW 1 ∗ homeG c XW 2 ∗ bigSep (Ring.homeSet 3 0) (homeG c XW)) := by
  have e : (Finset.univ : Finset (Fin 19)) = insert 0 (insert 1 (insert 2 (Ring.homeSet (NB := 19) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]),
    bigSep_insert (by simp [Ring.mem_homeSet])]; rfl
/-- at its end all of them. -/
theorem homesG_end : Ring.homeSet (NB := 19) 3 19 = Finset.univ := by
  ext b; simp only [Finset.mem_univ, Ring.mem_homeSet, iff_true]; have := b.isLt; omega

omit [FloatOps F] [Named F] in
theorem slotG_eq (c : Dev nD) (s : Fin 3) (f) : slotG (F := F) c s f = (((c : Thread nD τ).loc cc0_scratch5) ↦[SBG s]{fullShare} f : sProp 𝕄) :=
  congrArg (fun S => (_ ↦[S]{fullShare} f : sProp 𝕄)) (rslotG_set s)
/-- The ring whole is its three slots, and back. -/
theorem ringG_split (c : Dev nD) :
    iprop(∃ f : Buf (Elt F) ((c : Thread nD τ).loc cc0_scratch5), ((c : Thread nD τ).loc cc0_scratch5) ↦{fullShare} f)
      ⊢ (iprop((∃ f, slotG (F := F) c 0 f) ∗ (∃ f, slotG (F := F) c 1 f) ∗ ∃ f, slotG (F := F) c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch5) SBG SBG_disjoint SBG_cover f).trans (bigSep_fin3 _))) $$ H
  icases H2 with ⟨H0, H1, H2⟩
  isplitl [H0]
  · iexists f; iapply (entails_of_eq (slotG_eq c 0 f).symm); iexact H0
  isplitl [H1]
  · iexists f; iapply (entails_of_eq (slotG_eq c 1 f).symm); iexact H1
  · iexists f; iapply (entails_of_eq (slotG_eq c 2 f).symm); iexact H2
theorem ringG_join (c : Dev nD) :
    iprop((∃ f, slotG (F := F) c 0 f) ∗ (∃ f, slotG (F := F) c 1 f) ∗ ∃ f, slotG (F := F) c 2 f)
      ⊢ (iprop(∃ f : Buf (Elt F) ((c : Thread nD τ).loc cc0_scratch5), ((c : Thread nD τ).loc cc0_scratch5) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch5) SBG SBG_disjoint SBG_cover f0)
  irw [bigSep_fin3]
  isplitl [H0]
  · iexists f0; iapply (entails_of_eq (slotG_eq c 0 f0)); iexact H0
  isplitl [H1]
  · iexists f1; iapply (entails_of_eq (slotG_eq c 1 f1)); iexact H1
  · iexists f2; iapply (entails_of_eq (slotG_eq c 2 f2)); iexact H2

abbrev GBU (b : Fin 19) : Finset S2560x9728.Idx := (Rect.unit (s := S2560x9728) (blkOffU b) S2560x512.size (blkOffU_inb b)).set
abbrev SBU (s : Fin 3) : Finset S3x2560x512.Idx := (Rect.unit (s := S3x2560x512) (slotOff s) S1x2560x512.size (slotOffU_inb s)).set
theorem blkU_set (b : Fin 19) : (blkU b).view.set = GBU b := View.set_slice_whole _ _
theorem rslotU_set (s : Fin 3) : (rslotU s).view.set = SBU s := (View.set_reshape _ _).trans (View.set_slice_whole _ _)
theorem mem_GBU (b : Fin 19) (y : S2560x9728.Idx) : y ∈ GBU b ↔ (y 1).val / 512 = b.val := by
  rw [Rect.mem_set_unit]
  have h0 : (y 0).val < 2560 := (y 0).isLt
  constructor
  · intro H; have a1 : 512 * b.val ≤ (y 1).val ∧ (y 1).val < 512 * b.val + 512 := H 1; omega
  · intro H i; fin_cases i
    · show 0 ≤ (y 0).val ∧ (y 0).val < 0 + 2560; omega
    · show 512 * b.val ≤ (y 1).val ∧ (y 1).val < 512 * b.val + 512; omega
theorem GBU_disjoint : ∀ b b' : Fin 19, b ≠ b' → Disjoint (GBU b) (GBU b') := by
  intro b b' hne; rw [Finset.disjoint_left]; intro y hy hy'; rw [mem_GBU] at hy hy'; exact hne (Fin.ext (hy.symm.trans hy'))
theorem GBU_cover : (Finset.univ : Finset (Fin 19)).biUnion GBU = Finset.univ := by
  ext y; simp only [Finset.mem_biUnion, Finset.mem_univ, true_and, iff_true]
  exact ⟨⟨(y 1).val / 512, by have : (y 1).val < 9728 := (y 1).isLt; omega⟩, by rw [mem_GBU]⟩
theorem mem_SBU (s : Fin 3) (y : S3x2560x512.Idx) : y ∈ SBU s ↔ (y 0).val = s.val := by
  rw [Rect.mem_set_unit]
  have h1 : (y 1).val < 2560 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2560; omega
    · show 0 ≤ (y 2).val ∧ (y 2).val < 0 + 512; omega
theorem SBU_disjoint : ∀ s s' : Fin 3, s ≠ s' → Disjoint (SBU s) (SBU s') := by
  intro s s' hne; rw [Finset.disjoint_left]; intro y hy hy'; rw [mem_SBU] at hy hy'; exact hne (Fin.ext (hy.symm.trans hy'))
theorem SBU_cover : (Finset.univ : Finset (Fin 3)).biUnion SBU = Finset.univ := by
  ext y; simp only [Finset.mem_biUnion, Finset.mem_univ, true_and, iff_true]
  exact ⟨⟨(y 0).val, (y 0).isLt⟩, by rw [mem_SBU]⟩

/-- The weight whole is its blocks home; -/
theorem wU_eq (c : Dev nD) (X : Buf (Elt F) ((c : Thread nD τ).loc main_arg7)) :
    (((c : Thread nD τ).loc main_arg7) ↦{fullShare} X : sProp 𝕄) = bigSep Finset.univ (homeU c X) := by
  rw [Ring.pointsTo_blocks (ℓ := (c : Thread nD τ).loc main_arg7) GBU GBU_disjoint GBU_cover]
  exact bigSep_congr fun b _ => by rw [← blkU_set]; rfl
/-- at the body's entry, blocks 0, 1 and 2 apart from the rest; -/
theorem homesU_zero (c : Dev nD) (XW : Buf (Elt F) (wMU.view.loc (c : Thread nD τ))) :
    bigSep Finset.univ (homeU c XW) = iprop(homeU c XW 0 ∗ homeU c XW 1 ∗ homeU c XW 2 ∗ bigSep (Ring.homeSet 3 0) (homeU c XW)) := by
  have e : (Finset.univ : Finset (Fin 19)) = insert 0 (insert 1 (insert 2 (Ring.homeSet (NB := 19) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]),
    bigSep_insert (by simp [Ring.mem_homeSet])]; rfl
/-- at its end all of them. -/
theorem homesU_end : Ring.homeSet (NB := 19) 3 19 = Finset.univ := by
  ext b; simp only [Finset.mem_univ, Ring.mem_homeSet, iff_true]; have := b.isLt; omega

omit [FloatOps F] [Named F] in
theorem slotU_eq (c : Dev nD) (s : Fin 3) (f) : slotU (F := F) c s f = (((c : Thread nD τ).loc cc0_scratch6) ↦[SBU s]{fullShare} f : sProp 𝕄) :=
  congrArg (fun S => (_ ↦[S]{fullShare} f : sProp 𝕄)) (rslotU_set s)
/-- The ring whole is its three slots, and back. -/
theorem ringU_split (c : Dev nD) :
    iprop(∃ f : Buf (Elt F) ((c : Thread nD τ).loc cc0_scratch6), ((c : Thread nD τ).loc cc0_scratch6) ↦{fullShare} f)
      ⊢ (iprop((∃ f, slotU (F := F) c 0 f) ∗ (∃ f, slotU (F := F) c 1 f) ∗ ∃ f, slotU (F := F) c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch6) SBU SBU_disjoint SBU_cover f).trans (bigSep_fin3 _))) $$ H
  icases H2 with ⟨H0, H1, H2⟩
  isplitl [H0]
  · iexists f; iapply (entails_of_eq (slotU_eq c 0 f).symm); iexact H0
  isplitl [H1]
  · iexists f; iapply (entails_of_eq (slotU_eq c 1 f).symm); iexact H1
  · iexists f; iapply (entails_of_eq (slotU_eq c 2 f).symm); iexact H2
theorem ringU_join (c : Dev nD) :
    iprop((∃ f, slotU (F := F) c 0 f) ∗ (∃ f, slotU (F := F) c 1 f) ∗ ∃ f, slotU (F := F) c 2 f)
      ⊢ (iprop(∃ f : Buf (Elt F) ((c : Thread nD τ).loc cc0_scratch6), ((c : Thread nD τ).loc cc0_scratch6) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch6) SBU SBU_disjoint SBU_cover f0)
  irw [bigSep_fin3]
  isplitl [H0]
  · iexists f0; iapply (entails_of_eq (slotU_eq c 0 f0)); iexact H0
  isplitl [H1]
  · iexists f1; iapply (entails_of_eq (slotU_eq c 1 f1)); iexact H1
  · iexists f2; iapply (entails_of_eq (slotU_eq c 2 f2)); iexact H2

abbrev GBD (b : Fin 10) : Finset S9728x2560.Idx := (Rect.unit (s := S9728x2560) (blkOffD b) S9728x256.size (blkOffD_inb b)).set
abbrev SBD (s : Fin 3) : Finset S3x9728x256.Idx := (Rect.unit (s := S3x9728x256) (slotOff s) S1x9728x256.size (slotOffD_inb s)).set
theorem blkD_set (b : Fin 10) : (blkD b).view.set = GBD b := View.set_slice_whole _ _
theorem rslotD_set (s : Fin 3) : (rslotD s).view.set = SBD s := (View.set_reshape _ _).trans (View.set_slice_whole _ _)
theorem mem_GBD (b : Fin 10) (y : S9728x2560.Idx) : y ∈ GBD b ↔ (y 1).val / 256 = b.val := by
  rw [Rect.mem_set_unit]
  have h0 : (y 0).val < 9728 := (y 0).isLt
  constructor
  · intro H; have a1 : 256 * b.val ≤ (y 1).val ∧ (y 1).val < 256 * b.val + 256 := H 1; omega
  · intro H i; fin_cases i
    · show 0 ≤ (y 0).val ∧ (y 0).val < 0 + 9728; omega
    · show 256 * b.val ≤ (y 1).val ∧ (y 1).val < 256 * b.val + 256; omega
theorem GBD_disjoint : ∀ b b' : Fin 10, b ≠ b' → Disjoint (GBD b) (GBD b') := by
  intro b b' hne; rw [Finset.disjoint_left]; intro y hy hy'; rw [mem_GBD] at hy hy'; exact hne (Fin.ext (hy.symm.trans hy'))
theorem GBD_cover : (Finset.univ : Finset (Fin 10)).biUnion GBD = Finset.univ := by
  ext y; simp only [Finset.mem_biUnion, Finset.mem_univ, true_and, iff_true]
  exact ⟨⟨(y 1).val / 256, by have : (y 1).val < 2560 := (y 1).isLt; omega⟩, by rw [mem_GBD]⟩
theorem mem_SBD (s : Fin 3) (y : S3x9728x256.Idx) : y ∈ SBD s ↔ (y 0).val = s.val := by
  rw [Rect.mem_set_unit]
  have h1 : (y 1).val < 9728 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 9728; omega
    · show 0 ≤ (y 2).val ∧ (y 2).val < 0 + 256; omega
theorem SBD_disjoint : ∀ s s' : Fin 3, s ≠ s' → Disjoint (SBD s) (SBD s') := by
  intro s s' hne; rw [Finset.disjoint_left]; intro y hy hy'; rw [mem_SBD] at hy hy'; exact hne (Fin.ext (hy.symm.trans hy'))
theorem SBD_cover : (Finset.univ : Finset (Fin 3)).biUnion SBD = Finset.univ := by
  ext y; simp only [Finset.mem_biUnion, Finset.mem_univ, true_and, iff_true]
  exact ⟨⟨(y 0).val, (y 0).isLt⟩, by rw [mem_SBD]⟩

/-- The weight whole is its blocks home; -/
theorem wD_eq (c : Dev nD) (X : Buf (Elt F) ((c : Thread nD τ).loc main_arg9)) :
    (((c : Thread nD τ).loc main_arg9) ↦{fullShare} X : sProp 𝕄) = bigSep Finset.univ (homeD c X) := by
  rw [Ring.pointsTo_blocks (ℓ := (c : Thread nD τ).loc main_arg9) GBD GBD_disjoint GBD_cover]
  exact bigSep_congr fun b _ => by rw [← blkD_set]; rfl
/-- at the body's entry, blocks 0, 1 and 2 apart from the rest; -/
theorem homesD_zero (c : Dev nD) (XW : Buf (Elt F) (wMD.view.loc (c : Thread nD τ))) :
    bigSep Finset.univ (homeD c XW) = iprop(homeD c XW 0 ∗ homeD c XW 1 ∗ homeD c XW 2 ∗ bigSep (Ring.homeSet 3 0) (homeD c XW)) := by
  have e : (Finset.univ : Finset (Fin 10)) = insert 0 (insert 1 (insert 2 (Ring.homeSet (NB := 10) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]),
    bigSep_insert (by simp [Ring.mem_homeSet])]; rfl
/-- at its end all of them. -/
theorem homesD_end : Ring.homeSet (NB := 10) 3 10 = Finset.univ := by
  ext b; simp only [Finset.mem_univ, Ring.mem_homeSet, iff_true]; have := b.isLt; omega

omit [FloatOps F] [Named F] in
theorem slotD_eq (c : Dev nD) (s : Fin 3) (f) : slotD (F := F) c s f = (((c : Thread nD τ).loc cc0_scratch7) ↦[SBD s]{fullShare} f : sProp 𝕄) :=
  congrArg (fun S => (_ ↦[S]{fullShare} f : sProp 𝕄)) (rslotD_set s)
/-- The ring whole is its three slots, and back. -/
theorem ringD_split (c : Dev nD) :
    iprop(∃ f : Buf (Elt F) ((c : Thread nD τ).loc cc0_scratch7), ((c : Thread nD τ).loc cc0_scratch7) ↦{fullShare} f)
      ⊢ (iprop((∃ f, slotD (F := F) c 0 f) ∗ (∃ f, slotD (F := F) c 1 f) ∗ ∃ f, slotD (F := F) c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch7) SBD SBD_disjoint SBD_cover f).trans (bigSep_fin3 _))) $$ H
  icases H2 with ⟨H0, H1, H2⟩
  isplitl [H0]
  · iexists f; iapply (entails_of_eq (slotD_eq c 0 f).symm); iexact H0
  isplitl [H1]
  · iexists f; iapply (entails_of_eq (slotD_eq c 1 f).symm); iexact H1
  · iexists f; iapply (entails_of_eq (slotD_eq c 2 f).symm); iexact H2
theorem ringD_join (c : Dev nD) :
    iprop((∃ f, slotD (F := F) c 0 f) ∗ (∃ f, slotD (F := F) c 1 f) ∗ ∃ f, slotD (F := F) c 2 f)
      ⊢ (iprop(∃ f : Buf (Elt F) ((c : Thread nD τ).loc cc0_scratch7), ((c : Thread nD τ).loc cc0_scratch7) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch7) SBD SBD_disjoint SBD_cover f0)
  irw [bigSep_fin3]
  isplitl [H0]
  · iexists f0; iapply (entails_of_eq (slotD_eq c 0 f0)); iexact H0
  isplitl [H1]
  · iexists f1; iapply (entails_of_eq (slotD_eq c 1 f1)); iexact H1
  · iexists f2; iapply (entails_of_eq (slotD_eq c 2 f2)); iexact H2

/-! ### The activation -/

abbrev GBA (b : Fin 19) : Finset S256x9728.Idx := (Rect.unit (s := S256x9728) (aOff b) S256x512.size (aOff_inb b)).set
theorem aV_set (b : Fin 19) : (aV b).view.set = GBA b := View.set_slice_whole _ _
theorem aH_set (b : Fin 19) : (aH b).view.set = GBA b := View.set_slice_whole _ _
theorem mem_GBA (b : Fin 19) (y : S256x9728.Idx) : y ∈ GBA b ↔ (y 1).val / 512 = b.val := by
  rw [Rect.mem_set_unit]
  have h0 : (y 0).val < 256 := (y 0).isLt
  constructor
  · intro H; have a1 : 512 * b.val ≤ (y 1).val ∧ (y 1).val < 512 * b.val + 512 := H 1; omega
  · intro H i; fin_cases i
    · show 0 ≤ (y 0).val ∧ (y 0).val < 0 + 256; omega
    · show 512 * b.val ≤ (y 1).val ∧ (y 1).val < 512 * b.val + 512; omega
theorem GBA_disjoint : ∀ b b' : Fin 19, b ≠ b' → Disjoint (GBA b) (GBA b') := by
  intro b b' hne; rw [Finset.disjoint_left]; intro y hy hy'; rw [mem_GBA] at hy hy'; exact hne (Fin.ext (hy.symm.trans hy'))
theorem GBA_cover : (Finset.univ : Finset (Fin 19)).biUnion GBA = Finset.univ := by
  ext y; simp only [Finset.mem_biUnion, Finset.mem_univ, true_and, iff_true]
  exact ⟨⟨(y 1).val / 512, by have : (y 1).val < 9728 := (y 1).isLt; omega⟩, by rw [mem_GBA]⟩

/-- The activation whole is its blocks, under any share; -/
theorem act_eq (c : Dev nD) (q : PosShare TreeShare) (f : Buf (Elt F) (actM.view.loc (c : Thread nD τ))) :
    actP c q f = bigSep (Ring.rangeSet 19 0 19) (fun b => aVP c q b f) := by
  rw [Ring.rangeSet_univ]
  have e : actP c q f = (((c : Thread nD τ).loc cc0_scoped0) ↦{q} f : sProp 𝕄) := congrArg (fun S => (_ ↦[S]{q} f : sProp 𝕄)) (View.set_whole _)
  rw [e, Ring.pointsTo_blocks (ℓ := (c : Thread nD τ).loc cc0_scoped0) GBA GBA_disjoint GBA_cover]
  exact bigSep_congr fun b _ => by rw [← aV_set]; rfl
/-- its blocks at anything are the whole at something, and back. -/
theorem act_split (c : Dev nD) :
    iprop(∃ f : Buf (Elt F) ((c : Thread nD τ).loc cc0_scoped0), ((c : Thread nD τ).loc cc0_scoped0) ↦{fullShare} f)
      ⊢ (bigSep (Ring.rangeSet 19 0 19) (fun b => iprop(∃ f, aVP (F := F) c fullShare b f)) : sProp 𝕄) := by
  iintro ⟨%f, H⟩
  ihave H2 := (entails_of_eq ((congrArg (fun S => (((c : Thread nD τ).loc cc0_scoped0) ↦[S]{fullShare} f : sProp 𝕄)) (View.set_whole cc0_scoped0).symm).trans (act_eq c fullShare f))) $$ H
  have hm : (bigSep (Ring.rangeSet 19 0 19) (fun b => aVP (F := F) c fullShare b f) : sProp 𝕄)
      ⊢ bigSep (Ring.rangeSet 19 0 19) (fun b => iprop(∃ f, aVP (F := F) c fullShare b f)) :=
    blocks_mono fun b => by iintro H; iexists f; iexact H
  iapply hm; iexact H2
theorem act_join (c : Dev nD) :
    (bigSep (Ring.rangeSet 19 0 19) (fun b => iprop(∃ f, aVP (F := F) c fullShare b f)) : sProp 𝕄)
      ⊢ iprop(∃ f : Buf (Elt F) ((c : Thread nD τ).loc cc0_scoped0), ((c : Thread nD τ).loc cc0_scoped0) ↦{fullShare} f) := by
  rw [Ring.rangeSet_univ]
  have hm : (bigSep Finset.univ (fun b => iprop(∃ f, aVP (F := F) c fullShare b f)) : sProp 𝕄)
      ⊢ bigSep Finset.univ (fun b => iprop(∃ f, (((c : Thread nD τ).loc cc0_scoped0) ↦[GBA b]{fullShare} f : sProp 𝕄))) :=
    blocks_mono fun b => by
      iintro ⟨%f, H⟩
      iexists f
      iapply (entails_of_eq (congrArg (fun S => (((c : Thread nD τ).loc cc0_scoped0) ↦[S]{fullShare} f : sProp 𝕄)) (aV_set b)))
      iexact H
  iintro H
  ihave H := hm $$ H
  iapply (Ring.pointsTo_blocks_join_exists (ℓ := (c : Thread nD τ).loc cc0_scoped0) GBA GBA_disjoint GBA_cover (actM.view.junk (Val := Elt F)))
  iexact H
/-- The activation's array in HBM whole is its blocks. -/
theorem actH_eq (c : Dev nD) (f : Buf (Elt F) ((c : Thread nD τ).loc main_v5_2)) :
    (((c : Thread nD τ).loc main_v5_2) ↦{fullShare} f : sProp 𝕄) = bigSep (Ring.rangeSet 19 0 19) (fun b => aHP c b f) := by
  rw [Ring.rangeSet_univ, Ring.pointsTo_blocks (ℓ := (c : Thread nD τ).loc main_v5_2) GBA GBA_disjoint GBA_cover]
  exact bigSep_congr fun b _ => by rw [← aH_set]; rfl

end Cert.Proof.KernelIdeal

end
-- ==== Proof.KernelIdealBody.lean ====
/-
  The body: the copies in and out around the three loops.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.VecWindow
public import Idealize.ShloMosaic.Lib.Tactic
public import proofs.«01_k».proof.Proof.KernelIdealBlocks

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

section Body

variable (c : Dev nD) (X : Buf (Elt F) (xM.view.loc (c : Thread nD τ))) (XO : Buf (Elt F) (wMO.view.loc (c : Thread nD τ)))
  (XG : Buf (Elt F) (wMG.view.loc (c : Thread nD τ))) (XU : Buf (Elt F) (wMU.view.loc (c : Thread nD τ)))
  (XD : Buf (Elt F) (wMD.view.loc (c : Thread nD τ)))
  (arg0 : Memref sig .tc .vmem S1x2560 .f32) (harg0 : arg0.IsWhole) (arg1 : Memref sig .tc .vmem S1x2560 .f32) (harg1 : arg1.IsWhole)
  (arg2 : Memref sig .tc .vmem S1x9728 .f32) (harg2 : arg2.IsWhole) (arg3 : Memref sig .tc .vmem S1x9728 .f32) (harg3 : arg3.IsWhole)
  (arg4 : Memref sig .tc .vmem S1x2560 .f32) (harg4 : arg4.IsWhole) (arg5 : Memref sig .tc .vmem S256x4096 .bf16) (harg5 : arg5.IsWhole)
  (g0 : Buf (Elt F) (arg0.view.loc (c : Thread nD τ))) (g1 : Buf (Elt F) (arg1.view.loc (c : Thread nD τ)))
  (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ)))
  (fr : Buf (Elt F) (actH.view.loc (c : Thread nD τ)))

abbrev bodyG : Prog (TpuEff nD τ sig (Elt F) Λ₀ .tc) PUnit := cc0_layer arg0 harg0 arg1 harg1 arg2 harg2 arg3 harg3 arg4 harg4 arg5 harg5 xM (Memref.isWhole_whole _) wMO (Memref.isWhole_whole _) wMG (Memref.isWhole_whole _) wMU (Memref.isWhole_whole _) wMD (Memref.isWhole_whole _) outM (Memref.isWhole_whole _) hmidM (Memref.isWhole_whole _) actH (Memref.isWhole_whole _) xvM (Memref.isWhole_whole _) hvM (Memref.isWhole_whole _) hmM (Memref.isWhole_whole _) obM (Memref.isWhole_whole _) ringMO (Memref.isWhole_whole _) ringMG (Memref.isWhole_whole _) ringMU (Memref.isWhole_whole _) ringMD (Memref.isWhole_whole _) cc0_scratch8 cc0_scratch9 cc0_scratch10 cc0_scratch11 cc0_scratch12 actM (Memref.isWhole_whole _)

/-! ## What the buffers hold between the phases -/

/-- The input in VMEM; -/
def GX : Buf (Elt F) (xvM.view.loc (c : Thread nD τ)) := xvM.view.rep (xM.view.read (Elt F) X)
/-- the residual stream; -/
def GM : Buf (Elt F) (hmM.view.loc (c : Thread nD τ)) := hmM.view.rep (valH c XO arg1 arg5 g1 g5 (GX c X))
/-- its rounding; -/
def GB : Buf (Elt F) (obM.view.loc (c : Thread nD τ)) := obM.view.rep (valB c XO arg1 arg5 g1 g5 (GX c X))
/-- the normalized activation. -/
def valN : S256x2560.Idx → Elt F .bf16 :=
  k0_pay6 (valH c XO arg1 arg5 g1 g5 (GX c X)) (arg0.view.read (Elt F) g0)
def GN : Buf (Elt F) (hvM.view.loc (c : Thread nD τ)) := hvM.view.rep (valN c X XO arg0 arg1 arg5 g0 g1 g5)

abbrev outP (f : Buf (Elt F) (outM.view.loc (c : Thread nD τ))) : sProp 𝕄 := outM.view.loc (c : Thread nD τ) ↦[outM.view.set]{fullShare} f
abbrev hmidP (f : Buf (Elt F) (hmidM.view.loc (c : Thread nD τ))) : sProp 𝕄 := hmidM.view.loc (c : Thread nD τ) ↦[hmidM.view.set]{fullShare} f
abbrev xP (f : Buf (Elt F) (xM.view.loc (c : Thread nD τ))) : sProp 𝕄 := xM.view.loc (c : Thread nD τ) ↦[xM.view.set]{fullShare} f
/-- The input copy's semaphore. -/
abbrev xsm : SemLoc sig := .dma cc0_scratch8.sem
abbrev semP (s : SemLoc sig) : sProp 𝕄 := semVal ((c : Thread nD τ), s) 0

/-- The staged operands. -/
abbrev inP : sProp 𝕄 :=
  iprop((arg0.view.loc (c : Thread nD τ) ↦[arg0.view.set]{fullShare} g0)
    ∗ (arg1.view.loc (c : Thread nD τ) ↦[arg1.view.set]{fullShare} g1)
    ∗ (arg2.view.loc (c : Thread nD τ) ↦[arg2.view.set]{fullShare} g2)
    ∗ (arg3.view.loc (c : Thread nD τ) ↦[arg3.view.set]{fullShare} g3)
    ∗ (arg4.view.loc (c : Thread nD τ) ↦[arg4.view.set]{fullShare} g4)
    ∗ (arg5.view.loc (c : Thread nD τ) ↦[arg5.view.set]{fullShare} g5))
/-- The scratch buffers, at anything. -/
abbrev scrP : sProp 𝕄 :=
  iprop((∃ f, xvP (F := F) c f) ∗ (∃ f, hvP (F := F) c f) ∗ (∃ f, hmP (F := F) c f) ∗ (∃ f, obP (F := F) c f)
    ∗ bigSep (Ring.rangeSet 19 0 19) (fun b => iprop(∃ f, aVP (F := F) c fullShare b f)))
abbrev freeO3 : sProp 𝕄 := iprop(freeO (F := F) c 0 ∗ freeO (F := F) c 1 ∗ freeO (F := F) c 2)
abbrev homesO0 (XW : Buf (Elt F) (wMO.view.loc (c : Thread nD τ))) : sProp 𝕄 := iprop(homeO c XW 0 ∗ homeO c XW 1 ∗ homeO c XW 2 ∗ bigSep (Ring.homeSet 3 0) (homeO c XW))
abbrev freeG3 : sProp 𝕄 := iprop(freeG (F := F) c 0 ∗ freeG (F := F) c 1 ∗ freeG (F := F) c 2)
abbrev homesG0 (XW : Buf (Elt F) (wMG.view.loc (c : Thread nD τ))) : sProp 𝕄 := iprop(homeG c XW 0 ∗ homeG c XW 1 ∗ homeG c XW 2 ∗ bigSep (Ring.homeSet 3 0) (homeG c XW))
abbrev freeU3 : sProp 𝕄 := iprop(freeU (F := F) c 0 ∗ freeU (F := F) c 1 ∗ freeU (F := F) c 2)
abbrev homesU0 (XW : Buf (Elt F) (wMU.view.loc (c : Thread nD τ))) : sProp 𝕄 := iprop(homeU c XW 0 ∗ homeU c XW 1 ∗ homeU c XW 2 ∗ bigSep (Ring.homeSet 3 0) (homeU c XW))
abbrev freeD3 : sProp 𝕄 := iprop(freeD (F := F) c 0 ∗ freeD (F := F) c 1 ∗ freeD (F := F) c 2)
abbrev homesD0 (XW : Buf (Elt F) (wMD.view.loc (c : Thread nD τ))) : sProp 𝕄 := iprop(homeD c XW 0 ∗ homeD c XW 1 ∗ homeD c XW 2 ∗ bigSep (Ring.homeSet 3 0) (homeD c XW))

abbrev semsP : sProp 𝕄 := iprop(semP (F := F) c xsm ∗ semP (F := F) c (osm 0) ∗ semP (F := F) c (osm 1))

/-- What the body is handed. -/
def PRE (fo : Buf (Elt F) (outM.view.loc (c : Thread nD τ))) (fh : Buf (Elt F) (hmidM.view.loc (c : Thread nD τ))) (W : Waits sig Unit) : sProp 𝕄 :=
  iprop(inP c arg0 arg1 arg2 arg3 arg4 arg5 g0 g1 g2 g3 g4 g5 ∗ scrP (F := F) c ∗ xP c X
    ∗ homesO0 c XO ∗ homesG0 c XG ∗ homesU0 c XU ∗ homesD0 c XD
    ∗ freeO3 (F := F) c ∗ freeG3 (F := F) c ∗ freeU3 (F := F) c ∗ freeD3 (F := F) c
    ∗ outP c fo ∗ hmidP c fh ∗ bigSep (Ring.rangeSet 19 0 19) (fun b => aHP c b fr)
    ∗ semsP (F := F) c ∗ owes (c : Thread nD τ) 0 W)

/-- What it hands back. -/
def POST : sProp 𝕄 :=
  iprop(inP c arg0 arg1 arg2 arg3 arg4 arg5 g0 g1 g2 g3 g4 g5 ∗ scrP (F := F) c ∗ xP c X
    ∗ bigSep (Ring.homeSet 3 10) (homeO c XO) ∗ bigSep (Ring.homeSet 3 19) (homeG c XG)
    ∗ bigSep (Ring.homeSet 3 19) (homeU c XU) ∗ bigSep (Ring.homeSet 3 10) (homeD c XD)
    ∗ freeO3 (F := F) c ∗ freeG3 (F := F) c ∗ freeU3 (F := F) c ∗ freeD3 (F := F) c
    ∗ (∃ out, ⌜∀ y, outM.view.read (Elt F) out y = valD c XD arg4 g4 (ACT c XG XU arg2 arg3 g2 g3 (GN c X XO arg0 arg1 arg5 g0 g1 g5)) (GM c X XO arg1 arg5 g1 g5) y⌝ ∗ outP c out)
    ∗ (∃ h, ⌜∀ y, hmidM.view.read (Elt F) h y = valB c XO arg1 arg5 g1 g5 (GX c X) y⌝ ∗ hmidP c h)
    ∗ bigSep (Ring.rangeSet 19 0 19) (fun b => aHP c b (landedA c XG XU arg2 arg3 g2 g3 (GN c X XO arg0 arg1 arg5 g0 g1 g5) fr b))
    ∗ semsP (F := F) c ∗ ∃ W, owes (c : Thread nD τ) 0 W)

theorem ent_of_eq {P Q : sProp 𝕄} (h : P = Q) : P ⊢ Q := by subst h; iintro H; iexact H

/-- A copied buffer is held at what was copied. -/
theorem xv_rep (f : Buf (Elt F) (xvM.view.loc (c : Thread nD τ))) (w) :
    xvP c (xvM.view.writes (Elt F) f [⟨Rect.whole S256x2560, w⟩]) ⊢ xvP c (xvM.view.rep w) :=
  pointsTo_rep_of_read (c : Thread nD τ) xvM _ fullShare w (View.read_writes_whole _ _ _)

theorem out_rep (f : Buf (Elt F) (outM.view.loc (c : Thread nD τ))) (w) :
    outP c (outM.view.writes (Elt F) f [⟨Rect.whole S256x2560, w⟩])
      ⊢ iprop(∃ h, ⌜∀ y, outM.view.read (Elt F) h y = w y⌝ ∗ outP (F := F) c h) := by
  iintro H
  iexists (outM.view.writes (Elt F) f [⟨Rect.whole S256x2560, w⟩])
  isplitr
  · ipureintro; exact fun y => congrFun (View.read_writes_whole _ _ _) y
  iexact H
theorem hmid_rep (f : Buf (Elt F) (hmidM.view.loc (c : Thread nD τ))) (w) :
    hmidP c (hmidM.view.writes (Elt F) f [⟨Rect.whole S256x2560, w⟩])
      ⊢ iprop(∃ h, ⌜∀ y, hmidM.view.read (Elt F) h y = w y⌝ ∗ hmidP (F := F) c h) := by
  iintro H
  iexists (hmidM.view.writes (Elt F) f [⟨Rect.whole S256x2560, w⟩])
  isplitr
  · ipureintro; exact fun y => congrFun (View.read_writes_whole _ _ _) y
  iexact H

/-- The normalized activation, as its store leaves it. -/
theorem hv_rep (f : Buf (Elt F) (hvM.view.loc (c : Thread nD τ))) :
    hvP c (hvM.view.writes (Elt F) f [⟨Rect.unit (s := S256x2560) ![0, 0] S256x2560.size inb_S256x2560_S256x2560_0_0,
        k0_pay6 (hmM.view.readAt (Elt F) (Rect.unit (s := S256x2560) ![0, 0] S256x2560.size inb_S256x2560_S256x2560_0_0).toLoadRect (GM c X XO arg1 arg5 g1 g5))
          (arg0.view.readAt (Elt F) (Rect.unit (s := S1x2560) ![0, 0] S1x2560.size inb_S1x2560_S1x2560_0_0).toLoadRect g0)⟩])
      ⊢ hvP c (GN c X XO arg0 arg1 arg5 g0 g1 g5) := by
  refine pointsTo_rep_of_read (c : Thread nD τ) hvM _ fullShare _ ?_
  rw [View.read_writes_full, View.readAt_full, View.readAt_full, GM, View.read_rep]
  rfl

omit [FloatOps F] [Named F] in
theorem pts_storable (ℓ : Loc nD τ sig) (I : Finset (Idx ℓ)) (q : PosShare TreeShare) (f : Buf (Elt F) ℓ) :
    BI.Storable (upEmb : UEmb _ 𝕄) (ℓ ↦[I]{q} f : sProp 𝕄) := by infer_instance
omit [FloatOps F] [Named F] in
theorem sep_storable (P Q : sProp 𝕄) (_ : BI.Storable (upEmb : UEmb _ 𝕄) P) (_ : BI.Storable (upEmb : UEmb _ 𝕄) Q) :
    BI.Storable (upEmb : UEmb _ 𝕄) iprop(P ∗ Q) := by infer_instance
theorem deliv_storable (gh : Buf (Elt F) (hvM.view.loc (c : Thread nD τ))) (t : Fin 19) :
    BI.Storable (upEmb : UEmb _ 𝕄) (deliv c XG XU arg2 arg3 g2 g3 gh fr t) :=
  sep_storable _ _ (pts_storable _ _ _ _) (pts_storable _ _ _ _)

omit [FloatOps F] [Named F] in
/-- Nineteen blocks, held one by one, are the family. -/
theorem gather19 (Φ : Fin 19 → sProp 𝕄) : iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) ⊢ bigSep (Ring.rangeSet 19 0 19) Φ := by
  rw [Ring.rangeSet_univ]
  exact entails_of_eq (bigSep_univ_eq_bigSepL [(0 : Fin 19), (1 : Fin 19), (2 : Fin 19), (3 : Fin 19), (4 : Fin 19), (5 : Fin 19), (6 : Fin 19), (7 : Fin 19), (8 : Fin 19), (9 : Fin 19), (10 : Fin 19), (11 : Fin 19), (12 : Fin 19), (13 : Fin 19), (14 : Fin 19), (15 : Fin 19), (16 : Fin 19), (17 : Fin 19), (18 : Fin 19)] (by decide) (by decide) Φ).symm
/-- The activation's blocks in their two halves are the blocks whole, at something. -/
theorem halves_join (f : Buf (Elt F) (actM.view.loc (c : Thread nD τ))) :
    iprop(bigSep (Ring.rangeSet 19 0 19) (fun b => aVP c fullShare.left b f) ∗ bigSep (Ring.rangeSet 19 0 19) (fun b => aVP c fullShare.right b f))
      ⊢ bigSep (Ring.rangeSet 19 0 19) (fun b => iprop(∃ f, aVP (F := F) c fullShare b f)) := by
  have hm : (bigSep (Ring.rangeSet 19 0 19) (fun b => iprop(aVP c fullShare.left b f ∗ aVP c fullShare.right b f)) : sProp 𝕄)
      ⊢ bigSep (Ring.rangeSet 19 0 19) (fun b => iprop(∃ f, aVP (F := F) c fullShare b f)) :=
    blocks_mono fun b => by
      iintro H
      iexists f
      iapply (pointsTo_share (PosShare.mem_left_op_right fullShare)).2
      iexact H
  iintro H
  iapply hm
  iapply (entails_of_eq (bigSep_sep (Ring.rangeSet 19 0 19) (fun b => aVP c fullShare.left b f) (fun b => aVP c fullShare.right b f)).symm)
  iexact H

set_option maxHeartbeats 4000000 in
attribute [local sl_canon] sl3_0 sl3_1 sl3_2 bk10_0 bk10_1 bk10_2 bk19_0 bk19_1 bk19_2 in
theorem bodyRun (fo fh W) (Q : PUnit → sProp 𝕄) :
    iprop(PRE c X XO XG XU XD arg0 arg1 arg2 arg3 arg4 arg5 g0 g1 g2 g3 g4 g5 fr fo fh W ∗ (POST c X XO XG XU XD arg0 arg1 arg2 arg3 arg4 arg5 g0 g1 g2 g3 g4 g5 fr -∗ Q ⟨⟩))
      ⊢ wp frame (wpE (defs₀ (F := F)) 𝒱₀ (c : Thread nD τ) none) Set.univ (bodyG arg0 harg0 arg1 harg1 arg2 harg2 arg3 harg3 arg4 harg4 arg5 harg5) Q := by
  unfold PRE
  unfold freeO3 freeG3 freeU3 freeD3 freeO freeG freeU freeD
  iintro ⟨⟨⟨H0, H1, H2, H3, H4, H5⟩, ⟨⟨%xv, HX⟩, ⟨%hv, HN⟩, ⟨%hm, HM⟩, ⟨%ob, HO⟩, HA⟩, Hx,
    ⟨HwO0, HwO1, HwO2, HhO⟩, ⟨HwG0, HwG1, HwG2, HhG⟩, ⟨HwU0, HwU1, HwU2, HhU⟩, ⟨HwD0, HwD1, HwD2, HhD⟩,
    ⟨⟨⟨%fO0, HsO0⟩, HcO0⟩, ⟨⟨%fO1, HsO1⟩, HcO1⟩, ⟨⟨%fO2, HsO2⟩, HcO2⟩⟩,
    ⟨⟨⟨%fG0, HsG0⟩, HcG0⟩, ⟨⟨%fG1, HsG1⟩, HcG1⟩, ⟨⟨%fG2, HsG2⟩, HcG2⟩⟩,
    ⟨⟨⟨%fU0, HsU0⟩, HcU0⟩, ⟨⟨%fU1, HsU1⟩, HcU1⟩, ⟨⟨%fU2, HsU2⟩, HcU2⟩⟩,
    ⟨⟨⟨%fD0, HsD0⟩, HcD0⟩, ⟨⟨%fD1, HsD1⟩, HcD1⟩, ⟨⟨%fD2, HsD2⟩, HcD2⟩⟩,
    Hout, Hmid, HH, ⟨Hxs, Hos0, Hos1⟩, HW⟩, Hk⟩
  sl_exec
  ihave HX := (xv_rep c _ _) $$ HX
  ihave HX : xvP c (GX c X) $$ [HX]
  · iexact HX
  ihave HRO0 : roleO c XO 0 $$ [HcO0]
  · irw [roleO_here c XO 0 (by decide)]; iexists fO0; iexact HcO0
  ihave HRO1 : roleO c XO (0 + 1) $$ [HcO1]
  · irw [roleO_here c XO (0 + 1) (by decide)]; iexists fO1; iexact HcO1
  ihave HRO2 : roleO c XO (0 + 2) $$ [HcO2]
  · irw [roleO_here c XO (0 + 2) (by decide)]; iexists fO2; iexact HcO2
  ihave HRG0 : roleG c XG 0 $$ [HcG0]
  · irw [roleG_here c XG 0 (by decide)]; iexists fG0; iexact HcG0
  ihave HRG1 : roleG c XG (0 + 1) $$ [HcG1]
  · irw [roleG_here c XG (0 + 1) (by decide)]; iexists fG1; iexact HcG1
  ihave HRG2 : roleG c XG (0 + 2) $$ [HcG2]
  · irw [roleG_here c XG (0 + 2) (by decide)]; iexists fG2; iexact HcG2
  ihave HRU0 : roleU c XU 0 $$ [HcU0]
  · irw [roleU_here c XU 0 (by decide)]; iexists fU0; iexact HcU0
  ihave HRU1 : roleU c XU (0 + 1) $$ [HcU1]
  · irw [roleU_here c XU (0 + 1) (by decide)]; iexists fU1; iexact HcU1
  ihave HRU2 : roleU c XU (0 + 2) $$ [HcU2]
  · irw [roleU_here c XU (0 + 2) (by decide)]; iexists fU2; iexact HcU2
  sl_for (invO c XO arg1 arg5 g1 g5 (GX c X)) $$ [H1 H5 HX HM HO HW HhO HRO0 HRO1 HRO2]
  · exact fun k u => stepO c XO arg0 harg0 arg1 harg1 arg2 harg2 arg3 harg3 arg4 harg4 arg5 harg5 g1 g5 (GX c X) k u
  · unfold invO resO
    iexists hm, ob
    isplitr
    · ipureintro; exact ⟨fun y hy => absurd hy (Nat.not_lt_zero _), fun y hy => absurd hy (Nat.not_lt_zero _)⟩
    isplitl [H1 H5 HX]
    · isplitl [H1]; · iexact H1
      isplitl [H5]; · iexact H5
      iexact HX
    isplitl [HM]; · iexact HM
    isplitl [HO]; · iexact HO
    isplitl [HW]; · iexists _; iexact HW
    isplitl [HhO]; · iexact HhO
    isplitl [HRO0]; · iexact HRO0
    isplitl [HRO1]; · iexact HRO1
    iexact HRO2
  iintro %u1 HI
  ihave HI := (ent_of_eq (show invO c XO arg1 arg5 g1 g5 (GX c X) k0_t1_loop.trips u1 = invO c XO arg1 arg5 g1 g5 (GX c X) 10 u1 by rw [trips1])) $$ HI
  unfold invO resO
  icases HI with ⟨%fm, %fb, %hgood, ⟨H1, H5, HX⟩, HM, HO, ⟨%W1, HW⟩, HhO, HRO⟩
  ihave HRO := (rolesO_exit c XO 10 rfl) $$ HRO
  ihave HM := (pointsTo_rep_of_read (c : Thread nD τ) hmM _ fullShare (valH c XO arg1 arg5 g1 g5 (GX c X)) (funext fun y => hgood.1 y (y 1).isLt)) $$ HM
  ihave HO := (pointsTo_rep_of_read (c : Thread nD τ) obM _ fullShare (valB c XO arg1 arg5 g1 g5 (GX c X)) (funext fun y => hgood.2 y (y 1).isLt)) $$ HO
  ihave HM : hmP c (GM c X XO arg1 arg5 g1 g5) $$ [HM]
  · iexact HM
  ihave HO : obP c (GB c X XO arg1 arg5 g1 g5) $$ [HO]
  · iexact HO
  sl_exec
  ihave HN := (hv_rep c X XO arg0 arg1 arg5 g0 g1 g5 _) $$ [HN]
  · iexact HN
  ihave HRD0 : roleD c XD 0 $$ [HcD0]
  · irw [roleD_here c XD 0 (by decide)]; iexists fD0; iexact HcD0
  ihave HRD1 : roleD c XD (0 + 1) $$ [HcD1]
  · irw [roleD_here c XD (0 + 1) (by decide)]; iexists fD1; iexact HcD1
  ihave HRD2 : roleD c XD (0 + 2) $$ [HcD2]
  · irw [roleD_here c XD (0 + 2) (by decide)]; iexists fD2; iexact HcD2
  haveI hst := deliv_storable c XG XU arg2 arg3 g2 g3 fr (GN c X XO arg0 arg1 arg5 g0 g1 g5)
  imod (Transfers.batch_alloc' (countersEmb (U := UU nD τ)) (c : Thread nD τ) () 8192 (deliv c XG XU arg2 arg3 g2 g3 (GN c X XO arg0 arg1 arg5 g0 g1 g5) fr) (sm := osm 0) (E := Set.univ)) $$ Hos0 with HB
  sl_for (invF c XG XU arg2 arg3 g2 g3 (GN c X XO arg0 arg1 arg5 g0 g1 g5) fr) $$ [H2 H3 HN HW HhG HRG0 HRG1 HRG2 HhU HRU0 HRU1 HRU2 HA HH HB]
  · exact fun k a => stepF c XG XU arg0 harg0 arg1 harg1 arg2 harg2 arg3 harg3 arg4 harg4 arg5 harg5 g2 g3 (GN c X XO arg0 arg1 arg5 g0 g1 g5) fr k a
  · unfold invF blksF ringG ringU
    irw [lastF_zero]
    irw [Ring.bigSep_rangeSet_empty (NB := 19) (Nat.le_refl 0)]
    isplitl [H2 H3 HN]
    · isplitl [H2]; · iexact H2
      isplitl [H3]; · iexact H3
      iexact HN
    isplitl [HW]; · iexists _; iexact HW
    isplitl [HhG HRG0 HRG1 HRG2]
    · isplitl [HhG]; · iexact HhG
      isplitl [HRG0]; · iexact HRG0
      isplitl [HRG1]; · iexact HRG1
      iexact HRG2
    isplitl [HhU HRU0 HRU1 HRU2]
    · isplitl [HhU]; · iexact HhU
      isplitl [HRU0]; · iexact HRU0
      isplitl [HRU1]; · iexact HRU1
      iexact HRU2
    isplitl [HA]; · iexact HA
    isplitr; · iempintro
    isplitr; · iempintro
    isplitl [HH]; · iexact HH
    iexact HB
  iintro %a2 HI
  ihave HI := (ent_of_eq (show invF c XG XU arg2 arg3 g2 g3 (GN c X XO arg0 arg1 arg5 g0 g1 g5) fr k0_t2_loop.trips a2 = invF c XG XU arg2 arg3 g2 g3 (GN c X XO arg0 arg1 arg5 g0 g1 g5) fr 19 a2 by rw [trips2])) $$ HI
  unfold invF blksF ringG ringU
  icases HI with ⟨⟨H2, H3, HN⟩, ⟨%W2, HW⟩, ⟨HhG, HRG⟩, ⟨HhU, HRU⟩, He, Hl, HR, HH, HB⟩
  ihave HRG := (rolesG_exit c XG 19 rfl) $$ HRG
  ihave HRU := (rolesU_exit c XU 19 rfl) $$ HRU
  ihave HR := (ent_of_eq (lastF_pos c XG XU arg2 arg3 g2 g3 (GN c X XO arg0 arg1 arg5 g0 g1 g5) 19 (by decide))) $$ HR
  ihave HR : aVP c fullShare.right (Ring.bk 19 18) (ACT c XG XU arg2 arg3 g2 g3 (GN c X XO arg0 arg1 arg5 g0 g1 g5)) $$ [HR]
  · iexact HR
  ihave HH := (ent_of_eq (outs_head c fr 18 (by decide))) $$ [HH]
  · iexact HH
  icases HH with ⟨HH, He2⟩
  ihave HB : batchA c XG XU arg2 arg3 g2 g3 (GN c X XO arg0 arg1 arg5 g0 g1 g5) fr 18 0 $$ [HB]
  · iexact HB
  ihave HA := (ent_of_eq (act_eq c fullShare.left (ACT c XG XU arg2 arg3 g2 g3 (GN c X XO arg0 arg1 arg5 g0 g1 g5))).symm) $$ Hl
  sl_exec
  sl_for (invD c XD arg4 g4 (ACT c XG XU arg2 arg3 g2 g3 (GN c X XO arg0 arg1 arg5 g0 g1 g5)) (GM c X XO arg1 arg5 g1 g5)) $$ [H4 HA HM HO HW HhD HRD0 HRD1 HRD2]
  · exact fun k a => stepD c XD arg0 harg0 arg1 harg1 arg2 harg2 arg3 harg3 arg4 harg4 arg5 harg5 g4 (ACT c XG XU arg2 arg3 g2 g3 (GN c X XO arg0 arg1 arg5 g0 g1 g5)) (GM c X XO arg1 arg5 g1 g5) k a
  · unfold invD resD ringD
    iexists (GB c X XO arg1 arg5 g1 g5)
    isplitr
    · ipureintro; exact fun y hy => absurd hy (Nat.not_lt_zero _)
    isplitl [H4 HA HM]
    · isplitl [H4]; · iexact H4
      isplitl [HA]; · iexact HA
      iexact HM
    isplitl [HO]; · iexact HO
    isplitl [HW]; · iexists _; iexact HW
    isplitl [HhD]; · iexact HhD
    isplitl [HRD0]; · iexact HRD0
    isplitl [HRD1]; · iexact HRD1
    iexact HRD2
  iintro %a3 HI
  ihave HI := (ent_of_eq (show invD c XD arg4 g4 (ACT c XG XU arg2 arg3 g2 g3 (GN c X XO arg0 arg1 arg5 g0 g1 g5)) (GM c X XO arg1 arg5 g1 g5) k0_t3_loop.trips a3 = invD c XD arg4 g4 (ACT c XG XU arg2 arg3 g2 g3 (GN c X XO arg0 arg1 arg5 g0 g1 g5)) (GM c X XO arg1 arg5 g1 g5) 10 a3 by rw [trips3])) $$ HI
  unfold invD resD ringD
  icases HI with ⟨%fd, %hgd, ⟨H4, HA, HM⟩, HO, ⟨%W3, HW⟩, HhD, HRD⟩
  ihave HRD := (rolesD_exit c XD 10 rfl) $$ HRD
  sl_exec
  sl_step
  ihave HD := (gather19 (fun b => aHP c b (landedA c XG XU arg2 arg3 g2 g3 (GN c X XO arg0 arg1 arg5 g0 g1 g5) fr b))) $$ [HB_dst0 HB_dst1 HB_dst2 HB_dst3 HB_dst4 HB_dst5 HB_dst6 HB_dst7 HB_dst8 HB_dst9 HB_dst10 HB_dst11 HB_dst12 HB_dst13 HB_dst14 HB_dst15 HB_dst16 HB_dst17 HB_dst18]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    isplitl [HB_dst7]; · iexact HB_dst7
    isplitl [HB_dst8]; · iexact HB_dst8
    isplitl [HB_dst9]; · iexact HB_dst9
    isplitl [HB_dst10]; · iexact HB_dst10
    isplitl [HB_dst11]; · iexact HB_dst11
    isplitl [HB_dst12]; · iexact HB_dst12
    isplitl [HB_dst13]; · iexact HB_dst13
    isplitl [HB_dst14]; · iexact HB_dst14
    isplitl [HB_dst15]; · iexact HB_dst15
    isplitl [HB_dst16]; · iexact HB_dst16
    isplitl [HB_dst17]; · iexact HB_dst17
    iexact HB_dst18
  ihave HS := (gather19 (fun b => aVP c fullShare.right b (ACT c XG XU arg2 arg3 g2 g3 (GN c X XO arg0 arg1 arg5 g0 g1 g5)))) $$ [HB_src0 HB_src1 HB_src2 HB_src3 HB_src4 HB_src5 HB_src6 HB_src7 HB_src8 HB_src9 HB_src10 HB_src11 HB_src12 HB_src13 HB_src14 HB_src15 HB_src16 HB_src17 HB_src18]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    isplitl [HB_src7]; · iexact HB_src7
    isplitl [HB_src8]; · iexact HB_src8
    isplitl [HB_src9]; · iexact HB_src9
    isplitl [HB_src10]; · iexact HB_src10
    isplitl [HB_src11]; · iexact HB_src11
    isplitl [HB_src12]; · iexact HB_src12
    isplitl [HB_src13]; · iexact HB_src13
    isplitl [HB_src14]; · iexact HB_src14
    isplitl [HB_src15]; · iexact HB_src15
    isplitl [HB_src16]; · iexact HB_src16
    isplitl [HB_src17]; · iexact HB_src17
    iexact HB_src18
  ihave HL := (ent_of_eq (act_eq c fullShare.left (ACT c XG XU arg2 arg3 g2 g3 (GN c X XO arg0 arg1 arg5 g0 g1 g5)))) $$ HA
  ihave HA := (halves_join c (ACT c XG XU arg2 arg3 g2 g3 (GN c X XO arg0 arg1 arg5 g0 g1 g5))) $$ [HL HS]
  · isplitl [HL]; · iexact HL
    iexact HS
  iapply Hk
  unfold POST
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HX HN HM HO HA]
  · isplitl [HX]; · iexists _; iexact HX
    isplitl [HN]; · iexists _; iexact HN
    isplitl [HM]; · iexists _; iexact HM
    isplitl [HO]; · iexists _; iexact HO
    iexact HA
  isplitl [Hx]; · iexact Hx
  isplitl [HhO]; · iexact HhO
  isplitl [HhG]; · iexact HhG
  isplitl [HhU]; · iexact HhU
  isplitl [HhD]; · iexact HhD
  isplitl [HRO]; · iexact HRO
  isplitl [HRG]; · iexact HRG
  isplitl [HRU]; · iexact HRU
  isplitl [HRD]; · iexact HRD
  isplitl [Hout]
  · ihave Ho := (out_rep c _ _) $$ Hout
    icases Ho with ⟨%out, %hout, Ho⟩
    iexists out
    isplitr
    · ipureintro
      exact fun y => (hout y).trans (hgd y (y 1).isLt)
    iexact Ho
  isplitl [Hmid]
  · ihave Ho := (hmid_rep c _ _) $$ Hmid
    icases Ho with ⟨%hh, %hout, Ho⟩
    iexists hh
    isplitr
    · ipureintro
      intro y
      refine (hout y).trans ?_
      show obM.view.read (Elt F) (GB c X XO arg1 arg5 g1 g5) y = _
      rw [GB, View.read_rep]
    iexact Ho
  isplitl [HD]; · iexact HD
  isplitl [Hxs HB Hos1]
  · isplitl [Hxs]; · iexact Hxs
    isplitl [HB]; · iexact HB
    iexact Hos1
  iexists _; iexact HW

end Body

end Cert.Proof.KernelIdeal

end
-- ==== Proof.KernelIdealRun.lean ====
/-
  The launch around the body's run: every weakly fair execution ends, the arguments are as launched, the semaphores at zero,
  and the three results' arrays hold the values of the three loops.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.KernelIdealBody

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

section Wholes
variable (c : Dev nD)
omit [FloatOps F] [Named F] in
theorem xvP_whole (f : Buf (Elt F) ((c : Thread nD τ).loc cc0_scratch0)) :
    (((c : Thread nD τ).loc cc0_scratch0) ↦{fullShare} f : sProp 𝕄) = xvP (F := F) c f :=
  congrArg (fun S => (((c : Thread nD τ).loc cc0_scratch0) ↦[S]{fullShare} f : sProp 𝕄)) (View.set_whole cc0_scratch0).symm
omit [FloatOps F] [Named F] in
theorem hvP_whole (f : Buf (Elt F) ((c : Thread nD τ).loc cc0_scratch1)) :
    (((c : Thread nD τ).loc cc0_scratch1) ↦{fullShare} f : sProp 𝕄) = hvP (F := F) c f :=
  congrArg (fun S => (((c : Thread nD τ).loc cc0_scratch1) ↦[S]{fullShare} f : sProp 𝕄)) (View.set_whole cc0_scratch1).symm
omit [FloatOps F] [Named F] in
theorem hmP_whole (f : Buf (Elt F) ((c : Thread nD τ).loc cc0_scratch2)) :
    (((c : Thread nD τ).loc cc0_scratch2) ↦{fullShare} f : sProp 𝕄) = hmP (F := F) c f :=
  congrArg (fun S => (((c : Thread nD τ).loc cc0_scratch2) ↦[S]{fullShare} f : sProp 𝕄)) (View.set_whole cc0_scratch2).symm
omit [FloatOps F] [Named F] in
theorem obP_whole (f : Buf (Elt F) ((c : Thread nD τ).loc cc0_scratch3)) :
    (((c : Thread nD τ).loc cc0_scratch3) ↦{fullShare} f : sProp 𝕄) = obP (F := F) c f :=
  congrArg (fun S => (((c : Thread nD τ).loc cc0_scratch3) ↦[S]{fullShare} f : sProp 𝕄)) (View.set_whole cc0_scratch3).symm
omit [FloatOps F] [Named F] in
theorem xP_whole (f : Buf (Elt F) ((c : Thread nD τ).loc main_arg0)) :
    (((c : Thread nD τ).loc main_arg0) ↦{fullShare} f : sProp 𝕄) = xP (F := F) c f :=
  congrArg (fun S => (((c : Thread nD τ).loc main_arg0) ↦[S]{fullShare} f : sProp 𝕄)) (View.set_whole main_arg0).symm
omit [FloatOps F] [Named F] in
theorem outP_whole (f : Buf (Elt F) ((c : Thread nD τ).loc main_v5_0)) :
    (((c : Thread nD τ).loc main_v5_0) ↦{fullShare} f : sProp 𝕄) = outP (F := F) c f :=
  congrArg (fun S => (((c : Thread nD τ).loc main_v5_0) ↦[S]{fullShare} f : sProp 𝕄)) (View.set_whole main_v5_0).symm
omit [FloatOps F] [Named F] in
theorem hmidP_whole (f : Buf (Elt F) ((c : Thread nD τ).loc main_v5_1)) :
    (((c : Thread nD τ).loc main_v5_1) ↦{fullShare} f : sProp 𝕄) = hmidP (F := F) c f :=
  congrArg (fun S => (((c : Thread nD τ).loc main_v5_1) ↦[S]{fullShare} f : sProp 𝕄)) (View.set_whole main_v5_1).symm

variable (XG : Buf (Elt F) (wMG.view.loc (c : Thread nD τ))) (XU : Buf (Elt F) (wMU.view.loc (c : Thread nD τ)))
  (arg2 : Memref sig .tc .vmem S1x9728 .f32) (arg3 : Memref sig .tc .vmem S1x9728 .f32)
  (g2 : Buf (Elt F) (arg2.view.loc (c : Thread nD τ))) (g3 : Buf (Elt F) (arg3.view.loc (c : Thread nD τ)))
  (gh : Buf (Elt F) (hvM.view.loc (c : Thread nD τ))) (fr : Buf (Elt F) (actH.view.loc (c : Thread nD τ)))

/-- The activation's value, as the contents of its array in HBM. -/
def actV : Buf (Elt F) ((c : Thread nD τ).loc main_v5_2) := fun y => valF c XG XU arg2 arg3 g2 g3 gh y

/-- A block as its copy leaves it in HBM is held at the activation's value; -/
theorem landed_act (b : Fin 19) : aHP c b (landedA c XG XU arg2 arg3 g2 g3 gh fr b) ⊢ aHP c b (actV c XG XU arg2 arg3 g2 g3 gh) := by
  have e : aHP c b (landedA c XG XU arg2 arg3 g2 g3 gh fr b) = aHP c b (actV c XG XU arg2 arg3 g2 g3 gh) := by
    have er : (aH b).view.read (Elt F) (landedA c XG XU arg2 arg3 g2 g3 gh fr b) = (aH b).view.read (Elt F) (actV c XG XU arg2 arg3 g2 g3 gh) := by
      refine (View.read_writes_whole (aH b).view fr _).trans ?_
      funext x
      show actM.view.read (Elt F) (ACT c XG XU arg2 arg3 g2 g3 gh) ((Rect.unit (s := S256x9728) (aOff b) S256x512.size (aOff_inb b)).emb x) = _
      rw [ACT, View.read_rep]
      rfl
    refine (pointsTo_rep (c : Thread nD τ) (aH b) _ fullShare).trans ?_
    rw [er]
    exact (pointsTo_rep (c : Thread nD τ) (aH b) _ fullShare).symm
  exact ent_of_eq e
/-- the blocks together are the array. -/
theorem landed_join : bigSep (Ring.rangeSet 19 0 19) (fun b => aHP c b (landedA c XG XU arg2 arg3 g2 g3 gh fr b))
    ⊢ bigSep (Ring.rangeSet 19 0 19) (fun b => aHP c b (actV c XG XU arg2 arg3 g2 g3 gh)) :=
  blocks_mono fun b => landed_act c XG XU arg2 arg3 g2 g3 gh fr b
end Wholes

/-! ## The kernel's own semaphores -/

abbrev osem0 : Fin 16 → SemLoc sig := fun j => (![xsm, .dma (csmO 0).sem, .dma (csmO 1).sem, .dma (csmO 2).sem,
  .dma (csmG 0).sem, .dma (csmG 1).sem, .dma (csmG 2).sem, .dma (csmU 0).sem, .dma (csmU 1).sem, .dma (csmU 2).sem,
  .dma (csmD 0).sem, .dma (csmD 1).sem, .dma (csmD 2).sem, osm 0, osm 1, osm 2] : Fin 16 → SemLoc sig) j
theorem ownSemFacts0 : Pipeline.OwnSemFacts spec0 osem0 := by decide
/-- The semaphores at zero. -/
abbrev cellsP (c : Dev nD) : sProp 𝕄 :=
  iprop(semP (F := F) c xsm ∗ cellO (F := F) c 0 ∗ cellO (F := F) c 1 ∗ cellO (F := F) c 2 ∗ cellG (F := F) c 0 ∗ cellG (F := F) c 1 ∗ cellG (F := F) c 2
    ∗ cellU (F := F) c 0 ∗ cellU (F := F) c 1 ∗ cellU (F := F) c 2 ∗ cellD (F := F) c 0 ∗ cellD (F := F) c 1 ∗ cellD (F := F) c 2
    ∗ semP (F := F) c (osm 0) ∗ semP (F := F) c (osm 1) ∗ semP (F := F) c (osm 2))
omit [FloatOps F] [Named F] in
theorem ownSems00_eq (c : Dev nD) :
    (Pipeline.ownSems0 (Ix := Unit) (Name := ℕ) (U := UU nD τ) (Lvl := ℕ) (Val := Elt F) (τ := τ) osem0 c : sProp 𝕄) = cellsP (F := F) c := by
  rw [Pipeline.ownSems0_eq_of_list c osem0 [0, 1, 2, 3, 4, 5, 6, 7, 8, 9, 10, 11, 12, 13, 14, 15] (by decide) (by decide)]; rfl

/-! ## The pipeline's proof data -/

variable (m : (ℓ : Loc nD τ sig) → Buf (Elt F) ℓ) (ρ : Dev nD → PrngReg)

theorem hmain : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The buffers the body's copies read and the ones they write, all left in HBM. -/
abbrev H0 : Finset (Ref sig .tc) := {main_arg0, main_arg3, main_arg5, main_arg7, main_arg9}
abbrev R0 : Finset (Ref sig .tc) := {main_v5_0, main_v5_1, main_v5_2}
theorem H0_sub : H0 ⊆ Pipeline.restRefs sig spec0 := by decide
theorem R0_sub : R0 ⊆ Pipeline.restRefs sig spec0 \ H0 := by decide

abbrev hst0_0 (t : Fin cfg0.N) : (st0_0 t).IsWhole := hstage0_0 0
abbrev hst0_1 (t : Fin cfg0.N) : (st0_1 t).IsWhole := hstage0_1 0
abbrev hst0_2 (t : Fin cfg0.N) : (st0_2 t).IsWhole := hstage0_2 0
abbrev hst0_3 (t : Fin cfg0.N) : (st0_3 t).IsWhole := hstage0_3 0
abbrev hst0_4 (t : Fin cfg0.N) : (st0_4 t).IsWhole := hstage0_4 0
abbrev hst0_5 (t : Fin cfg0.N) : (st0_5 t).IsWhole := hstage0_5 0

section Results
variable (c : Dev nD)
/-- Operand 0 as staged. -/
abbrev sg0 : Buf (Elt F) ((st0_0 t0_0).view.loc (c : Thread nD τ)) := (st0_0 t0_0).view.rep (iblk m c 0 t0_0)
/-- Operand 1 as staged. -/
abbrev sg1 : Buf (Elt F) ((st0_1 t0_0).view.loc (c : Thread nD τ)) := (st0_1 t0_0).view.rep (iblk m c 1 t0_0)
/-- Operand 2 as staged. -/
abbrev sg2 : Buf (Elt F) ((st0_2 t0_0).view.loc (c : Thread nD τ)) := (st0_2 t0_0).view.rep (iblk m c 2 t0_0)
/-- Operand 3 as staged. -/
abbrev sg3 : Buf (Elt F) ((st0_3 t0_0).view.loc (c : Thread nD τ)) := (st0_3 t0_0).view.rep (iblk m c 3 t0_0)
/-- Operand 4 as staged. -/
abbrev sg4 : Buf (Elt F) ((st0_4 t0_0).view.loc (c : Thread nD τ)) := (st0_4 t0_0).view.rep (iblk m c 4 t0_0)
/-- Operand 5 as staged. -/
abbrev sg5 : Buf (Elt F) ((st0_5 t0_0).view.loc (c : Thread nD τ)) := (st0_5 t0_0).view.rep (iblk m c 5 t0_0)
/-- The residual stream rounded; -/
def resMid : Buf (Elt F) ((c : Thread nD τ).loc main_v5_1) :=
  fun y => valB c (V m c main_arg3) (st0_1 t0_0) (st0_5 t0_0) (sg1 m c) (sg5 m c) (GX c (V m c main_arg0)) y
/-- the stream itself, and its normalization, on the way; -/
def mid : Buf (Elt F) (hmM.view.loc (c : Thread nD τ)) := GM c (V m c main_arg0) (V m c main_arg3) (st0_1 t0_0) (st0_5 t0_0) (sg1 m c) (sg5 m c)
def nrm : Buf (Elt F) (hvM.view.loc (c : Thread nD τ)) :=
  GN c (V m c main_arg0) (V m c main_arg3) (st0_0 t0_0) (st0_1 t0_0) (st0_5 t0_0) (sg0 m c) (sg1 m c) (sg5 m c)
/-- the activation; -/
def resAct : Buf (Elt F) ((c : Thread nD τ).loc main_v5_2) :=
  actV c (V m c main_arg5) (V m c main_arg7) (st0_2 t0_0) (st0_3 t0_0) (sg2 m c) (sg3 m c) (nrm m c)
/-- the layer's output. -/
def resOut : Buf (Elt F) ((c : Thread nD τ).loc main_v5_0) :=
  fun y => valD c (V m c main_arg9) (st0_4 t0_0) (sg4 m c)
    (ACT c (V m c main_arg5) (V m c main_arg7) (st0_2 t0_0) (st0_3 t0_0) (sg2 m c) (sg3 m c) (nrm m c)) (mid m c) y
end Results

/-- The buffers as the region leaves them. -/
def G (c : Dev nD) : (b : Ref sig .tc) → Buf (Elt F) ((c : Thread nD τ).loc b) :=
  Function.update (Function.update (Function.update (V m c) main_v5_0 (resOut m c)) main_v5_1 (resMid m c)) main_v5_2 (resAct m c)

theorem G_act (c : Dev nD) : G m c main_v5_2 = resAct m c := Function.update_self ..
theorem G_mid (c : Dev nD) : G m c main_v5_1 = resMid m c := (Function.update_of_ne (by decide) ..).trans (Function.update_self ..)
theorem G_out (c : Dev nD) : G m c main_v5_0 = resOut m c :=
  (Function.update_of_ne (by decide) ..).trans ((Function.update_of_ne (by decide) ..).trans (Function.update_self ..))

/-- The invariant: before the point the buffers as the region finds them, after it as it leaves them. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := if t.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem Φ_in (c : Dev nD) : (dats m 0 c).Φ t0_0.castSucc = Pipeline.ΦDRG osem0 spec0 H0 R0 (V m) (V m) c := by
  dsimp only [dats]; exact if_pos (by decide)
theorem Φ_out (c : Dev nD) : (dats m 0 c).Φ t0_0.succ = Pipeline.ΦDRG osem0 spec0 H0 R0 (V m) (G m) c := by
  dsimp only [dats]; exact if_neg (by decide)

/-- The scratch buffers, at anything. -/
abbrev scratchP (c : Dev nD) : sProp 𝕄 :=
  iprop((∃ f, xvP (F := F) c f) ∗ (∃ f, hvP (F := F) c f) ∗ (∃ f, hmP (F := F) c f) ∗ (∃ f, obP (F := F) c f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scoped0), ((c : Thread nD τ).loc cc0_scoped0) ↦{fullShare} f))
/-- The invariant's conjuncts. -/
theorem Φ_eq (c : Dev nD) (W : (c : Dev nD) → (b : Ref sig .tc) → Buf (Elt F) ((c : Thread nD τ).loc b)) :
    (Pipeline.ΦDRG osem0 spec0 H0 R0 (V m) W c : sProp 𝕄)
      = iprop(scratchP (F := F) c ∗ (∃ r, prngReg c r) ∗ cellsP (F := F) c
          ∗ (xP c (V m c main_arg0) ∗ bigSep Finset.univ (homeO c (V m c main_arg3)) ∗ bigSep Finset.univ (homeG c (V m c main_arg5))
              ∗ bigSep Finset.univ (homeU c (V m c main_arg7)) ∗ bigSep Finset.univ (homeD c (V m c main_arg9)))
          ∗ (outP c (W c main_v5_0) ∗ hmidP c (W c main_v5_1) ∗ bigSep (Ring.rangeSet 19 0 19) (fun b => aHP c b (W c main_v5_2)))) := by
  rw [Pipeline.ΦDRG_eq, scopedRest0_eq, ownSems00_eq, ← wO_eq, ← wG_eq, ← wU_eq, ← wD_eq, ← xP_whole, ← outP_whole, ← hmidP_whole, ← actH_eq]
  unfold Pipeline.routed
  have eH : ∀ Φ : Ref sig .tc → sProp 𝕄, bigSep H0 Φ = iprop(Φ main_arg0 ∗ Φ main_arg3 ∗ Φ main_arg5 ∗ Φ main_arg7 ∗ Φ main_arg9) := fun Φ => by
    rw [H0, bigSep_insert (by decide), bigSep_insert (by decide), bigSep_insert (by decide), bigSep_insert (by decide), BI.bigSep_singleton]; rfl
  have eR : ∀ Φ : Ref sig .tc → sProp 𝕄, bigSep R0 Φ = iprop(Φ main_v5_0 ∗ Φ main_v5_1 ∗ Φ main_v5_2) := fun Φ => by
    rw [R0, bigSep_insert (by decide), bigSep_insert (by decide), BI.bigSep_singleton]; rfl
  rw [eH, eR]
  simp only [xvP_whole, hvP_whole, hmP_whole, obP_whole]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) := rfl
theorem prog_eq (t : Fin cfg0.N) : (defs₀ (F := F)) .tc cfg0.body (cfg0.bodyArgs t (cfg0.slots t))
    = bodyG (st0_0 t) (hst0_0 t) (st0_1 t) (hst0_1 t) (st0_2 t) (hst0_2 t) (st0_3 t) (hst0_3 t) (st0_4 t) (hst0_4 t) (st0_5 t) (hst0_5 t) :=
  (congrFun defs_tc _).trans rfl

set_option maxHeartbeats 1000000 in
set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, before_w3, before_w4, before_w5, after_w0, after_w1, after_w2, after_w3, after_w4, after_w5]
  rw [Φ_in, Φ_out, Φ_eq, Φ_eq, G_out, G_mid, G_act]
  unfold Dat.owesAt Pipeline.owesWithin
  rw [show (dats m 0 c).owed t0_0.castSucc = 0 from rfl, show (dats m 0 c).owed t0_0.succ = 0 from rfl]
  unfold owns
  iintro ⟨⟨⟨HX, HN, HM, HO, HrO, HrG, HrU, HrD, HA⟩, Hg, ⟨Hxs, HcO0, HcO1, HcO2, HcG0, HcG1, HcG2, HcU0, HcU1, HcU2, HcD0, HcD1, HcD2, Ho0, Ho1, Ho2⟩, ⟨Hx, HhO, HhG, HhU, HhD⟩, ⟨Hout, Hmid, HH⟩⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  ihave Hq := (ent_of_eq (homesO_zero c (V m c main_arg3))) $$ HhO
  icases Hq with ⟨HwO0, HwO1, HwO2, HhO⟩
  ihave Hq := (ringO_split c) $$ HrO
  icases Hq with ⟨HsO0, HsO1, HsO2⟩
  ihave Hq := (ent_of_eq (homesG_zero c (V m c main_arg5))) $$ HhG
  icases Hq with ⟨HwG0, HwG1, HwG2, HhG⟩
  ihave Hq := (ringG_split c) $$ HrG
  icases Hq with ⟨HsG0, HsG1, HsG2⟩
  ihave Hq := (ent_of_eq (homesU_zero c (V m c main_arg7))) $$ HhU
  icases Hq with ⟨HwU0, HwU1, HwU2, HhU⟩
  ihave Hq := (ringU_split c) $$ HrU
  icases Hq with ⟨HsU0, HsU1, HsU2⟩
  ihave Hq := (ent_of_eq (homesD_zero c (V m c main_arg9))) $$ HhD
  icases Hq with ⟨HwD0, HwD1, HwD2, HhD⟩
  ihave Hq := (ringD_split c) $$ HrD
  icases Hq with ⟨HsD0, HsD1, HsD2⟩
  ihave HA := (act_split c) $$ HA
  ihave H0 := (pointsTo_rep_entails (c : Thread nD τ) (st0_0 t0_0) g0 fullShare) $$ H0
  ihave H1 := (pointsTo_rep_entails (c : Thread nD τ) (st0_1 t0_0) g1 fullShare) $$ H1
  ihave H2 := (pointsTo_rep_entails (c : Thread nD τ) (st0_2 t0_0) g2 fullShare) $$ H2
  ihave H3 := (pointsTo_rep_entails (c : Thread nD τ) (st0_3 t0_0) g3 fullShare) $$ H3
  ihave H4 := (pointsTo_rep_entails (c : Thread nD τ) (st0_4 t0_0) g4 fullShare) $$ H4
  ihave H5 := (pointsTo_rep_entails (c : Thread nD τ) (st0_5 t0_0) g5 fullShare) $$ H5
  rw [hg0, hg1, hg2, hg3, hg4, hg5]
  sl_rw [prog_eq t0_0]
  iapply (bodyRun c (V m c main_arg0) (V m c main_arg3) (V m c main_arg5) (V m c main_arg7) (V m c main_arg9) (st0_0 t0_0) (hst0_0 t0_0) (st0_1 t0_0) (hst0_1 t0_0) (st0_2 t0_0) (hst0_2 t0_0) (st0_3 t0_0) (hst0_3 t0_0) (st0_4 t0_0) (hst0_4 t0_0) (st0_5 t0_0) (hst0_5 t0_0) (sg0 m c) (sg1 m c) (sg2 m c) (sg3 m c) (sg4 m c) (sg5 m c) (V m c main_v5_2) (V m c main_v5_0) (V m c main_v5_1) W)
  unfold PRE POST freeO3 freeG3 freeU3 freeD3 freeO freeG freeU freeD
  isplitl [H0 H1 H2 H3 H4 H5 HX HN HM HO HA Hx HwO0 HwO1 HwO2 HhO HsO0 HsO1 HsO2 HcO0 HcO1 HcO2 HwG0 HwG1 HwG2 HhG HsG0 HsG1 HsG2 HcG0 HcG1 HcG2 HwU0 HwU1 HwU2 HhU HsU0 HsU1 HsU2 HcU0 HcU1 HcU2 HwD0 HwD1 HwD2 HhD HsD0 HsD1 HsD2 HcD0 HcD1 HcD2 Hout Hmid HH Hxs Ho0 Ho1 HW]
  · isplitl [H0 H1 H2 H3 H4 H5]
    · isplitl [H0]; · iexact H0
      isplitl [H1]; · iexact H1
      isplitl [H2]; · iexact H2
      isplitl [H3]; · iexact H3
      isplitl [H4]; · iexact H4
      iexact H5
    isplitl [HX HN HM HO HA]
    · isplitl [HX]; · iexact HX
      isplitl [HN]; · iexact HN
      isplitl [HM]; · iexact HM
      isplitl [HO]; · iexact HO
      iexact HA
    isplitl [Hx]; · iexact Hx
    isplitl [HwO0 HwO1 HwO2 HhO]
    · isplitl [HwO0]; · iexact HwO0
      isplitl [HwO1]; · iexact HwO1
      isplitl [HwO2]; · iexact HwO2
      iexact HhO
    isplitl [HwG0 HwG1 HwG2 HhG]
    · isplitl [HwG0]; · iexact HwG0
      isplitl [HwG1]; · iexact HwG1
      isplitl [HwG2]; · iexact HwG2
      iexact HhG
    isplitl [HwU0 HwU1 HwU2 HhU]
    · isplitl [HwU0]; · iexact HwU0
      isplitl [HwU1]; · iexact HwU1
      isplitl [HwU2]; · iexact HwU2
      iexact HhU
    isplitl [HwD0 HwD1 HwD2 HhD]
    · isplitl [HwD0]; · iexact HwD0
      isplitl [HwD1]; · iexact HwD1
      isplitl [HwD2]; · iexact HwD2
      iexact HhD
    isplitl [HsO0 HsO1 HsO2 HcO0 HcO1 HcO2]
    · isplitl [HsO0 HcO0]
      · isplitl [HsO0]; · iexact HsO0
        iexact HcO0
      isplitl [HsO1 HcO1]
      · isplitl [HsO1]; · iexact HsO1
        iexact HcO1
      isplitl [HsO2]; · iexact HsO2
      iexact HcO2
    isplitl [HsG0 HsG1 HsG2 HcG0 HcG1 HcG2]
    · isplitl [HsG0 HcG0]
      · isplitl [HsG0]; · iexact HsG0
        iexact HcG0
      isplitl [HsG1 HcG1]
      · isplitl [HsG1]; · iexact HsG1
        iexact HcG1
      isplitl [HsG2]; · iexact HsG2
      iexact HcG2
    isplitl [HsU0 HsU1 HsU2 HcU0 HcU1 HcU2]
    · isplitl [HsU0 HcU0]
      · isplitl [HsU0]; · iexact HsU0
        iexact HcU0
      isplitl [HsU1 HcU1]
      · isplitl [HsU1]; · iexact HsU1
        iexact HcU1
      isplitl [HsU2]; · iexact HsU2
      iexact HcU2
    isplitl [HsD0 HsD1 HsD2 HcD0 HcD1 HcD2]
    · isplitl [HsD0 HcD0]
      · isplitl [HsD0]; · iexact HsD0
        iexact HcD0
      isplitl [HsD1 HcD1]
      · isplitl [HsD1]; · iexact HsD1
        iexact HcD1
      isplitl [HsD2]; · iexact HsD2
      iexact HcD2
    isplitl [Hout]; · iexact Hout
    isplitl [Hmid]; · iexact Hmid
    isplitl [HH]; · iexact HH
    isplitl [Hxs Ho0 Ho1]
    · isplitl [Hxs]; · iexact Hxs
      isplitl [Ho0]; · iexact Ho0
      iexact Ho1
    iexact HW
  · iintro ⟨⟨H0, H1, H2, H3, H4, H5⟩, ⟨HX, HN, HM, HO, HA⟩, Hx, HhO, HhG, HhU, HhD, ⟨⟨HsO0, HcO0⟩, ⟨HsO1, HcO1⟩, ⟨HsO2, HcO2⟩⟩, ⟨⟨HsG0, HcG0⟩, ⟨HsG1, HcG1⟩, ⟨HsG2, HcG2⟩⟩, ⟨⟨HsU0, HcU0⟩, ⟨HsU1, HcU1⟩, ⟨HsU2, HcU2⟩⟩, ⟨⟨HsD0, HcD0⟩, ⟨HsD1, HcD1⟩, ⟨HsD2, HcD2⟩⟩, ⟨%out, %hout, Hout⟩, ⟨%hh, %hmid, Hmid⟩, HH, ⟨Hxs, Ho0, Ho1⟩, ⟨%W', HW⟩⟩
    have eo : out = resOut m c := funext hout
    have eh : hh = resMid m c := funext hmid
    subst eo eh
    isplitl [HX HN HM HO HsO0 HsO1 HsO2 HsG0 HsG1 HsG2 HsU0 HsU1 HsU2 HsD0 HsD1 HsD2 HA Hg Hxs HcO0 HcO1 HcO2 HcG0 HcG1 HcG2 HcU0 HcU1 HcU2 HcD0 HcD1 HcD2 Ho0 Ho1 Ho2 Hx HhO HhG HhU HhD Hout Hmid HH]
    · isplitl [HX HN HM HO HsO0 HsO1 HsO2 HsG0 HsG1 HsG2 HsU0 HsU1 HsU2 HsD0 HsD1 HsD2 HA]
      · isplitl [HX]; · iexact HX
        isplitl [HN]; · iexact HN
        isplitl [HM]; · iexact HM
        isplitl [HO]; · iexact HO
        isplitl [HsO0 HsO1 HsO2]
        · iapply (ringO_join c)
          isplitl [HsO0]; · iexact HsO0
          isplitl [HsO1]; · iexact HsO1
          iexact HsO2
        isplitl [HsG0 HsG1 HsG2]
        · iapply (ringG_join c)
          isplitl [HsG0]; · iexact HsG0
          isplitl [HsG1]; · iexact HsG1
          iexact HsG2
        isplitl [HsU0 HsU1 HsU2]
        · iapply (ringU_join c)
          isplitl [HsU0]; · iexact HsU0
          isplitl [HsU1]; · iexact HsU1
          iexact HsU2
        isplitl [HsD0 HsD1 HsD2]
        · iapply (ringD_join c)
          isplitl [HsD0]; · iexact HsD0
          isplitl [HsD1]; · iexact HsD1
          iexact HsD2
        iapply (act_join c); iexact HA
      isplitl [Hg]; · iexact Hg
      isplitl [Hxs HcO0 HcO1 HcO2 HcG0 HcG1 HcG2 HcU0 HcU1 HcU2 HcD0 HcD1 HcD2 Ho0 Ho1 Ho2]
      · isplitl [Hxs]; · iexact Hxs
        isplitl [HcO0]; · iexact HcO0
        isplitl [HcO1]; · iexact HcO1
        isplitl [HcO2]; · iexact HcO2
        isplitl [HcG0]; · iexact HcG0
        isplitl [HcG1]; · iexact HcG1
        isplitl [HcG2]; · iexact HcG2
        isplitl [HcU0]; · iexact HcU0
        isplitl [HcU1]; · iexact HcU1
        isplitl [HcU2]; · iexact HcU2
        isplitl [HcD0]; · iexact HcD0
        isplitl [HcD1]; · iexact HcD1
        isplitl [HcD2]; · iexact HcD2
        isplitl [Ho0]; · iexact Ho0
        isplitl [Ho1]; · iexact Ho1
        iexact Ho2
      isplitl [Hx HhO HhG HhU HhD]
      · isplitl [Hx]; · iexact Hx
        isplitl [HhO]; · iapply (ent_of_eq (congrArg (fun S => bigSep S (homeO c (V m c main_arg3))) homesO_end)); iexact HhO
        isplitl [HhG]; · iapply (ent_of_eq (congrArg (fun S => bigSep S (homeG c (V m c main_arg5))) homesG_end)); iexact HhG
        isplitl [HhU]; · iapply (ent_of_eq (congrArg (fun S => bigSep S (homeU c (V m c main_arg7))) homesU_end)); iexact HhU
        iapply (ent_of_eq (congrArg (fun S => bigSep S (homeD c (V m c main_arg9))) homesD_end)); iexact HhD
      isplitl [Hout]; · iexact Hout
      isplitl [Hmid]; · iexact Hmid
      iapply (landed_join c (V m c main_arg5) (V m c main_arg7) (st0_2 t0_0) (st0_3 t0_0) (sg2 m c) (sg3 m c) (nrm m c) (V m c main_v5_2)); iexact HH
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    · iexists _; isplitr; · ipureintro; exact View.read_rep _ _
      iexact H5

/-! ## The run -/

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := hmain m) (hA := A_eq m) (G := G m)
    (hin := fun c => by rw [show (dats m 0 c).Φ 0 = _ from Φ_in m c])
    (hout := fun c => by rw [show (dats m 0 c).Φ (Fin.last cfg0.N) = _ from Φ_out m c])

/-- Every run ends with the three results at their values, the arguments as launched and the semaphores at zero. -/
theorem run : θ_run defs (onTc (τ := τ) (main (F := F))) ⟨m, fun _ => 0, ρ⟩ (fun r => (∀ c : Dev nD,
      r.2.mem ((c.tc : Thread nD τ).loc main_v5_0) = resOut m c
      ∧ r.2.mem ((c.tc : Thread nD τ).loc main_v5_1) = resMid m c
      ∧ r.2.mem ((c.tc : Thread nD τ).loc main_v5_2) = resAct m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1.2 c main_v5_0 (by decide)).trans (G_out m c),
      (h.1.2 c main_v5_1 (by decide)).trans (G_mid m c),
      (h.1.2 c main_v5_2 (by decide)).trans (G_act m c),
      ((h.1.1 c).2 main_arg0 (Finset.mem_sdiff.mpr ⟨Pipeline.mem_restRefs_of main_arg0 (by decide) (by decide), by decide⟩)).trans (V_main_arg0 m c),
      ((h.1.1 c).1 5).trans (((dats m 0 c).arrAt_in 5 rfl _).trans ((A_eq m c 5).trans (V_main_arg1 m c))),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).2 main_arg9 (Finset.mem_sdiff.mpr ⟨Pipeline.mem_restRefs_of main_arg9 (by decide) (by decide), by decide⟩)).trans (V_main_arg9 m c),
      ((h.1.1 c).2 main_arg10 (Finset.mem_sdiff.mpr ⟨Pipeline.mem_restRefs_of main_arg10 (by decide) (by decide), by decide⟩)).trans (V_main_arg10 m c)⟩, h.2⟩)
    (run_main m ρ)

end Cert.Proof.KernelIdeal

end
-- ==== Proof.KernelFrame.lean ====
/-
  The frame of the kernel, from its idealization's run. The two programs differ in one constant, which the idealization names; where a
  named constant is its own bits they are one program, and the idealization's run is stated over any values of floats.
-/
module

public import proofs.«01_k».proof.Defs
public import proofs.«01_k».proof.Proof.Gen.Kernel
public import proofs.«01_k».proof.Proof.KernelIdealRun

@[expose] public section
set_option maxRecDepth 16384
noncomputable section
namespace Cert.Proof.Kernel
open Idealize.ShloMosaic

/-- At bits a named constant is its bits. -/
abbrev namedBits : Named Bits := ⟨fun _ _ φ b => Scalar.ofBits φ b⟩

attribute [local instance] namedBits

/-- The two programs' bodies are one at bits; -/
theorem defs0_eq : Cert.Kernel.defs₀ (F := Bits) =
    (show Defs Cert.Kernel.nD Cert.Kernel.τ Cert.Kernel.sig (Elt Bits) Cert.Kernel.Λ₀ from Cert.KernelIdeal.defs₀ (F := Bits)) := by
  refine congrArg Defs.onTc (funext fun ℓ => funext fun a => ?_)
  match ℓ, a with
  | 0, (t, s) => rfl

/-- so are the tables with their pipelines; -/
theorem defs_eq : Cert.Kernel.defs (F := Bits) = Cert.KernelIdeal.defs (F := Bits) :=
  congrArg (Pipeline.defs Cert.Kernel.pcfgs) defs0_eq

/-- and the kernel runs as its idealization does at bits. -/
theorem frame : Cert.quiescent_Kernel (hKernel := Cert.Kernel.Gen.facts) := by
  intro m g _
  rw [defs_eq]
  exact (θ_run _ _ _).mono (fun r h => ⟨fun c => (h.1 c).2.2.2, h.2⟩) (Cert.Proof.KernelIdeal.run (F := Bits) m g)

end Cert.Proof.Kernel
-- ==== Proof.RefValue.lean ====
/-
  The reference's run with its values: the result arrays end holding the body's payloads of the argument arrays.
-/
module

public import proofs.«01_k».proof.Defs
public import proofs.«01_k».proof.Proof.Gen.ReferenceIdeal.Value
public import Idealize.ShloMosaic.Lib.Pipeline.Value
public import Idealize.ShloMosaic.Lib.Affine
public import Idealize.ShloMosaic.Lib.Claim
public import Idealize.ShloMosaic.Lib.Pointwise

@[expose] public section

noncomputable section

namespace Cert.Proof.Ref

open Idealize.ShloMosaic Idealize.SL.Sem Cert.ReferenceIdeal
open Cert.ReferenceIdeal.Gen Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-! ## The input windows' blocks are their whole arrays -/

theorem iblk0_eq (c : Dev nD) : iblk (F := F) m c 0 t0_0 = V m c main_v0 :=
  Memref.read_access_unit_zero (Elt F) main_v0 (funext fun a => by fin_cases a <;> decide) (fun a => by fin_cases a <;> decide) _
theorem iblk1_eq (c : Dev nD) : iblk (F := F) m c 1 t0_0 = V m c main_v1 :=
  Memref.read_access_unit_zero (Elt F) main_v1 (funext fun a => by fin_cases a <;> decide) (fun a => by fin_cases a <;> decide) _
theorem iblk2_eq (c : Dev nD) : iblk (F := F) m c 2 t0_0 = V m c main_v2 :=
  Memref.read_access_unit_zero (Elt F) main_v2 (funext fun a => by fin_cases a <;> decide) (fun a => by fin_cases a <;> decide) _
theorem iblk3_eq (c : Dev nD) : iblk (F := F) m c 3 t0_0 = V m c main_v3 :=
  Memref.read_access_unit_zero (Elt F) main_v3 (funext fun a => by fin_cases a <;> decide) (fun a => by fin_cases a <;> decide) _
theorem iblk4_eq (c : Dev nD) : iblk (F := F) m c 4 t0_0 = V m c main_v4 :=
  Memref.read_access_unit_zero (Elt F) main_v4 (funext fun a => by fin_cases a <;> decide) (fun a => by fin_cases a <;> decide) _
theorem iblk5_eq (c : Dev nD) : iblk (F := F) m c 5 t0_0 = m ((c : Thread nD τ).loc main_arg1) :=
  (Memref.read_access_unit_zero (Elt F) main_arg1 (funext fun a => by fin_cases a <;> decide) (fun a => by fin_cases a <;> decide) _).trans (V_main_arg1 m c)
theorem iblk6_eq (c : Dev nD) : iblk (F := F) m c 6 t0_0 = m ((c : Thread nD τ).loc main_arg0) :=
  (Memref.read_access_unit_zero (Elt F) main_arg0 (funext fun a => by fin_cases a <;> decide) (fun a => by fin_cases a <;> decide) _).trans (V_main_arg0 m c)
theorem iblk7_eq (c : Dev nD) : iblk (F := F) m c 7 t0_0 = m ((c : Thread nD τ).loc main_arg3) :=
  (Memref.read_access_unit_zero (Elt F) main_arg3 (funext fun a => by fin_cases a <;> decide) (fun a => by fin_cases a <;> decide) _).trans (V_main_arg3 m c)
theorem iblk8_eq (c : Dev nD) : iblk (F := F) m c 8 t0_0 = m ((c : Thread nD τ).loc main_arg5) :=
  (Memref.read_access_unit_zero (Elt F) main_arg5 (funext fun a => by fin_cases a <;> decide) (fun a => by fin_cases a <;> decide) _).trans (V_main_arg5 m c)
theorem iblk9_eq (c : Dev nD) : iblk (F := F) m c 9 t0_0 = m ((c : Thread nD τ).loc main_arg7) :=
  (Memref.read_access_unit_zero (Elt F) main_arg7 (funext fun a => by fin_cases a <;> decide) (fun a => by fin_cases a <;> decide) _).trans (V_main_arg7 m c)
theorem iblk10_eq (c : Dev nD) : iblk (F := F) m c 10 t0_0 = m ((c : Thread nD τ).loc main_arg9) :=
  (Memref.read_access_unit_zero (Elt F) main_arg9 (funext fun a => by fin_cases a <;> decide) (fun a => by fin_cases a <;> decide) _).trans (V_main_arg9 m c)

/-! ## The results as functions of the argument arrays -/

/-- The residual stream in f32, rounded, and normalized; -/
abbrev hmV (c : Dev nD) : FVec F S256x2560 .f32 :=
  k0_pay3 (m ((c : Thread nD τ).loc main_arg0)) (m ((c : Thread nD τ).loc main_arg1)) (m ((c : Thread nD τ).loc main_arg3)) (V m c main_v1)
abbrev midV (c : Dev nD) : FVec F S256x2560 .bf16 :=
  k0_pay4 (m ((c : Thread nD τ).loc main_arg0)) (m ((c : Thread nD τ).loc main_arg1)) (m ((c : Thread nD τ).loc main_arg3)) (V m c main_v1)
abbrev nrmV (c : Dev nD) : FVec F S256x2560 .bf16 :=
  k0_pay5 (m ((c : Thread nD τ).loc main_arg0)) (m ((c : Thread nD τ).loc main_arg1)) (m ((c : Thread nD τ).loc main_arg3)) (V m c main_v1) (V m c main_v0)
/-- the gate after its nonlinearity; -/
abbrev siluV (c : Dev nD) : FVec F S256x9728 .f32 :=
  k0_pay6 (m ((c : Thread nD τ).loc main_arg0)) (m ((c : Thread nD τ).loc main_arg1)) (m ((c : Thread nD τ).loc main_arg3)) (V m c main_v1) (V m c main_v0)
    (m ((c : Thread nD τ).loc main_arg5)) (V m c main_v2)
/-- the activation; -/
abbrev actV (c : Dev nD) : FVec F S256x9728 .bf16 :=
  k0_pay1 (nrmV m c) (siluV m c) (m ((c : Thread nD τ).loc main_arg7)) (V m c main_v3)
/-- the layer's output. -/
abbrev outV (c : Dev nD) : FVec F S256x2560 .bf16 :=
  k0_pay2 (hmV m c) (nrmV m c) (siluV m c) (m ((c : Thread nD τ).loc main_arg7)) (V m c main_v3) (m ((c : Thread nD τ).loc main_arg9)) (V m c main_v4)

theorem hz : (![0, 0] : Fin 2 → Nat) = fun _ => 0 := funext fun a => by fin_cases a <;> rfl

theorem final11 (c : Dev nD) : (dats (F := F) m 0 c).arrAt 11 cfg0.N = outV m c := by
  have ho := Value.blocks11 (F := F) m c t0_0 (by decide)
  have hr := fun f => Memref.read_access_unit_zero (Elt F) main_v5_0 (funext fun a => by fin_cases a <;> decide : (fun a => (win0_11.index t0_0) a * main_v5_0.ty.shape.size a) = fun _ => 0) (fun a => by fin_cases a <;> decide) f
  rw [hr] at ho
  rw [ho, Value.flushed11, iblk0_eq, iblk1_eq, iblk2_eq, iblk3_eq, iblk4_eq, iblk5_eq, iblk6_eq, iblk7_eq, iblk8_eq, iblk9_eq, iblk10_eq]
  show out0_11 _ _ _ _ _ _ _ _ _ _ _ = _
  unfold out0_11 k0_pay8 k0_pay7
  rw [View.canon_unit_zero hz]
  repeat rw [View.ld_unit_zero hz]

theorem final12 (c : Dev nD) : (dats (F := F) m 0 c).arrAt 12 cfg0.N = midV m c := by
  have ho := Value.blocks12 (F := F) m c t0_0 (by decide)
  have hr := fun f => Memref.read_access_unit_zero (Elt F) main_v5_1 (funext fun a => by fin_cases a <;> decide : (fun a => (win0_12.index t0_0) a * main_v5_1.ty.shape.size a) = fun _ => 0) (fun a => by fin_cases a <;> decide) f
  rw [hr] at ho
  rw [ho, Value.flushed12, iblk0_eq, iblk1_eq, iblk2_eq, iblk3_eq, iblk4_eq, iblk5_eq, iblk6_eq, iblk7_eq, iblk8_eq, iblk9_eq, iblk10_eq]
  show out0_12 _ _ _ _ _ _ _ _ _ _ _ = _
  unfold out0_12
  rw [View.canon_unit_zero hz]
  repeat rw [View.ld_unit_zero hz]

theorem final13 (c : Dev nD) : (dats (F := F) m 0 c).arrAt 13 cfg0.N = actV m c := by
  have ho := Value.blocks13 (F := F) m c t0_0 (by decide)
  have hr := fun f => Memref.read_access_unit_zero (Elt F) main_v5_2 (funext fun a => by fin_cases a <;> decide : (fun a => (win0_13.index t0_0) a * main_v5_2.ty.shape.size a) = fun _ => 0) (fun a => by fin_cases a <;> decide) f
  rw [hr] at ho
  rw [ho, Value.flushed13, iblk0_eq, iblk1_eq, iblk2_eq, iblk3_eq, iblk4_eq, iblk5_eq, iblk6_eq, iblk7_eq, iblk8_eq, iblk9_eq, iblk10_eq]
  show out0_13 _ _ _ _ _ _ _ _ _ _ _ = _
  unfold out0_13 k0_pay8 k0_pay7
  rw [View.canon_unit_zero hz]
  repeat rw [View.ld_unit_zero hz]

theorem run : θ_run (defs (F := F)) (onTc (τ := τ) (main (F := F))) ⟨m, fun _ => 0, ρ⟩ (fun r => ∀ c : Dev nD,
      r.2.mem ((c : Thread nD τ).loc main_v5_0) = outV m c
      ∧ r.2.mem ((c : Thread nD τ).loc main_v5_1) = midV m c
      ∧ r.2.mem ((c : Thread nD τ).loc main_v5_2) = actV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨((h c).1).trans (final11 m c), ((h c).2.1).trans (final12 m c), ((h c).2.2.1).trans (final13 m c), (h c).2.2.2⟩)
    (Value.run_blocks m ρ)

end Cert.Proof.Ref

end
-- ==== Proof.Value.lean ====
/-
  The results at an index, over the extended reals: the kernel's and the reference's are the same expressions of the argument arrays.
-/
module

public import proofs.«01_k».proof.Proof.KernelIdealRun
public import proofs.«01_k».proof.Proof.RefValue

@[expose] public section

set_option maxRecDepth 16384

noncomputable section

namespace Cert.Proof

open Idealize.ShloMosaic Idealize.SL.Sem
open Idealize.ShloMosaic.TcCoe Idealize.ShloMosaic.Tactic

/-! ## The layer's expressions at an element -/

/-- An element of a projection: the row-by-column product, scaled by the column's scale; -/
def linAt {K N : ℕ} (a : (⟨2, ![256, K]⟩ : Shape).Idx → EReal) (w : (⟨2, ![K, N]⟩ : Shape).Idx → EReal) (s : (⟨2, ![1, N]⟩ : Shape).Idx → EReal)
    (r : Fin 256) (j : Fin N) : EReal :=
  (∑ k : Fin K, a (ValueIdx.ix2 r k) * w (ValueIdx.ix2 k j)) * s (ValueIdx.ix2 0 j)
/-- of a residual sum; -/
def resAt {K N : ℕ} (x : (⟨2, ![256, N]⟩ : Shape).Idx → EReal) (a : (⟨2, ![256, K]⟩ : Shape).Idx → EReal) (w : (⟨2, ![K, N]⟩ : Shape).Idx → EReal)
    (s : (⟨2, ![1, N]⟩ : Shape).Idx → EReal) (r : Fin 256) (j : Fin N) : EReal :=
  x (ValueIdx.ix2 r j) + linAt a w s r j
/-- of a row's normalization; -/
def nrmAt (h : (⟨2, ![256, 2560]⟩ : Shape).Idx → EReal) (g : (⟨2, ![1, 2560]⟩ : Shape).Idx → EReal) (r : Fin 256) (j : Fin 2560) : EReal :=
  h (ValueIdx.ix2 r j) * Ideal.rsqrt ((∑ k : Fin 2560, h (ValueIdx.ix2 r k) * h (ValueIdx.ix2 r k)) * ((1 / 2560 : ℝ) : EReal) + Ideal.ofBits .f32 0x3727C5AC#32) * g (ValueIdx.ix2 0 j)
/-- of the activation. -/
def actAt (h : (⟨2, ![256, 2560]⟩ : Shape).Idx → EReal) (wg : (⟨2, ![2560, 9728]⟩ : Shape).Idx → EReal) (sg : (⟨2, ![1, 9728]⟩ : Shape).Idx → EReal)
    (wu : (⟨2, ![2560, 9728]⟩ : Shape).Idx → EReal) (su : (⟨2, ![1, 9728]⟩ : Shape).Idx → EReal) (r : Fin 256) (j : Fin 9728) : EReal :=
  linAt h wg sg r j * Ideal.logistic (linAt h wg sg r j) * linAt h wu su r j

/-- The same expressions as arrays. -/
def resF {K N : ℕ} (x : (⟨2, ![256, N]⟩ : Shape).Idx → EReal) (a : (⟨2, ![256, K]⟩ : Shape).Idx → EReal) (w : (⟨2, ![K, N]⟩ : Shape).Idx → EReal)
    (s : (⟨2, ![1, N]⟩ : Shape).Idx → EReal) : (⟨2, ![256, N]⟩ : Shape).Idx → EReal := fun y => resAt x a w s (y 0) (y 1)
def nrmF (h : (⟨2, ![256, 2560]⟩ : Shape).Idx → EReal) (g : (⟨2, ![1, 2560]⟩ : Shape).Idx → EReal) : (⟨2, ![256, 2560]⟩ : Shape).Idx → EReal :=
  fun y => nrmAt h g (y 0) (y 1)
def actF (h : (⟨2, ![256, 2560]⟩ : Shape).Idx → EReal) (wg : (⟨2, ![2560, 9728]⟩ : Shape).Idx → EReal) (sg : (⟨2, ![1, 9728]⟩ : Shape).Idx → EReal)
    (wu : (⟨2, ![2560, 9728]⟩ : Shape).Idx → EReal) (su : (⟨2, ![1, 9728]⟩ : Shape).Idx → EReal) : (⟨2, ![256, 9728]⟩ : Shape).Idx → EReal :=
  fun y => actAt h wg sg wu su (y 0) (y 1)

/-- Two arrays that agree at each row and column are one. -/
theorem ext2 {M N : ℕ} {f g : (⟨2, ![M, N]⟩ : Shape).Idx → EReal} (h : ∀ (r : Fin M) (j : Fin N), f (ValueIdx.ix2 r j) = g (ValueIdx.ix2 r j)) : f = g := by
  funext y
  rw [ValueIdx.eq_ix2 y]
  exact h _ _

/-- The divisor 2560 of the reference's mean. -/
theorem ofBits_2560 : Ideal.ofBits .f32 0x45200000#32 = ((2560 : ℝ) : EReal) := by
  simp [Ideal.ofBits, Ideal.ieee, -EReal.coe_mul]; norm_num

section Kernel
open Cert.KernelIdeal Cert.KernelIdeal.Gen Cert.Proof.KernelIdeal

/-- The kernel's named reciprocal is the rational 1/2560. -/
theorem inv_n : Named.named (F := Ideal) Cert.KernelIdeal.κ "inv_n" (φ := .f32) 0x39CCCCCD#32 = ((1 / 2560 : ℝ) : EReal) :=
  IdealRules.named_const.ideal_named_scalar _ _ _ _ rfl

/-- A read through a rectangle of a buffer that holds `X` is `X` at the rectangle's index. -/
theorem readAt_rep {sp : Space} {s : Shape} {e : EltTy} (M : Memref sig .tc sp s e) (X : s.Idx → Elt Ideal e) (R : LoadRect s) :
    M.view.readAt (Elt Ideal) R (M.view.rep X) = fun x => X (R.idx x) := by
  funext x
  rw [View.readAt_apply, View.read_rep]

/-! ### The tiles at an element -/

theorem tileOV_apply (a : Vec Ideal S256x4096 .bf16) (w : FVec Ideal S4096x256 .fp8e4m3) (s : Vec Ideal S1x256 .f32) (x : Vec Ideal S256x256 .bf16)
    (r : Fin 256) (j : Fin 256) : tileOV a w s x (ValueIdx.ix2 r j) = resAt x a w s r j := by
  unfold tileOV resAt linAt
  pointwise
  rfl
theorem tileDV_apply (a : Vec Ideal S256x9728 .bf16) (w : FVec Ideal S9728x256 .fp8e4m3) (s : Vec Ideal S1x256 .f32) (h : Vec Ideal S256x256 .f32)
    (r : Fin 256) (j : Fin 256) : tileDV a w s h (ValueIdx.ix2 r j) = resAt h a w s r j := by
  unfold tileDV resAt linAt
  pointwise
  rfl
theorem projV_apply (h : Vec Ideal S256x2560 .bf16) (w : FVec Ideal S2560x512 .fp8e4m3) (s : Vec Ideal S1x512 .f32)
    (r : Fin 256) (j : Fin 512) : projV h w s (ValueIdx.ix2 r j) = linAt h w s r j := by
  unfold projV linAt
  pointwise
  rfl
theorem pay6_apply (h : Vec Ideal S256x2560 .f32) (g : Vec Ideal S1x2560 .f32) (r : Fin 256) (j : Fin 2560) :
    k0_pay6 h g (ValueIdx.ix2 r j) = nrmAt h g r j := by
  unfold k0_pay6 nrmAt
  simp only [inv_n]
  pointwise
  rfl
theorem pay7_apply (a b : FVec Ideal S256x512 .f32) (y : S256x512.Idx) :
    k0_pay7 a b y = a y * Ideal.logistic (a y) * b y := by
  unfold k0_pay7
  pointwise

/-! ### The kernel's arrays at an element -/

theorem payloadO_apply (c : Dev nD) (X) (b : Fin 10) (x : S4096x256.Idx) :
    payloadO (F := Ideal) c X b x = X ((Rect.unit (s := S4096x2560) (blkOffO b) S4096x256.size (blkOffO_inb b)).toLoadRect.idx x) := rfl
theorem payloadG_apply (c : Dev nD) (X) (b : Fin 19) (x : S2560x512.Idx) :
    payloadG (F := Ideal) c X b x = X ((Rect.unit (s := S2560x9728) (blkOffG b) S2560x512.size (blkOffG_inb b)).toLoadRect.idx x) := rfl
theorem payloadU_apply (c : Dev nD) (X) (b : Fin 19) (x : S2560x512.Idx) :
    payloadU (F := Ideal) c X b x = X ((Rect.unit (s := S2560x9728) (blkOffU b) S2560x512.size (blkOffU_inb b)).toLoadRect.idx x) := rfl
theorem payloadD_apply (c : Dev nD) (X) (b : Fin 10) (x : S9728x256.Idx) :
    payloadD (F := Ideal) c X b x = X ((Rect.unit (s := S9728x2560) (blkOffD b) S9728x256.size (blkOffD_inb b)).toLoadRect.idx x) := rfl

/-- The whole of a buffer that holds `X`, read. -/
theorem readAt_whole {s : Shape} {e : EltTy} (M : Memref sig .tc .vmem s e) (X : s.Idx → Elt Ideal e) (off : Fin s.rank → ℕ) (inb) (h0 : ∀ a, off a = 0) :
    M.view.readAt (Elt Ideal) (Rect.unit (s := s) off s.size inb).toLoadRect (M.view.rep X) = X := by
  rw [readAt_rep]
  funext x
  refine congrArg X (funext fun a => Fin.ext ?_)
  show off a + 1 * (x a).val = (x a).val
  rw [h0 a]; omega

/-- The residual stream; -/
theorem valH_apply (c : Dev nD) (XO) (X) (arg1 : Memref sig .tc .vmem S1x2560 .f32) (arg5 : Memref sig .tc .vmem S256x4096 .bf16)
    (S : Vec Ideal S1x2560 .f32) (A : Vec Ideal S256x4096 .bf16) (r : Fin 256) (j : Fin 2560) :
    valH (F := Ideal) c XO arg1 arg5 (arg1.view.rep S) (arg5.view.rep A) (GX c X) (ValueIdx.ix2 r j) = resAt X A XO S r j := by
  unfold valH tileH tileO
  rw [shapeCast_self, readAt_whole arg5 A _ _ (fun a => by fin_cases a <;> rfl), readAt_rep, GX, readAt_rep]
  refine (tileOV_apply _ _ _ _ _ _).trans ?_
  unfold resAt linAt
  refine congrArg₂ (· + ·) (congrArg X ?_) (congrArg₂ (· * ·) (Finset.sum_congr rfl fun k _ => congrArg₂ (· * ·) rfl ((payloadO_apply c XO _ _).trans (congrArg XO ?_))) (congrArg S ?_))
  · funext a; fin_cases a <;> apply Fin.ext
    · show k0_off9 (tripAt1 (ValueIdx.ix2 r j)) 0 + 1 * r.val = r.val
      rw [k0_off9_eq]; show 0 + 1 * r.val = r.val; omega
    · show k0_off9 (tripAt1 (ValueIdx.ix2 r j)) 1 + 1 * (j.val % 256) = j.val
      rw [k0_off9_eq]; show 256 * (j.val / 256) + 1 * (j.val % 256) = j.val; omega
  · funext a; fin_cases a <;> apply Fin.ext
    · show 0 + 1 * k.val = k.val; omega
    · show 256 * (Ring.bk 10 (j.val / 256)).val + 1 * (j.val % 256) = j.val
      rw [Ring.bk_val (show j.val / 256 < 10 by have := j.isLt; omega)]; omega
  · funext a; fin_cases a <;> apply Fin.ext
    · show k0_off5 (tripAt1 (ValueIdx.ix2 r j)) 0 + 1 * 0 = 0
      rw [k0_off5_eq]; rfl
    · show k0_off5 (tripAt1 (ValueIdx.ix2 r j)) 1 + 1 * (j.val % 256) = j.val
      rw [k0_off5_eq]; show 256 * (j.val / 256) + 1 * (j.val % 256) = j.val; omega
/-- its rounding is itself; -/
theorem valB_apply (c : Dev nD) (XO) (arg1 : Memref sig .tc .vmem S1x2560 .f32) (arg5 : Memref sig .tc .vmem S256x4096 .bf16) (g1 g5 gx) (y : S256x2560.Idx) :
    valB (F := Ideal) c XO arg1 arg5 g1 g5 gx y = valH (F := Ideal) c XO arg1 arg5 g1 g5 gx y := by
  unfold valB valH tileB tileH
  rw [shapeCast_self, shapeCast_self]
  rfl

/-- a projection's tile; -/
theorem gateV_apply (c : Dev nD) (XG) (arg2 : Memref sig .tc .vmem S1x9728 .f32) (S : Vec Ideal S1x9728 .f32) (H : Vec Ideal S256x2560 .bf16) (r : Fin 256) (j : Fin 9728) :
    gateV (F := Ideal) c XG arg2 (arg2.view.rep S) (hvM.view.rep H) (tripAt2 (ValueIdx.ix2 r j)) (colAt2 (ValueIdx.ix2 r j)) = linAt H XG S r j := by
  unfold gateV
  rw [readAt_whole hvM H _ _ (fun a => by fin_cases a <;> rfl), readAt_rep]
  refine (projV_apply _ _ _ _ _).trans ?_
  unfold linAt
  refine congrArg₂ (· * ·) (Finset.sum_congr rfl fun k _ => congrArg₂ (· * ·) rfl ((payloadG_apply c XG _ _).trans (congrArg XG ?_))) (congrArg S ?_)
  · funext a; fin_cases a <;> apply Fin.ext
    · show 0 + 1 * k.val = k.val; omega
    · show 512 * (Ring.bk 19 (j.val / 512)).val + 1 * (j.val % 512) = j.val
      rw [Ring.bk_val (show j.val / 512 < 19 by have := j.isLt; omega)]; omega
  · funext a; fin_cases a <;> apply Fin.ext
    · show k0_off15 (tripAt2 (ValueIdx.ix2 r j)) 0 + 1 * 0 = 0
      rw [k0_off15_eq]; rfl
    · show k0_off15 (tripAt2 (ValueIdx.ix2 r j)) 1 + 1 * (j.val % 512) = j.val
      rw [k0_off15_eq]; show 512 * (j.val / 512) + 1 * (j.val % 512) = j.val; omega
theorem upV_apply (c : Dev nD) (XU) (arg3 : Memref sig .tc .vmem S1x9728 .f32) (S : Vec Ideal S1x9728 .f32) (H : Vec Ideal S256x2560 .bf16) (r : Fin 256) (j : Fin 9728) :
    upV (F := Ideal) c XU arg3 (arg3.view.rep S) (hvM.view.rep H) (tripAt2 (ValueIdx.ix2 r j)) (colAt2 (ValueIdx.ix2 r j)) = linAt H XU S r j := by
  unfold upV
  rw [readAt_whole hvM H _ _ (fun a => by fin_cases a <;> rfl), readAt_rep]
  refine (projV_apply _ _ _ _ _).trans ?_
  unfold linAt
  refine congrArg₂ (· * ·) (Finset.sum_congr rfl fun k _ => congrArg₂ (· * ·) rfl ((payloadU_apply c XU _ _).trans (congrArg XU ?_))) (congrArg S ?_)
  · funext a; fin_cases a <;> apply Fin.ext
    · show 0 + 1 * k.val = k.val; omega
    · show 512 * (Ring.bk 19 (j.val / 512)).val + 1 * (j.val % 512) = j.val
      rw [Ring.bk_val (show j.val / 512 < 19 by have := j.isLt; omega)]; omega
  · funext a; fin_cases a <;> apply Fin.ext
    · show k0_off15 (tripAt2 (ValueIdx.ix2 r j)) 0 + 1 * 0 = 0
      rw [k0_off15_eq]; rfl
    · show k0_off15 (tripAt2 (ValueIdx.ix2 r j)) 1 + 1 * (j.val % 512) = j.val
      rw [k0_off15_eq]; show 512 * (j.val / 512) + 1 * (j.val % 512) = j.val; omega
/-- the activation; -/
theorem valF_apply (c : Dev nD) (XG XU) (arg2 arg3 : Memref sig .tc .vmem S1x9728 .f32) (S2 S3 : Vec Ideal S1x9728 .f32) (H : Vec Ideal S256x2560 .bf16)
    (r : Fin 256) (j : Fin 9728) :
    valF (F := Ideal) c XG XU arg2 arg3 (arg2.view.rep S2) (arg3.view.rep S3) (hvM.view.rep H) (ValueIdx.ix2 r j) = actAt H XG S2 XU S3 r j := by
  unfold valF tileF
  refine (pay7_apply _ _ _).trans ?_
  rw [gateV_apply, upV_apply]
  rfl
/-- the layer's output. -/
theorem valD_apply (c : Dev nD) (XD) (arg4 : Memref sig .tc .vmem S1x2560 .f32) (S : Vec Ideal S1x2560 .f32) (A : Vec Ideal S256x9728 .bf16) (H : Vec Ideal S256x2560 .f32)
    (r : Fin 256) (j : Fin 2560) :
    valD (F := Ideal) c XD arg4 (arg4.view.rep S) (actM.view.rep A) (hmM.view.rep H) (ValueIdx.ix2 r j) = resAt H A XD S r j := by
  unfold valD tileD
  rw [readAt_whole actM A _ _ (fun a => by fin_cases a <;> rfl), readAt_rep, readAt_rep]
  refine (tileDV_apply _ _ _ _ _ _).trans ?_
  unfold resAt linAt
  refine congrArg₂ (· + ·) (congrArg H ?_) (congrArg₂ (· * ·) (Finset.sum_congr rfl fun k _ => congrArg₂ (· * ·) rfl ((payloadD_apply c XD _ _).trans (congrArg XD ?_))) (congrArg S ?_))
  · funext a; fin_cases a <;> apply Fin.ext
    · show k0_off30 (tripAt3 (ValueIdx.ix2 r j)) 0 + 1 * r.val = r.val
      rw [k0_off30_eq]; show 0 + 1 * r.val = r.val; omega
    · show k0_off30 (tripAt3 (ValueIdx.ix2 r j)) 1 + 1 * (j.val % 256) = j.val
      rw [k0_off30_eq]; show 256 * (j.val / 256) + 1 * (j.val % 256) = j.val; omega
  · funext a; fin_cases a <;> apply Fin.ext
    · show 0 + 1 * k.val = k.val; omega
    · show 256 * (Ring.bk 10 (j.val / 256)).val + 1 * (j.val % 256) = j.val
      rw [Ring.bk_val (show j.val / 256 < 10 by have := j.isLt; omega)]; omega
  · funext a; fin_cases a <;> apply Fin.ext
    · show k0_off26 (tripAt3 (ValueIdx.ix2 r j)) 0 + 1 * 0 = 0
      rw [k0_off26_eq]; rfl
    · show k0_off26 (tripAt3 (ValueIdx.ix2 r j)) 1 + 1 * (j.val % 256) = j.val
      rw [k0_off26_eq]; show 256 * (j.val / 256) + 1 * (j.val % 256) = j.val; omega

/-! ### The results -/

variable (m : (ℓ : Loc nD τ sig) → Buf (Elt Ideal) ℓ)

/-- Each input window's block is its whole array. -/
theorem iblk0_eq (c : Dev nD) : iblk m c 0 t0_0 = V m c main_v0 :=
  Memref.read_access_unit_zero (Elt Ideal) main_v0 (funext fun a => by fin_cases a <;> decide) (fun a => by fin_cases a <;> decide) _
theorem iblk1_eq (c : Dev nD) : iblk m c 1 t0_0 = V m c main_v1 :=
  Memref.read_access_unit_zero (Elt Ideal) main_v1 (funext fun a => by fin_cases a <;> decide) (fun a => by fin_cases a <;> decide) _
theorem iblk2_eq (c : Dev nD) : iblk m c 2 t0_0 = V m c main_v2 :=
  Memref.read_access_unit_zero (Elt Ideal) main_v2 (funext fun a => by fin_cases a <;> decide) (fun a => by fin_cases a <;> decide) _
theorem iblk3_eq (c : Dev nD) : iblk m c 3 t0_0 = V m c main_v3 :=
  Memref.read_access_unit_zero (Elt Ideal) main_v3 (funext fun a => by fin_cases a <;> decide) (fun a => by fin_cases a <;> decide) _
theorem iblk4_eq (c : Dev nD) : iblk m c 4 t0_0 = V m c main_v4 :=
  Memref.read_access_unit_zero (Elt Ideal) main_v4 (funext fun a => by fin_cases a <;> decide) (fun a => by fin_cases a <;> decide) _
theorem iblk5_eq (c : Dev nD) : iblk m c 5 t0_0 = m ((c : Thread nD τ).loc main_arg1) :=
  (Memref.read_access_unit_zero (Elt Ideal) main_arg1 (funext fun a => by fin_cases a <;> decide) (fun a => by fin_cases a <;> decide) _).trans (V_main_arg1 m c)

/-- The residual stream as a function of the argument arrays. -/
abbrev hmK (c : Dev nD) : Vec Ideal S256x2560 .f32 :=
  resF (m ((c : Thread nD τ).loc main_arg0)) (m ((c : Thread nD τ).loc main_arg1)) (m ((c : Thread nD τ).loc main_arg3)) (V m c main_v1)
/-- the normalized one; -/
abbrev nrmK (c : Dev nD) : Vec Ideal S256x2560 .bf16 := nrmF (hmK m c) (V m c main_v0)
/-- the activation; -/
abbrev actK (c : Dev nD) : Vec Ideal S256x9728 .bf16 :=
  actF (nrmK m c) (m ((c : Thread nD τ).loc main_arg5)) (V m c main_v2) (m ((c : Thread nD τ).loc main_arg7)) (V m c main_v3)
/-- the output. -/
abbrev outK (c : Dev nD) : Vec Ideal S256x2560 .bf16 :=
  resF (hmK m c) (actK m c) (m ((c : Thread nD τ).loc main_arg9)) (V m c main_v4)

theorem valH_eq (c : Dev nD) :
    valH (F := Ideal) c (V m c main_arg3) (st0_1 t0_0) (st0_5 t0_0) (sg1 m c) (sg5 m c) (GX c (V m c main_arg0)) = hmK m c := by
  refine ext2 fun r j => ?_
  refine (valH_apply c _ _ (st0_1 t0_0) (st0_5 t0_0) _ _ r j).trans ?_
  rw [iblk1_eq, iblk5_eq, V_main_arg0, V_main_arg3]
  rfl
theorem resMid_eq (c : Dev nD) : resMid m c = hmK m c := by
  rw [← valH_eq]
  exact funext fun y => valB_apply c _ _ _ _ _ _ y
theorem mid_eq (c : Dev nD) : mid m c = hmM.view.rep (hmK m c) := by
  unfold mid GM
  rw [valH_eq]
theorem nrm_eq (c : Dev nD) : nrm m c = hvM.view.rep (nrmK m c) := by
  unfold nrm GN valN
  rw [valH_eq, View.read_rep, iblk0_eq]
  exact congrArg _ (ext2 fun r j => pay6_apply _ _ r j)
theorem valF_eq (c : Dev nD) :
    valF (F := Ideal) c (V m c main_arg5) (V m c main_arg7) (st0_2 t0_0) (st0_3 t0_0) (sg2 m c) (sg3 m c) (nrm m c) = actK m c := by
  rw [nrm_eq]
  refine ext2 fun r j => ?_
  refine (valF_apply c _ _ (st0_2 t0_0) (st0_3 t0_0) _ _ _ r j).trans ?_
  rw [iblk2_eq, iblk3_eq, V_main_arg5, V_main_arg7]
  rfl
theorem resAct_eq (c : Dev nD) : resAct m c = actK m c := valF_eq m c
theorem resOut_eq (c : Dev nD) : resOut m c = outK m c := by
  unfold resOut ACT
  rw [valF_eq, mid_eq]
  refine ext2 fun r j => ?_
  refine (valD_apply c _ (st0_4 t0_0) _ _ _ r j).trans ?_
  rw [iblk4_eq, V_main_arg9]
  rfl

end Kernel

section Ref
open Cert.ReferenceIdeal Cert.ReferenceIdeal.Gen

theorem ref_hm_apply (x : Vec Ideal S256x2560 .bf16) (a : Vec Ideal S256x4096 .bf16) (w : Vec Ideal S4096x2560 .fp8e4m3) (s : Vec Ideal S1x2560 .f32)
    (r : Fin 256) (j : Fin 2560) : k0_pay3 x a w s (ValueIdx.ix2 r j) = resAt x a w s r j := by
  unfold k0_pay3 resAt linAt
  pointwise
  rfl
theorem ref_nrm_apply (x : Vec Ideal S256x2560 .bf16) (a : Vec Ideal S256x4096 .bf16) (w : Vec Ideal S4096x2560 .fp8e4m3) (s : Vec Ideal S1x2560 .f32)
    (g : Vec Ideal S1x2560 .f32) (r : Fin 256) (j : Fin 2560) : k0_pay5 x a w s g (ValueIdx.ix2 r j) = nrmAt (k0_pay3 x a w s) g r j := by
  unfold k0_pay5 nrmAt
  generalize k0_pay3 x a w s = h
  pointwise
  simp only [ofBits_2560, Ideal.div_coe (by norm_num : (2560 : ℝ) ≠ 0)]
  rfl
theorem ref_silu_apply (x : Vec Ideal S256x2560 .bf16) (a : Vec Ideal S256x4096 .bf16) (w : Vec Ideal S4096x2560 .fp8e4m3) (s : Vec Ideal S1x2560 .f32)
    (g : Vec Ideal S1x2560 .f32) (wg : Vec Ideal S2560x9728 .fp8e4m3) (sg : Vec Ideal S1x9728 .f32) (r : Fin 256) (j : Fin 9728) :
    k0_pay6 x a w s g wg sg (ValueIdx.ix2 r j) = linAt (k0_pay5 x a w s g) wg sg r j * Ideal.logistic (linAt (k0_pay5 x a w s g) wg sg r j) := by
  unfold k0_pay6 linAt
  generalize k0_pay5 x a w s g = h
  pointwise
  rfl
theorem ref_act_apply (h : FVec Ideal S256x2560 .bf16) (q : FVec Ideal S256x9728 .f32) (wu : Vec Ideal S2560x9728 .fp8e4m3) (su : Vec Ideal S1x9728 .f32)
    (r : Fin 256) (j : Fin 9728) : k0_pay1 h q wu su (ValueIdx.ix2 r j) = q (ValueIdx.ix2 r j) * linAt h wu su r j := by
  unfold k0_pay1 linAt
  pointwise
  rfl
theorem ref_out_apply (v : FVec Ideal S256x2560 .f32) (h : FVec Ideal S256x2560 .bf16) (q : FVec Ideal S256x9728 .f32) (wu : Vec Ideal S2560x9728 .fp8e4m3)
    (su : Vec Ideal S1x9728 .f32) (wd : Vec Ideal S9728x2560 .fp8e4m3) (sd : Vec Ideal S1x2560 .f32) (r : Fin 256) (j : Fin 2560) :
    k0_pay2 v h q wu su wd sd (ValueIdx.ix2 r j) = resAt v (k0_pay1 h q wu su) wd sd r j := by
  unfold k0_pay2 resAt linAt
  generalize k0_pay1 h q wu su = a
  pointwise
  rfl

variable (m : (ℓ : Loc nD τ sig) → Buf (Elt Ideal) ℓ)

theorem hmV_eq (c : Dev nD) : Ref.hmV m c
    = resF (m ((c : Thread nD τ).loc main_arg0)) (m ((c : Thread nD τ).loc main_arg1)) (m ((c : Thread nD τ).loc main_arg3)) (V m c main_v1) :=
  ext2 fun r j => ref_hm_apply _ _ _ _ r j
theorem midV_eq (c : Dev nD) : Ref.midV m c = Ref.hmV m c := rfl
theorem nrmV_eq (c : Dev nD) : Ref.nrmV m c = nrmF (Ref.hmV m c) (V m c main_v0) := ext2 fun r j => ref_nrm_apply _ _ _ _ _ r j
theorem actV_eq (c : Dev nD) : Ref.actV m c
    = actF (Ref.nrmV m c) (m ((c : Thread nD τ).loc main_arg5)) (V m c main_v2) (m ((c : Thread nD τ).loc main_arg7)) (V m c main_v3) := by
  refine ext2 fun r j => ?_
  exact (ref_act_apply _ _ _ _ r j).trans (congrArg (· * _) (ref_silu_apply _ _ _ _ _ _ _ r j))
theorem outV_eq (c : Dev nD) : Ref.outV m c = resF (Ref.hmV m c) (Ref.actV m c) (m ((c : Thread nD τ).loc main_arg9)) (V m c main_v4) :=
  ext2 fun r j => ref_out_apply _ _ _ _ _ _ _ r j
end Ref

end Cert.Proof

end
-- ==== Proof.FrontRings.lean ====
/-
  Names for the weight ring: a column block of the weight, a slot of a ring, a slot's semaphore, a slot in flight.
-/
module

public import proofs.«01_k».proof.Defs
public import proofs.«01_k».proof.Proof.Gen.Front
public import proofs.«01_k».proof.Proof.Gen.Front.Skeleton
public import proofs.«01_k».proof.Proof.Gen.Front.Loops
public import proofs.«01_k».proof.Proof.Gen.Front.Launch
public import proofs.«01_k».proof.Proof.Gen.Front.Points
public import proofs.«01_k».proof.Proof.Gen.Front.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic

@[expose] public section

set_option maxRecDepth 16384

noncomputable section

namespace Cert.Proof.Front

open Cert.Front Cert.Front.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [BitOps F]

/-- The resource algebra: the pipeline library's, beside the counters the kernel's own copies ride on. -/
abbrev UU (nD : Nat) (τ : Topo) : Type := Pipeline.UD sig nD τ
local notation "𝕄" => MT nD τ sig Unit (Elt F) ℕ (UU nD τ) ℕ
abbrev 𝒱₀ : Variants := Variants.none

omit [BitOps F] in
theorem entails_of_eq {P Q : sProp 𝕄} (e : P = Q) : P ⊢ Q := e ▸ .rfl

abbrev xM : Memref sig .tc .hbm S256x2560 .bf16 := Memref.whole main_arg0
abbrev qM : Memref sig .tc .hbm S256x32x128 .bf16 := Memref.whole main_v12_0
abbrev kcM : Memref sig .tc .hbm S256x8x128 .fp8e4m3 := Memref.whole main_v12_1
abbrev vcM : Memref sig .tc .hbm S256x8x128 .fp8e4m3 := Memref.whole main_v12_2
abbrev xvM : Memref sig .tc .vmem S256x2560 .bf16 := Memref.whole cc0_scratch0
abbrev hvM : Memref sig .tc .vmem S256x2560 .bf16 := Memref.whole cc0_scratch1
abbrev kvM : Memref sig .tc .vmem S264x8x128 .fp8e4m3 := Memref.whole cc0_scratch2
abbrev vvM : Memref sig .tc .vmem S264x8x128 .fp8e4m3 := Memref.whole cc0_scratch3
abbrev qvM : Memref sig .tc .vmem S32x288x128 .f32 := Memref.whole cc0_scoped0
abbrev qpM : Memref sig .tc .vmem S256x32x128 .bf16 := Memref.whole cc0_scoped1
abbrev cosM : Memref sig .tc .vmem S256x128 .f32 := Memref.whole cc0_scoped2
abbrev sinM : Memref sig .tc .vmem S256x128 .f32 := Memref.whole cc0_scoped3

theorem trips1 : k0_t1_loop.trips = 32 := by decide +kernel
theorem trips2 : k0_t2_loop.trips = 8 := by decide +kernel
theorem lt1 (k : Fin k0_t1_loop.trips) : k.val < 32 := Nat.lt_of_lt_of_eq k.isLt trips1
theorem lt8 (k : Fin k0_t2_loop.trips) : k.val < 8 := Nat.lt_of_lt_of_eq k.isLt trips2
theorem lt2 (k : Fin k0_t2_loop.trips) : k.val < 12 := Nat.lt_trans (lt8 k) (by decide)
/-- The loop always issues the block three ahead. -/
theorem cond1_all : ∀ k : Fin k0_t2_loop.trips, k0_cond1 k = 1#1 := by decide +kernel

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem sl3_8 : Ring.sl 3 8 = 2 := Fin.ext (by rfl)
theorem sl3_9 : Ring.sl 3 (8 + 1) = 0 := Fin.ext (by rfl)
theorem sl3_10 : Ring.sl 3 (8 + 2) = 1 := Fin.ext (by rfl)
theorem bk12_0 : Ring.bk 12 0 = 0 := Fin.ext (by rfl)
theorem bk12_1 : Ring.bk 12 (0 + 1) = 1 := Fin.ext (by rfl)
theorem bk12_2 : Ring.bk 12 (0 + 2) = 2 := Fin.ext (by rfl)
theorem bk12_8 : Ring.bk 12 8 = 8 := Fin.ext (by rfl)
theorem bk12_9 : Ring.bk 12 (8 + 1) = 9 := Fin.ext (by rfl)
theorem bk12_10 : Ring.bk 12 (8 + 2) = 10 := Fin.ext (by rfl)
theorem bk12_11 : Ring.bk 12 (8 + 3) = 11 := Fin.ext (by rfl)

abbrev slotOff (s : Fin 3) : Fin 3 → Nat := ![s.val, 0, 0]
instance (s : Fin 3) : ClosedOff (slotOff s) := ⟨slotOff s, rfl⟩
abbrev semOff (s : Fin 3) : Fin 1 → Nat := ![s.val]
theorem semOff_inb (s : Fin 3) : ∀ a, semOff s a + S1.size a ≤ S3.size a := by
  have := s.isLt; intro a; fin_cases a; show s.val + 1 ≤ 3; omega

/-! ## The ring of the query, key and value projection -/

abbrev wMQ : Memref sig .tc .hbm S2560x6144 .fp8e4m3 := Memref.whole main_arg5
abbrev ringMQ : Memref sig .tc .vmem S3x2560x512 .fp8e4m3 := Memref.whole cc0_scratch4

abbrev blkOffQ (b : Fin 12) : Fin 2 → Nat := ![0, 512 * b.val]
theorem blkOffQ_inb (b : Fin 12) : ∀ a, blkOffQ b a + S2560x512.size a ≤ S2560x6144.size a := by
  have := b.isLt; intro a; fin_cases a
  · show 0 + 2560 ≤ 2560; omega
  · show 512 * b.val + 512 ≤ 6144; omega
theorem slotOffQ_inb (s : Fin 3) : ∀ a, slotOff s a + S1x2560x512.size a ≤ S3x2560x512.size a := by
  have := s.isLt; intro a; fin_cases a
  · show s.val + 1 ≤ 3; omega
  · show 0 + 2560 ≤ 2560; omega
  · show 0 + 512 ≤ 512; omega

/-- Column block `b` of the weight in HBM, as the body slices it. -/
def blkQ (b : Fin 12) : Memref sig .tc .hbm S2560x512 .fp8e4m3 :=
  wMQ.slice (Rect.unit (s := S2560x6144) (blkOffQ b) S2560x512.size (blkOffQ_inb b)) (fun _ => rfl)
/-- Slot `s` of the ring, as the body slices and squeezes it. -/
def rslotQ (s : Fin 3) : Memref sig .tc .vmem S2560x512 .fp8e4m3 :=
  (ringMQ.slice (Rect.unit (s := S3x2560x512) (slotOff s) S1x2560x512.size (slotOffQ_inb s)) (fun _ => rfl)).squeeze S2560x512 squeezes_S1x2560x512_S2560x512
/-- Slot `s`'s DMA semaphore. -/
def csmQ (s : Fin 3) : DmaSems sig S_ := (cc0_scratch6.slice (Rect.unit (s := S3) (semOff s) S1.size (semOff_inb s))).squeeze S_ squeezes_S1_S_

instance (b : Fin 12) : ClosedOff (blkOffQ b) := ⟨blkOffQ b, rfl⟩

theorem off3_eqQ (k : Fin k0_t2_loop.trips) : k0_off3 k = semOff (Ring.sl 3 k.val) := by
  rw [k0_off3_eq]; simp [Ring.sl, Fin.ofNat]
theorem off8_eqQ (k : Fin k0_t2_loop.trips) : k0_off8 k = semOff (Ring.sl 3 k.val) := by
  rw [k0_off8_eq]; simp [Ring.sl, Fin.ofNat]
theorem off4_eqQ (k : Fin k0_t2_loop.trips) : k0_off4 k = slotOff (Ring.sl 3 k.val) := by
  rw [k0_off4_eq]; simp [Ring.sl, Fin.ofNat]
theorem off6_eqQ (k : Fin k0_t2_loop.trips) : k0_off6 k = slotOff (Ring.sl 3 k.val) := by
  rw [k0_off6_eq]; simp [Ring.sl, Fin.ofNat]
theorem off9_eqQ (k : Fin k0_t2_loop.trips) : k0_off9 k = slotOff (Ring.sl 3 k.val) := by
  rw [k0_off9_eq]; simp [Ring.sl, Fin.ofNat]
theorem off5_eqQ (k : Fin k0_t2_loop.trips) : k0_off5 k = blkOffQ (Ring.bk 12 k.val) := by
  rw [k0_off5_eq]; unfold blkOffQ; rw [Ring.bk_val (lt2 k)]
theorem off10_eqQ (k : Fin k0_t2_loop.trips) (h : k.val + 3 < 12) : k0_off10 k = blkOffQ (Ring.bk 12 (k.val + 3)) := by
  rw [k0_off10_eq]; unfold blkOffQ; rw [Ring.bk_val h, Nat.mul_add]

/-- The slot's window at trip `k`, by the slot's number. -/
instance (k : Fin k0_t2_loop.trips) : ClosedOff (k0_off6 k) := ⟨slotOff (Ring.sl 3 k.val), off6_eqQ k⟩

theorem csmQ_congr {off : Fin 1 → Nat} {s : Fin 3} (e : off = semOff s) (hh) :
    (cc0_scratch6.slice (Rect.unit (s := S3) off S1.size hh)).squeeze S_ squeezes_S1_S_ = csmQ s :=
  congrArg (fun A : DmaSems sig S1 => A.squeeze S_ squeezes_S1_S_) (SemArray.slice_unit_congr _ e _ _)
theorem rslotQ_congr {off : Fin 3 → Nat} {s : Fin 3} (e : off = slotOff s) (hh hs) :
    (ringMQ.slice (Rect.unit (s := S3x2560x512) off S1x2560x512.size hh) hs).squeeze S2560x512 squeezes_S1x2560x512_S2560x512 = rslotQ s :=
  congrArg (fun M : Memref sig .tc .vmem S1x2560x512 .fp8e4m3 => M.squeeze S2560x512 squeezes_S1x2560x512_S2560x512) (Memref.slice_unit_congr _ e _ _ _ _)
theorem blkQ_congr {off : Fin 2 → Nat} {b : Fin 12} (e : off = blkOffQ b) (hh hs) :
    wMQ.slice (Rect.unit (s := S2560x6144) off S2560x512.size hh) hs = blkQ b :=
  Memref.slice_unit_congr _ e _ (blkOffQ_inb b) _ (fun _ => rfl)

@[sl_canon] theorem semQL0 (hh) : (cc0_scratch6.slice (Rect.unit (s := S3) ![0] S1.size hh)).squeeze S_ squeezes_S1_S_ = csmQ 0 := csmQ_congr (by decide) _
@[sl_canon] theorem slotQL0 (hh hs) : (ringMQ.slice (Rect.unit (s := S3x2560x512) ![0, 0, 0] S1x2560x512.size hh) hs).squeeze S2560x512 squeezes_S1x2560x512_S2560x512 = rslotQ 0 := rslotQ_congr (by decide) _ _
@[sl_canon] theorem blkQL0 (hh hs) : wMQ.slice (Rect.unit (s := S2560x6144) ![0, 0] S2560x512.size hh) hs = blkQ 0 := blkQ_congr (by decide) _ _
@[sl_canon] theorem semQL1 (hh) : (cc0_scratch6.slice (Rect.unit (s := S3) ![1] S1.size hh)).squeeze S_ squeezes_S1_S_ = csmQ 1 := csmQ_congr (by decide) _
@[sl_canon] theorem slotQL1 (hh hs) : (ringMQ.slice (Rect.unit (s := S3x2560x512) ![1, 0, 0] S1x2560x512.size hh) hs).squeeze S2560x512 squeezes_S1x2560x512_S2560x512 = rslotQ 1 := rslotQ_congr (by decide) _ _
@[sl_canon] theorem blkQL1 (hh hs) : wMQ.slice (Rect.unit (s := S2560x6144) ![0, 512] S2560x512.size hh) hs = blkQ 1 := blkQ_congr (by decide) _ _
@[sl_canon] theorem semQL2 (hh) : (cc0_scratch6.slice (Rect.unit (s := S3) ![2] S1.size hh)).squeeze S_ squeezes_S1_S_ = csmQ 2 := csmQ_congr (by decide) _
@[sl_canon] theorem slotQL2 (hh hs) : (ringMQ.slice (Rect.unit (s := S3x2560x512) ![2, 0, 0] S1x2560x512.size hh) hs).squeeze S2560x512 squeezes_S1x2560x512_S2560x512 = rslotQ 2 := rslotQ_congr (by decide) _ _
@[sl_canon] theorem blkQL2 (hh hs) : wMQ.slice (Rect.unit (s := S2560x6144) ![0, 1024] S2560x512.size hh) hs = blkQ 2 := blkQ_congr (by decide) _ _

@[sl_canon] theorem semQK (k : Fin k0_t2_loop.trips) (hh) :
    (cc0_scratch6.slice (Rect.unit (s := S3) (k0_off3 k) S1.size hh)).squeeze S_ squeezes_S1_S_ = csmQ (Ring.sl 3 k.val) := csmQ_congr (off3_eqQ k) _
@[sl_canon] theorem slotQK (k : Fin k0_t2_loop.trips) (hh hs) :
    (ringMQ.slice (Rect.unit (s := S3x2560x512) (k0_off4 k) S1x2560x512.size hh) hs).squeeze S2560x512 squeezes_S1x2560x512_S2560x512 = rslotQ (Ring.sl 3 k.val) := rslotQ_congr (off4_eqQ k) _ _
@[sl_canon] theorem blkQW (k : Fin k0_t2_loop.trips) (hh hs) :
    wMQ.slice (Rect.unit (s := S2560x6144) (k0_off5 k) S2560x512.size hh) hs = blkQ (Ring.bk 12 k.val) := blkQ_congr (off5_eqQ k) _ _
@[sl_canon] theorem semQK' (k : Fin k0_t2_loop.trips) (hh) :
    (cc0_scratch6.slice (Rect.unit (s := S3) (k0_off8 k) S1.size hh)).squeeze S_ squeezes_S1_S_ = csmQ (Ring.sl 3 k.val) := csmQ_congr (off8_eqQ k) _
@[sl_canon] theorem slotQK' (k : Fin k0_t2_loop.trips) (hh hs) :
    (ringMQ.slice (Rect.unit (s := S3x2560x512) (k0_off9 k) S1x2560x512.size hh) hs).squeeze S2560x512 squeezes_S1x2560x512_S2560x512 = rslotQ (Ring.sl 3 k.val) := rslotQ_congr (off9_eqQ k) _ _
@[sl_canon] theorem blkQI (k : Fin k0_t2_loop.trips) (h : k.val + 3 < 12) (hh hs) :
    wMQ.slice (Rect.unit (s := S2560x6144) (k0_off10 k) S2560x512.size hh) hs = blkQ (Ring.bk 12 (k.val + 3)) := blkQ_congr (off10_eqQ k h) _ _

/-! The four tiles after the loop. -/
@[sl_canon] theorem semQN8 (hh) : (cc0_scratch6.slice (Rect.unit (s := S3) (k0_off12 8#32) S1.size hh)).squeeze S_ squeezes_S1_S_ = csmQ 2 := csmQ_congr (by decide) _
@[sl_canon] theorem slotQN8 (hh hs) : (ringMQ.slice (Rect.unit (s := S3x2560x512) (k0_off13 8#32) S1x2560x512.size hh) hs).squeeze S2560x512 squeezes_S1x2560x512_S2560x512 = rslotQ 2 := rslotQ_congr (by decide) _ _
@[sl_canon] theorem blkQN8 (hh hs) : wMQ.slice (Rect.unit (s := S2560x6144) ![0, 4096] S2560x512.size hh) hs = blkQ 8 := blkQ_congr (by decide) _ _
theorem off14_8 : k0_off14 8#32 = slotOff 2 := by decide
instance : ClosedOff (k0_off14 8#32) := ⟨slotOff 2, off14_8⟩
@[sl_canon] theorem semQN9 (hh) : (cc0_scratch6.slice (Rect.unit (s := S3) (k0_off12 9#32) S1.size hh)).squeeze S_ squeezes_S1_S_ = csmQ 0 := csmQ_congr (by decide) _
@[sl_canon] theorem slotQN9 (hh hs) : (ringMQ.slice (Rect.unit (s := S3x2560x512) (k0_off13 9#32) S1x2560x512.size hh) hs).squeeze S2560x512 squeezes_S1x2560x512_S2560x512 = rslotQ 0 := rslotQ_congr (by decide) _ _
@[sl_canon] theorem blkQN9 (hh hs) : wMQ.slice (Rect.unit (s := S2560x6144) ![0, 4608] S2560x512.size hh) hs = blkQ 9 := blkQ_congr (by decide) _ _
theorem off14_9 : k0_off14 9#32 = slotOff 0 := by decide
instance : ClosedOff (k0_off14 9#32) := ⟨slotOff 0, off14_9⟩
@[sl_canon] theorem semQN10 (hh) : (cc0_scratch6.slice (Rect.unit (s := S3) (k0_off12 10#32) S1.size hh)).squeeze S_ squeezes_S1_S_ = csmQ 1 := csmQ_congr (by decide) _
@[sl_canon] theorem slotQN10 (hh hs) : (ringMQ.slice (Rect.unit (s := S3x2560x512) (k0_off13 10#32) S1x2560x512.size hh) hs).squeeze S2560x512 squeezes_S1x2560x512_S2560x512 = rslotQ 1 := rslotQ_congr (by decide) _ _
@[sl_canon] theorem blkQN10 (hh hs) : wMQ.slice (Rect.unit (s := S2560x6144) ![0, 5120] S2560x512.size hh) hs = blkQ 10 := blkQ_congr (by decide) _ _
theorem off14_10 : k0_off14 10#32 = slotOff 1 := by decide
instance : ClosedOff (k0_off14 10#32) := ⟨slotOff 1, off14_10⟩
@[sl_canon] theorem semQN11 (hh) : (cc0_scratch6.slice (Rect.unit (s := S3) (k0_off12 11#32) S1.size hh)).squeeze S_ squeezes_S1_S_ = csmQ 2 := csmQ_congr (by decide) _
@[sl_canon] theorem slotQN11 (hh hs) : (ringMQ.slice (Rect.unit (s := S3x2560x512) (k0_off13 11#32) S1x2560x512.size hh) hs).squeeze S2560x512 squeezes_S1x2560x512_S2560x512 = rslotQ 2 := rslotQ_congr (by decide) _ _
@[sl_canon] theorem blkQN11 (hh hs) : wMQ.slice (Rect.unit (s := S2560x6144) ![0, 5632] S2560x512.size hh) hs = blkQ 11 := blkQ_congr (by decide) _ _
theorem off14_11 : k0_off14 11#32 = slotOff 2 := by decide
instance : ClosedOff (k0_off14 11#32) := ⟨slotOff 2, off14_11⟩

section PiecesQ
variable (c : Dev nD) (XW : Buf (Elt F) (wMQ.view.loc (c : Thread nD τ)))

abbrev cellQ (s : Fin 3) : sProp 𝕄 := semVal ((c : Thread nD τ), SemLoc.dma (csmQ s).sem) 0
abbrev slotQ (s : Fin 3) (f : Buf (Elt F) ((rslotQ s).view.loc (c : Thread nD τ))) : sProp 𝕄 :=
  (rslotQ s).view.loc (c : Thread nD τ) ↦[(rslotQ s).view.set]{fullShare} f
/-- Block `b` home: held on its elements at the weight's contents. -/
abbrev homeQ (b : Fin 12) : sProp 𝕄 := (blkQ b).view.loc (c : Thread nD τ) ↦[(blkQ b).view.set]{fullShare} XW
/-- Block `b`'s elements as a slot's payload. -/
abbrev payloadQ (b : Fin 12) : S2560x512.Idx → Elt F .fp8e4m3 := ReadAs.same.apply ((blkQ b).view.read (Elt F) XW)
/-- What block `b`'s copy leaves in slot `s` over prior contents `f`: the block, written whole. -/
abbrev landedQ (s : Fin 3) (b : Fin 12) (f : Buf (Elt F) ((rslotQ s).view.loc (c : Thread nD τ))) : Buf (Elt F) ((rslotQ s).view.loc (c : Thread nD τ)) :=
  (rslotQ s).view.writes (Elt F) f [⟨Rect.whole S2560x512, payloadQ c XW b⟩]
/-- Slot `s` in flight with block `b`, issued over `f`. -/
abbrev flightQ (s : Fin 3) (b : Fin 12) (f : Buf (Elt F) ((rslotQ s).view.loc (c : Thread nD τ))) : sProp 𝕄 :=
  Transfers.Flight countersEmb (c : Thread nD τ) (SemLoc.dma (csmQ s).sem) () 40960 iprop(slotQ c s (landedQ c XW s b f) ∗ homeQ c XW b)

/-- The blocks home before trip `k`: the one about to go out beside the rest; -/
theorem homesQ_here (k : ℕ) (h : k + 3 < 12) :
    bigSep (Ring.homeSet 3 k) (homeQ c XW) = iprop(homeQ c XW (Ring.bk 12 (k + 3)) ∗ bigSep ((Ring.homeSet 3 k).erase (Ring.bk 12 (k + 3))) (homeQ c XW)) := by
  conv_lhs => rw [Ring.homeSet_out 3 k h, bigSep_insert (Ring.bkL_not_mem_erase 3 k)]
  rfl
/-- after it: the one just back beside that rest; -/
theorem homesQ_next (k : ℕ) (h : k + 3 < 12) :
    bigSep (Ring.homeSet 3 (k + 1)) (homeQ c XW) = iprop(homeQ c XW (Ring.bk 12 k) ∗ bigSep ((Ring.homeSet 3 k).erase (Ring.bk 12 (k + 3))) (homeQ c XW)) := by
  conv_lhs => rw [Ring.homeSet_succ 3 k h, bigSep_insert (Ring.bk_not_mem_erase 3 k (by omega) (by decide))]
  rfl
/-- after a trip that sends none out: the one just back beside all that were home. -/
theorem homesQ_tail (k : ℕ) (h : 12 ≤ k + 3) (hk : k < 12) :
    bigSep (Ring.homeSet 3 (k + 1)) (homeQ c XW) = iprop(homeQ c XW (Ring.bk 12 k) ∗ bigSep (Ring.homeSet 3 k) (homeQ c XW)) := by
  conv_lhs => rw [Ring.homeSet_succ_tail 3 k h hk, bigSep_insert (Ring.bk_not_mem_homeSet 3 k hk (by decide))]
  rfl

/-- Slot `s` free: its elements at anything, its semaphore at zero. -/
def freeQ (s : Fin 3) : sProp 𝕄 := iprop((∃ f, slotQ (F := F) c s f) ∗ cellQ (F := F) c s)
/-- Slot `s` in flight with block `b`. -/
def inflQ (s : Fin 3) (b : Fin 12) : sProp 𝕄 := iprop(∃ f, flightQ c XW s b f)
/-- The slot that carries block `p`: in flight while the block exists, else free. -/
@[irreducible] def roleQ (p : ℕ) : sProp 𝕄 := Ring.roleAt (freeQ (F := F) c (Ring.sl 3 p)) (inflQ c XW (Ring.sl 3 p)) p

/-- The flight a trip issues: into the slot as the earlier block's flight left it, the new block written over it. -/
theorem flightQ_after (s : Fin 3) (b b' : Fin 12) :
    flightQ c XW s b' ((rslotQ s).view.writes (Elt F) (rslotQ s).view.junk [⟨Rect.whole S2560x512, payloadQ c XW b⟩])
      = Transfers.Flight countersEmb (c : Thread nD τ) (SemLoc.dma (csmQ s).sem) () 40960
          iprop(((rslotQ s).view.loc (c : Thread nD τ) ↦[(rslotQ s).view.set]{fullShare}
                  (rslotQ s).view.writes (Elt F) (rslotQ s).view.junk [⟨Rect.whole S2560x512, payloadQ c XW b'⟩, ⟨Rect.whole S2560x512, payloadQ c XW b⟩])
                ∗ homeQ c XW b') := by
  simp only [flightQ, landedQ, slotQ, View.writes]

theorem roleQ_here (k : ℕ) (h : k < 12) : roleQ (F := F) c XW k = iprop(∃ f, flightQ c XW (Ring.sl 3 k) (Ring.bk 12 k) f) := by
  unfold roleQ; exact Ring.roleAt_of_lt _ _ k h
theorem roleQ_next (k : ℕ) (h : k + 3 < 12) :
    roleQ (F := F) c XW (k + 1 + 2) = iprop(∃ f, flightQ c XW (Ring.sl 3 k) (Ring.bk 12 (k + 3)) f) := by
  unfold roleQ; rw [Ring.sl_succ_add 3 k 2 rfl]; exact Ring.roleAt_of_lt _ _ (k + 3) h
theorem roleQ_free (k : ℕ) (h : 12 ≤ k + 3) :
    roleQ (F := F) c XW (k + 1 + 2) = iprop((∃ f, slotQ (F := F) c (Ring.sl 3 k) f) ∗ cellQ (F := F) c (Ring.sl 3 k)) := by
  unfold roleQ; rw [Ring.sl_succ_add 3 k 2 rfl]; exact Ring.roleAt_of_le _ _ (k + 3) h

/-- The ring before trip `k`: the blocks at home, and the slots by the blocks they carry next. -/
abbrev ringQ (k : ℕ) : sProp 𝕄 := iprop(bigSep (Ring.homeSet 3 k) (homeQ c XW) ∗ roleQ c XW k ∗ roleQ c XW (k + 1) ∗ roleQ c XW (k + 2))

/-- A slot's load, its unit axis dropped, is the block its copy brought. -/
theorem slotQ_load_at {off : Fin 3 → Nat} {s : Fin 3} (e : off = slotOff s) (hh) (f) (x : S2560x512.Idx → Elt F .fp8e4m3) :
    shapeCast S2560x512 (ringMQ.view.readAt (Elt F) (Rect.unit (s := S3x2560x512) off S1x2560x512.size hh).toLoadRect
      ((rslotQ s).view.writes (Elt F) f [⟨Rect.whole S2560x512, x⟩])) shapeCasts_S1x2560x512_S2560x512 = x := by
  subst e
  exact (Memref.read_squeeze_slice (Val := Elt F) ringMQ (Rect.unit (s := S3x2560x512) (slotOff s) S1x2560x512.size hh) (fun _ => rfl)
    squeezes_S1x2560x512_S2560x512 shapeCasts_S1x2560x512_S2560x512 _).symm.trans (View.read_writes_whole (rslotQ s).view _ x)
theorem slotQ_load (k : Fin k0_t2_loop.trips) :
    shapeCast S2560x512 (ringMQ.view.readAt (Elt F) (Rect.unit (s := S3x2560x512) (k0_off6 k) S1x2560x512.size (k0_off6_inb k)).toLoadRect
      ((rslotQ (Ring.sl 3 k.val)).view.writes (Elt F) (rslotQ (Ring.sl 3 k.val)).view.junk
        [⟨Rect.whole S2560x512, payloadQ c XW (Ring.bk 12 k.val)⟩])) shapeCasts_S1x2560x512_S2560x512
      = payloadQ c XW (Ring.bk 12 k.val) := slotQ_load_at (off6_eqQ k) _ _ _

end PiecesQ

end Cert.Proof.Front

end
-- ==== Proof.FrontPos.lean ====
/-
  The positions' loop: eight rows of the angle buffer a trip.
-/
module

public import proofs.«01_k».proof.Defs
public import proofs.«01_k».proof.Proof.Gen.Front
public import proofs.«01_k».proof.Proof.Gen.Front.Skeleton
public import proofs.«01_k».proof.Proof.Gen.Front.Loops
public import proofs.«01_k».proof.Proof.Gen.Front.Launch
public import proofs.«01_k».proof.Proof.Gen.Front.Points
public import proofs.«01_k».proof.Proof.Gen.Front.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.FrontRings

@[expose] public section

set_option maxRecDepth 16384

noncomputable section

namespace Cert.Proof.Front

open Cert.Front Cert.Front.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [BitOps F]

local notation "𝕄" => MT nD τ sig Unit (Elt F) ℕ (UU nD τ) ℕ

section TripP

variable (c : Dev nD)
  (arg0 : Memref sig .tc .smem S256 .i32) (harg0 : arg0.IsWhole) (arg1 : Memref sig .tc .smem S1 .f32) (harg1 : arg1.IsWhole)
  (arg2 : Memref sig .tc .smem S1 .f32) (harg2 : arg2.IsWhole) (arg3 : Memref sig .tc .vmem S1x128 .f32) (harg3 : arg3.IsWhole)
  (arg4 : Memref sig .tc .vmem S1x2560 .f32) (harg4 : arg4.IsWhole) (arg5 : Memref sig .tc .vmem S1x6144 .f32) (harg5 : arg5.IsWhole)
  (g0 : Buf (Elt F) (arg0.view.loc (c : Thread nD τ)))

abbrev p0P : sProp 𝕄 := arg0.view.loc (c : Thread nD τ) ↦[arg0.view.set]{fullShare} g0
abbrev cosP (f : Buf (Elt F) (cosM.view.loc (c : Thread nD τ))) : sProp 𝕄 := cosM.view.loc (c : Thread nD τ) ↦[cosM.view.set]{fullShare} f
abbrev tripPG (k : Fin k0_t1_loop.trips) (a : BitVec 32) : Prog (TpuEff nD τ sig (Elt F) Λ₀ .tc) (BitVec 32) :=
  k0_t1_body (F := F) arg0 harg0 arg1 harg1 arg2 harg2 arg3 harg3 arg4 harg4 arg5 harg5 xM (Memref.isWhole_whole _) wMQ (Memref.isWhole_whole _) qM (Memref.isWhole_whole _) kcM (Memref.isWhole_whole _) vcM (Memref.isWhole_whole _) xvM (Memref.isWhole_whole _) hvM (Memref.isWhole_whole _) kvM (Memref.isWhole_whole _) vvM (Memref.isWhole_whole _) ringMQ (Memref.isWhole_whole _) cc0_scratch5 cc0_scratch6 cc0_scratch7 qvM (Memref.isWhole_whole _) qpM (Memref.isWhole_whole _) cosM (Memref.isWhole_whole _) sinM (Memref.isWhole_whole _) k a

/-- The angle buffer after the loop: each row its position, in every lane. -/
def valP (y : S256x128.Idx) : Elt F .f32 := k0_pay1 (arg0.view.read (Elt F) g0 (ValueIdx.ix1 (n := 256) (y 0))) (ix2 (n0 := 1) (n1 := 128) 0 (y 1))

/-- The rows before `n` are right. -/
def GoodP (n : ℕ) (f : Buf (Elt F) (cosM.view.loc (c : Thread nD τ))) : Prop :=
  ∀ y : S256x128.Idx, (y 0).val < n → cosM.view.read (Elt F) f y = valP c arg0 g0 y

/-- A word of the positions, loaded, is the row's position. -/
theorem pos_at (n : ℕ) (hn : n < 256) {off : Fin 1 → ℕ} (e : off = ![n]) (hi) (h1) :
    arg0.view.readAt (Elt F) (Rect.unit (s := S256) off S1.size hi).toLoadRect g0 (Shape.Idx.first h1)
      = arg0.view.read (Elt F) g0 (ValueIdx.ix1 (n := 256) ⟨n, hn⟩) := by
  subst e
  refine congrArg (arg0.view.read (Elt F) g0) (funext fun a => Fin.ext ?_)
  have hx : (Shape.Idx.first h1 (0 : Fin 1)).val < 1 := (Shape.Idx.first h1 (0 : Fin 1)).isLt
  fin_cases a
  show n + 1 * (Shape.Idx.first h1 (0 : Fin 1)).val = n
  omega

/-- One more row right. -/
theorem goodP_cons (n m : ℕ) (hm : m = n + 1) (f : Buf (Elt F) (cosM.view.loc (c : Thread nD τ))) (L) {off : Fin 2 → ℕ} (ho : off = ![n, 0]) (hi)
    (w : S1x128.Idx → Elt F .f32) (v : Elt F .i32) (hw : w = k0_pay1 v)
    (hv : ∀ hn : n < 256, v = arg0.view.read (Elt F) g0 (ValueIdx.ix1 (n := 256) ⟨n, hn⟩))
    (h : GoodP c arg0 g0 n (cosM.view.writes (Elt F) f L)) :
    GoodP c arg0 g0 m (cosM.view.writes (Elt F) f (⟨Rect.unit (s := S256x128) off S1x128.size hi, w⟩ :: L)) := by
  intro y hy
  by_cases hlt : (y 0).val < n
  · rw [View.read_writes_cons_unit_of_not_mem cosM.view f _ _ L y ho 0 (.inl hlt)]
    exact h y hlt
  · have hn : n < 256 := by have : (y 0).val < 256 := (y 0).isLt; omega
    have e0 : (y 0 : Fin 256) = ⟨n, hn⟩ := Fin.ext (by show (y 0).val = n; omega)
    have ev : valP c arg0 g0 y = w (ix2 (n0 := 1) (n1 := 128) 0 (y 1)) := by
      rw [hw, hv hn]
      exact congrArg (fun r : Fin 256 => k0_pay1 (arg0.view.read (Elt F) g0 (ValueIdx.ix1 (n := 256) r)) (ix2 (n0 := 1) (n1 := 128) 0 (y 1))) e0
    rw [ev]
    refine View.read_writes_cons_unit_of_mem cosM.view f _ _ L y _ ho fun a => ?_
    fin_cases a
    · show (y 0).val = n + 0; omega
    · show (y 1).val = 0 + (y 1).val; omega

def invP (k : ℕ) (_ : BitVec 32) : sProp 𝕄 :=
  iprop(∃ f, ⌜GoodP c arg0 g0 (8 * k) f⌝ ∗ p0P c arg0 g0 ∗ cosP c f)

theorem stepP (k : Fin k0_t1_loop.trips) (a : BitVec 32) :
    invP c arg0 g0 k a ⊢ wp frame (wpE (defs₀ (F := F)) 𝒱₀ (c : Thread nD τ) none) Set.univ (tripPG arg0 harg0 arg1 harg1 arg2 harg2 arg3 harg3 arg4 harg4 arg5 harg5 k a) (invP c arg0 g0 (k.val + 1)) := by
  unfold invP
  iintro ⟨%f, %hg, H0, HC⟩
  dsimp only [tripPG]
  sl_unfold [k0_t1_body]
  sl_exec
  sl_step
  iexists _
  isplitr
  rotate_left
  · isplitl [H0]; · iexact H0
    iexact HC
  · ipureintro
    exact goodP_cons c arg0 g0 (8 * k.val + 7) _ (by omega) f _ (k0_off2_eq k ⟨7, by decide⟩) _ _ _ rfl (fun hn => pos_at c arg0 g0 _ hn (k0_off1_eq k ⟨7, by decide⟩) _ _) (
      goodP_cons c arg0 g0 (8 * k.val + 6) _ (by omega) f _ (k0_off2_eq k ⟨6, by decide⟩) _ _ _ rfl (fun hn => pos_at c arg0 g0 _ hn (k0_off1_eq k ⟨6, by decide⟩) _ _) (
      goodP_cons c arg0 g0 (8 * k.val + 5) _ (by omega) f _ (k0_off2_eq k ⟨5, by decide⟩) _ _ _ rfl (fun hn => pos_at c arg0 g0 _ hn (k0_off1_eq k ⟨5, by decide⟩) _ _) (
      goodP_cons c arg0 g0 (8 * k.val + 4) _ (by omega) f _ (k0_off2_eq k ⟨4, by decide⟩) _ _ _ rfl (fun hn => pos_at c arg0 g0 _ hn (k0_off1_eq k ⟨4, by decide⟩) _ _) (
      goodP_cons c arg0 g0 (8 * k.val + 3) _ (by omega) f _ (k0_off2_eq k ⟨3, by decide⟩) _ _ _ rfl (fun hn => pos_at c arg0 g0 _ hn (k0_off1_eq k ⟨3, by decide⟩) _ _) (
      goodP_cons c arg0 g0 (8 * k.val + 2) _ (by omega) f _ (k0_off2_eq k ⟨2, by decide⟩) _ _ _ rfl (fun hn => pos_at c arg0 g0 _ hn (k0_off1_eq k ⟨2, by decide⟩) _ _) (
      goodP_cons c arg0 g0 (8 * k.val + 1) _ (by omega) f _ (k0_off2_eq k ⟨1, by decide⟩) _ _ _ rfl (fun hn => pos_at c arg0 g0 _ hn (k0_off1_eq k ⟨1, by decide⟩) _ _) (
      goodP_cons c arg0 g0 (8 * k.val + 0) _ (by omega) f _ (k0_off2_eq k ⟨0, by decide⟩) _ _ _ rfl (fun hn => pos_at c arg0 g0 _ hn (k0_off1_eq k ⟨0, by decide⟩) _ _) (
      hg))))))))

end TripP

end Cert.Proof.Front

end
-- ==== Proof.FrontQ.lean ====
/-
  A tile of the projection by heads, its rotation and its codes; the queries' loop, run once at a symbolic trip.
-/
module

public import proofs.«01_k».proof.Defs
public import proofs.«01_k».proof.Proof.Gen.Front
public import proofs.«01_k».proof.Proof.Gen.Front.Skeleton
public import proofs.«01_k».proof.Proof.Gen.Front.Loops
public import proofs.«01_k».proof.Proof.Gen.Front.Launch
public import proofs.«01_k».proof.Proof.Gen.Front.Points
public import proofs.«01_k».proof.Proof.Gen.Front.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.FrontPos

@[expose] public section

set_option maxRecDepth 16384

noncomputable section

namespace Cert.Proof.Front

open Cert.Front Cert.Front.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [BitOps F]

local notation "𝕄" => MT nD τ sig Unit (Elt F) ℕ (UU nD τ) ℕ

/-! ## A tile and its heads -/

/-- A tile: the normalized rows against a block of the weight, scaled by column. -/
def tileV (h : Vec F S256x2560 .bf16) (w : FVec F S2560x512 .fp8e4m3) (s : Vec F S1x512 .f32) : FVec F S256x512 .f32 :=
  mulf (matmul dot_S256x2560_S2560x512_S256x512_1_0_0_1_n_n none h w (constant S256x512 .f32 0x00000000#32))
    (broadcastTo S256x512 (shapeCast S1x512 s shapeCasts_S1x512_S1x512) broadcasts_S1x512_S256x512)
/-- A tile's four heads. -/
def headV (T : FVec F S256x512 .f32) (i : Fin 4) : FVec F S256x128 .f32 :=
  match i with
  | 0 => extractStridedSlice S256x128 ![0, 0] T slices_S256x512_o0_0_S256x128
  | 1 => extractStridedSlice S256x128 ![0, 128] T slices_S256x512_o0_128_S256x128
  | 2 => extractStridedSlice S256x128 ![0, 256] T slices_S256x512_o0_256_S256x128
  | 3 => extractStridedSlice S256x128 ![0, 384] T slices_S256x512_o0_384_S256x128
/-- A head rotated by the positions' angles. -/
def ropeV (t cs sn : FVec F S256x128 .f32) : FVec F S256x128 .f32 :=
  addf (mulf t cs) (mulf (dynamicRotate 1 64#32 none t rotates_S256x128_d1) sn)
/-- A head as the queries keep it: rounded to bf16. -/
def roundV (t : FVec F S256x128 .f32) : FVec F S1x256x128 .f32 :=
  shapeCast S1x256x128 (extf .f32 (truncf .bf16 t bitsLt_bf16_f32) bitsLt_bf16_f32) shapeCasts_S256x128_S1x256x128
/-- A head's codes under a scale. -/
def codeV (t : FVec F S256x128 .f32) (v : Elt F .f32) : FVec F S256x1x128 .fp8e4m3 :=
  shapeCast S256x1x128 (truncf .fp8e4m3 (minimumf (broadcast S256x128 (Scalar.ofBits .f32 0x43E00000#32))
    (maximumf (broadcast S256x128 (Scalar.ofBits .f32 0xC3E00000#32))
      (mulf t (broadcast S256x128 (Scalar.divf (Scalar.ofBits .f32 0x3F800000#32) v))))) bitsLt_fp8e4m3_f32) shapeCasts_S256x128_S256x1x128

section TripQ

variable (c : Dev nD) (XQ : Buf (Elt F) (wMQ.view.loc (c : Thread nD τ)))
  (arg0 : Memref sig .tc .smem S256 .i32) (harg0 : arg0.IsWhole) (arg1 : Memref sig .tc .smem S1 .f32) (harg1 : arg1.IsWhole)
  (arg2 : Memref sig .tc .smem S1 .f32) (harg2 : arg2.IsWhole) (arg3 : Memref sig .tc .vmem S1x128 .f32) (harg3 : arg3.IsWhole)
  (arg4 : Memref sig .tc .vmem S1x2560 .f32) (harg4 : arg4.IsWhole) (arg5 : Memref sig .tc .vmem S1x6144 .f32) (harg5 : arg5.IsWhole)
  (g5 : Buf (Elt F) (arg5.view.loc (c : Thread nD τ)))
  (gh : Buf (Elt F) (hvM.view.loc (c : Thread nD τ))) (gc : Buf (Elt F) (cosM.view.loc (c : Thread nD τ))) (gs : Buf (Elt F) (sinM.view.loc (c : Thread nD τ)))

abbrev hvP (f : Buf (Elt F) (hvM.view.loc (c : Thread nD τ))) : sProp 𝕄 := hvM.view.loc (c : Thread nD τ) ↦[hvM.view.set]{fullShare} f
abbrev sinP (f : Buf (Elt F) (sinM.view.loc (c : Thread nD τ))) : sProp 𝕄 := sinM.view.loc (c : Thread nD τ) ↦[sinM.view.set]{fullShare} f
abbrev qvP (f : Buf (Elt F) (qvM.view.loc (c : Thread nD τ))) : sProp 𝕄 := qvM.view.loc (c : Thread nD τ) ↦[qvM.view.set]{fullShare} f
abbrev inQ : sProp 𝕄 :=
  iprop((arg5.view.loc (c : Thread nD τ) ↦[arg5.view.set]{fullShare} g5) ∗ hvP c gh ∗ cosP c gc ∗ sinP c gs)
abbrev tripQG (v21 : FVec F S256x128 .f32) (v22 : IVec S1x128 32) (v26 : FVec F S256x128 .f32) (k : Fin k0_t2_loop.trips) (a : BitVec 32) :
    Prog (TpuEff nD τ sig (Elt F) Λ₀ .tc) (BitVec 32) :=
  k0_t2_body (F := F) arg0 harg0 arg1 harg1 arg2 harg2 arg3 harg3 arg4 harg4 arg5 harg5 xM (Memref.isWhole_whole _) wMQ (Memref.isWhole_whole _) qM (Memref.isWhole_whole _) kcM (Memref.isWhole_whole _) vcM (Memref.isWhole_whole _) xvM (Memref.isWhole_whole _) hvM (Memref.isWhole_whole _) kvM (Memref.isWhole_whole _) vvM (Memref.isWhole_whole _) ringMQ (Memref.isWhole_whole _) cc0_scratch5 cc0_scratch6 cc0_scratch7 qvM (Memref.isWhole_whole _) qpM (Memref.isWhole_whole _) cosM (Memref.isWhole_whole _) sinM (Memref.isWhole_whole _) v21 v22 v26 k a

/-- The scales of a block's columns. -/
abbrev sOff (b : Fin 12) : Fin 2 → Nat := ![0, 512 * b.val]
theorem sOff_inb (b : Fin 12) : ∀ a, sOff b a + S1x512.size a ≤ S1x6144.size a := by
  have := b.isLt; intro a; fin_cases a
  · show 0 + 1 ≤ 1; omega
  · show 512 * b.val + 512 ≤ 6144; omega
def sQ (b : Fin 12) : Vec F S1x512 .f32 := arg5.view.readAt (Elt F) (Rect.unit (s := S1x6144) (sOff b) S1x512.size (sOff_inb b)).toLoadRect g5
theorem sQ_at (b : Fin 12) {off : Fin 2 → ℕ} (e : off = sOff b) (hi) :
    arg5.view.readAt (Elt F) (Rect.unit (s := S1x6144) off S1x512.size hi).toLoadRect g5 = sQ c arg5 g5 b := by subst e; rfl

/-- The tile of block `b`, over the operands' contents. -/
def tileQ (b : Fin 12) : FVec F S256x512 .f32 :=
  tileV (hvM.view.readAt (Elt F) (Rect.unit (s := S256x2560) ![0, 0] S256x2560.size inb_S256x2560_S256x2560_0_0).toLoadRect gh)
    (payloadQ c XQ b) (sQ c arg5 g5 b)
abbrev cosV : FVec F S256x128 .f32 := cosM.view.readAt (Elt F) (Rect.unit (s := S256x128) ![0, 0] S256x128.size inb_S256x128_S256x128_0_0).toLoadRect gc
abbrev sinV : FVec F S256x128 .f32 := sinM.view.readAt (Elt F) (Rect.unit (s := S256x128) ![0, 0] S256x128.size inb_S256x128_S256x128_0_0).toLoadRect gs
/-- A head of a tile, rotated. -/
def rotQ (b : Fin 12) (i : Fin 4) : FVec F S256x128 .f32 := ropeV (headV (tileQ c XQ arg5 g5 gh b) i) (cosV c gc) (sinV c gs)

/-- A tile, from the slot its block was brought to. -/
theorem tileQ_at (b : Fin 12) (s : Fin 3) {off : Fin 3 → ℕ} (e : off = slotOff s) (hi) (f) {off' : Fin 2 → ℕ} (e' : off' = sOff b) (hi') :
    tileV (hvM.view.readAt (Elt F) (Rect.unit (s := S256x2560) ![0, 0] S256x2560.size inb_S256x2560_S256x2560_0_0).toLoadRect gh)
      (shapeCast S2560x512 (ringMQ.view.readAt (Elt F) (Rect.unit (s := S3x2560x512) off S1x2560x512.size hi).toLoadRect
        ((rslotQ s).view.writes (Elt F) f [⟨Rect.whole S2560x512, payloadQ c XQ b⟩])) shapeCasts_S1x2560x512_S2560x512)
      (arg5.view.readAt (Elt F) (Rect.unit (s := S1x6144) off' S1x512.size hi').toLoadRect g5) = tileQ c XQ arg5 g5 gh b := by
  rw [slotQ_load_at e hi f, sQ_at c arg5 g5 b e' hi', tileQ]
/-- The same of a slot written twice. -/
theorem tileQ_at2 (b : Fin 12) (s : Fin 3) {off : Fin 3 → ℕ} (e : off = slotOff s) (hi) (f w x) (hx : x = payloadQ c XQ b) {off' : Fin 2 → ℕ} (e' : off' = sOff b) (hi') :
    tileV (hvM.view.readAt (Elt F) (Rect.unit (s := S256x2560) ![0, 0] S256x2560.size inb_S256x2560_S256x2560_0_0).toLoadRect gh)
      (shapeCast S2560x512 (ringMQ.view.readAt (Elt F) (Rect.unit (s := S3x2560x512) off S1x2560x512.size hi).toLoadRect
        ((rslotQ s).view.writes (Elt F) f [⟨Rect.whole S2560x512, x⟩, ⟨Rect.whole S2560x512, w⟩])) shapeCasts_S1x2560x512_S2560x512)
      (arg5.view.readAt (Elt F) (Rect.unit (s := S1x6144) off' S1x512.size hi').toLoadRect g5) = tileQ c XQ arg5 g5 gh b := by
  have h2 := View.writes_append (Val := Elt F) (v := (rslotQ s).view) (f := f) [⟨Rect.whole S2560x512, x⟩] [⟨Rect.whole S2560x512, w⟩]
  rw [List.singleton_append] at h2
  rw [h2, hx]
  exact tileQ_at c XQ arg5 g5 gh b s e hi _ e' hi'

/-- The queries, rotated and rounded, by head and row. -/
def valQ (y : S32x288x128.Idx) : Elt F .f32 :=
  roundV (rotQ c XQ arg5 g5 gh gc gs (Ring.bk 12 ((y 0).val / 4)) ⟨(y 0).val % 4, Nat.mod_lt _ (by decide)⟩)
    (ValueIdx.ix3 (n0 := 1) (n1 := 256) (n2 := 128) 0 ⟨(y 1).val % 256, Nat.mod_lt _ (by decide)⟩ (y 2))
/-- The heads before `n` are right. -/
def GoodQ (n : ℕ) (f : Buf (Elt F) (qvM.view.loc (c : Thread nD τ))) : Prop :=
  ∀ y : S32x288x128.Idx, (y 0).val < n → (y 1).val < 256 → qvM.view.read (Elt F) f y = valQ c XQ arg5 g5 gh gc gs y

theorem goodQ_cons (n m : ℕ) (hm : m = n + 1) (f : Buf (Elt F) (qvM.view.loc (c : Thread nD τ))) (L) {off : Fin 3 → ℕ} (ho : off = ![n, 0, 0]) (hi)
    (w : S1x256x128.Idx → Elt F .f32) (b i) (hb : b = Ring.bk 12 (n / 4)) (hi4 : i.val = n % 4) (hw : w = roundV (rotQ c XQ arg5 g5 gh gc gs b i))
    (h : GoodQ c XQ arg5 g5 gh gc gs n (qvM.view.writes (Elt F) f L)) :
    GoodQ c XQ arg5 g5 gh gc gs m (qvM.view.writes (Elt F) f (⟨Rect.unit (s := S32x288x128) off S1x256x128.size hi, w⟩ :: L)) := by
  intro y hy hy1
  by_cases hlt : (y 0).val < n
  · rw [View.read_writes_cons_unit_of_not_mem qvM.view f _ _ L y ho 0 (.inl hlt)]
    exact h y hlt hy1
  · have e0 : (y 0).val = n := by omega
    have ei : i = ⟨(y 0).val % 4, Nat.mod_lt _ (by decide)⟩ := Fin.ext (by rw [hi4]; show n % 4 = (y 0).val % 4; rw [e0])
    have ev : valQ c XQ arg5 g5 gh gc gs y = w (ValueIdx.ix3 (n0 := 1) (n1 := 256) (n2 := 128) 0 ⟨(y 1).val % 256, Nat.mod_lt _ (by decide)⟩ (y 2)) := by
      rw [hw, show b = Ring.bk 12 ((y 0).val / 4) by rw [hb, e0], ei, valQ]
    rw [ev]
    refine View.read_writes_cons_unit_of_mem qvM.view f _ _ L y _ ho fun a => ?_
    fin_cases a
    · show (y 0).val = n + 0; omega
    · show (y 1).val = 0 + (y 1).val % 256; omega
    · show (y 2).val = 0 + (y 2).val; omega

def resQ (k : ℕ) (f : Buf (Elt F) (qvM.view.loc (c : Thread nD τ))) : sProp 𝕄 :=
  iprop(inQ c arg5 g5 gh gc gs ∗ qvP c f ∗ (∃ W, owes (c : Thread nD τ) 0 W) ∗ ringQ c XQ k)
def invQ (k : ℕ) (_ : BitVec 32) : sProp 𝕄 := iprop(∃ f, ⌜GoodQ c XQ arg5 g5 gh gc gs (4 * k) f⌝ ∗ resQ c XQ arg5 g5 gh gc gs k f)

theorem stepQ (v21 : FVec F S256x128 .f32) (v22 : IVec S1x128 32) (v26 : FVec F S256x128 .f32) (k : Fin k0_t2_loop.trips) (a : BitVec 32) :
    invQ c XQ arg5 g5 gh gc gs k a ⊢ wp frame (wpE (defs₀ (F := F)) 𝒱₀ (c : Thread nD τ) none) Set.univ (tripQG arg0 harg0 arg1 harg1 arg2 harg2 arg3 harg3 arg4 harg4 arg5 harg5 v21 v22 v26 k a) (invQ c XQ arg5 g5 gh gc gs (k.val + 1)) := by
  have hk : k.val < 12 := lt2 k
  have h : k.val + 3 < 12 := by have := lt8 k; omega
  have hc : k0_cond1 k = 1#1 := cond1_all k
  unfold invQ resQ ringQ
  rw [roleQ_next _ _ _ h, homesQ_next _ _ _ h, homesQ_here _ _ _ h, roleQ_here _ _ _ hk]
  iintro ⟨%f, %hg, ⟨H5, HN, HC, HS⟩, HQ, ⟨%W, HW⟩, ⟨Hg, Hrest⟩, ⟨%f0, HF0⟩, HR1, HR2⟩
  dsimp only [tripQG]
  sl_unfold [k0_t2_body]
  sl_exec
  sl_step
  iexists _
  isplitr
  rotate_left
  · isplitl [H5 HN HC HS]
    · isplitl [H5]; · iexact H5
      isplitl [HN]; · iexact HN
      isplitl [HC]; · iexact HC
      iexact HS
    isplitl [HQ]; · iexact HQ
    isplitl [HW]; · iexists _; iexact HW
    isplitl [HF0_src Hrest]
    · isplitl [HF0_src]; · iexact HF0_src
      iexact Hrest
    isplitl [HR1]; · iexact HR1
    isplitl [HR2]; · iexact HR2
    iexists ((rslotQ (Ring.sl 3 k.val)).view.writes (Elt F) (rslotQ (Ring.sl 3 k.val)).view.junk [⟨Rect.whole S2560x512, payloadQ c XQ (Ring.bk 12 k.val)⟩])
    irw [flightQ_after]
    iexact HF0
  · ipureintro
    have eT := tileQ_at c XQ arg5 g5 gh (Ring.bk 12 k.val) (Ring.sl 3 k.val) (off6_eqQ k) (k0_off6_inb k) (rslotQ (Ring.sl 3 k.val)).view.junk
      (off' := k0_off7 k) (by rw [k0_off7_eq]; unfold sOff; rw [Ring.bk_val hk]) (k0_off7_inb k)
    have hb : ∀ r : ℕ, r < 4 → Ring.bk 12 k.val = Ring.bk 12 ((4 * k.val + r) / 4) := fun r hr => by
      rw [show (4 * k.val + r) / 4 = k.val by omega]
    have hr : ∀ r : ℕ, r < 4 → r = (4 * k.val + r) % 4 := fun r hr => by omega
    exact goodQ_cons c XQ arg5 g5 gh gc gs (4 * k.val + 3) _ (by omega) f _ (k0_off11_eq k ⟨3, by decide⟩) _ _ _ 3 (hb 3 (by decide)) (hr 3 (by decide)) (by rw [rotQ, ← eT]; rfl) (
      goodQ_cons c XQ arg5 g5 gh gc gs (4 * k.val + 2) _ (by omega) f _ (k0_off11_eq k ⟨2, by decide⟩) _ _ _ 2 (hb 2 (by decide)) (hr 2 (by decide)) (by rw [rotQ, ← eT]; rfl) (
      goodQ_cons c XQ arg5 g5 gh gc gs (4 * k.val + 1) _ (by omega) f _ (k0_off11_eq k ⟨1, by decide⟩) _ _ _ 1 (hb 1 (by decide)) (hr 1 (by decide)) (by rw [rotQ, ← eT]; rfl) (
      goodQ_cons c XQ arg5 g5 gh gc gs (4 * k.val + 0) _ (by omega) f _ (k0_off11_eq k ⟨0, by decide⟩) _ _ _ 0 (hb 0 (by decide)) (hr 0 (by decide)) (by rw [rotQ, ← eT]; rfl) (
      hg))))

end TripQ

end Cert.Proof.Front

end
-- ==== Proof.FrontBlocks.lean ====
/-
  The weight whole as its blocks, and the ring as its slots.
-/
module

public import proofs.«01_k».proof.Defs
public import proofs.«01_k».proof.Proof.Gen.Front
public import proofs.«01_k».proof.Proof.Gen.Front.Skeleton
public import proofs.«01_k».proof.Proof.Gen.Front.Loops
public import proofs.«01_k».proof.Proof.Gen.Front.Launch
public import proofs.«01_k».proof.Proof.Gen.Front.Points
public import proofs.«01_k».proof.Proof.Gen.Front.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.FrontRings

@[expose] public section

set_option maxRecDepth 16384

noncomputable section

namespace Cert.Proof.Front

open Cert.Front Cert.Front.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [BitOps F]

local notation "𝕄" => MT nD τ sig Unit (Elt F) ℕ (UU nD τ) ℕ

omit [BitOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

omit [BitOps F] in
theorem blocks_mono {s : Finset (Fin 12)} {Φ Ψ : Fin 12 → sProp 𝕄} (h : ∀ b, Φ b ⊢ Ψ b) : bigSep s Φ ⊢ bigSep s Ψ := bigSep_mono fun b _ => h b

abbrev GBQ (b : Fin 12) : Finset S2560x6144.Idx := (Rect.unit (s := S2560x6144) (blkOffQ b) S2560x512.size (blkOffQ_inb b)).set
abbrev SBQ (s : Fin 3) : Finset S3x2560x512.Idx := (Rect.unit (s := S3x2560x512) (slotOff s) S1x2560x512.size (slotOffQ_inb s)).set
theorem blkQ_set (b : Fin 12) : (blkQ b).view.set = GBQ b := View.set_slice_whole _ _
theorem rslotQ_set (s : Fin 3) : (rslotQ s).view.set = SBQ s := (View.set_reshape _ _).trans (View.set_slice_whole _ _)
theorem mem_GBQ (b : Fin 12) (y : S2560x6144.Idx) : y ∈ GBQ b ↔ (y 1).val / 512 = b.val := by
  rw [Rect.mem_set_unit]
  have h0 : (y 0).val < 2560 := (y 0).isLt
  constructor
  · intro H; have a1 : 512 * b.val ≤ (y 1).val ∧ (y 1).val < 512 * b.val + 512 := H 1; omega
  · intro H i; fin_cases i
    · show 0 ≤ (y 0).val ∧ (y 0).val < 0 + 2560; omega
    · show 512 * b.val ≤ (y 1).val ∧ (y 1).val < 512 * b.val + 512; omega
theorem GBQ_disjoint : ∀ b b' : Fin 12, b ≠ b' → Disjoint (GBQ b) (GBQ b') := by
  intro b b' hne; rw [Finset.disjoint_left]; intro y hy hy'; rw [mem_GBQ] at hy hy'; exact hne (Fin.ext (hy.symm.trans hy'))
theorem GBQ_cover : (Finset.univ : Finset (Fin 12)).biUnion GBQ = Finset.univ := by
  ext y; simp only [Finset.mem_biUnion, Finset.mem_univ, true_and, iff_true]
  exact ⟨⟨(y 1).val / 512, by have : (y 1).val < 6144 := (y 1).isLt; omega⟩, by rw [mem_GBQ]⟩
theorem mem_SBQ (s : Fin 3) (y : S3x2560x512.Idx) : y ∈ SBQ s ↔ (y 0).val = s.val := by
  rw [Rect.mem_set_unit]
  have h1 : (y 1).val < 2560 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2560; omega
    · show 0 ≤ (y 2).val ∧ (y 2).val < 0 + 512; omega
theorem SBQ_disjoint : ∀ s s' : Fin 3, s ≠ s' → Disjoint (SBQ s) (SBQ s') := by
  intro s s' hne; rw [Finset.disjoint_left]; intro y hy hy'; rw [mem_SBQ] at hy hy'; exact hne (Fin.ext (hy.symm.trans hy'))
theorem SBQ_cover : (Finset.univ : Finset (Fin 3)).biUnion SBQ = Finset.univ := by
  ext y; simp only [Finset.mem_biUnion, Finset.mem_univ, true_and, iff_true]
  exact ⟨⟨(y 0).val, (y 0).isLt⟩, by rw [mem_SBQ]⟩

/-- The weight whole is its blocks home; -/
theorem wQ_eq (c : Dev nD) (X : Buf (Elt F) ((c : Thread nD τ).loc main_arg5)) :
    (((c : Thread nD τ).loc main_arg5) ↦{fullShare} X : sProp 𝕄) = bigSep Finset.univ (homeQ c X) := by
  rw [Ring.pointsTo_blocks (ℓ := (c : Thread nD τ).loc main_arg5) GBQ GBQ_disjoint GBQ_cover]
  exact bigSep_congr fun b _ => by rw [← blkQ_set]; rfl
/-- at the body's entry, blocks 0, 1 and 2 apart from the rest; -/
theorem homesQ_zero (c : Dev nD) (XW : Buf (Elt F) (wMQ.view.loc (c : Thread nD τ))) :
    bigSep Finset.univ (homeQ c XW) = iprop(homeQ c XW 0 ∗ homeQ c XW 1 ∗ homeQ c XW 2 ∗ bigSep (Ring.homeSet 3 0) (homeQ c XW)) := by
  have e : (Finset.univ : Finset (Fin 12)) = insert 0 (insert 1 (insert 2 (Ring.homeSet (NB := 12) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]),
    bigSep_insert (by simp [Ring.mem_homeSet])]; rfl
/-- at its end all of them. -/
theorem homesQ_end : Ring.homeSet (NB := 12) 3 12 = Finset.univ := by
  ext b; simp only [Finset.mem_univ, Ring.mem_homeSet, iff_true]; have := b.isLt; omega

omit [BitOps F] in
theorem slotQ_eq (c : Dev nD) (s : Fin 3) (f) : slotQ (F := F) c s f = (((c : Thread nD τ).loc cc0_scratch4) ↦[SBQ s]{fullShare} f : sProp 𝕄) :=
  congrArg (fun S => (_ ↦[S]{fullShare} f : sProp 𝕄)) (rslotQ_set s)
/-- The ring whole is its three slots, and back. -/
theorem ringQ_split (c : Dev nD) :
    iprop(∃ f : Buf (Elt F) ((c : Thread nD τ).loc cc0_scratch4), ((c : Thread nD τ).loc cc0_scratch4) ↦{fullShare} f)
      ⊢ (iprop((∃ f, slotQ (F := F) c 0 f) ∗ (∃ f, slotQ (F := F) c 1 f) ∗ ∃ f, slotQ (F := F) c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch4) SBQ SBQ_disjoint SBQ_cover f).trans (bigSep_fin3 _))) $$ H
  icases H2 with ⟨H0, H1, H2⟩
  isplitl [H0]
  · iexists f; iapply (entails_of_eq (slotQ_eq c 0 f).symm); iexact H0
  isplitl [H1]
  · iexists f; iapply (entails_of_eq (slotQ_eq c 1 f).symm); iexact H1
  · iexists f; iapply (entails_of_eq (slotQ_eq c 2 f).symm); iexact H2
theorem ringQ_join (c : Dev nD) :
    iprop((∃ f, slotQ (F := F) c 0 f) ∗ (∃ f, slotQ (F := F) c 1 f) ∗ ∃ f, slotQ (F := F) c 2 f)
      ⊢ (iprop(∃ f : Buf (Elt F) ((c : Thread nD τ).loc cc0_scratch4), ((c : Thread nD τ).loc cc0_scratch4) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch4) SBQ SBQ_disjoint SBQ_cover f0)
  irw [bigSep_fin3]
  isplitl [H0]
  · iexists f0; iapply (entails_of_eq (slotQ_eq c 0 f0)); iexact H0
  isplitl [H1]
  · iexists f1; iapply (entails_of_eq (slotQ_eq c 1 f1)); iexact H1
  · iexists f2; iapply (entails_of_eq (slotQ_eq c 2 f2)); iexact H2

end Cert.Proof.Front

end
-- ==== Proof.FrontCodes.lean ====
/-
  The values after the queries' loop: the queries packed by row, and the keys' and the values' codes.
-/
module

public import proofs.«01_k».proof.Defs
public import proofs.«01_k».proof.Proof.Gen.Front
public import proofs.«01_k».proof.Proof.Gen.Front.Skeleton
public import proofs.«01_k».proof.Proof.Gen.Front.Loops
public import proofs.«01_k».proof.Proof.Gen.Front.Launch
public import proofs.«01_k».proof.Proof.Gen.Front.Points
public import proofs.«01_k».proof.Proof.Gen.Front.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Pointwise.ShapeOpsCore
public import Idealize.ShloMosaic.Lib.Tactic
public import proofs.«01_k».proof.Proof.FrontQ

@[expose] public section

set_option maxRecDepth 16384

noncomputable section

namespace Cert.Proof.Front

open Cert.Front Cert.Front.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [BitOps F]

local notation "𝕄" => MT nD τ sig Unit (Elt F) ℕ (UU nD τ) ℕ

/-! ## The codes' buffers -/

section Codes

variable (c : Dev nD) (M : Memref sig .tc .vmem S264x8x128 .fp8e4m3)

/-- The rows of a codes' buffer that are copied out. -/
abbrev rowsC : Rect S264x8x128 := Rect.unit (s := S264x8x128) ![0, 0, 0] S256x8x128.size inb_S264x8x128_S256x8x128_0_0_0

/-- The heads before `n` are right. -/
def GoodC (val : S256x8x128.Idx → Elt F .fp8e4m3) (n : ℕ) (f : Buf (Elt F) (M.view.loc (c : Thread nD τ))) : Prop :=
  ∀ y : S256x8x128.Idx, (y 1).val < n → M.view.read (Elt F) f (rowsC.emb y) = val y

/-- One more head's codes stored: the words of its four heads as loaded, its own row of each put in. -/
theorem goodC_cons (val : S256x8x128.Idx → Elt F .fp8e4m3) (j i n m : ℕ) (hn : n = 4 * j + i) (hi4 : i < 4) (hj : j < 2) (hm : m = n + 1)
    (L) {off : Fin 3 → ℕ} (ho : off = ![0, 4 * j, 0]) (hi)
    {st : Fin 3 → ℕ} (hst : st = ![0, i, 0]) (hs) (pay : S256x1x128.Idx → Elt F .fp8e4m3) (w old)
    (hw : w = updateSlice old pay st hs)
    (hold : i = 0 ∨ old = M.view.readCov (Val := Elt F) L (Rect.unit (s := S264x8x128) off S256x4x128.size hi).toLoadRect)
    (hp : ∀ y : S256x8x128.Idx, (y 1).val = n → val y = pay (ValueIdx.ix3 (n0 := 256) (n1 := 1) (n2 := 128) (y 0) 0 (y 2)))
    (h : ∀ f, GoodC c M val n (M.view.writes (Elt F) f L)) :
    ∀ f, GoodC c M val m (M.view.writes (Elt F) f (⟨Rect.unit (s := S264x8x128) off S256x4x128.size hi, w⟩ :: L)) := by
  intro f
  intro y hy
  have ez : ∀ a : Fin 3, (rowsC.emb y a).val = (y a).val := fun a => by fin_cases a <;> (show 0 + 1 * _ = _; omega)
  have z0 := ez 0; have z1 := ez 1; have z2 := ez 2
  have y0 : (y 0).val < 256 := (y 0).isLt
  have y2 : (y 2).val < 128 := (y 2).isLt
  by_cases hlo : (y 1).val < 4 * j
  · rw [View.read_writes_cons_unit_of_not_mem M.view f _ _ L _ ho 1 (.inl (by show (rowsC.emb y 1).val < 4 * j; omega))]
    exact h f y (by omega)
  · have hx : (y 1).val - 4 * j < 4 := by omega
    have key := View.read_writes_cons_unit_of_mem M.view f hi w L (rowsC.emb y) (ValueIdx.ix3 (n0 := 256) (n1 := 4) (n2 := 128) (y 0) ⟨(y 1).val - 4 * j, hx⟩ (y 2)) ho
      (fun a => by
        fin_cases a
        · show (rowsC.emb y 0).val = 0 + (y 0).val; omega
        · show (rowsC.emb y 1).val = 4 * j + ((y 1).val - 4 * j); omega
        · show (rowsC.emb y 2).val = 0 + (y 2).val; omega)
    refine key.trans ?_
    subst hw hst ho
    rw [updateSlice_apply]
    by_cases hlt : (y 1).val < n
    · have hold' : old = M.view.readAt (Elt F) (Rect.unit (s := S264x8x128) ![0, 4 * j, 0] S256x4x128.size hi).toLoadRect (M.view.writes (Elt F) M.view.junk L) :=
        hold.resolve_left (by omega)
      rw [dif_neg (fun H => by have H1 : i ≤ (y 1).val - 4 * j := (H 1).1; omega), ← h M.view.junk y hlt, hold']
      refine congrArg (M.view.read (Elt F) (M.view.writes (Elt F) M.view.junk L)) (funext fun a => Fin.ext ?_)
      fin_cases a
      · show 0 + 1 * (y 0).val = (rowsC.emb y 0).val; omega
      · show 4 * j + 1 * ((y 1).val - 4 * j) = (rowsC.emb y 1).val; omega
      · show 0 + 1 * (y 2).val = (rowsC.emb y 2).val; omega
    · rw [dif_pos (fun a => by
        fin_cases a
        · show 0 ≤ (y 0).val ∧ (y 0).val < 0 + 256; omega
        · show i ≤ (y 1).val - 4 * j ∧ (y 1).val - 4 * j < i + 1; omega
        · show 0 ≤ (y 2).val ∧ (y 2).val < 0 + 128; omega), hp y (by omega)]
      refine congrArg pay (funext fun a => Fin.ext ?_)
      fin_cases a
      · show (y 0).val - 0 = (y 0).val; omega
      · show ((y 1).val - 4 * j) - i = 0; omega
      · show (y 2).val - 0 = (y 2).val; omega

end Codes

/-! ## The tail's values -/

section Tail

variable (c : Dev nD) (XQ : Buf (Elt F) (wMQ.view.loc (c : Thread nD τ)))
  (arg0 : Memref sig .tc .smem S256 .i32) (harg0 : arg0.IsWhole) (arg1 : Memref sig .tc .smem S1 .f32) (harg1 : arg1.IsWhole)
  (arg2 : Memref sig .tc .smem S1 .f32) (harg2 : arg2.IsWhole) (arg3 : Memref sig .tc .vmem S1x128 .f32) (harg3 : arg3.IsWhole)
  (arg4 : Memref sig .tc .vmem S1x2560 .f32) (harg4 : arg4.IsWhole) (arg5 : Memref sig .tc .vmem S1x6144 .f32) (harg5 : arg5.IsWhole)
  (g1 : Buf (Elt F) (arg1.view.loc (c : Thread nD τ))) (g2 : Buf (Elt F) (arg2.view.loc (c : Thread nD τ)))
  (g5 : Buf (Elt F) (arg5.view.loc (c : Thread nD τ)))
  (gh : Buf (Elt F) (hvM.view.loc (c : Thread nD τ))) (gc : Buf (Elt F) (cosM.view.loc (c : Thread nD τ))) (gs : Buf (Elt F) (sinM.view.loc (c : Thread nD τ)))

/-- The queries' head `h`, as kept. -/
def stQ (h : ℕ) : FVec F S1x256x128 .f32 := roundV (rotQ c XQ arg5 g5 gh gc gs (Ring.bk 12 (h / 4)) ⟨h % 4, Nat.mod_lt _ (by decide)⟩)
/-- A head of the queries' buffer, loaded. -/
theorem head_at (f : Buf (Elt F) (qvM.view.loc (c : Thread nD τ))) (hf : GoodQ c XQ arg5 g5 gh gc gs 32 f) (h : ℕ) (hh : h < 32) {off : Fin 3 → ℕ} (e : off = ![h, 0, 0]) (hi) :
    qvM.view.readAt (Elt F) (Rect.unit (s := S32x288x128) off S1x256x128.size hi).toLoadRect f = stQ c XQ arg5 g5 gh gc gs h := by
  subst e
  funext x
  have x0 : (x 0).val < 1 := (x 0).isLt
  have x1 : (x 1).val < 256 := (x 1).isLt
  obtain ⟨y, hy⟩ : ∃ y : S32x288x128.Idx, y = (Rect.unit (s := S32x288x128) ![h, 0, 0] S1x256x128.size hi).emb x := ⟨_, rfl⟩
  have y0 : (y 0).val = h := by rw [hy]; show h + 1 * (x 0).val = h; omega
  have y1 : (y 1).val = (x 1).val := by rw [hy]; show 0 + 1 * (x 1).val = _; omega
  have y2 : (y 2).val = (x 2).val := by rw [hy]; show 0 + 1 * (x 2).val = _; omega
  have key := hf y (by omega) (by omega)
  refine Eq.trans (congrArg (qvM.view.read (Elt F) f) hy.symm) (key.trans ?_)
  unfold valQ stQ
  have e0 : (⟨(y 0).val % 4, Nat.mod_lt _ (by decide)⟩ : Fin 4) = ⟨h % 4, Nat.mod_lt _ (by decide)⟩ := Fin.ext (by show (y 0).val % 4 = h % 4; rw [y0])
  have e1 : Ring.bk 12 ((y 0).val / 4) = Ring.bk 12 (h / 4) := by rw [y0]
  rw [e1, e0]
  refine congrArg _ (funext fun a => Fin.ext ?_)
  fin_cases a
  · show 0 = (x 0).val; omega
  · show (y 1).val % 256 = (x 1).val; omega
  · exact y2

/-- The queries by row, two heads at a time. -/
def valP2 (y : S256x32x128.Idx) : Elt F .bf16 :=
  k0_pay25 (stQ c XQ arg5 g5 gh gc gs (2 * ((y 1).val / 2))) (stQ c XQ arg5 g5 gh gc gs (2 * ((y 1).val / 2) + 1))
    (ValueIdx.ix3 (n0 := 256) (n1 := 2) (n2 := 128) (y 0) ⟨(y 1).val % 2, Nat.mod_lt _ (by decide)⟩ (y 2))
/-- The pairs before `p` are right. -/
def GoodP2 (p : ℕ) (f : Buf (Elt F) (qpM.view.loc (c : Thread nD τ))) : Prop :=
  ∀ y : S256x32x128.Idx, (y 1).val < 2 * p → qpM.view.read (Elt F) f y = valP2 c XQ arg5 g5 gh gc gs y
theorem goodP2_cons (p m : ℕ) (hm : m = p + 1) (f : Buf (Elt F) (qpM.view.loc (c : Thread nD τ))) (L) {off : Fin 3 → ℕ} (ho : off = ![0, 2 * p, 0]) (hi)
    (w : S256x2x128.Idx → Elt F .bf16) (hw : w = k0_pay25 (stQ c XQ arg5 g5 gh gc gs (2 * p)) (stQ c XQ arg5 g5 gh gc gs (2 * p + 1)))
    (h : GoodP2 c XQ arg5 g5 gh gc gs p (qpM.view.writes (Elt F) f L)) :
    GoodP2 c XQ arg5 g5 gh gc gs m (qpM.view.writes (Elt F) f (⟨Rect.unit (s := S256x32x128) off S256x2x128.size hi, w⟩ :: L)) := by
  intro y hy
  by_cases hlt : (y 1).val < 2 * p
  · rw [View.read_writes_cons_unit_of_not_mem qpM.view f _ _ L y ho 1 (.inl hlt)]
    exact h y hlt
  · have e0 : (y 1).val / 2 = p := by omega
    have ev : valP2 c XQ arg5 g5 gh gc gs y = w (ValueIdx.ix3 (n0 := 256) (n1 := 2) (n2 := 128) (y 0) ⟨(y 1).val % 2, Nat.mod_lt _ (by decide)⟩ (y 2)) := by
      rw [hw, valP2, e0]
    rw [ev]
    refine View.read_writes_cons_unit_of_mem qpM.view f _ _ L y _ ho fun a => ?_
    fin_cases a
    · show (y 0).val = 0 + (y 0).val; omega
    · show (y 1).val = 2 * p + (y 1).val % 2; omega
    · show (y 2).val = 0 + (y 2).val; omega

/-- A pair of the queries' heads, loaded and packed. -/
theorem pack_at (f : Buf (Elt F) (qvM.view.loc (c : Thread nD τ))) (hf : GoodQ c XQ arg5 g5 gh gc gs 32 f) (p : ℕ) (hp : p < 16) {off off' : Fin 3 → ℕ}
    (e : off = ![2 * p, 0, 0]) (e' : off' = ![2 * p + 1, 0, 0]) (hi hi') :
    k0_pay25 (qvM.view.readAt (Elt F) (Rect.unit (s := S32x288x128) off S1x256x128.size hi).toLoadRect f)
      (qvM.view.readAt (Elt F) (Rect.unit (s := S32x288x128) off' S1x256x128.size hi').toLoadRect f)
      = k0_pay25 (stQ c XQ arg5 g5 gh gc gs (2 * p)) (stQ c XQ arg5 g5 gh gc gs (2 * p + 1)) := by
  rw [head_at c XQ arg5 g5 gh gc gs f hf (2 * p) (by omega) e hi, head_at c XQ arg5 g5 gh gc gs f hf (2 * p + 1) (by omega) e' hi']

/-- A scale, loaded. -/
abbrev wordV (M : Memref sig .tc .smem S1 .f32) (g : Buf (Elt F) (M.view.loc (c : Thread nD τ))) : Elt F .f32 :=
  M.view.readAt (Elt F) (Rect.unit (s := S1) ![0] S1.size inb_S1_S1_0).toLoadRect g (Shape.Idx.first (by decide))
/-- The keys' codes; -/
def valK (y : S256x8x128.Idx) : Elt F .fp8e4m3 :=
  codeV (rotQ c XQ arg5 g5 gh gc gs (Ring.bk 12 (8 + (y 1).val / 4)) ⟨(y 1).val % 4, Nat.mod_lt _ (by decide)⟩) (wordV c arg1 g1)
    (ValueIdx.ix3 (n0 := 256) (n1 := 1) (n2 := 128) (y 0) 0 (y 2))
/-- the values'. -/
def valV (y : S256x8x128.Idx) : Elt F .fp8e4m3 :=
  codeV (headV (tileQ c XQ arg5 g5 gh (Ring.bk 12 (10 + (y 1).val / 4))) ⟨(y 1).val % 4, Nat.mod_lt _ (by decide)⟩) (wordV c arg2 g2)
    (ValueIdx.ix3 (n0 := 256) (n1 := 1) (n2 := 128) (y 0) 0 (y 2))
/-- A head's codes are the keys'; -/
theorem valK_at (n : ℕ) (b : Fin 12) (i : Fin 4) (hb : b = Ring.bk 12 (8 + n / 4)) (hi : i.val = n % 4) (pay : S256x1x128.Idx → Elt F .fp8e4m3)
    (hp : pay = codeV (rotQ c XQ arg5 g5 gh gc gs b i) (wordV c arg1 g1)) (y : S256x8x128.Idx) (hy : (y 1).val = n) :
    valK c XQ arg1 arg5 g1 g5 gh gc gs y = pay (ValueIdx.ix3 (n0 := 256) (n1 := 1) (n2 := 128) (y 0) 0 (y 2)) := by
  have ei : (⟨(y 1).val % 4, Nat.mod_lt _ (by decide)⟩ : Fin 4) = i := Fin.ext (by show (y 1).val % 4 = i.val; rw [hi, hy])
  have eb : Ring.bk 12 (8 + (y 1).val / 4) = b := by rw [hb, hy]
  rw [hp, valK, ei, eb]
/-- the values'. -/
theorem valV_at (n : ℕ) (b : Fin 12) (i : Fin 4) (hb : b = Ring.bk 12 (10 + n / 4)) (hi : i.val = n % 4) (pay : S256x1x128.Idx → Elt F .fp8e4m3)
    (hp : pay = codeV (headV (tileQ c XQ arg5 g5 gh b) i) (wordV c arg2 g2)) (y : S256x8x128.Idx) (hy : (y 1).val = n) :
    valV c XQ arg2 arg5 g2 g5 gh y = pay (ValueIdx.ix3 (n0 := 256) (n1 := 1) (n2 := 128) (y 0) 0 (y 2)) := by
  have ei : (⟨(y 1).val % 4, Nat.mod_lt _ (by decide)⟩ : Fin 4) = i := Fin.ext (by show (y 1).val % 4 = i.val; rw [hi, hy])
  have eb : Ring.bk 12 (10 + (y 1).val / 4) = b := by rw [hb, hy]
  rw [hp, valV, ei, eb]

end Tail

end Cert.Proof.Front

end
-- ==== Proof.FrontBody.lean ====
/-
  The body: the copies in and out around the two loops, the queries' packing and the last four tiles.
-/
module

public import proofs.«01_k».proof.Defs
public import proofs.«01_k».proof.Proof.Gen.Front
public import proofs.«01_k».proof.Proof.Gen.Front.Skeleton
public import proofs.«01_k».proof.Proof.Gen.Front.Loops
public import proofs.«01_k».proof.Proof.Gen.Front.Launch
public import proofs.«01_k».proof.Proof.Gen.Front.Points
public import proofs.«01_k».proof.Proof.Gen.Front.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.VecWindow
public import Idealize.ShloMosaic.Lib.Tactic
public import proofs.«01_k».proof.Proof.FrontPos
public import proofs.«01_k».proof.Proof.FrontQ
public import proofs.«01_k».proof.Proof.FrontBlocks
public import proofs.«01_k».proof.Proof.FrontCodes

@[expose] public section

set_option maxRecDepth 16384

noncomputable section

namespace Cert.Proof.Front

open Cert.Front Cert.Front.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [BitOps F]

local notation "𝕄" => MT nD τ sig Unit (Elt F) ℕ (UU nD τ) ℕ

theorem ent_of_eq {P Q : sProp 𝕄} (h : P = Q) : P ⊢ Q := by subst h; iintro H; iexact H

section Body

variable (c : Dev nD) (X : Buf (Elt F) (xM.view.loc (c : Thread nD τ))) (XQ : Buf (Elt F) (wMQ.view.loc (c : Thread nD τ)))
  (arg0 : Memref sig .tc .smem S256 .i32) (harg0 : arg0.IsWhole) (arg1 : Memref sig .tc .smem S1 .f32) (harg1 : arg1.IsWhole)
  (arg2 : Memref sig .tc .smem S1 .f32) (harg2 : arg2.IsWhole) (arg3 : Memref sig .tc .vmem S1x128 .f32) (harg3 : arg3.IsWhole)
  (arg4 : Memref sig .tc .vmem S1x2560 .f32) (harg4 : arg4.IsWhole) (arg5 : Memref sig .tc .vmem S1x6144 .f32) (harg5 : arg5.IsWhole)
  (g0 : Buf (Elt F) (arg0.view.loc (c : Thread nD τ)))
  (g1 : Buf (Elt F) (arg1.view.loc (c : Thread nD τ)))
  (g2 : Buf (Elt F) (arg2.view.loc (c : Thread nD τ)))
  (g3 : Buf (Elt F) (arg3.view.loc (c : Thread nD τ)))
  (g4 : Buf (Elt F) (arg4.view.loc (c : Thread nD τ)))
  (g5 : Buf (Elt F) (arg5.view.loc (c : Thread nD τ)))

abbrev bodyG : Prog (TpuEff nD τ sig (Elt F) Λ₀ .tc) PUnit := cc0_layer (F := F) arg0 harg0 arg1 harg1 arg2 harg2 arg3 harg3 arg4 harg4 arg5 harg5 xM (Memref.isWhole_whole _) wMQ (Memref.isWhole_whole _) qM (Memref.isWhole_whole _) kcM (Memref.isWhole_whole _) vcM (Memref.isWhole_whole _) xvM (Memref.isWhole_whole _) hvM (Memref.isWhole_whole _) kvM (Memref.isWhole_whole _) vvM (Memref.isWhole_whole _) ringMQ (Memref.isWhole_whole _) cc0_scratch5 cc0_scratch6 cc0_scratch7 qvM (Memref.isWhole_whole _) qpM (Memref.isWhole_whole _) cosM (Memref.isWhole_whole _) sinM (Memref.isWhole_whole _)

/-! ## What the buffers hold between the phases -/

/-- The positions, a row each; -/
def GP : Buf (Elt F) (cosM.view.loc (c : Thread nD τ)) := cosM.view.rep (valP c arg0 g0)
/-- the angles; -/
def angV : FVec F S256x128 .f32 :=
  k0_pay19 (cosM.view.readAt (Elt F) (Rect.unit (s := S256x128) ![0, 0] S256x128.size inb_S256x128_S256x128_0_0).toLoadRect (GP c arg0 g0))
    (arg3.view.readAt (Elt F) (Rect.unit (s := S1x128) ![0, 0] S1x128.size inb_S1x128_S1x128_0_0).toLoadRect g3)
/-- their cosines, -/
def csV : FVec F S256x128 .f32 :=
  k0_pay20 (cosM.view.readAt (Elt F) (Rect.unit (s := S256x128) ![0, 0] S256x128.size inb_S256x128_S256x128_0_0).toLoadRect (GP c arg0 g0))
    (arg3.view.readAt (Elt F) (Rect.unit (s := S1x128) ![0, 0] S1x128.size inb_S1x128_S1x128_0_0).toLoadRect g3)
def GC : Buf (Elt F) (cosM.view.loc (c : Thread nD τ)) := cosM.view.rep (csV c arg0 arg3 g0 g3)
/-- their sines under the rotation's signs; -/
def GS : Buf (Elt F) (sinM.view.loc (c : Thread nD τ)) :=
  sinM.view.rep (k0_pay21 (angV c arg0 arg3 g0 g3) (iota .tc S1x128 32 [1] iota_S1x128_d1_w32))
/-- the input in VMEM; -/
def GX : Buf (Elt F) (xvM.view.loc (c : Thread nD τ)) := xvM.view.rep (xM.view.read (Elt F) X)
/-- its normalization. -/
def GH : Buf (Elt F) (hvM.view.loc (c : Thread nD τ)) := hvM.view.rep
  (k0_pay22 (xvM.view.readAt (Elt F) (Rect.unit (s := S256x2560) ![0, 0] S256x2560.size inb_S256x2560_S256x2560_0_0).toLoadRect (GX c X))
    (arg4.view.readAt (Elt F) (Rect.unit (s := S1x2560) ![0, 0] S1x2560.size inb_S1x2560_S1x2560_0_0).toLoadRect g4))

abbrev xP (f : Buf (Elt F) (xM.view.loc (c : Thread nD τ))) : sProp 𝕄 := xM.view.loc (c : Thread nD τ) ↦[xM.view.set]{fullShare} f
abbrev xvP (f : Buf (Elt F) (xvM.view.loc (c : Thread nD τ))) : sProp 𝕄 := xvM.view.loc (c : Thread nD τ) ↦[xvM.view.set]{fullShare} f
abbrev kvP (f : Buf (Elt F) (kvM.view.loc (c : Thread nD τ))) : sProp 𝕄 := kvM.view.loc (c : Thread nD τ) ↦[kvM.view.set]{fullShare} f
abbrev vvP (f : Buf (Elt F) (vvM.view.loc (c : Thread nD τ))) : sProp 𝕄 := vvM.view.loc (c : Thread nD τ) ↦[vvM.view.set]{fullShare} f
abbrev qpP (f : Buf (Elt F) (qpM.view.loc (c : Thread nD τ))) : sProp 𝕄 := qpM.view.loc (c : Thread nD τ) ↦[qpM.view.set]{fullShare} f
abbrev qP (f : Buf (Elt F) (qM.view.loc (c : Thread nD τ))) : sProp 𝕄 := qM.view.loc (c : Thread nD τ) ↦[qM.view.set]{fullShare} f
abbrev kcP (f : Buf (Elt F) (kcM.view.loc (c : Thread nD τ))) : sProp 𝕄 := kcM.view.loc (c : Thread nD τ) ↦[kcM.view.set]{fullShare} f
abbrev vcP (f : Buf (Elt F) (vcM.view.loc (c : Thread nD τ))) : sProp 𝕄 := vcM.view.loc (c : Thread nD τ) ↦[vcM.view.set]{fullShare} f

/-- The input copy's semaphore, and the three copies out's. -/
abbrev xsm : SemLoc sig := .dma cc0_scratch5.sem
abbrev osm0 : SemLoc sig := .dma ((cc0_scratch7.slice (Rect.unit (s := S3) ![0] S1.size inb_S3_S1_0)).squeeze S_ squeezes_S1_S_).sem
abbrev osm1 : SemLoc sig := .dma ((cc0_scratch7.slice (Rect.unit (s := S3) ![1] S1.size inb_S3_S1_1)).squeeze S_ squeezes_S1_S_).sem
abbrev osm2 : SemLoc sig := .dma ((cc0_scratch7.slice (Rect.unit (s := S3) ![2] S1.size inb_S3_S1_2)).squeeze S_ squeezes_S1_S_).sem
abbrev semP (s : SemLoc sig) : sProp 𝕄 := semVal ((c : Thread nD τ), s) 0

/-- The staged operands. -/
abbrev inP : sProp 𝕄 :=
  iprop((arg0.view.loc (c : Thread nD τ) ↦[arg0.view.set]{fullShare} g0)
    ∗ (arg1.view.loc (c : Thread nD τ) ↦[arg1.view.set]{fullShare} g1)
    ∗ (arg2.view.loc (c : Thread nD τ) ↦[arg2.view.set]{fullShare} g2)
    ∗ (arg3.view.loc (c : Thread nD τ) ↦[arg3.view.set]{fullShare} g3)
    ∗ (arg4.view.loc (c : Thread nD τ) ↦[arg4.view.set]{fullShare} g4)
    ∗ (arg5.view.loc (c : Thread nD τ) ↦[arg5.view.set]{fullShare} g5))
/-- The scratch buffers, at anything. -/
abbrev scrP : sProp 𝕄 :=
  iprop((∃ f, xvP (F := F) c f) ∗ (∃ f, hvP (F := F) c f) ∗ (∃ f, kvP (F := F) c f) ∗ (∃ f, vvP (F := F) c f)
    ∗ (∃ f, qvP (F := F) c f) ∗ (∃ f, qpP (F := F) c f) ∗ (∃ f, cosP (F := F) c f) ∗ (∃ f, sinP (F := F) c f))
abbrev freeQ3 : sProp 𝕄 := iprop(freeQ (F := F) c 0 ∗ freeQ (F := F) c 1 ∗ freeQ (F := F) c 2)
abbrev homesQ0 : sProp 𝕄 := iprop(homeQ c XQ 0 ∗ homeQ c XQ 1 ∗ homeQ c XQ 2 ∗ bigSep (Ring.homeSet 3 0) (homeQ c XQ))
abbrev semsP : sProp 𝕄 := iprop(semP (F := F) c xsm ∗ semP (F := F) c osm0 ∗ semP (F := F) c osm1 ∗ semP (F := F) c osm2)

/-- What the body is handed. -/
def PRE (fq : Buf (Elt F) (qM.view.loc (c : Thread nD τ))) (fk : Buf (Elt F) (kcM.view.loc (c : Thread nD τ)))
    (fv : Buf (Elt F) (vcM.view.loc (c : Thread nD τ))) (W : Waits sig Unit) : sProp 𝕄 :=
  iprop(inP c arg0 arg1 arg2 arg3 arg4 arg5 g0 g1 g2 g3 g4 g5 ∗ scrP (F := F) c ∗ xP c X
    ∗ homesQ0 c XQ ∗ freeQ3 (F := F) c ∗ qP c fq ∗ kcP c fk ∗ vcP c fv ∗ semsP (F := F) c ∗ owes (c : Thread nD τ) 0 W)

/-- What it hands back. -/
def POST : sProp 𝕄 :=
  iprop(inP c arg0 arg1 arg2 arg3 arg4 arg5 g0 g1 g2 g3 g4 g5 ∗ scrP (F := F) c ∗ xP c X
    ∗ bigSep (Ring.homeSet 3 12) (homeQ c XQ) ∗ freeQ3 (F := F) c
    ∗ (∃ f, ⌜∀ y, qM.view.read (Elt F) f y = valP2 c XQ arg5 g5 (GH c X arg4 g4) (GC c arg0 arg3 g0 g3) (GS c arg0 arg3 g0 g3) y⌝ ∗ qP c f)
    ∗ (∃ f, ⌜∀ y, kcM.view.read (Elt F) f y = valK c XQ arg1 arg5 g1 g5 (GH c X arg4 g4) (GC c arg0 arg3 g0 g3) (GS c arg0 arg3 g0 g3) y⌝ ∗ kcP c f)
    ∗ (∃ f, ⌜∀ y, vcM.view.read (Elt F) f y = valV c XQ arg2 arg5 g2 g5 (GH c X arg4 g4) y⌝ ∗ vcP c f)
    ∗ semsP (F := F) c ∗ ∃ W, owes (c : Thread nD τ) 0 W)

/-- A buffer written whole is held at what was written. -/
theorem xv_rep (f : Buf (Elt F) (xvM.view.loc (c : Thread nD τ))) (w) :
    xvP c (xvM.view.writes (Elt F) f [⟨Rect.whole S256x2560, w⟩]) ⊢ xvP c (xvM.view.rep w) :=
  pointsTo_rep_of_read (c : Thread nD τ) xvM _ fullShare w (View.read_writes_whole _ _ _)
theorem cos_rep (f : Buf (Elt F) (cosM.view.loc (c : Thread nD τ))) (w) :
    cosP c (cosM.view.writes (Elt F) f [⟨Rect.unit (s := S256x128) ![0, 0] S256x128.size inb_S256x128_S256x128_0_0, w⟩]) ⊢ cosP c (cosM.view.rep w) :=
  pointsTo_rep_of_read (c : Thread nD τ) cosM _ fullShare w (View.read_writes_full _ _ _ _ _)
theorem sin_rep (f : Buf (Elt F) (sinM.view.loc (c : Thread nD τ))) (w) :
    sinP c (sinM.view.writes (Elt F) f [⟨Rect.unit (s := S256x128) ![0, 0] S256x128.size inb_S256x128_S256x128_0_0, w⟩]) ⊢ sinP c (sinM.view.rep w) :=
  pointsTo_rep_of_read (c : Thread nD τ) sinM _ fullShare w (View.read_writes_full _ _ _ _ _)
theorem h_rep (f : Buf (Elt F) (hvM.view.loc (c : Thread nD τ))) (w) :
    hvP c (hvM.view.writes (Elt F) f [⟨Rect.unit (s := S256x2560) ![0, 0] S256x2560.size inb_S256x2560_S256x2560_0_0, w⟩]) ⊢ hvP c (hvM.view.rep w) :=
  pointsTo_rep_of_read (c : Thread nD τ) hvM _ fullShare w (View.read_writes_full _ _ _ _ _)
theorem q_out (f : Buf (Elt F) (qM.view.loc (c : Thread nD τ))) (w) :
    qP c (qM.view.writes (Elt F) f [⟨Rect.whole S256x32x128, w⟩]) ⊢ iprop(∃ h, ⌜∀ y, qM.view.read (Elt F) h y = w y⌝ ∗ qP (F := F) c h) := by
  iintro H
  iexists (qM.view.writes (Elt F) f [⟨Rect.whole S256x32x128, w⟩])
  isplitr
  · ipureintro; exact fun y => congrFun (View.read_writes_whole _ _ _) y
  iexact H
theorem k_out (f : Buf (Elt F) (kcM.view.loc (c : Thread nD τ))) (w) :
    kcP c (kcM.view.writes (Elt F) f [⟨Rect.whole S256x8x128, w⟩]) ⊢ iprop(∃ h, ⌜∀ y, kcM.view.read (Elt F) h y = w y⌝ ∗ kcP (F := F) c h) := by
  iintro H
  iexists (kcM.view.writes (Elt F) f [⟨Rect.whole S256x8x128, w⟩])
  isplitr
  · ipureintro; exact fun y => congrFun (View.read_writes_whole _ _ _) y
  iexact H
theorem v_out (f : Buf (Elt F) (vcM.view.loc (c : Thread nD τ))) (w) :
    vcP c (vcM.view.writes (Elt F) f [⟨Rect.whole S256x8x128, w⟩]) ⊢ iprop(∃ h, ⌜∀ y, vcM.view.read (Elt F) h y = w y⌝ ∗ vcP (F := F) c h) := by
  iintro H
  iexists (vcM.view.writes (Elt F) f [⟨Rect.whole S256x8x128, w⟩])
  isplitr
  · ipureintro; exact fun y => congrFun (View.read_writes_whole _ _ _) y
  iexact H

set_option maxHeartbeats 2000000 in
attribute [local sl_canon] sl3_0 sl3_1 sl3_2 bk12_0 bk12_1 bk12_2 in
theorem bodyRun (fq fk fv W) (Q : PUnit → sProp 𝕄) :
    iprop(PRE c X XQ arg0 arg1 arg2 arg3 arg4 arg5 g0 g1 g2 g3 g4 g5 fq fk fv W ∗ (POST c X XQ arg0 arg1 arg2 arg3 arg4 arg5 g0 g1 g2 g3 g4 g5 -∗ Q ⟨⟩))
      ⊢ wp frame (wpE (defs₀ (F := F)) 𝒱₀ (c : Thread nD τ) none) Set.univ (bodyG arg0 harg0 arg1 harg1 arg2 harg2 arg3 harg3 arg4 harg4 arg5 harg5) Q := by
  unfold PRE
  unfold freeQ3 freeQ
  iintro ⟨⟨⟨H0, H1, H2, H3, H4, H5⟩, ⟨⟨%xv, HX⟩, ⟨%hv, HN⟩, ⟨%kv, HK⟩, ⟨%vv, HV⟩, ⟨%qv, HQ⟩, ⟨%qp, HP⟩, ⟨%cs, HC⟩, ⟨%sn, HS⟩⟩, Hx,
    ⟨HwQ0, HwQ1, HwQ2, HhQ⟩, ⟨⟨⟨%fQ0, HsQ0⟩, HcQ0⟩, ⟨⟨%fQ1, HsQ1⟩, HcQ1⟩, ⟨⟨%fQ2, HsQ2⟩, HcQ2⟩⟩,
    Hqo, Hko, Hvo, ⟨Hxs, Hos0, Hos1, Hos2⟩, HW⟩, Hk⟩
  sl_exec
  ihave HRQ0 : roleQ c XQ 0 $$ [HcQ0]
  · irw [roleQ_here c XQ 0 (by decide)]; iexists fQ0; iexact HcQ0
  ihave HRQ1 : roleQ c XQ (0 + 1) $$ [HcQ1]
  · irw [roleQ_here c XQ (0 + 1) (by decide)]; iexists fQ1; iexact HcQ1
  ihave HRQ2 : roleQ c XQ (0 + 2) $$ [HcQ2]
  · irw [roleQ_here c XQ (0 + 2) (by decide)]; iexists fQ2; iexact HcQ2
  sl_for (invP c arg0 g0) $$ [H0 HC]
  · exact fun k u => stepP c arg0 harg0 arg1 harg1 arg2 harg2 arg3 harg3 arg4 harg4 arg5 harg5 g0 k u
  · unfold invP
    iexists cs
    isplitr
    · ipureintro; exact fun y hy => absurd hy (Nat.not_lt_zero _)
    isplitl [H0]; · iexact H0
    iexact HC
  iintro %u1 HI
  ihave HI := (ent_of_eq (show invP c arg0 g0 k0_t1_loop.trips u1 = invP c arg0 g0 32 u1 by rw [trips1])) $$ HI
  unfold invP
  icases HI with ⟨%fp, %hgp, H0, HC⟩
  ihave HC := (pointsTo_rep_of_read (c : Thread nD τ) cosM _ fullShare (valP c arg0 g0) (funext fun y => hgp y (y 0).isLt)) $$ HC
  ihave HC : cosP c (GP c arg0 g0) $$ [HC]
  · iexact HC
  sl_exec
  ihave HX := (xv_rep c _ _) $$ HX
  ihave HX : xvP c (GX c X) $$ [HX]
  · iexact HX
  ihave HC := (cos_rep c _ (csV c arg0 arg3 g0 g3)) $$ [HC]
  · iexact HC
  ihave HC : cosP c (GC c arg0 arg3 g0 g3) $$ [HC]
  · iexact HC
  ihave HS := (sin_rep c _ (k0_pay21 (angV c arg0 arg3 g0 g3) (iota .tc S1x128 32 [1] iota_S1x128_d1_w32))) $$ [HS]
  · iexact HS
  ihave HS : sinP c (GS c arg0 arg3 g0 g3) $$ [HS]
  · iexact HS
  ihave HN := (h_rep c _ (k0_pay22 (xvM.view.readAt (Elt F) (Rect.unit (s := S256x2560) ![0, 0] S256x2560.size inb_S256x2560_S256x2560_0_0).toLoadRect (GX c X))
    (arg4.view.readAt (Elt F) (Rect.unit (s := S1x2560) ![0, 0] S1x2560.size inb_S1x2560_S1x2560_0_0).toLoadRect g4))) $$ [HN]
  · iexact HN
  ihave HN : hvP c (GH c X arg4 g4) $$ [HN]
  · iexact HN
  sl_for (invQ c XQ arg5 g5 (GH c X arg4 g4) (GC c arg0 arg3 g0 g3) (GS c arg0 arg3 g0 g3)) $$ [H5 HN HC HS HQ HW HhQ HRQ0 HRQ1 HRQ2]
  · exact fun k a => stepQ c XQ arg0 harg0 arg1 harg1 arg2 harg2 arg3 harg3 arg4 harg4 arg5 harg5 g5 (GH c X arg4 g4) (GC c arg0 arg3 g0 g3) (GS c arg0 arg3 g0 g3) _ _ _ k a
  · unfold invQ resQ ringQ
    iexists qv
    isplitr
    · ipureintro; exact fun y hy => absurd hy (Nat.not_lt_zero _)
    isplitl [H5 HN HC HS]
    · isplitl [H5]; · iexact H5
      isplitl [HN]; · iexact HN
      isplitl [HC]; · iexact HC
      iexact HS
    isplitl [HQ]; · iexact HQ
    isplitl [HW]; · iexists _; iexact HW
    isplitl [HhQ]; · iexact HhQ
    isplitl [HRQ0]; · iexact HRQ0
    isplitl [HRQ1]; · iexact HRQ1
    iexact HRQ2
  iintro %a2 HI
  ihave HI := (ent_of_eq (show invQ c XQ arg5 g5 (GH c X arg4 g4) (GC c arg0 arg3 g0 g3) (GS c arg0 arg3 g0 g3) k0_t2_loop.trips a2 = invQ c XQ arg5 g5 (GH c X arg4 g4) (GC c arg0 arg3 g0 g3) (GS c arg0 arg3 g0 g3) 8 a2 by rw [trips2])) $$ HI
  unfold invQ resQ ringQ
  rw [roleQ_here c XQ 8 (by decide), roleQ_here c XQ (8 + 1) (by decide), roleQ_here c XQ (8 + 2) (by decide), homesQ_here c XQ 8 (by decide),
    sl3_8, sl3_9, sl3_10, bk12_8, bk12_9, bk12_10, bk12_11]
  icases HI with ⟨%fq8, %hgq, ⟨H5, HN, HC, HS⟩, HQ, ⟨%W2, HW⟩, ⟨Hg11, Hrest⟩, ⟨%fA, HFA⟩, ⟨%fB, HFB⟩, ⟨%fC, HFC⟩⟩
  sl_exec
  sl_step
  iapply Hk
  unfold POST freeQ3 freeQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HX HN HK HV HQ HP HC HS]
  · isplitl [HX]; · iexists _; iexact HX
    isplitl [HN]; · iexists _; iexact HN
    isplitl [HK]; · iexists _; iexact HK
    isplitl [HV]; · iexists _; iexact HV
    isplitl [HQ]; · iexists _; iexact HQ
    isplitl [HP]; · iexists _; iexact HP
    isplitl [HC]; · iexists _; iexact HC
    iexists _; iexact HS
  isplitl [Hx]; · iexact Hx
  isplitl [HFA_src HFB_src HFC_src Hg11 Hrest]
  · irw [homesQ_tail c XQ 11 (by decide) (by decide), homesQ_tail c XQ 10 (by decide) (by decide), homesQ_tail c XQ 9 (by decide) (by decide), homesQ_next c XQ 8 (by decide)]
    isplitl [Hg11]; · iexact Hg11
    isplitl [HFC_src]; · iexact HFC_src
    isplitl [HFB_src]; · iexact HFB_src
    isplitl [HFA_src]; · iexact HFA_src
    iexact Hrest
  isplitl [HFA_dst HFA HFB_dst HFB HFC_dst HFC]
  · isplitl [HFB_dst HFB]
    · isplitl [HFB_dst]; · iexists _; iexact HFB_dst
      iexact HFB
    isplitl [HFC_dst HFC]
    · isplitl [HFC_dst]; · iexists _; iexact HFC_dst
      iexact HFC
    isplitl [HFA_dst]; · iexists _; iexact HFA_dst
    iexact HFA
  isplitl [Hqo]
  · ihave Ho := (q_out c _ _) $$ Hqo
    icases Ho with ⟨%out, %hout, Ho⟩
    iexists out
    isplitr
    · ipureintro
      refine fun y => (hout y).trans ?_
      show qpM.view.read (Elt F) (qpM.view.writes (Elt F) qp (bodyRun.sl.HP_16 c fq8)) y = _
      have hq : GoodP2 c XQ arg5 g5 (GH c X arg4 g4) (GC c arg0 arg3 g0 g3) (GS c arg0 arg3 g0 g3) 16 (qpM.view.writes (Elt F) qp (bodyRun.sl.HP_16 c fq8)) := by
        unfold bodyRun.sl.HP_16
        refine goodP2_cons c XQ arg5 g5 (GH c X arg4 g4) (GC c arg0 arg3 g0 g3) (GS c arg0 arg3 g0 g3) 15 _ rfl qp _ rfl _ _ ?_ ?_
        · exact pack_at c XQ arg5 g5 (GH c X arg4 g4) (GC c arg0 arg3 g0 g3) (GS c arg0 arg3 g0 g3) fq8 hgq 15 (by decide) (off := ![30, 0, 0]) (off' := ![31, 0, 0]) rfl rfl inb_S32x288x128_S1x256x128_30_0_0 inb_S32x288x128_S1x256x128_31_0_0
        refine goodP2_cons c XQ arg5 g5 (GH c X arg4 g4) (GC c arg0 arg3 g0 g3) (GS c arg0 arg3 g0 g3) 14 _ rfl qp _ rfl _ _ ?_ ?_
        · exact pack_at c XQ arg5 g5 (GH c X arg4 g4) (GC c arg0 arg3 g0 g3) (GS c arg0 arg3 g0 g3) fq8 hgq 14 (by decide) (off := ![28, 0, 0]) (off' := ![29, 0, 0]) rfl rfl inb_S32x288x128_S1x256x128_28_0_0 inb_S32x288x128_S1x256x128_29_0_0
        refine goodP2_cons c XQ arg5 g5 (GH c X arg4 g4) (GC c arg0 arg3 g0 g3) (GS c arg0 arg3 g0 g3) 13 _ rfl qp _ rfl _ _ ?_ ?_
        · exact pack_at c XQ arg5 g5 (GH c X arg4 g4) (GC c arg0 arg3 g0 g3) (GS c arg0 arg3 g0 g3) fq8 hgq 13 (by decide) (off := ![26, 0, 0]) (off' := ![27, 0, 0]) rfl rfl inb_S32x288x128_S1x256x128_26_0_0 inb_S32x288x128_S1x256x128_27_0_0
        refine goodP2_cons c XQ arg5 g5 (GH c X arg4 g4) (GC c arg0 arg3 g0 g3) (GS c arg0 arg3 g0 g3) 12 _ rfl qp _ rfl _ _ ?_ ?_
        · exact pack_at c XQ arg5 g5 (GH c X arg4 g4) (GC c arg0 arg3 g0 g3) (GS c arg0 arg3 g0 g3) fq8 hgq 12 (by decide) (off := ![24, 0, 0]) (off' := ![25, 0, 0]) rfl rfl inb_S32x288x128_S1x256x128_24_0_0 inb_S32x288x128_S1x256x128_25_0_0
        refine goodP2_cons c XQ arg5 g5 (GH c X arg4 g4) (GC c arg0 arg3 g0 g3) (GS c arg0 arg3 g0 g3) 11 _ rfl qp _ rfl _ _ ?_ ?_
        · exact pack_at c XQ arg5 g5 (GH c X arg4 g4) (GC c arg0 arg3 g0 g3) (GS c arg0 arg3 g0 g3) fq8 hgq 11 (by decide) (off := ![22, 0, 0]) (off' := ![23, 0, 0]) rfl rfl inb_S32x288x128_S1x256x128_22_0_0 inb_S32x288x128_S1x256x128_23_0_0
        refine goodP2_cons c XQ arg5 g5 (GH c X arg4 g4) (GC c arg0 arg3 g0 g3) (GS c arg0 arg3 g0 g3) 10 _ rfl qp _ rfl _ _ ?_ ?_
        · exact pack_at c XQ arg5 g5 (GH c X arg4 g4) (GC c arg0 arg3 g0 g3) (GS c arg0 arg3 g0 g3) fq8 hgq 10 (by decide) (off := ![20, 0, 0]) (off' := ![21, 0, 0]) rfl rfl inb_S32x288x128_S1x256x128_20_0_0 inb_S32x288x128_S1x256x128_21_0_0
        refine goodP2_cons c XQ arg5 g5 (GH c X arg4 g4) (GC c arg0 arg3 g0 g3) (GS c arg0 arg3 g0 g3) 9 _ rfl qp _ rfl _ _ ?_ ?_
        · exact pack_at c XQ arg5 g5 (GH c X arg4 g4) (GC c arg0 arg3 g0 g3) (GS c arg0 arg3 g0 g3) fq8 hgq 9 (by decide) (off := ![18, 0, 0]) (off' := ![19, 0, 0]) rfl rfl inb_S32x288x128_S1x256x128_18_0_0 inb_S32x288x128_S1x256x128_19_0_0
        refine goodP2_cons c XQ arg5 g5 (GH c X arg4 g4) (GC c arg0 arg3 g0 g3) (GS c arg0 arg3 g0 g3) 8 _ rfl qp _ rfl _ _ ?_ ?_
        · exact pack_at c XQ arg5 g5 (GH c X arg4 g4) (GC c arg0 arg3 g0 g3) (GS c arg0 arg3 g0 g3) fq8 hgq 8 (by decide) (off := ![16, 0, 0]) (off' := ![17, 0, 0]) rfl rfl inb_S32x288x128_S1x256x128_16_0_0 inb_S32x288x128_S1x256x128_17_0_0
        refine goodP2_cons c XQ arg5 g5 (GH c X arg4 g4) (GC c arg0 arg3 g0 g3) (GS c arg0 arg3 g0 g3) 7 _ rfl qp _ rfl _ _ ?_ ?_
        · exact pack_at c XQ arg5 g5 (GH c X arg4 g4) (GC c arg0 arg3 g0 g3) (GS c arg0 arg3 g0 g3) fq8 hgq 7 (by decide) (off := ![14, 0, 0]) (off' := ![15, 0, 0]) rfl rfl inb_S32x288x128_S1x256x128_14_0_0 inb_S32x288x128_S1x256x128_15_0_0
        refine goodP2_cons c XQ arg5 g5 (GH c X arg4 g4) (GC c arg0 arg3 g0 g3) (GS c arg0 arg3 g0 g3) 6 _ rfl qp _ rfl _ _ ?_ ?_
        · exact pack_at c XQ arg5 g5 (GH c X arg4 g4) (GC c arg0 arg3 g0 g3) (GS c arg0 arg3 g0 g3) fq8 hgq 6 (by decide) (off := ![12, 0, 0]) (off' := ![13, 0, 0]) rfl rfl inb_S32x288x128_S1x256x128_12_0_0 inb_S32x288x128_S1x256x128_13_0_0
        refine goodP2_cons c XQ arg5 g5 (GH c X arg4 g4) (GC c arg0 arg3 g0 g3) (GS c arg0 arg3 g0 g3) 5 _ rfl qp _ rfl _ _ ?_ ?_
        · exact pack_at c XQ arg5 g5 (GH c X arg4 g4) (GC c arg0 arg3 g0 g3) (GS c arg0 arg3 g0 g3) fq8 hgq 5 (by decide) (off := ![10, 0, 0]) (off' := ![11, 0, 0]) rfl rfl inb_S32x288x128_S1x256x128_10_0_0 inb_S32x288x128_S1x256x128_11_0_0
        refine goodP2_cons c XQ arg5 g5 (GH c X arg4 g4) (GC c arg0 arg3 g0 g3) (GS c arg0 arg3 g0 g3) 4 _ rfl qp _ rfl _ _ ?_ ?_
        · exact pack_at c XQ arg5 g5 (GH c X arg4 g4) (GC c arg0 arg3 g0 g3) (GS c arg0 arg3 g0 g3) fq8 hgq 4 (by decide) (off := ![8, 0, 0]) (off' := ![9, 0, 0]) rfl rfl inb_S32x288x128_S1x256x128_8_0_0 inb_S32x288x128_S1x256x128_9_0_0
        refine goodP2_cons c XQ arg5 g5 (GH c X arg4 g4) (GC c arg0 arg3 g0 g3) (GS c arg0 arg3 g0 g3) 3 _ rfl qp _ rfl _ _ ?_ ?_
        · exact pack_at c XQ arg5 g5 (GH c X arg4 g4) (GC c arg0 arg3 g0 g3) (GS c arg0 arg3 g0 g3) fq8 hgq 3 (by decide) (off := ![6, 0, 0]) (off' := ![7, 0, 0]) rfl rfl inb_S32x288x128_S1x256x128_6_0_0 inb_S32x288x128_S1x256x128_7_0_0
        refine goodP2_cons c XQ arg5 g5 (GH c X arg4 g4) (GC c arg0 arg3 g0 g3) (GS c arg0 arg3 g0 g3) 2 _ rfl qp _ rfl _ _ ?_ ?_
        · exact pack_at c XQ arg5 g5 (GH c X arg4 g4) (GC c arg0 arg3 g0 g3) (GS c arg0 arg3 g0 g3) fq8 hgq 2 (by decide) (off := ![4, 0, 0]) (off' := ![5, 0, 0]) rfl rfl inb_S32x288x128_S1x256x128_4_0_0 inb_S32x288x128_S1x256x128_5_0_0
        refine goodP2_cons c XQ arg5 g5 (GH c X arg4 g4) (GC c arg0 arg3 g0 g3) (GS c arg0 arg3 g0 g3) 1 _ rfl qp _ rfl _ _ ?_ ?_
        · exact pack_at c XQ arg5 g5 (GH c X arg4 g4) (GC c arg0 arg3 g0 g3) (GS c arg0 arg3 g0 g3) fq8 hgq 1 (by decide) (off := ![2, 0, 0]) (off' := ![3, 0, 0]) rfl rfl inb_S32x288x128_S1x256x128_2_0_0 inb_S32x288x128_S1x256x128_3_0_0
        refine goodP2_cons c XQ arg5 g5 (GH c X arg4 g4) (GC c arg0 arg3 g0 g3) (GS c arg0 arg3 g0 g3) 0 _ rfl qp _ rfl _ _ ?_ ?_
        · exact pack_at c XQ arg5 g5 (GH c X arg4 g4) (GC c arg0 arg3 g0 g3) (GS c arg0 arg3 g0 g3) fq8 hgq 0 (by decide) (off := ![0, 0, 0]) (off' := ![1, 0, 0]) rfl rfl inb_S32x288x128_S1x256x128_0_0_0 inb_S32x288x128_S1x256x128_1_0_0
        exact fun y hy => absurd hy (Nat.not_lt_zero _)
      exact hq y (y 1).isLt
    iexact Ho
  isplitl [Hko]
  · ihave Ho := (k_out c _ _) $$ Hko
    icases Ho with ⟨%out, %hout, Ho⟩
    iexists out
    isplitr
    · ipureintro
      refine fun y => (hout y).trans ?_
      have eT8 := tileQ_at c XQ arg5 g5 (GH c X arg4 g4) 8 2 (off := ![2, 0, 0]) (by decide) inb_S3x2560x512_S1x2560x512_2_0_0 (rslotQ 2).view.junk (off' := ![0, 4096]) (by decide) inb_S1x6144_S1x512_0_4096
      have eT9 := tileQ_at c XQ arg5 g5 (GH c X arg4 g4) 9 0 (off := ![0, 0, 0]) (by decide) inb_S3x2560x512_S1x2560x512_0_0_0 (rslotQ 0).view.junk (off' := ![0, 4608]) (by decide) inb_S1x6144_S1x512_0_4608
      have hc : ∀ f, GoodC c kvM (valK c XQ arg1 arg5 g1 g5 (GH c X arg4 g4) (GC c arg0 arg3 g0 g3) (GS c arg0 arg3 g0 g3)) 8 (kvM.view.writes (Elt F) f (bodyRun.sl.HK_8 c X XQ arg0 arg1 arg3 arg4 arg5 g0 g1 g3 g4 g5 kv)) := by
        unfold bodyRun.sl.HK_8
        refine goodC_cons c kvM (valK c XQ arg1 arg5 g1 g5 (GH c X arg4 g4) (GC c arg0 arg3 g0 g3) (GS c arg0 arg3 g0 g3)) 1 3 7 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 7 9 3 (by decide) rfl _ (by rw [rotQ, ← eT9]; rfl)
        unfold bodyRun.sl.HK_7
        refine goodC_cons c kvM (valK c XQ arg1 arg5 g1 g5 (GH c X arg4 g4) (GC c arg0 arg3 g0 g3) (GS c arg0 arg3 g0 g3)) 1 2 6 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 6 9 2 (by decide) rfl _ (by rw [rotQ, ← eT9]; rfl)
        unfold bodyRun.sl.HK_6
        refine goodC_cons c kvM (valK c XQ arg1 arg5 g1 g5 (GH c X arg4 g4) (GC c arg0 arg3 g0 g3) (GS c arg0 arg3 g0 g3)) 1 1 5 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 5 9 1 (by decide) rfl _ (by rw [rotQ, ← eT9]; rfl)
        unfold bodyRun.sl.HK_5
        refine goodC_cons c kvM (valK c XQ arg1 arg5 g1 g5 (GH c X arg4 g4) (GC c arg0 arg3 g0 g3) (GS c arg0 arg3 g0 g3)) 1 0 4 _ rfl (by decide) (by decide) rfl _ rfl _ rfl _ _ _ _ rfl (.inl rfl) ?_ ?_
        · exact valK_at c XQ arg1 arg5 g1 g5 (GH c X arg4 g4) (GC c arg0 arg3 g0 g3) (GS c arg0 arg3 g0 g3) 4 9 0 (by decide) rfl _ (by rw [rotQ, ← eT9]; rfl)
        refine goodC_cons c kvM (valK c XQ arg1 arg5 g1 g5 (GH c X arg4 g4) (GC c arg0 arg3 g0 g3) (GS c arg0 arg3 g0 g3)) 0 3 3 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 3 8 3 (by decide) rfl _ (by rw [rotQ, ← eT8]; rfl)
        unfold bodyRun.sl.HK_3
        refine goodC_cons c kvM (valK c XQ arg1 arg5 g1 g5 (GH c X arg4 g4) (GC c arg0 arg3 g0 g3) (GS c arg0 arg3 g0 g3)) 0 2 2 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 2 8 2 (by decide) rfl _ (by rw [rotQ, ← eT8]; rfl)
        unfold bodyRun.sl.HK_2
        refine goodC_cons c kvM (valK c XQ arg1 arg5 g1 g5 (GH c X arg4 g4) (GC c arg0 arg3 g0 g3) (GS c arg0 arg3 g0 g3)) 0 1 1 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 1 8 1 (by decide) rfl _ (by rw [rotQ, ← eT8]; rfl)
        unfold bodyRun.sl.HK_1
        refine goodC_cons c kvM (valK c XQ arg1 arg5 g1 g5 (GH c X arg4 g4) (GC c arg0 arg3 g0 g3) (GS c arg0 arg3 g0 g3)) 0 0 0 _ rfl (by decide) (by decide) rfl _ rfl _ rfl _ _ _ _ rfl (.inl rfl) ?_ ?_
        · exact valK_at c XQ arg1 arg5 g1 g5 (GH c X arg4 g4) (GC c arg0 arg3 g0 g3) (GS c arg0 arg3 g0 g3) 0 8 0 (by decide) rfl _ (by rw [rotQ, ← eT8]; rfl)
        exact fun f y hy => absurd hy (Nat.not_lt_zero _)
      exact hc _ y (y 1).isLt
    iexact Ho
  isplitl [Hvo]
  · ihave Ho := (v_out c _ _) $$ Hvo
    icases Ho with ⟨%out, %hout, Ho⟩
    iexists out
    isplitr
    · ipureintro
      refine fun y => (hout y).trans ?_
      have eT10 := tileQ_at c XQ arg5 g5 (GH c X arg4 g4) 10 1 (off := ![1, 0, 0]) (by decide) inb_S3x2560x512_S1x2560x512_1_0_0 (rslotQ 1).view.junk (off' := ![0, 5120]) (by decide) inb_S1x6144_S1x512_0_5120
      have eT11 := tileQ_at2 c XQ arg5 g5 (GH c X arg4 g4) 11 2 (off := ![2, 0, 0]) (by decide) inb_S3x2560x512_S1x2560x512_2_0_0 (rslotQ 2).view.junk (payloadQ c XQ 8) (bodyRun.sl.dma67 c XQ) rfl (off' := ![0, 5632]) (by decide) inb_S1x6144_S1x512_0_5632
      have hc : ∀ f, GoodC c vvM (valV c XQ arg2 arg5 g2 g5 (GH c X arg4 g4)) 8 (vvM.view.writes (Elt F) f (bodyRun.sl.HV_8 c X XQ arg2 arg4 arg5 g2 g4 g5 vv)) := by
        unfold bodyRun.sl.HV_8
        refine goodC_cons c vvM (valV c XQ arg2 arg5 g2 g5 (GH c X arg4 g4)) 1 3 7 _ rfl (by decide) (by decide) rfl _ rfl _ rfl _ _ _ _ rfl (.inr rfl) ?_ ?_
        · exact valV_at c XQ arg2 arg5 g2 g5 (GH c X arg4 g4) 7 11 3 (by decide) rfl _ (by rw [← eT11]; rfl)
        unfold bodyRun.sl.HV_7
        refine goodC_cons c vvM (valV c XQ arg2 arg5 g2 g5 (GH c X arg4 g4)) 1 2 6 _ rfl (by decide) (by decide) rfl _ rfl _ rfl _ _ _ _ rfl (.inr rfl) ?_ ?_
        · exact valV_at c XQ arg2 arg5 g2 g5 (GH c X arg4 g4) 6 11 2 (by decide) rfl _ (by rw [← eT11]; rfl)
        unfold bodyRun.sl.HV_6
        refine goodC_cons c vvM (valV c XQ arg2 arg5 g2 g5 (GH c X arg4 g4)) 1 1 5 _ rfl (by decide) (by decide) rfl _ rfl _ rfl _ _ _ _ rfl (.inr rfl) ?_ ?_
        · exact valV_at c XQ arg2 arg5 g2 g5 (GH c X arg4 g4) 5 11 1 (by decide) rfl _ (by rw [← eT11]; rfl)
        unfold bodyRun.sl.HV_5
        refine goodC_cons c vvM (valV c XQ arg2 arg5 g2 g5 (GH c X arg4 g4)) 1 0 4 _ rfl (by decide) (by decide) rfl _ rfl _ rfl _ _ _ _ rfl (.inl rfl) ?_ ?_
        · exact valV_at c XQ arg2 arg5 g2 g5 (GH c X arg4 g4) 4 11 0 (by decide) rfl _ (by rw [← eT11]; rfl)
        refine goodC_cons c vvM (valV c XQ arg2 arg5 g2 g5 (GH c X arg4 g4)) 0 3 3 _ rfl (by decide) (by decide) rfl _ rfl _ rfl _ _ _ _ rfl (.inr rfl) ?_ ?_
        · exact valV_at c XQ arg2 arg5 g2 g5 (GH c X arg4 g4) 3 10 3 (by decide) rfl _ (by rw [← eT10]; rfl)
        unfold bodyRun.sl.HV_3
        refine goodC_cons c vvM (valV c XQ arg2 arg5 g2 g5 (GH c X arg4 g4)) 0 2 2 _ rfl (by decide) (by decide) rfl _ rfl _ rfl _ _ _ _ rfl (.inr rfl) ?_ ?_
        · exact valV_at c XQ arg2 arg5 g2 g5 (GH c X arg4 g4) 2 10 2 (by decide) rfl _ (by rw [← eT10]; rfl)
        unfold bodyRun.sl.HV_2
        refine goodC_cons c vvM (valV c XQ arg2 arg5 g2 g5 (GH c X arg4 g4)) 0 1 1 _ rfl (by decide) (by decide) rfl _ rfl _ rfl _ _ _ _ rfl (.inr rfl) ?_ ?_
        · exact valV_at c XQ arg2 arg5 g2 g5 (GH c X arg4 g4) 1 10 1 (by decide) rfl _ (by rw [← eT10]; rfl)
        unfold bodyRun.sl.HV_1
        refine goodC_cons c vvM (valV c XQ arg2 arg5 g2 g5 (GH c X arg4 g4)) 0 0 0 _ rfl (by decide) (by decide) rfl _ rfl _ rfl _ _ _ _ rfl (.inl rfl) ?_ ?_
        · exact valV_at c XQ arg2 arg5 g2 g5 (GH c X arg4 g4) 0 10 0 (by decide) rfl _ (by rw [← eT10]; rfl)
        exact fun f y hy => absurd hy (Nat.not_lt_zero _)
      exact hc _ y (y 1).isLt
    iexact Ho
  isplitl [Hxs Hos0 Hos1 Hos2]
  · isplitl [Hxs]; · iexact Hxs
    isplitl [Hos0]; · iexact Hos0
    isplitl [Hos1]; · iexact Hos1
    iexact Hos2
  iexists _; iexact HW

end Body

end Cert.Proof.Front

end
-- ==== Proof.FrontRun.lean ====
/-
  The launch around the body's run: every weakly fair execution ends, the arguments are as launched, the semaphores at zero,
  and the three results' arrays hold the values of the body.
-/
module

public import proofs.«01_k».proof.Defs
public import proofs.«01_k».proof.Proof.Gen.Front
public import proofs.«01_k».proof.Proof.Gen.Front.Skeleton
public import proofs.«01_k».proof.Proof.Gen.Front.Loops
public import proofs.«01_k».proof.Proof.Gen.Front.Launch
public import proofs.«01_k».proof.Proof.Gen.Front.Points
public import proofs.«01_k».proof.Proof.Gen.Front.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.FrontBody

@[expose] public section

set_option maxRecDepth 16384

noncomputable section

namespace Cert.Proof.Front

open Cert.Front Cert.Front.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [BitOps F]

local notation "𝕄" => MT nD τ sig Unit (Elt F) ℕ (UU nD τ) ℕ

section Wholes
variable (c : Dev nD)
omit [BitOps F] in
theorem xvP_whole (f : Buf (Elt F) ((c : Thread nD τ).loc cc0_scratch0)) :
    (((c : Thread nD τ).loc cc0_scratch0) ↦{fullShare} f : sProp 𝕄) = xvP (F := F) c f :=
  congrArg (fun S => (((c : Thread nD τ).loc cc0_scratch0) ↦[S]{fullShare} f : sProp 𝕄)) (View.set_whole cc0_scratch0).symm
omit [BitOps F] in
theorem hvP_whole (f : Buf (Elt F) ((c : Thread nD τ).loc cc0_scratch1)) :
    (((c : Thread nD τ).loc cc0_scratch1) ↦{fullShare} f : sProp 𝕄) = hvP (F := F) c f :=
  congrArg (fun S => (((c : Thread nD τ).loc cc0_scratch1) ↦[S]{fullShare} f : sProp 𝕄)) (View.set_whole cc0_scratch1).symm
omit [BitOps F] in
theorem kvP_whole (f : Buf (Elt F) ((c : Thread nD τ).loc cc0_scratch2)) :
    (((c : Thread nD τ).loc cc0_scratch2) ↦{fullShare} f : sProp 𝕄) = kvP (F := F) c f :=
  congrArg (fun S => (((c : Thread nD τ).loc cc0_scratch2) ↦[S]{fullShare} f : sProp 𝕄)) (View.set_whole cc0_scratch2).symm
omit [BitOps F] in
theorem vvP_whole (f : Buf (Elt F) ((c : Thread nD τ).loc cc0_scratch3)) :
    (((c : Thread nD τ).loc cc0_scratch3) ↦{fullShare} f : sProp 𝕄) = vvP (F := F) c f :=
  congrArg (fun S => (((c : Thread nD τ).loc cc0_scratch3) ↦[S]{fullShare} f : sProp 𝕄)) (View.set_whole cc0_scratch3).symm
omit [BitOps F] in
theorem qvP_whole (f : Buf (Elt F) ((c : Thread nD τ).loc cc0_scoped0)) :
    (((c : Thread nD τ).loc cc0_scoped0) ↦{fullShare} f : sProp 𝕄) = qvP (F := F) c f :=
  congrArg (fun S => (((c : Thread nD τ).loc cc0_scoped0) ↦[S]{fullShare} f : sProp 𝕄)) (View.set_whole cc0_scoped0).symm
omit [BitOps F] in
theorem qpP_whole (f : Buf (Elt F) ((c : Thread nD τ).loc cc0_scoped1)) :
    (((c : Thread nD τ).loc cc0_scoped1) ↦{fullShare} f : sProp 𝕄) = qpP (F := F) c f :=
  congrArg (fun S => (((c : Thread nD τ).loc cc0_scoped1) ↦[S]{fullShare} f : sProp 𝕄)) (View.set_whole cc0_scoped1).symm
omit [BitOps F] in
theorem cosP_whole (f : Buf (Elt F) ((c : Thread nD τ).loc cc0_scoped2)) :
    (((c : Thread nD τ).loc cc0_scoped2) ↦{fullShare} f : sProp 𝕄) = cosP (F := F) c f :=
  congrArg (fun S => (((c : Thread nD τ).loc cc0_scoped2) ↦[S]{fullShare} f : sProp 𝕄)) (View.set_whole cc0_scoped2).symm
omit [BitOps F] in
theorem sinP_whole (f : Buf (Elt F) ((c : Thread nD τ).loc cc0_scoped3)) :
    (((c : Thread nD τ).loc cc0_scoped3) ↦{fullShare} f : sProp 𝕄) = sinP (F := F) c f :=
  congrArg (fun S => (((c : Thread nD τ).loc cc0_scoped3) ↦[S]{fullShare} f : sProp 𝕄)) (View.set_whole cc0_scoped3).symm
omit [BitOps F] in
theorem xP_whole (f : Buf (Elt F) ((c : Thread nD τ).loc main_arg0)) :
    (((c : Thread nD τ).loc main_arg0) ↦{fullShare} f : sProp 𝕄) = xP (F := F) c f :=
  congrArg (fun S => (((c : Thread nD τ).loc main_arg0) ↦[S]{fullShare} f : sProp 𝕄)) (View.set_whole main_arg0).symm
omit [BitOps F] in
theorem qP_whole (f : Buf (Elt F) ((c : Thread nD τ).loc main_v12_0)) :
    (((c : Thread nD τ).loc main_v12_0) ↦{fullShare} f : sProp 𝕄) = qP (F := F) c f :=
  congrArg (fun S => (((c : Thread nD τ).loc main_v12_0) ↦[S]{fullShare} f : sProp 𝕄)) (View.set_whole main_v12_0).symm
omit [BitOps F] in
theorem kcP_whole (f : Buf (Elt F) ((c : Thread nD τ).loc main_v12_1)) :
    (((c : Thread nD τ).loc main_v12_1) ↦{fullShare} f : sProp 𝕄) = kcP (F := F) c f :=
  congrArg (fun S => (((c : Thread nD τ).loc main_v12_1) ↦[S]{fullShare} f : sProp 𝕄)) (View.set_whole main_v12_1).symm
omit [BitOps F] in
theorem vcP_whole (f : Buf (Elt F) ((c : Thread nD τ).loc main_v12_2)) :
    (((c : Thread nD τ).loc main_v12_2) ↦{fullShare} f : sProp 𝕄) = vcP (F := F) c f :=
  congrArg (fun S => (((c : Thread nD τ).loc main_v12_2) ↦[S]{fullShare} f : sProp 𝕄)) (View.set_whole main_v12_2).symm

end Wholes

/-! ## The kernel's own semaphores -/

abbrev osem0 : Fin 7 → SemLoc sig := fun j => (![xsm, .dma (csmQ 0).sem, .dma (csmQ 1).sem, .dma (csmQ 2).sem, osm0, osm1, osm2] : Fin 7 → SemLoc sig) j
theorem ownSemFacts0 : Pipeline.OwnSemFacts spec0 osem0 := by decide
/-- The semaphores at zero. -/
abbrev cellsP (c : Dev nD) : sProp 𝕄 :=
  iprop(semP (F := F) c xsm ∗ cellQ (F := F) c 0 ∗ cellQ (F := F) c 1 ∗ cellQ (F := F) c 2
    ∗ semP (F := F) c osm0 ∗ semP (F := F) c osm1 ∗ semP (F := F) c osm2)
omit [BitOps F] in
theorem ownSems00_eq (c : Dev nD) :
    (Pipeline.ownSems0 (Ix := Unit) (Name := ℕ) (U := UU nD τ) (Lvl := ℕ) (Val := Elt F) (τ := τ) osem0 c : sProp 𝕄) = cellsP (F := F) c := by
  rw [Pipeline.ownSems0_eq_of_list c osem0 [0, 1, 2, 3, 4, 5, 6] (by decide) (by decide)]; rfl

/-! ## The pipeline's proof data -/

variable (m : (ℓ : Loc nD τ sig) → Buf (Elt F) ℓ) (ρ : Dev nD → PrngReg)

theorem hmain : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The buffers the body's copies read and the ones they write, all left in HBM. -/
abbrev H0 : Finset (Ref sig .tc) := {main_arg0, main_arg5}
abbrev R0 : Finset (Ref sig .tc) := {main_v12_0, main_v12_1, main_v12_2}
theorem H0_sub : H0 ⊆ Pipeline.restRefs sig spec0 := by decide
theorem R0_sub : R0 ⊆ Pipeline.restRefs sig spec0 \ H0 := by decide

abbrev hst0_0 (t : Fin cfg0.N) : (st0_0 t).IsWhole := hstage0_0 0
abbrev hst0_1 (t : Fin cfg0.N) : (st0_1 t).IsWhole := hstage0_1 0
abbrev hst0_2 (t : Fin cfg0.N) : (st0_2 t).IsWhole := hstage0_2 0
abbrev hst0_3 (t : Fin cfg0.N) : (st0_3 t).IsWhole := hstage0_3 0
abbrev hst0_4 (t : Fin cfg0.N) : (st0_4 t).IsWhole := hstage0_4 0
abbrev hst0_5 (t : Fin cfg0.N) : (st0_5 t).IsWhole := hstage0_5 0

section Results
variable (c : Dev nD)
/-- Operand 0 as staged. -/
abbrev sg0 : Buf (Elt F) ((st0_0 t0_0).view.loc (c : Thread nD τ)) := (st0_0 t0_0).view.rep (iblk m c 0 t0_0)
/-- Operand 1 as staged. -/
abbrev sg1 : Buf (Elt F) ((st0_1 t0_0).view.loc (c : Thread nD τ)) := (st0_1 t0_0).view.rep (iblk m c 1 t0_0)
/-- Operand 2 as staged. -/
abbrev sg2 : Buf (Elt F) ((st0_2 t0_0).view.loc (c : Thread nD τ)) := (st0_2 t0_0).view.rep (iblk m c 2 t0_0)
/-- Operand 3 as staged. -/
abbrev sg3 : Buf (Elt F) ((st0_3 t0_0).view.loc (c : Thread nD τ)) := (st0_3 t0_0).view.rep (iblk m c 3 t0_0)
/-- Operand 4 as staged. -/
abbrev sg4 : Buf (Elt F) ((st0_4 t0_0).view.loc (c : Thread nD τ)) := (st0_4 t0_0).view.rep (iblk m c 4 t0_0)
/-- Operand 5 as staged. -/
abbrev sg5 : Buf (Elt F) ((st0_5 t0_0).view.loc (c : Thread nD τ)) := (st0_5 t0_0).view.rep (iblk m c 5 t0_0)
/-- The normalized input, the cosines and the signed sines. -/
def nrm : Buf (Elt F) (hvM.view.loc (c : Thread nD τ)) := GH c (V m c main_arg0) (st0_4 t0_0) (sg4 m c)
def cosT : Buf (Elt F) (cosM.view.loc (c : Thread nD τ)) := GC c (st0_0 t0_0) (st0_3 t0_0) (sg0 m c) (sg3 m c)
def sinT : Buf (Elt F) (sinM.view.loc (c : Thread nD τ)) := GS c (st0_0 t0_0) (st0_3 t0_0) (sg0 m c) (sg3 m c)
/-- The rotated queries; -/
def resQ0 : Buf (Elt F) ((c : Thread nD τ).loc main_v12_0) :=
  fun y => valP2 c (V m c main_arg5) (st0_5 t0_0) (sg5 m c) (nrm m c) (cosT m c) (sinT m c) y
/-- the keys' codes; -/
def resK : Buf (Elt F) ((c : Thread nD τ).loc main_v12_1) :=
  fun y => valK c (V m c main_arg5) (st0_1 t0_0) (st0_5 t0_0) (sg1 m c) (sg5 m c) (nrm m c) (cosT m c) (sinT m c) y
/-- the values' codes. -/
def resV : Buf (Elt F) ((c : Thread nD τ).loc main_v12_2) :=
  fun y => valV c (V m c main_arg5) (st0_2 t0_0) (st0_5 t0_0) (sg2 m c) (sg5 m c) (nrm m c) y
end Results

/-- The buffers as the region leaves them. -/
def G (c : Dev nD) : (b : Ref sig .tc) → Buf (Elt F) ((c : Thread nD τ).loc b) :=
  Function.update (Function.update (Function.update (V m c) main_v12_0 (resQ0 m c)) main_v12_1 (resK m c)) main_v12_2 (resV m c)

theorem G_v (c : Dev nD) : G m c main_v12_2 = resV m c := Function.update_self ..
theorem G_k (c : Dev nD) : G m c main_v12_1 = resK m c := (Function.update_of_ne (by decide) ..).trans (Function.update_self ..)
theorem G_q (c : Dev nD) : G m c main_v12_0 = resQ0 m c :=
  (Function.update_of_ne (by decide) ..).trans ((Function.update_of_ne (by decide) ..).trans (Function.update_self ..))

/-- The invariant: before the point the buffers as the region finds them, after it as it leaves them. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := if t.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem Φ_in (c : Dev nD) : (dats m 0 c).Φ t0_0.castSucc = Pipeline.ΦDRG osem0 spec0 H0 R0 (V m) (V m) c := by
  dsimp only [dats]; exact if_pos (by decide)
theorem Φ_out (c : Dev nD) : (dats m 0 c).Φ t0_0.succ = Pipeline.ΦDRG osem0 spec0 H0 R0 (V m) (G m) c := by
  dsimp only [dats]; exact if_neg (by decide)

/-- The scratch buffers, at anything. -/
abbrev scratchP (c : Dev nD) : sProp 𝕄 :=
  iprop((∃ f, xvP (F := F) c f) ∗ (∃ f, hvP (F := F) c f) ∗ (∃ f, kvP (F := F) c f) ∗ (∃ f, vvP (F := F) c f)
    ∗ (∃ f : Buf (Elt F) ((c : Thread nD τ).loc cc0_scratch4), ((c : Thread nD τ).loc cc0_scratch4) ↦{fullShare} f)
    ∗ (∃ f, qvP (F := F) c f) ∗ (∃ f, qpP (F := F) c f) ∗ (∃ f, cosP (F := F) c f) ∗ (∃ f, sinP (F := F) c f))
/-- The invariant's conjuncts. -/
theorem Φ_eq (c : Dev nD) (W : (c : Dev nD) → (b : Ref sig .tc) → Buf (Elt F) ((c : Thread nD τ).loc b)) :
    (Pipeline.ΦDRG osem0 spec0 H0 R0 (V m) W c : sProp 𝕄)
      = iprop(scratchP (F := F) c ∗ (∃ r, prngReg c r) ∗ cellsP (F := F) c
          ∗ (xP c (V m c main_arg0) ∗ bigSep Finset.univ (homeQ c (V m c main_arg5)))
          ∗ (qP c (W c main_v12_0) ∗ kcP c (W c main_v12_1) ∗ vcP c (W c main_v12_2))) := by
  rw [Pipeline.ΦDRG_eq, scopedRest0_eq, ownSems00_eq, ← wQ_eq, ← xP_whole, ← qP_whole, ← kcP_whole, ← vcP_whole]
  unfold Pipeline.routed
  have eH : ∀ Φ : Ref sig .tc → sProp 𝕄, bigSep H0 Φ = iprop(Φ main_arg0 ∗ Φ main_arg5) := fun Φ => by
    rw [H0, bigSep_insert (by decide), BI.bigSep_singleton]; rfl
  have eR : ∀ Φ : Ref sig .tc → sProp 𝕄, bigSep R0 Φ = iprop(Φ main_v12_0 ∗ Φ main_v12_1 ∗ Φ main_v12_2) := fun Φ => by
    rw [R0, bigSep_insert (by decide), bigSep_insert (by decide), BI.bigSep_singleton]; rfl
  rw [eH, eR]
  simp only [xvP_whole, hvP_whole, kvP_whole, vvP_whole, qvP_whole, qpP_whole, cosP_whole, sinP_whole]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) := rfl
theorem prog_eq (t : Fin cfg0.N) : (defs₀ (F := F)) .tc cfg0.body (cfg0.bodyArgs t (cfg0.slots t))
    = bodyG (st0_0 t) (hst0_0 t) (st0_1 t) (hst0_1 t) (st0_2 t) (hst0_2 t) (st0_3 t) (hst0_3 t) (st0_4 t) (hst0_4 t) (st0_5 t) (hst0_5 t) :=
  (congrFun defs_tc _).trans rfl

set_option maxHeartbeats 1000000 in
set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, before_w3, before_w4, before_w5, after_w0, after_w1, after_w2, after_w3, after_w4, after_w5]
  rw [Φ_in, Φ_out, Φ_eq, Φ_eq, G_q, G_k, G_v]
  unfold Dat.owesAt Pipeline.owesWithin
  rw [show (dats m 0 c).owed t0_0.castSucc = 0 from rfl, show (dats m 0 c).owed t0_0.succ = 0 from rfl]
  unfold owns
  iintro ⟨⟨⟨HX, HN, HK, HV, Hr, HQ, HP, HC, HS⟩, Hg, ⟨Hxs, Hc0, Hc1, Hc2, Ho0, Ho1, Ho2⟩, ⟨Hx, Hh⟩, ⟨Hqo, Hko, Hvo⟩⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  ihave Hq := (ent_of_eq (homesQ_zero c (V m c main_arg5))) $$ Hh
  icases Hq with ⟨Hw0, Hw1, Hw2, Hh⟩
  ihave Hq := (ringQ_split c) $$ Hr
  icases Hq with ⟨Hs0, Hs1, Hs2⟩
  ihave H0 := (pointsTo_rep_entails (c : Thread nD τ) (st0_0 t0_0) g0 fullShare) $$ H0
  ihave H1 := (pointsTo_rep_entails (c : Thread nD τ) (st0_1 t0_0) g1 fullShare) $$ H1
  ihave H2 := (pointsTo_rep_entails (c : Thread nD τ) (st0_2 t0_0) g2 fullShare) $$ H2
  ihave H3 := (pointsTo_rep_entails (c : Thread nD τ) (st0_3 t0_0) g3 fullShare) $$ H3
  ihave H4 := (pointsTo_rep_entails (c : Thread nD τ) (st0_4 t0_0) g4 fullShare) $$ H4
  ihave H5 := (pointsTo_rep_entails (c : Thread nD τ) (st0_5 t0_0) g5 fullShare) $$ H5
  rw [hg0, hg1, hg2, hg3, hg4, hg5]
  sl_rw [prog_eq t0_0]
  iapply (bodyRun c (V m c main_arg0) (V m c main_arg5) (st0_0 t0_0) (hst0_0 t0_0) (st0_1 t0_0) (hst0_1 t0_0) (st0_2 t0_0) (hst0_2 t0_0) (st0_3 t0_0) (hst0_3 t0_0) (st0_4 t0_0) (hst0_4 t0_0) (st0_5 t0_0) (hst0_5 t0_0) (sg0 m c) (sg1 m c) (sg2 m c) (sg3 m c) (sg4 m c) (sg5 m c) (V m c main_v12_0) (V m c main_v12_1) (V m c main_v12_2) W)
  unfold PRE POST freeQ3 freeQ
  isplitl [H0 H1 H2 H3 H4 H5 HX HN HK HV HQ HP HC HS Hx Hw0 Hw1 Hw2 Hh Hs0 Hs1 Hs2 Hc0 Hc1 Hc2 Hqo Hko Hvo Hxs Ho0 Ho1 Ho2 HW]
  · isplitl [H0 H1 H2 H3 H4 H5]
    · isplitl [H0]; · iexact H0
      isplitl [H1]; · iexact H1
      isplitl [H2]; · iexact H2
      isplitl [H3]; · iexact H3
      isplitl [H4]; · iexact H4
      iexact H5
    isplitl [HX HN HK HV HQ HP HC HS]
    · isplitl [HX]; · iexact HX
      isplitl [HN]; · iexact HN
      isplitl [HK]; · iexact HK
      isplitl [HV]; · iexact HV
      isplitl [HQ]; · iexact HQ
      isplitl [HP]; · iexact HP
      isplitl [HC]; · iexact HC
      iexact HS
    isplitl [Hx]; · iexact Hx
    isplitl [Hw0 Hw1 Hw2 Hh]
    · isplitl [Hw0]; · iexact Hw0
      isplitl [Hw1]; · iexact Hw1
      isplitl [Hw2]; · iexact Hw2
      iexact Hh
    isplitl [Hs0 Hs1 Hs2 Hc0 Hc1 Hc2]
    · isplitl [Hs0 Hc0]
      · isplitl [Hs0]; · iexact Hs0
        iexact Hc0
      isplitl [Hs1 Hc1]
      · isplitl [Hs1]; · iexact Hs1
        iexact Hc1
      isplitl [Hs2]; · iexact Hs2
      iexact Hc2
    isplitl [Hqo]; · iexact Hqo
    isplitl [Hko]; · iexact Hko
    isplitl [Hvo]; · iexact Hvo
    isplitl [Hxs Ho0 Ho1 Ho2]
    · isplitl [Hxs]; · iexact Hxs
      isplitl [Ho0]; · iexact Ho0
      isplitl [Ho1]; · iexact Ho1
      iexact Ho2
    iexact HW
  · iintro ⟨⟨H0, H1, H2, H3, H4, H5⟩, ⟨HX, HN, HK, HV, HQ, HP, HC, HS⟩, Hx, Hh, ⟨⟨Hs0, Hc0⟩, ⟨Hs1, Hc1⟩, ⟨Hs2, Hc2⟩⟩, ⟨%fq, %hq, Hqo⟩, ⟨%fk, %hk, Hko⟩, ⟨%fv, %hv, Hvo⟩, ⟨Hxs, Ho0, Ho1, Ho2⟩, ⟨%W', HW⟩⟩
    have eq0 : fq = resQ0 m c := funext hq
    have ek : fk = resK m c := funext hk
    have ev : fv = resV m c := funext hv
    subst eq0 ek ev
    isplitl [HX HN HK HV Hs0 Hs1 Hs2 HQ HP HC HS Hg Hxs Hc0 Hc1 Hc2 Ho0 Ho1 Ho2 Hx Hh Hqo Hko Hvo]
    · isplitl [HX HN HK HV Hs0 Hs1 Hs2 HQ HP HC HS]
      · isplitl [HX]; · iexact HX
        isplitl [HN]; · iexact HN
        isplitl [HK]; · iexact HK
        isplitl [HV]; · iexact HV
        isplitl [Hs0 Hs1 Hs2]
        · iapply (ringQ_join c)
          isplitl [Hs0]; · iexact Hs0
          isplitl [Hs1]; · iexact Hs1
          iexact Hs2
        isplitl [HQ]; · iexact HQ
        isplitl [HP]; · iexact HP
        isplitl [HC]; · iexact HC
        iexact HS
      isplitl [Hg]; · iexact Hg
      isplitl [Hxs Hc0 Hc1 Hc2 Ho0 Ho1 Ho2]
      · isplitl [Hxs]; · iexact Hxs
        isplitl [Hc0]; · iexact Hc0
        isplitl [Hc1]; · iexact Hc1
        isplitl [Hc2]; · iexact Hc2
        isplitl [Ho0]; · iexact Ho0
        isplitl [Ho1]; · iexact Ho1
        iexact Ho2
      isplitl [Hx Hh]
      · isplitl [Hx]; · iexact Hx
        iapply (ent_of_eq (congrArg (fun S => bigSep S (homeQ c (V m c main_arg5))) homesQ_end)); iexact Hh
      isplitl [Hqo]; · iexact Hqo
      isplitl [Hko]; · iexact Hko
      iexact Hvo
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    · iexists _; isplitr; · ipureintro; exact View.read_rep _ _
      iexact H5

/-! ## The run -/

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := hmain m) (hA := A_eq m) (G := G m)
    (hin := fun c => by rw [show (dats m 0 c).Φ 0 = _ from Φ_in m c])
    (hout := fun c => by rw [show (dats m 0 c).Φ (Fin.last cfg0.N) = _ from Φ_out m c])

/-- Every run ends with the three results at their values, the arguments as launched and the semaphores at zero. -/
theorem run : θ_run defs (onTc (τ := τ) (main (F := F))) ⟨m, fun _ => 0, ρ⟩ (fun r => (∀ c : Dev nD,
      r.2.mem ((c.tc : Thread nD τ).loc main_v12_0) = resQ0 m c
      ∧ r.2.mem ((c.tc : Thread nD τ).loc main_v12_1) = resK m c
      ∧ r.2.mem ((c.tc : Thread nD τ).loc main_v12_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.2 c main_v12_0 (by decide)).trans (G_q m c),
      (h.1.2 c main_v12_1 (by decide)).trans (G_k m c),
      (h.1.2 c main_v12_2 (by decide)).trans (G_v m c),
      ((h.1.1 c).2 main_arg0 (Finset.mem_sdiff.mpr ⟨Pipeline.mem_restRefs_of main_arg0 (by decide) (by decide), by decide⟩)).trans (V_main_arg0 m c),
      ((h.1.1 c).1 0).trans (((dats m 0 c).arrAt_in 0 rfl _).trans ((A_eq m c 0).trans (V_main_arg1 m c))),
      ((h.1.1 c).1 1).trans (((dats m 0 c).arrAt_in 1 rfl _).trans ((A_eq m c 1).trans (V_main_arg2 m c))),
      ((h.1.1 c).1 2).trans (((dats m 0 c).arrAt_in 2 rfl _).trans ((A_eq m c 2).trans (V_main_arg3 m c))),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩, h.2⟩)
    (run_main m ρ)

end Cert.Proof.Front

end
-- ==== Proof.FrontIdealRings.lean ====
/-
  Names for the weight ring: a column block of the weight, a slot of a ring, a slot's semaphore, a slot in flight.
-/
module

public import proofs.«01_k».proof.Defs
public import proofs.«01_k».proof.Proof.Gen.FrontIdeal
public import proofs.«01_k».proof.Proof.Gen.FrontIdeal.Skeleton
public import proofs.«01_k».proof.Proof.Gen.FrontIdeal.Loops
public import proofs.«01_k».proof.Proof.Gen.FrontIdeal.Launch
public import proofs.«01_k».proof.Proof.Gen.FrontIdeal.Points
public import proofs.«01_k».proof.Proof.Gen.FrontIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic

@[expose] public section

set_option maxRecDepth 16384

noncomputable section

namespace Cert.Proof.FrontIdeal

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

/-- The resource algebra: the pipeline library's, beside the counters the kernel's own copies ride on. -/
abbrev UU (nD : Nat) (τ : Topo) : Type := Pipeline.UD sig nD τ
local notation "𝕄" => MT nD τ sig Unit (Elt F) ℕ (UU nD τ) ℕ
abbrev 𝒱₀ : Variants := Variants.none

omit [FloatOps F] [Named F] in
theorem entails_of_eq {P Q : sProp 𝕄} (e : P = Q) : P ⊢ Q := e ▸ .rfl

abbrev xM : Memref sig .tc .hbm S256x2560 .bf16 := Memref.whole main_arg0
abbrev qM : Memref sig .tc .hbm S256x32x128 .bf16 := Memref.whole main_v12_0
abbrev kcM : Memref sig .tc .hbm S256x8x128 .fp8e4m3 := Memref.whole main_v12_1
abbrev vcM : Memref sig .tc .hbm S256x8x128 .fp8e4m3 := Memref.whole main_v12_2
abbrev xvM : Memref sig .tc .vmem S256x2560 .bf16 := Memref.whole cc0_scratch0
abbrev hvM : Memref sig .tc .vmem S256x2560 .bf16 := Memref.whole cc0_scratch1
abbrev kvM : Memref sig .tc .vmem S264x8x128 .fp8e4m3 := Memref.whole cc0_scratch2
abbrev vvM : Memref sig .tc .vmem S264x8x128 .fp8e4m3 := Memref.whole cc0_scratch3
abbrev qvM : Memref sig .tc .vmem S32x288x128 .f32 := Memref.whole cc0_scoped0
abbrev qpM : Memref sig .tc .vmem S256x32x128 .bf16 := Memref.whole cc0_scoped1
abbrev cosM : Memref sig .tc .vmem S256x128 .f32 := Memref.whole cc0_scoped2
abbrev sinM : Memref sig .tc .vmem S256x128 .f32 := Memref.whole cc0_scoped3

theorem trips1 : k0_t1_loop.trips = 32 := by decide +kernel
theorem trips2 : k0_t2_loop.trips = 8 := by decide +kernel
theorem lt1 (k : Fin k0_t1_loop.trips) : k.val < 32 := Nat.lt_of_lt_of_eq k.isLt trips1
theorem lt8 (k : Fin k0_t2_loop.trips) : k.val < 8 := Nat.lt_of_lt_of_eq k.isLt trips2
theorem lt2 (k : Fin k0_t2_loop.trips) : k.val < 12 := Nat.lt_trans (lt8 k) (by decide)
/-- The loop always issues the block three ahead. -/
theorem cond1_all : ∀ k : Fin k0_t2_loop.trips, k0_cond1 k = 1#1 := by decide +kernel

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem sl3_8 : Ring.sl 3 8 = 2 := Fin.ext (by rfl)
theorem sl3_9 : Ring.sl 3 (8 + 1) = 0 := Fin.ext (by rfl)
theorem sl3_10 : Ring.sl 3 (8 + 2) = 1 := Fin.ext (by rfl)
theorem bk12_0 : Ring.bk 12 0 = 0 := Fin.ext (by rfl)
theorem bk12_1 : Ring.bk 12 (0 + 1) = 1 := Fin.ext (by rfl)
theorem bk12_2 : Ring.bk 12 (0 + 2) = 2 := Fin.ext (by rfl)
theorem bk12_8 : Ring.bk 12 8 = 8 := Fin.ext (by rfl)
theorem bk12_9 : Ring.bk 12 (8 + 1) = 9 := Fin.ext (by rfl)
theorem bk12_10 : Ring.bk 12 (8 + 2) = 10 := Fin.ext (by rfl)
theorem bk12_11 : Ring.bk 12 (8 + 3) = 11 := Fin.ext (by rfl)

abbrev slotOff (s : Fin 3) : Fin 3 → Nat := ![s.val, 0, 0]
instance (s : Fin 3) : ClosedOff (slotOff s) := ⟨slotOff s, rfl⟩
abbrev semOff (s : Fin 3) : Fin 1 → Nat := ![s.val]
theorem semOff_inb (s : Fin 3) : ∀ a, semOff s a + S1.size a ≤ S3.size a := by
  have := s.isLt; intro a; fin_cases a; show s.val + 1 ≤ 3; omega

/-! ## The ring of the query, key and value projection -/

abbrev wMQ : Memref sig .tc .hbm S2560x6144 .fp8e4m3 := Memref.whole main_arg5
abbrev ringMQ : Memref sig .tc .vmem S3x2560x512 .fp8e4m3 := Memref.whole cc0_scratch4

abbrev blkOffQ (b : Fin 12) : Fin 2 → Nat := ![0, 512 * b.val]
theorem blkOffQ_inb (b : Fin 12) : ∀ a, blkOffQ b a + S2560x512.size a ≤ S2560x6144.size a := by
  have := b.isLt; intro a; fin_cases a
  · show 0 + 2560 ≤ 2560; omega
  · show 512 * b.val + 512 ≤ 6144; omega
theorem slotOffQ_inb (s : Fin 3) : ∀ a, slotOff s a + S1x2560x512.size a ≤ S3x2560x512.size a := by
  have := s.isLt; intro a; fin_cases a
  · show s.val + 1 ≤ 3; omega
  · show 0 + 2560 ≤ 2560; omega
  · show 0 + 512 ≤ 512; omega

/-- Column block `b` of the weight in HBM, as the body slices it. -/
def blkQ (b : Fin 12) : Memref sig .tc .hbm S2560x512 .fp8e4m3 :=
  wMQ.slice (Rect.unit (s := S2560x6144) (blkOffQ b) S2560x512.size (blkOffQ_inb b)) (fun _ => rfl)
/-- Slot `s` of the ring, as the body slices and squeezes it. -/
def rslotQ (s : Fin 3) : Memref sig .tc .vmem S2560x512 .fp8e4m3 :=
  (ringMQ.slice (Rect.unit (s := S3x2560x512) (slotOff s) S1x2560x512.size (slotOffQ_inb s)) (fun _ => rfl)).squeeze S2560x512 squeezes_S1x2560x512_S2560x512
/-- Slot `s`'s DMA semaphore. -/
def csmQ (s : Fin 3) : DmaSems sig S_ := (cc0_scratch6.slice (Rect.unit (s := S3) (semOff s) S1.size (semOff_inb s))).squeeze S_ squeezes_S1_S_

instance (b : Fin 12) : ClosedOff (blkOffQ b) := ⟨blkOffQ b, rfl⟩

theorem off3_eqQ (k : Fin k0_t2_loop.trips) : k0_off3 k = semOff (Ring.sl 3 k.val) := by
  rw [k0_off3_eq]; simp [Ring.sl, Fin.ofNat]
theorem off8_eqQ (k : Fin k0_t2_loop.trips) : k0_off8 k = semOff (Ring.sl 3 k.val) := by
  rw [k0_off8_eq]; simp [Ring.sl, Fin.ofNat]
theorem off4_eqQ (k : Fin k0_t2_loop.trips) : k0_off4 k = slotOff (Ring.sl 3 k.val) := by
  rw [k0_off4_eq]; simp [Ring.sl, Fin.ofNat]
theorem off6_eqQ (k : Fin k0_t2_loop.trips) : k0_off6 k = slotOff (Ring.sl 3 k.val) := by
  rw [k0_off6_eq]; simp [Ring.sl, Fin.ofNat]
theorem off9_eqQ (k : Fin k0_t2_loop.trips) : k0_off9 k = slotOff (Ring.sl 3 k.val) := by
  rw [k0_off9_eq]; simp [Ring.sl, Fin.ofNat]
theorem off5_eqQ (k : Fin k0_t2_loop.trips) : k0_off5 k = blkOffQ (Ring.bk 12 k.val) := by
  rw [k0_off5_eq]; unfold blkOffQ; rw [Ring.bk_val (lt2 k)]
theorem off10_eqQ (k : Fin k0_t2_loop.trips) (h : k.val + 3 < 12) : k0_off10 k = blkOffQ (Ring.bk 12 (k.val + 3)) := by
  rw [k0_off10_eq]; unfold blkOffQ; rw [Ring.bk_val h, Nat.mul_add]

/-- The slot's window at trip `k`, by the slot's number. -/
instance (k : Fin k0_t2_loop.trips) : ClosedOff (k0_off6 k) := ⟨slotOff (Ring.sl 3 k.val), off6_eqQ k⟩

theorem csmQ_congr {off : Fin 1 → Nat} {s : Fin 3} (e : off = semOff s) (hh) :
    (cc0_scratch6.slice (Rect.unit (s := S3) off S1.size hh)).squeeze S_ squeezes_S1_S_ = csmQ s :=
  congrArg (fun A : DmaSems sig S1 => A.squeeze S_ squeezes_S1_S_) (SemArray.slice_unit_congr _ e _ _)
theorem rslotQ_congr {off : Fin 3 → Nat} {s : Fin 3} (e : off = slotOff s) (hh hs) :
    (ringMQ.slice (Rect.unit (s := S3x2560x512) off S1x2560x512.size hh) hs).squeeze S2560x512 squeezes_S1x2560x512_S2560x512 = rslotQ s :=
  congrArg (fun M : Memref sig .tc .vmem S1x2560x512 .fp8e4m3 => M.squeeze S2560x512 squeezes_S1x2560x512_S2560x512) (Memref.slice_unit_congr _ e _ _ _ _)
theorem blkQ_congr {off : Fin 2 → Nat} {b : Fin 12} (e : off = blkOffQ b) (hh hs) :
    wMQ.slice (Rect.unit (s := S2560x6144) off S2560x512.size hh) hs = blkQ b :=
  Memref.slice_unit_congr _ e _ (blkOffQ_inb b) _ (fun _ => rfl)

@[sl_canon] theorem semQL0 (hh) : (cc0_scratch6.slice (Rect.unit (s := S3) ![0] S1.size hh)).squeeze S_ squeezes_S1_S_ = csmQ 0 := csmQ_congr (by decide) _
@[sl_canon] theorem slotQL0 (hh hs) : (ringMQ.slice (Rect.unit (s := S3x2560x512) ![0, 0, 0] S1x2560x512.size hh) hs).squeeze S2560x512 squeezes_S1x2560x512_S2560x512 = rslotQ 0 := rslotQ_congr (by decide) _ _
@[sl_canon] theorem blkQL0 (hh hs) : wMQ.slice (Rect.unit (s := S2560x6144) ![0, 0] S2560x512.size hh) hs = blkQ 0 := blkQ_congr (by decide) _ _
@[sl_canon] theorem semQL1 (hh) : (cc0_scratch6.slice (Rect.unit (s := S3) ![1] S1.size hh)).squeeze S_ squeezes_S1_S_ = csmQ 1 := csmQ_congr (by decide) _
@[sl_canon] theorem slotQL1 (hh hs) : (ringMQ.slice (Rect.unit (s := S3x2560x512) ![1, 0, 0] S1x2560x512.size hh) hs).squeeze S2560x512 squeezes_S1x2560x512_S2560x512 = rslotQ 1 := rslotQ_congr (by decide) _ _
@[sl_canon] theorem blkQL1 (hh hs) : wMQ.slice (Rect.unit (s := S2560x6144) ![0, 512] S2560x512.size hh) hs = blkQ 1 := blkQ_congr (by decide) _ _
@[sl_canon] theorem semQL2 (hh) : (cc0_scratch6.slice (Rect.unit (s := S3) ![2] S1.size hh)).squeeze S_ squeezes_S1_S_ = csmQ 2 := csmQ_congr (by decide) _
@[sl_canon] theorem slotQL2 (hh hs) : (ringMQ.slice (Rect.unit (s := S3x2560x512) ![2, 0, 0] S1x2560x512.size hh) hs).squeeze S2560x512 squeezes_S1x2560x512_S2560x512 = rslotQ 2 := rslotQ_congr (by decide) _ _
@[sl_canon] theorem blkQL2 (hh hs) : wMQ.slice (Rect.unit (s := S2560x6144) ![0, 1024] S2560x512.size hh) hs = blkQ 2 := blkQ_congr (by decide) _ _

@[sl_canon] theorem semQK (k : Fin k0_t2_loop.trips) (hh) :
    (cc0_scratch6.slice (Rect.unit (s := S3) (k0_off3 k) S1.size hh)).squeeze S_ squeezes_S1_S_ = csmQ (Ring.sl 3 k.val) := csmQ_congr (off3_eqQ k) _
@[sl_canon] theorem slotQK (k : Fin k0_t2_loop.trips) (hh hs) :
    (ringMQ.slice (Rect.unit (s := S3x2560x512) (k0_off4 k) S1x2560x512.size hh) hs).squeeze S2560x512 squeezes_S1x2560x512_S2560x512 = rslotQ (Ring.sl 3 k.val) := rslotQ_congr (off4_eqQ k) _ _
@[sl_canon] theorem blkQW (k : Fin k0_t2_loop.trips) (hh hs) :
    wMQ.slice (Rect.unit (s := S2560x6144) (k0_off5 k) S2560x512.size hh) hs = blkQ (Ring.bk 12 k.val) := blkQ_congr (off5_eqQ k) _ _
@[sl_canon] theorem semQK' (k : Fin k0_t2_loop.trips) (hh) :
    (cc0_scratch6.slice (Rect.unit (s := S3) (k0_off8 k) S1.size hh)).squeeze S_ squeezes_S1_S_ = csmQ (Ring.sl 3 k.val) := csmQ_congr (off8_eqQ k) _
@[sl_canon] theorem slotQK' (k : Fin k0_t2_loop.trips) (hh hs) :
    (ringMQ.slice (Rect.unit (s := S3x2560x512) (k0_off9 k) S1x2560x512.size hh) hs).squeeze S2560x512 squeezes_S1x2560x512_S2560x512 = rslotQ (Ring.sl 3 k.val) := rslotQ_congr (off9_eqQ k) _ _
@[sl_canon] theorem blkQI (k : Fin k0_t2_loop.trips) (h : k.val + 3 < 12) (hh hs) :
    wMQ.slice (Rect.unit (s := S2560x6144) (k0_off10 k) S2560x512.size hh) hs = blkQ (Ring.bk 12 (k.val + 3)) := blkQ_congr (off10_eqQ k h) _ _

/-! The four tiles after the loop. -/
@[sl_canon] theorem semQN8 (hh) : (cc0_scratch6.slice (Rect.unit (s := S3) (k0_off12 8#32) S1.size hh)).squeeze S_ squeezes_S1_S_ = csmQ 2 := csmQ_congr (by decide) _
@[sl_canon] theorem slotQN8 (hh hs) : (ringMQ.slice (Rect.unit (s := S3x2560x512) (k0_off13 8#32) S1x2560x512.size hh) hs).squeeze S2560x512 squeezes_S1x2560x512_S2560x512 = rslotQ 2 := rslotQ_congr (by decide) _ _
@[sl_canon] theorem blkQN8 (hh hs) : wMQ.slice (Rect.unit (s := S2560x6144) ![0, 4096] S2560x512.size hh) hs = blkQ 8 := blkQ_congr (by decide) _ _
theorem off14_8 : k0_off14 8#32 = slotOff 2 := by decide
instance : ClosedOff (k0_off14 8#32) := ⟨slotOff 2, off14_8⟩
@[sl_canon] theorem semQN9 (hh) : (cc0_scratch6.slice (Rect.unit (s := S3) (k0_off12 9#32) S1.size hh)).squeeze S_ squeezes_S1_S_ = csmQ 0 := csmQ_congr (by decide) _
@[sl_canon] theorem slotQN9 (hh hs) : (ringMQ.slice (Rect.unit (s := S3x2560x512) (k0_off13 9#32) S1x2560x512.size hh) hs).squeeze S2560x512 squeezes_S1x2560x512_S2560x512 = rslotQ 0 := rslotQ_congr (by decide) _ _
@[sl_canon] theorem blkQN9 (hh hs) : wMQ.slice (Rect.unit (s := S2560x6144) ![0, 4608] S2560x512.size hh) hs = blkQ 9 := blkQ_congr (by decide) _ _
theorem off14_9 : k0_off14 9#32 = slotOff 0 := by decide
instance : ClosedOff (k0_off14 9#32) := ⟨slotOff 0, off14_9⟩
@[sl_canon] theorem semQN10 (hh) : (cc0_scratch6.slice (Rect.unit (s := S3) (k0_off12 10#32) S1.size hh)).squeeze S_ squeezes_S1_S_ = csmQ 1 := csmQ_congr (by decide) _
@[sl_canon] theorem slotQN10 (hh hs) : (ringMQ.slice (Rect.unit (s := S3x2560x512) (k0_off13 10#32) S1x2560x512.size hh) hs).squeeze S2560x512 squeezes_S1x2560x512_S2560x512 = rslotQ 1 := rslotQ_congr (by decide) _ _
@[sl_canon] theorem blkQN10 (hh hs) : wMQ.slice (Rect.unit (s := S2560x6144) ![0, 5120] S2560x512.size hh) hs = blkQ 10 := blkQ_congr (by decide) _ _
theorem off14_10 : k0_off14 10#32 = slotOff 1 := by decide
instance : ClosedOff (k0_off14 10#32) := ⟨slotOff 1, off14_10⟩
@[sl_canon] theorem semQN11 (hh) : (cc0_scratch6.slice (Rect.unit (s := S3) (k0_off12 11#32) S1.size hh)).squeeze S_ squeezes_S1_S_ = csmQ 2 := csmQ_congr (by decide) _
@[sl_canon] theorem slotQN11 (hh hs) : (ringMQ.slice (Rect.unit (s := S3x2560x512) (k0_off13 11#32) S1x2560x512.size hh) hs).squeeze S2560x512 squeezes_S1x2560x512_S2560x512 = rslotQ 2 := rslotQ_congr (by decide) _ _
@[sl_canon] theorem blkQN11 (hh hs) : wMQ.slice (Rect.unit (s := S2560x6144) ![0, 5632] S2560x512.size hh) hs = blkQ 11 := blkQ_congr (by decide) _ _
theorem off14_11 : k0_off14 11#32 = slotOff 2 := by decide
instance : ClosedOff (k0_off14 11#32) := ⟨slotOff 2, off14_11⟩

section PiecesQ
variable (c : Dev nD) (XW : Buf (Elt F) (wMQ.view.loc (c : Thread nD τ)))

abbrev cellQ (s : Fin 3) : sProp 𝕄 := semVal ((c : Thread nD τ), SemLoc.dma (csmQ s).sem) 0
abbrev slotQ (s : Fin 3) (f : Buf (Elt F) ((rslotQ s).view.loc (c : Thread nD τ))) : sProp 𝕄 :=
  (rslotQ s).view.loc (c : Thread nD τ) ↦[(rslotQ s).view.set]{fullShare} f
/-- Block `b` home: held on its elements at the weight's contents. -/
abbrev homeQ (b : Fin 12) : sProp 𝕄 := (blkQ b).view.loc (c : Thread nD τ) ↦[(blkQ b).view.set]{fullShare} XW
/-- Block `b`'s elements as a slot's payload. -/
abbrev payloadQ (b : Fin 12) : S2560x512.Idx → Elt F .fp8e4m3 := ReadAs.same.apply ((blkQ b).view.read (Elt F) XW)
/-- What block `b`'s copy leaves in slot `s` over prior contents `f`: the block, written whole. -/
abbrev landedQ (s : Fin 3) (b : Fin 12) (f : Buf (Elt F) ((rslotQ s).view.loc (c : Thread nD τ))) : Buf (Elt F) ((rslotQ s).view.loc (c : Thread nD τ)) :=
  (rslotQ s).view.writes (Elt F) f [⟨Rect.whole S2560x512, payloadQ c XW b⟩]
/-- Slot `s` in flight with block `b`, issued over `f`. -/
abbrev flightQ (s : Fin 3) (b : Fin 12) (f : Buf (Elt F) ((rslotQ s).view.loc (c : Thread nD τ))) : sProp 𝕄 :=
  Transfers.Flight countersEmb (c : Thread nD τ) (SemLoc.dma (csmQ s).sem) () 40960 iprop(slotQ c s (landedQ c XW s b f) ∗ homeQ c XW b)

/-- The blocks home before trip `k`: the one about to go out beside the rest; -/
theorem homesQ_here (k : ℕ) (h : k + 3 < 12) :
    bigSep (Ring.homeSet 3 k) (homeQ c XW) = iprop(homeQ c XW (Ring.bk 12 (k + 3)) ∗ bigSep ((Ring.homeSet 3 k).erase (Ring.bk 12 (k + 3))) (homeQ c XW)) := by
  conv_lhs => rw [Ring.homeSet_out 3 k h, bigSep_insert (Ring.bkL_not_mem_erase 3 k)]
  rfl
/-- after it: the one just back beside that rest; -/
theorem homesQ_next (k : ℕ) (h : k + 3 < 12) :
    bigSep (Ring.homeSet 3 (k + 1)) (homeQ c XW) = iprop(homeQ c XW (Ring.bk 12 k) ∗ bigSep ((Ring.homeSet 3 k).erase (Ring.bk 12 (k + 3))) (homeQ c XW)) := by
  conv_lhs => rw [Ring.homeSet_succ 3 k h, bigSep_insert (Ring.bk_not_mem_erase 3 k (by omega) (by decide))]
  rfl
/-- after a trip that sends none out: the one just back beside all that were home. -/
theorem homesQ_tail (k : ℕ) (h : 12 ≤ k + 3) (hk : k < 12) :
    bigSep (Ring.homeSet 3 (k + 1)) (homeQ c XW) = iprop(homeQ c XW (Ring.bk 12 k) ∗ bigSep (Ring.homeSet 3 k) (homeQ c XW)) := by
  conv_lhs => rw [Ring.homeSet_succ_tail 3 k h hk, bigSep_insert (Ring.bk_not_mem_homeSet 3 k hk (by decide))]
  rfl

/-- Slot `s` free: its elements at anything, its semaphore at zero. -/
def freeQ (s : Fin 3) : sProp 𝕄 := iprop((∃ f, slotQ (F := F) c s f) ∗ cellQ (F := F) c s)
/-- Slot `s` in flight with block `b`. -/
def inflQ (s : Fin 3) (b : Fin 12) : sProp 𝕄 := iprop(∃ f, flightQ c XW s b f)
/-- The slot that carries block `p`: in flight while the block exists, else free. -/
@[irreducible] def roleQ (p : ℕ) : sProp 𝕄 := Ring.roleAt (freeQ (F := F) c (Ring.sl 3 p)) (inflQ c XW (Ring.sl 3 p)) p

/-- The flight a trip issues: into the slot as the earlier block's flight left it, the new block written over it. -/
theorem flightQ_after (s : Fin 3) (b b' : Fin 12) :
    flightQ c XW s b' ((rslotQ s).view.writes (Elt F) (rslotQ s).view.junk [⟨Rect.whole S2560x512, payloadQ c XW b⟩])
      = Transfers.Flight countersEmb (c : Thread nD τ) (SemLoc.dma (csmQ s).sem) () 40960
          iprop(((rslotQ s).view.loc (c : Thread nD τ) ↦[(rslotQ s).view.set]{fullShare}
                  (rslotQ s).view.writes (Elt F) (rslotQ s).view.junk [⟨Rect.whole S2560x512, payloadQ c XW b'⟩, ⟨Rect.whole S2560x512, payloadQ c XW b⟩])
                ∗ homeQ c XW b') := by
  simp only [flightQ, landedQ, slotQ, View.writes]

theorem roleQ_here (k : ℕ) (h : k < 12) : roleQ (F := F) c XW k = iprop(∃ f, flightQ c XW (Ring.sl 3 k) (Ring.bk 12 k) f) := by
  unfold roleQ; exact Ring.roleAt_of_lt _ _ k h
theorem roleQ_next (k : ℕ) (h : k + 3 < 12) :
    roleQ (F := F) c XW (k + 1 + 2) = iprop(∃ f, flightQ c XW (Ring.sl 3 k) (Ring.bk 12 (k + 3)) f) := by
  unfold roleQ; rw [Ring.sl_succ_add 3 k 2 rfl]; exact Ring.roleAt_of_lt _ _ (k + 3) h
theorem roleQ_free (k : ℕ) (h : 12 ≤ k + 3) :
    roleQ (F := F) c XW (k + 1 + 2) = iprop((∃ f, slotQ (F := F) c (Ring.sl 3 k) f) ∗ cellQ (F := F) c (Ring.sl 3 k)) := by
  unfold roleQ; rw [Ring.sl_succ_add 3 k 2 rfl]; exact Ring.roleAt_of_le _ _ (k + 3) h

/-- The ring before trip `k`: the blocks at home, and the slots by the blocks they carry next. -/
abbrev ringQ (k : ℕ) : sProp 𝕄 := iprop(bigSep (Ring.homeSet 3 k) (homeQ c XW) ∗ roleQ c XW k ∗ roleQ c XW (k + 1) ∗ roleQ c XW (k + 2))

/-- A slot's load, its unit axis dropped, is the block its copy brought. -/
theorem slotQ_load_at {off : Fin 3 → Nat} {s : Fin 3} (e : off = slotOff s) (hh) (f) (x : S2560x512.Idx → Elt F .fp8e4m3) :
    shapeCast S2560x512 (ringMQ.view.readAt (Elt F) (Rect.unit (s := S3x2560x512) off S1x2560x512.size hh).toLoadRect
      ((rslotQ s).view.writes (Elt F) f [⟨Rect.whole S2560x512, x⟩])) shapeCasts_S1x2560x512_S2560x512 = x := by
  subst e
  exact (Memref.read_squeeze_slice (Val := Elt F) ringMQ (Rect.unit (s := S3x2560x512) (slotOff s) S1x2560x512.size hh) (fun _ => rfl)
    squeezes_S1x2560x512_S2560x512 shapeCasts_S1x2560x512_S2560x512 _).symm.trans (View.read_writes_whole (rslotQ s).view _ x)
theorem slotQ_load (k : Fin k0_t2_loop.trips) :
    shapeCast S2560x512 (ringMQ.view.readAt (Elt F) (Rect.unit (s := S3x2560x512) (k0_off6 k) S1x2560x512.size (k0_off6_inb k)).toLoadRect
      ((rslotQ (Ring.sl 3 k.val)).view.writes (Elt F) (rslotQ (Ring.sl 3 k.val)).view.junk
        [⟨Rect.whole S2560x512, payloadQ c XW (Ring.bk 12 k.val)⟩])) shapeCasts_S1x2560x512_S2560x512
      = payloadQ c XW (Ring.bk 12 k.val) := slotQ_load_at (off6_eqQ k) _ _ _

end PiecesQ

end Cert.Proof.FrontIdeal

end
-- ==== Proof.FrontIdealPos.lean ====
/-
  The positions' loop: eight rows of the angle buffer a trip.
-/
module

public import proofs.«01_k».proof.Defs
public import proofs.«01_k».proof.Proof.Gen.FrontIdeal
public import proofs.«01_k».proof.Proof.Gen.FrontIdeal.Skeleton
public import proofs.«01_k».proof.Proof.Gen.FrontIdeal.Loops
public import proofs.«01_k».proof.Proof.Gen.FrontIdeal.Launch
public import proofs.«01_k».proof.Proof.Gen.FrontIdeal.Points
public import proofs.«01_k».proof.Proof.Gen.FrontIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.FrontIdealRings

@[expose] public section

set_option maxRecDepth 16384

noncomputable section

namespace Cert.Proof.FrontIdeal

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

section TripP

variable (c : Dev nD)
  (arg0 : Memref sig .tc .smem S256 .i32) (harg0 : arg0.IsWhole) (arg1 : Memref sig .tc .smem S1 .f32) (harg1 : arg1.IsWhole)
  (arg2 : Memref sig .tc .smem S1 .f32) (harg2 : arg2.IsWhole) (arg3 : Memref sig .tc .vmem S1x128 .f32) (harg3 : arg3.IsWhole)
  (arg4 : Memref sig .tc .vmem S1x2560 .f32) (harg4 : arg4.IsWhole) (arg5 : Memref sig .tc .vmem S1x6144 .f32) (harg5 : arg5.IsWhole)
  (g0 : Buf (Elt F) (arg0.view.loc (c : Thread nD τ)))

abbrev p0P : sProp 𝕄 := arg0.view.loc (c : Thread nD τ) ↦[arg0.view.set]{fullShare} g0
abbrev cosP (f : Buf (Elt F) (cosM.view.loc (c : Thread nD τ))) : sProp 𝕄 := cosM.view.loc (c : Thread nD τ) ↦[cosM.view.set]{fullShare} f
abbrev tripPG (k : Fin k0_t1_loop.trips) (a : BitVec 32) : Prog (TpuEff nD τ sig (Elt F) Λ₀ .tc) (BitVec 32) :=
  k0_t1_body (F := F) arg0 harg0 arg1 harg1 arg2 harg2 arg3 harg3 arg4 harg4 arg5 harg5 xM (Memref.isWhole_whole _) wMQ (Memref.isWhole_whole _) qM (Memref.isWhole_whole _) kcM (Memref.isWhole_whole _) vcM (Memref.isWhole_whole _) xvM (Memref.isWhole_whole _) hvM (Memref.isWhole_whole _) kvM (Memref.isWhole_whole _) vvM (Memref.isWhole_whole _) ringMQ (Memref.isWhole_whole _) cc0_scratch5 cc0_scratch6 cc0_scratch7 qvM (Memref.isWhole_whole _) qpM (Memref.isWhole_whole _) cosM (Memref.isWhole_whole _) sinM (Memref.isWhole_whole _) k a

/-- The angle buffer after the loop: each row its position, in every lane. -/
def valP (y : S256x128.Idx) : Elt F .f32 := k0_pay1 (arg0.view.read (Elt F) g0 (ValueIdx.ix1 (n := 256) (y 0))) (ix2 (n0 := 1) (n1 := 128) 0 (y 1))

/-- The rows before `n` are right. -/
def GoodP (n : ℕ) (f : Buf (Elt F) (cosM.view.loc (c : Thread nD τ))) : Prop :=
  ∀ y : S256x128.Idx, (y 0).val < n → cosM.view.read (Elt F) f y = valP c arg0 g0 y

/-- A word of the positions, loaded, is the row's position. -/
theorem pos_at (n : ℕ) (hn : n < 256) {off : Fin 1 → ℕ} (e : off = ![n]) (hi) (h1) :
    arg0.view.readAt (Elt F) (Rect.unit (s := S256) off S1.size hi).toLoadRect g0 (Shape.Idx.first h1)
      = arg0.view.read (Elt F) g0 (ValueIdx.ix1 (n := 256) ⟨n, hn⟩) := by
  subst e
  refine congrArg (arg0.view.read (Elt F) g0) (funext fun a => Fin.ext ?_)
  have hx : (Shape.Idx.first h1 (0 : Fin 1)).val < 1 := (Shape.Idx.first h1 (0 : Fin 1)).isLt
  fin_cases a
  show n + 1 * (Shape.Idx.first h1 (0 : Fin 1)).val = n
  omega

/-- One more row right. -/
theorem goodP_cons (n m : ℕ) (hm : m = n + 1) (f : Buf (Elt F) (cosM.view.loc (c : Thread nD τ))) (L) {off : Fin 2 → ℕ} (ho : off = ![n, 0]) (hi)
    (w : S1x128.Idx → Elt F .f32) (v : Elt F .i32) (hw : w = k0_pay1 v)
    (hv : ∀ hn : n < 256, v = arg0.view.read (Elt F) g0 (ValueIdx.ix1 (n := 256) ⟨n, hn⟩))
    (h : GoodP c arg0 g0 n (cosM.view.writes (Elt F) f L)) :
    GoodP c arg0 g0 m (cosM.view.writes (Elt F) f (⟨Rect.unit (s := S256x128) off S1x128.size hi, w⟩ :: L)) := by
  intro y hy
  by_cases hlt : (y 0).val < n
  · rw [View.read_writes_cons_unit_of_not_mem cosM.view f _ _ L y ho 0 (.inl hlt)]
    exact h y hlt
  · have hn : n < 256 := by have : (y 0).val < 256 := (y 0).isLt; omega
    have e0 : (y 0 : Fin 256) = ⟨n, hn⟩ := Fin.ext (by show (y 0).val = n; omega)
    have ev : valP c arg0 g0 y = w (ix2 (n0 := 1) (n1 := 128) 0 (y 1)) := by
      rw [hw, hv hn]
      exact congrArg (fun r : Fin 256 => k0_pay1 (arg0.view.read (Elt F) g0 (ValueIdx.ix1 (n := 256) r)) (ix2 (n0 := 1) (n1 := 128) 0 (y 1))) e0
    rw [ev]
    refine View.read_writes_cons_unit_of_mem cosM.view f _ _ L y _ ho fun a => ?_
    fin_cases a
    · show (y 0).val = n + 0; omega
    · show (y 1).val = 0 + (y 1).val; omega

def invP (k : ℕ) (_ : BitVec 32) : sProp 𝕄 :=
  iprop(∃ f, ⌜GoodP c arg0 g0 (8 * k) f⌝ ∗ p0P c arg0 g0 ∗ cosP c f)

theorem stepP (k : Fin k0_t1_loop.trips) (a : BitVec 32) :
    invP c arg0 g0 k a ⊢ wp frame (wpE (defs₀ (F := F)) 𝒱₀ (c : Thread nD τ) none) Set.univ (tripPG arg0 harg0 arg1 harg1 arg2 harg2 arg3 harg3 arg4 harg4 arg5 harg5 k a) (invP c arg0 g0 (k.val + 1)) := by
  unfold invP
  iintro ⟨%f, %hg, H0, HC⟩
  dsimp only [tripPG]
  sl_unfold [k0_t1_body]
  sl_exec
  sl_step
  iexists _
  isplitr
  rotate_left
  · isplitl [H0]; · iexact H0
    iexact HC
  · ipureintro
    exact goodP_cons c arg0 g0 (8 * k.val + 7) _ (by omega) f _ (k0_off2_eq k ⟨7, by decide⟩) _ _ _ rfl (fun hn => pos_at c arg0 g0 _ hn (k0_off1_eq k ⟨7, by decide⟩) _ _) (
      goodP_cons c arg0 g0 (8 * k.val + 6) _ (by omega) f _ (k0_off2_eq k ⟨6, by decide⟩) _ _ _ rfl (fun hn => pos_at c arg0 g0 _ hn (k0_off1_eq k ⟨6, by decide⟩) _ _) (
      goodP_cons c arg0 g0 (8 * k.val + 5) _ (by omega) f _ (k0_off2_eq k ⟨5, by decide⟩) _ _ _ rfl (fun hn => pos_at c arg0 g0 _ hn (k0_off1_eq k ⟨5, by decide⟩) _ _) (
      goodP_cons c arg0 g0 (8 * k.val + 4) _ (by omega) f _ (k0_off2_eq k ⟨4, by decide⟩) _ _ _ rfl (fun hn => pos_at c arg0 g0 _ hn (k0_off1_eq k ⟨4, by decide⟩) _ _) (
      goodP_cons c arg0 g0 (8 * k.val + 3) _ (by omega) f _ (k0_off2_eq k ⟨3, by decide⟩) _ _ _ rfl (fun hn => pos_at c arg0 g0 _ hn (k0_off1_eq k ⟨3, by decide⟩) _ _) (
      goodP_cons c arg0 g0 (8 * k.val + 2) _ (by omega) f _ (k0_off2_eq k ⟨2, by decide⟩) _ _ _ rfl (fun hn => pos_at c arg0 g0 _ hn (k0_off1_eq k ⟨2, by decide⟩) _ _) (
      goodP_cons c arg0 g0 (8 * k.val + 1) _ (by omega) f _ (k0_off2_eq k ⟨1, by decide⟩) _ _ _ rfl (fun hn => pos_at c arg0 g0 _ hn (k0_off1_eq k ⟨1, by decide⟩) _ _) (
      goodP_cons c arg0 g0 (8 * k.val + 0) _ (by omega) f _ (k0_off2_eq k ⟨0, by decide⟩) _ _ _ rfl (fun hn => pos_at c arg0 g0 _ hn (k0_off1_eq k ⟨0, by decide⟩) _ _) (
      hg))))))))

end TripP

end Cert.Proof.FrontIdeal

end
-- ==== Proof.FrontIdealQ.lean ====
/-
  A tile of the projection by heads, its rotation and its codes; the queries' loop, run once at a symbolic trip.
-/
module

public import proofs.«01_k».proof.Defs
public import proofs.«01_k».proof.Proof.Gen.FrontIdeal
public import proofs.«01_k».proof.Proof.Gen.FrontIdeal.Skeleton
public import proofs.«01_k».proof.Proof.Gen.FrontIdeal.Loops
public import proofs.«01_k».proof.Proof.Gen.FrontIdeal.Launch
public import proofs.«01_k».proof.Proof.Gen.FrontIdeal.Points
public import proofs.«01_k».proof.Proof.Gen.FrontIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.FrontIdealPos

@[expose] public section

set_option maxRecDepth 16384

noncomputable section

namespace Cert.Proof.FrontIdeal

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

/-! ## A tile and its heads -/

/-- A tile: the normalized rows against a block of the weight, scaled by column. -/
def tileV (h : Vec F S256x2560 .bf16) (w : FVec F S2560x512 .fp8e4m3) (s : Vec F S1x512 .f32) : FVec F S256x512 .f32 :=
  mulf (matmul dot_S256x2560_S2560x512_S256x512_1_0_0_1_n_n none h w (constant S256x512 .f32 0x00000000#32))
    (broadcastTo S256x512 (shapeCast S1x512 s shapeCasts_S1x512_S1x512) broadcasts_S1x512_S256x512)
/-- A tile's four heads. -/
def headV (T : FVec F S256x512 .f32) (i : Fin 4) : FVec F S256x128 .f32 :=
  match i with
  | 0 => extractStridedSlice S256x128 ![0, 0] T slices_S256x512_o0_0_S256x128
  | 1 => extractStridedSlice S256x128 ![0, 128] T slices_S256x512_o0_128_S256x128
  | 2 => extractStridedSlice S256x128 ![0, 256] T slices_S256x512_o0_256_S256x128
  | 3 => extractStridedSlice S256x128 ![0, 384] T slices_S256x512_o0_384_S256x128
/-- A head rotated by the positions' angles. -/
def ropeV (t cs sn : FVec F S256x128 .f32) : FVec F S256x128 .f32 :=
  addf (mulf t cs) (mulf (dynamicRotate 1 64#32 none t rotates_S256x128_d1) sn)
/-- A head as the queries keep it: rounded to bf16. -/
def roundV (t : FVec F S256x128 .f32) : FVec F S1x256x128 .f32 :=
  shapeCast S1x256x128 (extf .f32 (truncf .bf16 t bitsLt_bf16_f32) bitsLt_bf16_f32) shapeCasts_S256x128_S1x256x128
/-- A head's codes under a scale. -/
def codeV (t : FVec F S256x128 .f32) (v : Elt F .f32) : FVec F S256x1x128 .fp8e4m3 :=
  shapeCast S256x1x128 (truncf .fp8e4m3 (minimumf (broadcast S256x128 (Scalar.ofBits .f32 0x43E00000#32))
    (maximumf (broadcast S256x128 (Scalar.ofBits .f32 0xC3E00000#32))
      (mulf t (broadcast S256x128 (Scalar.divf (Scalar.ofBits .f32 0x3F800000#32) v))))) bitsLt_fp8e4m3_f32) shapeCasts_S256x128_S256x1x128

section TripQ

variable (c : Dev nD) (XQ : Buf (Elt F) (wMQ.view.loc (c : Thread nD τ)))
  (arg0 : Memref sig .tc .smem S256 .i32) (harg0 : arg0.IsWhole) (arg1 : Memref sig .tc .smem S1 .f32) (harg1 : arg1.IsWhole)
  (arg2 : Memref sig .tc .smem S1 .f32) (harg2 : arg2.IsWhole) (arg3 : Memref sig .tc .vmem S1x128 .f32) (harg3 : arg3.IsWhole)
  (arg4 : Memref sig .tc .vmem S1x2560 .f32) (harg4 : arg4.IsWhole) (arg5 : Memref sig .tc .vmem S1x6144 .f32) (harg5 : arg5.IsWhole)
  (g5 : Buf (Elt F) (arg5.view.loc (c : Thread nD τ)))
  (gh : Buf (Elt F) (hvM.view.loc (c : Thread nD τ))) (gc : Buf (Elt F) (cosM.view.loc (c : Thread nD τ))) (gs : Buf (Elt F) (sinM.view.loc (c : Thread nD τ)))

abbrev hvP (f : Buf (Elt F) (hvM.view.loc (c : Thread nD τ))) : sProp 𝕄 := hvM.view.loc (c : Thread nD τ) ↦[hvM.view.set]{fullShare} f
abbrev sinP (f : Buf (Elt F) (sinM.view.loc (c : Thread nD τ))) : sProp 𝕄 := sinM.view.loc (c : Thread nD τ) ↦[sinM.view.set]{fullShare} f
abbrev qvP (f : Buf (Elt F) (qvM.view.loc (c : Thread nD τ))) : sProp 𝕄 := qvM.view.loc (c : Thread nD τ) ↦[qvM.view.set]{fullShare} f
abbrev inQ : sProp 𝕄 :=
  iprop((arg5.view.loc (c : Thread nD τ) ↦[arg5.view.set]{fullShare} g5) ∗ hvP c gh ∗ cosP c gc ∗ sinP c gs)
abbrev tripQG (v21 : FVec F S256x128 .f32) (v22 : IVec S1x128 32) (v26 : FVec F S256x128 .f32) (k : Fin k0_t2_loop.trips) (a : BitVec 32) :
    Prog (TpuEff nD τ sig (Elt F) Λ₀ .tc) (BitVec 32) :=
  k0_t2_body (F := F) arg0 harg0 arg1 harg1 arg2 harg2 arg3 harg3 arg4 harg4 arg5 harg5 xM (Memref.isWhole_whole _) wMQ (Memref.isWhole_whole _) qM (Memref.isWhole_whole _) kcM (Memref.isWhole_whole _) vcM (Memref.isWhole_whole _) xvM (Memref.isWhole_whole _) hvM (Memref.isWhole_whole _) kvM (Memref.isWhole_whole _) vvM (Memref.isWhole_whole _) ringMQ (Memref.isWhole_whole _) cc0_scratch5 cc0_scratch6 cc0_scratch7 qvM (Memref.isWhole_whole _) qpM (Memref.isWhole_whole _) cosM (Memref.isWhole_whole _) sinM (Memref.isWhole_whole _) v21 v22 v26 k a

/-- The scales of a block's columns. -/
abbrev sOff (b : Fin 12) : Fin 2 → Nat := ![0, 512 * b.val]
theorem sOff_inb (b : Fin 12) : ∀ a, sOff b a + S1x512.size a ≤ S1x6144.size a := by
  have := b.isLt; intro a; fin_cases a
  · show 0 + 1 ≤ 1; omega
  · show 512 * b.val + 512 ≤ 6144; omega
def sQ (b : Fin 12) : Vec F S1x512 .f32 := arg5.view.readAt (Elt F) (Rect.unit (s := S1x6144) (sOff b) S1x512.size (sOff_inb b)).toLoadRect g5
theorem sQ_at (b : Fin 12) {off : Fin 2 → ℕ} (e : off = sOff b) (hi) :
    arg5.view.readAt (Elt F) (Rect.unit (s := S1x6144) off S1x512.size hi).toLoadRect g5 = sQ c arg5 g5 b := by subst e; rfl

/-- The tile of block `b`, over the operands' contents. -/
def tileQ (b : Fin 12) : FVec F S256x512 .f32 :=
  tileV (hvM.view.readAt (Elt F) (Rect.unit (s := S256x2560) ![0, 0] S256x2560.size inb_S256x2560_S256x2560_0_0).toLoadRect gh)
    (payloadQ c XQ b) (sQ c arg5 g5 b)
abbrev cosV : FVec F S256x128 .f32 := cosM.view.readAt (Elt F) (Rect.unit (s := S256x128) ![0, 0] S256x128.size inb_S256x128_S256x128_0_0).toLoadRect gc
abbrev sinV : FVec F S256x128 .f32 := sinM.view.readAt (Elt F) (Rect.unit (s := S256x128) ![0, 0] S256x128.size inb_S256x128_S256x128_0_0).toLoadRect gs
/-- A head of a tile, rotated. -/
def rotQ (b : Fin 12) (i : Fin 4) : FVec F S256x128 .f32 := ropeV (headV (tileQ c XQ arg5 g5 gh b) i) (cosV c gc) (sinV c gs)

/-- A tile, from the slot its block was brought to. -/
theorem tileQ_at (b : Fin 12) (s : Fin 3) {off : Fin 3 → ℕ} (e : off = slotOff s) (hi) (f) {off' : Fin 2 → ℕ} (e' : off' = sOff b) (hi') :
    tileV (hvM.view.readAt (Elt F) (Rect.unit (s := S256x2560) ![0, 0] S256x2560.size inb_S256x2560_S256x2560_0_0).toLoadRect gh)
      (shapeCast S2560x512 (ringMQ.view.readAt (Elt F) (Rect.unit (s := S3x2560x512) off S1x2560x512.size hi).toLoadRect
        ((rslotQ s).view.writes (Elt F) f [⟨Rect.whole S2560x512, payloadQ c XQ b⟩])) shapeCasts_S1x2560x512_S2560x512)
      (arg5.view.readAt (Elt F) (Rect.unit (s := S1x6144) off' S1x512.size hi').toLoadRect g5) = tileQ c XQ arg5 g5 gh b := by
  rw [slotQ_load_at e hi f, sQ_at c arg5 g5 b e' hi', tileQ]
/-- The same of a slot written twice. -/
theorem tileQ_at2 (b : Fin 12) (s : Fin 3) {off : Fin 3 → ℕ} (e : off = slotOff s) (hi) (f w x) (hx : x = payloadQ c XQ b) {off' : Fin 2 → ℕ} (e' : off' = sOff b) (hi') :
    tileV (hvM.view.readAt (Elt F) (Rect.unit (s := S256x2560) ![0, 0] S256x2560.size inb_S256x2560_S256x2560_0_0).toLoadRect gh)
      (shapeCast S2560x512 (ringMQ.view.readAt (Elt F) (Rect.unit (s := S3x2560x512) off S1x2560x512.size hi).toLoadRect
        ((rslotQ s).view.writes (Elt F) f [⟨Rect.whole S2560x512, x⟩, ⟨Rect.whole S2560x512, w⟩])) shapeCasts_S1x2560x512_S2560x512)
      (arg5.view.readAt (Elt F) (Rect.unit (s := S1x6144) off' S1x512.size hi').toLoadRect g5) = tileQ c XQ arg5 g5 gh b := by
  have h2 := View.writes_append (Val := Elt F) (v := (rslotQ s).view) (f := f) [⟨Rect.whole S2560x512, x⟩] [⟨Rect.whole S2560x512, w⟩]
  rw [List.singleton_append] at h2
  rw [h2, hx]
  exact tileQ_at c XQ arg5 g5 gh b s e hi _ e' hi'

/-- The queries, rotated and rounded, by head and row. -/
def valQ (y : S32x288x128.Idx) : Elt F .f32 :=
  roundV (rotQ c XQ arg5 g5 gh gc gs (Ring.bk 12 ((y 0).val / 4)) ⟨(y 0).val % 4, Nat.mod_lt _ (by decide)⟩)
    (ValueIdx.ix3 (n0 := 1) (n1 := 256) (n2 := 128) 0 ⟨(y 1).val % 256, Nat.mod_lt _ (by decide)⟩ (y 2))
/-- The heads before `n` are right. -/
def GoodQ (n : ℕ) (f : Buf (Elt F) (qvM.view.loc (c : Thread nD τ))) : Prop :=
  ∀ y : S32x288x128.Idx, (y 0).val < n → (y 1).val < 256 → qvM.view.read (Elt F) f y = valQ c XQ arg5 g5 gh gc gs y

theorem goodQ_cons (n m : ℕ) (hm : m = n + 1) (f : Buf (Elt F) (qvM.view.loc (c : Thread nD τ))) (L) {off : Fin 3 → ℕ} (ho : off = ![n, 0, 0]) (hi)
    (w : S1x256x128.Idx → Elt F .f32) (b i) (hb : b = Ring.bk 12 (n / 4)) (hi4 : i.val = n % 4) (hw : w = roundV (rotQ c XQ arg5 g5 gh gc gs b i))
    (h : GoodQ c XQ arg5 g5 gh gc gs n (qvM.view.writes (Elt F) f L)) :
    GoodQ c XQ arg5 g5 gh gc gs m (qvM.view.writes (Elt F) f (⟨Rect.unit (s := S32x288x128) off S1x256x128.size hi, w⟩ :: L)) := by
  intro y hy hy1
  by_cases hlt : (y 0).val < n
  · rw [View.read_writes_cons_unit_of_not_mem qvM.view f _ _ L y ho 0 (.inl hlt)]
    exact h y hlt hy1
  · have e0 : (y 0).val = n := by omega
    have ei : i = ⟨(y 0).val % 4, Nat.mod_lt _ (by decide)⟩ := Fin.ext (by rw [hi4]; show n % 4 = (y 0).val % 4; rw [e0])
    have ev : valQ c XQ arg5 g5 gh gc gs y = w (ValueIdx.ix3 (n0 := 1) (n1 := 256) (n2 := 128) 0 ⟨(y 1).val % 256, Nat.mod_lt _ (by decide)⟩ (y 2)) := by
      rw [hw, show b = Ring.bk 12 ((y 0).val / 4) by rw [hb, e0], ei, valQ]
    rw [ev]
    refine View.read_writes_cons_unit_of_mem qvM.view f _ _ L y _ ho fun a => ?_
    fin_cases a
    · show (y 0).val = n + 0; omega
    · show (y 1).val = 0 + (y 1).val % 256; omega
    · show (y 2).val = 0 + (y 2).val; omega

def resQ (k : ℕ) (f : Buf (Elt F) (qvM.view.loc (c : Thread nD τ))) : sProp 𝕄 :=
  iprop(inQ c arg5 g5 gh gc gs ∗ qvP c f ∗ (∃ W, owes (c : Thread nD τ) 0 W) ∗ ringQ c XQ k)
def invQ (k : ℕ) (_ : BitVec 32) : sProp 𝕄 := iprop(∃ f, ⌜GoodQ c XQ arg5 g5 gh gc gs (4 * k) f⌝ ∗ resQ c XQ arg5 g5 gh gc gs k f)

theorem stepQ (v21 : FVec F S256x128 .f32) (v22 : IVec S1x128 32) (v26 : FVec F S256x128 .f32) (k : Fin k0_t2_loop.trips) (a : BitVec 32) :
    invQ c XQ arg5 g5 gh gc gs k a ⊢ wp frame (wpE (defs₀ (F := F)) 𝒱₀ (c : Thread nD τ) none) Set.univ (tripQG arg0 harg0 arg1 harg1 arg2 harg2 arg3 harg3 arg4 harg4 arg5 harg5 v21 v22 v26 k a) (invQ c XQ arg5 g5 gh gc gs (k.val + 1)) := by
  have hk : k.val < 12 := lt2 k
  have h : k.val + 3 < 12 := by have := lt8 k; omega
  have hc : k0_cond1 k = 1#1 := cond1_all k
  unfold invQ resQ ringQ
  rw [roleQ_next _ _ _ h, homesQ_next _ _ _ h, homesQ_here _ _ _ h, roleQ_here _ _ _ hk]
  iintro ⟨%f, %hg, ⟨H5, HN, HC, HS⟩, HQ, ⟨%W, HW⟩, ⟨Hg, Hrest⟩, ⟨%f0, HF0⟩, HR1, HR2⟩
  dsimp only [tripQG]
  sl_unfold [k0_t2_body]
  sl_exec
  sl_step
  iexists _
  isplitr
  rotate_left
  · isplitl [H5 HN HC HS]
    · isplitl [H5]; · iexact H5
      isplitl [HN]; · iexact HN
      isplitl [HC]; · iexact HC
      iexact HS
    isplitl [HQ]; · iexact HQ
    isplitl [HW]; · iexists _; iexact HW
    isplitl [HF0_src Hrest]
    · isplitl [HF0_src]; · iexact HF0_src
      iexact Hrest
    isplitl [HR1]; · iexact HR1
    isplitl [HR2]; · iexact HR2
    iexists ((rslotQ (Ring.sl 3 k.val)).view.writes (Elt F) (rslotQ (Ring.sl 3 k.val)).view.junk [⟨Rect.whole S2560x512, payloadQ c XQ (Ring.bk 12 k.val)⟩])
    irw [flightQ_after]
    iexact HF0
  · ipureintro
    have eT := tileQ_at c XQ arg5 g5 gh (Ring.bk 12 k.val) (Ring.sl 3 k.val) (off6_eqQ k) (k0_off6_inb k) (rslotQ (Ring.sl 3 k.val)).view.junk
      (off' := k0_off7 k) (by rw [k0_off7_eq]; unfold sOff; rw [Ring.bk_val hk]) (k0_off7_inb k)
    have hb : ∀ r : ℕ, r < 4 → Ring.bk 12 k.val = Ring.bk 12 ((4 * k.val + r) / 4) := fun r hr => by
      rw [show (4 * k.val + r) / 4 = k.val by omega]
    have hr : ∀ r : ℕ, r < 4 → r = (4 * k.val + r) % 4 := fun r hr => by omega
    exact goodQ_cons c XQ arg5 g5 gh gc gs (4 * k.val + 3) _ (by omega) f _ (k0_off11_eq k ⟨3, by decide⟩) _ _ _ 3 (hb 3 (by decide)) (hr 3 (by decide)) (by rw [rotQ, ← eT]; rfl) (
      goodQ_cons c XQ arg5 g5 gh gc gs (4 * k.val + 2) _ (by omega) f _ (k0_off11_eq k ⟨2, by decide⟩) _ _ _ 2 (hb 2 (by decide)) (hr 2 (by decide)) (by rw [rotQ, ← eT]; rfl) (
      goodQ_cons c XQ arg5 g5 gh gc gs (4 * k.val + 1) _ (by omega) f _ (k0_off11_eq k ⟨1, by decide⟩) _ _ _ 1 (hb 1 (by decide)) (hr 1 (by decide)) (by rw [rotQ, ← eT]; rfl) (
      goodQ_cons c XQ arg5 g5 gh gc gs (4 * k.val + 0) _ (by omega) f _ (k0_off11_eq k ⟨0, by decide⟩) _ _ _ 0 (hb 0 (by decide)) (hr 0 (by decide)) (by rw [rotQ, ← eT]; rfl) (
      hg))))

end TripQ

end Cert.Proof.FrontIdeal

end
-- ==== Proof.FrontIdealBlocks.lean ====
/-
  The weight whole as its blocks, and the ring as its slots.
-/
module

public import proofs.«01_k».proof.Defs
public import proofs.«01_k».proof.Proof.Gen.FrontIdeal
public import proofs.«01_k».proof.Proof.Gen.FrontIdeal.Skeleton
public import proofs.«01_k».proof.Proof.Gen.FrontIdeal.Loops
public import proofs.«01_k».proof.Proof.Gen.FrontIdeal.Launch
public import proofs.«01_k».proof.Proof.Gen.FrontIdeal.Points
public import proofs.«01_k».proof.Proof.Gen.FrontIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.FrontIdealRings

@[expose] public section

set_option maxRecDepth 16384

noncomputable section

namespace Cert.Proof.FrontIdeal

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

omit [FloatOps F] [Named F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

omit [FloatOps F] [Named F] in
theorem blocks_mono {s : Finset (Fin 12)} {Φ Ψ : Fin 12 → sProp 𝕄} (h : ∀ b, Φ b ⊢ Ψ b) : bigSep s Φ ⊢ bigSep s Ψ := bigSep_mono fun b _ => h b

abbrev GBQ (b : Fin 12) : Finset S2560x6144.Idx := (Rect.unit (s := S2560x6144) (blkOffQ b) S2560x512.size (blkOffQ_inb b)).set
abbrev SBQ (s : Fin 3) : Finset S3x2560x512.Idx := (Rect.unit (s := S3x2560x512) (slotOff s) S1x2560x512.size (slotOffQ_inb s)).set
theorem blkQ_set (b : Fin 12) : (blkQ b).view.set = GBQ b := View.set_slice_whole _ _
theorem rslotQ_set (s : Fin 3) : (rslotQ s).view.set = SBQ s := (View.set_reshape _ _).trans (View.set_slice_whole _ _)
theorem mem_GBQ (b : Fin 12) (y : S2560x6144.Idx) : y ∈ GBQ b ↔ (y 1).val / 512 = b.val := by
  rw [Rect.mem_set_unit]
  have h0 : (y 0).val < 2560 := (y 0).isLt
  constructor
  · intro H; have a1 : 512 * b.val ≤ (y 1).val ∧ (y 1).val < 512 * b.val + 512 := H 1; omega
  · intro H i; fin_cases i
    · show 0 ≤ (y 0).val ∧ (y 0).val < 0 + 2560; omega
    · show 512 * b.val ≤ (y 1).val ∧ (y 1).val < 512 * b.val + 512; omega
theorem GBQ_disjoint : ∀ b b' : Fin 12, b ≠ b' → Disjoint (GBQ b) (GBQ b') := by
  intro b b' hne; rw [Finset.disjoint_left]; intro y hy hy'; rw [mem_GBQ] at hy hy'; exact hne (Fin.ext (hy.symm.trans hy'))
theorem GBQ_cover : (Finset.univ : Finset (Fin 12)).biUnion GBQ = Finset.univ := by
  ext y; simp only [Finset.mem_biUnion, Finset.mem_univ, true_and, iff_true]
  exact ⟨⟨(y 1).val / 512, by have : (y 1).val < 6144 := (y 1).isLt; omega⟩, by rw [mem_GBQ]⟩
theorem mem_SBQ (s : Fin 3) (y : S3x2560x512.Idx) : y ∈ SBQ s ↔ (y 0).val = s.val := by
  rw [Rect.mem_set_unit]
  have h1 : (y 1).val < 2560 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2560; omega
    · show 0 ≤ (y 2).val ∧ (y 2).val < 0 + 512; omega
theorem SBQ_disjoint : ∀ s s' : Fin 3, s ≠ s' → Disjoint (SBQ s) (SBQ s') := by
  intro s s' hne; rw [Finset.disjoint_left]; intro y hy hy'; rw [mem_SBQ] at hy hy'; exact hne (Fin.ext (hy.symm.trans hy'))
theorem SBQ_cover : (Finset.univ : Finset (Fin 3)).biUnion SBQ = Finset.univ := by
  ext y; simp only [Finset.mem_biUnion, Finset.mem_univ, true_and, iff_true]
  exact ⟨⟨(y 0).val, (y 0).isLt⟩, by rw [mem_SBQ]⟩

/-- The weight whole is its blocks home; -/
theorem wQ_eq (c : Dev nD) (X : Buf (Elt F) ((c : Thread nD τ).loc main_arg5)) :
    (((c : Thread nD τ).loc main_arg5) ↦{fullShare} X : sProp 𝕄) = bigSep Finset.univ (homeQ c X) := by
  rw [Ring.pointsTo_blocks (ℓ := (c : Thread nD τ).loc main_arg5) GBQ GBQ_disjoint GBQ_cover]
  exact bigSep_congr fun b _ => by rw [← blkQ_set]; rfl
/-- at the body's entry, blocks 0, 1 and 2 apart from the rest; -/
theorem homesQ_zero (c : Dev nD) (XW : Buf (Elt F) (wMQ.view.loc (c : Thread nD τ))) :
    bigSep Finset.univ (homeQ c XW) = iprop(homeQ c XW 0 ∗ homeQ c XW 1 ∗ homeQ c XW 2 ∗ bigSep (Ring.homeSet 3 0) (homeQ c XW)) := by
  have e : (Finset.univ : Finset (Fin 12)) = insert 0 (insert 1 (insert 2 (Ring.homeSet (NB := 12) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]),
    bigSep_insert (by simp [Ring.mem_homeSet])]; rfl
/-- at its end all of them. -/
theorem homesQ_end : Ring.homeSet (NB := 12) 3 12 = Finset.univ := by
  ext b; simp only [Finset.mem_univ, Ring.mem_homeSet, iff_true]; have := b.isLt; omega

omit [FloatOps F] [Named F] in
theorem slotQ_eq (c : Dev nD) (s : Fin 3) (f) : slotQ (F := F) c s f = (((c : Thread nD τ).loc cc0_scratch4) ↦[SBQ s]{fullShare} f : sProp 𝕄) :=
  congrArg (fun S => (_ ↦[S]{fullShare} f : sProp 𝕄)) (rslotQ_set s)
/-- The ring whole is its three slots, and back. -/
theorem ringQ_split (c : Dev nD) :
    iprop(∃ f : Buf (Elt F) ((c : Thread nD τ).loc cc0_scratch4), ((c : Thread nD τ).loc cc0_scratch4) ↦{fullShare} f)
      ⊢ (iprop((∃ f, slotQ (F := F) c 0 f) ∗ (∃ f, slotQ (F := F) c 1 f) ∗ ∃ f, slotQ (F := F) c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch4) SBQ SBQ_disjoint SBQ_cover f).trans (bigSep_fin3 _))) $$ H
  icases H2 with ⟨H0, H1, H2⟩
  isplitl [H0]
  · iexists f; iapply (entails_of_eq (slotQ_eq c 0 f).symm); iexact H0
  isplitl [H1]
  · iexists f; iapply (entails_of_eq (slotQ_eq c 1 f).symm); iexact H1
  · iexists f; iapply (entails_of_eq (slotQ_eq c 2 f).symm); iexact H2
theorem ringQ_join (c : Dev nD) :
    iprop((∃ f, slotQ (F := F) c 0 f) ∗ (∃ f, slotQ (F := F) c 1 f) ∗ ∃ f, slotQ (F := F) c 2 f)
      ⊢ (iprop(∃ f : Buf (Elt F) ((c : Thread nD τ).loc cc0_scratch4), ((c : Thread nD τ).loc cc0_scratch4) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch4) SBQ SBQ_disjoint SBQ_cover f0)
  irw [bigSep_fin3]
  isplitl [H0]
  · iexists f0; iapply (entails_of_eq (slotQ_eq c 0 f0)); iexact H0
  isplitl [H1]
  · iexists f1; iapply (entails_of_eq (slotQ_eq c 1 f1)); iexact H1
  · iexists f2; iapply (entails_of_eq (slotQ_eq c 2 f2)); iexact H2

end Cert.Proof.FrontIdeal

end
-- ==== Proof.FrontIdealCodes.lean ====
/-
  The values after the queries' loop: the queries packed by row, and the keys' and the values' codes.
-/
module

public import proofs.«01_k».proof.Defs
public import proofs.«01_k».proof.Proof.Gen.FrontIdeal
public import proofs.«01_k».proof.Proof.Gen.FrontIdeal.Skeleton
public import proofs.«01_k».proof.Proof.Gen.FrontIdeal.Loops
public import proofs.«01_k».proof.Proof.Gen.FrontIdeal.Launch
public import proofs.«01_k».proof.Proof.Gen.FrontIdeal.Points
public import proofs.«01_k».proof.Proof.Gen.FrontIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Pointwise.ShapeOpsCore
public import Idealize.ShloMosaic.Lib.Tactic
public import proofs.«01_k».proof.Proof.FrontIdealQ

@[expose] public section

set_option maxRecDepth 16384

noncomputable section

namespace Cert.Proof.FrontIdeal

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

/-! ## The codes' buffers -/

section Codes

variable (c : Dev nD) (M : Memref sig .tc .vmem S264x8x128 .fp8e4m3)

/-- The rows of a codes' buffer that are copied out. -/
abbrev rowsC : Rect S264x8x128 := Rect.unit (s := S264x8x128) ![0, 0, 0] S256x8x128.size inb_S264x8x128_S256x8x128_0_0_0

/-- The heads before `n` are right. -/
def GoodC (val : S256x8x128.Idx → Elt F .fp8e4m3) (n : ℕ) (f : Buf (Elt F) (M.view.loc (c : Thread nD τ))) : Prop :=
  ∀ y : S256x8x128.Idx, (y 1).val < n → M.view.read (Elt F) f (rowsC.emb y) = val y

/-- One more head's codes stored: the words of its four heads as loaded, its own row of each put in. -/
theorem goodC_cons (val : S256x8x128.Idx → Elt F .fp8e4m3) (j i n m : ℕ) (hn : n = 4 * j + i) (hi4 : i < 4) (hj : j < 2) (hm : m = n + 1)
    (L) {off : Fin 3 → ℕ} (ho : off = ![0, 4 * j, 0]) (hi)
    {st : Fin 3 → ℕ} (hst : st = ![0, i, 0]) (hs) (pay : S256x1x128.Idx → Elt F .fp8e4m3) (w old)
    (hw : w = updateSlice old pay st hs)
    (hold : i = 0 ∨ old = M.view.readCov (Val := Elt F) L (Rect.unit (s := S264x8x128) off S256x4x128.size hi).toLoadRect)
    (hp : ∀ y : S256x8x128.Idx, (y 1).val = n → val y = pay (ValueIdx.ix3 (n0 := 256) (n1 := 1) (n2 := 128) (y 0) 0 (y 2)))
    (h : ∀ f, GoodC c M val n (M.view.writes (Elt F) f L)) :
    ∀ f, GoodC c M val m (M.view.writes (Elt F) f (⟨Rect.unit (s := S264x8x128) off S256x4x128.size hi, w⟩ :: L)) := by
  intro f
  intro y hy
  have ez : ∀ a : Fin 3, (rowsC.emb y a).val = (y a).val := fun a => by fin_cases a <;> (show 0 + 1 * _ = _; omega)
  have z0 := ez 0; have z1 := ez 1; have z2 := ez 2
  have y0 : (y 0).val < 256 := (y 0).isLt
  have y2 : (y 2).val < 128 := (y 2).isLt
  by_cases hlo : (y 1).val < 4 * j
  · rw [View.read_writes_cons_unit_of_not_mem M.view f _ _ L _ ho 1 (.inl (by show (rowsC.emb y 1).val < 4 * j; omega))]
    exact h f y (by omega)
  · have hx : (y 1).val - 4 * j < 4 := by omega
    have key := View.read_writes_cons_unit_of_mem M.view f hi w L (rowsC.emb y) (ValueIdx.ix3 (n0 := 256) (n1 := 4) (n2 := 128) (y 0) ⟨(y 1).val - 4 * j, hx⟩ (y 2)) ho
      (fun a => by
        fin_cases a
        · show (rowsC.emb y 0).val = 0 + (y 0).val; omega
        · show (rowsC.emb y 1).val = 4 * j + ((y 1).val - 4 * j); omega
        · show (rowsC.emb y 2).val = 0 + (y 2).val; omega)
    refine key.trans ?_
    subst hw hst ho
    rw [updateSlice_apply]
    by_cases hlt : (y 1).val < n
    · have hold' : old = M.view.readAt (Elt F) (Rect.unit (s := S264x8x128) ![0, 4 * j, 0] S256x4x128.size hi).toLoadRect (M.view.writes (Elt F) M.view.junk L) :=
        hold.resolve_left (by omega)
      rw [dif_neg (fun H => by have H1 : i ≤ (y 1).val - 4 * j := (H 1).1; omega), ← h M.view.junk y hlt, hold']
      refine congrArg (M.view.read (Elt F) (M.view.writes (Elt F) M.view.junk L)) (funext fun a => Fin.ext ?_)
      fin_cases a
      · show 0 + 1 * (y 0).val = (rowsC.emb y 0).val; omega
      · show 4 * j + 1 * ((y 1).val - 4 * j) = (rowsC.emb y 1).val; omega
      · show 0 + 1 * (y 2).val = (rowsC.emb y 2).val; omega
    · rw [dif_pos (fun a => by
        fin_cases a
        · show 0 ≤ (y 0).val ∧ (y 0).val < 0 + 256; omega
        · show i ≤ (y 1).val - 4 * j ∧ (y 1).val - 4 * j < i + 1; omega
        · show 0 ≤ (y 2).val ∧ (y 2).val < 0 + 128; omega), hp y (by omega)]
      refine congrArg pay (funext fun a => Fin.ext ?_)
      fin_cases a
      · show (y 0).val - 0 = (y 0).val; omega
      · show ((y 1).val - 4 * j) - i = 0; omega
      · show (y 2).val - 0 = (y 2).val; omega

end Codes

/-! ## The tail's values -/

section Tail

variable (c : Dev nD) (XQ : Buf (Elt F) (wMQ.view.loc (c : Thread nD τ)))
  (arg0 : Memref sig .tc .smem S256 .i32) (harg0 : arg0.IsWhole) (arg1 : Memref sig .tc .smem S1 .f32) (harg1 : arg1.IsWhole)
  (arg2 : Memref sig .tc .smem S1 .f32) (harg2 : arg2.IsWhole) (arg3 : Memref sig .tc .vmem S1x128 .f32) (harg3 : arg3.IsWhole)
  (arg4 : Memref sig .tc .vmem S1x2560 .f32) (harg4 : arg4.IsWhole) (arg5 : Memref sig .tc .vmem S1x6144 .f32) (harg5 : arg5.IsWhole)
  (g1 : Buf (Elt F) (arg1.view.loc (c : Thread nD τ))) (g2 : Buf (Elt F) (arg2.view.loc (c : Thread nD τ)))
  (g5 : Buf (Elt F) (arg5.view.loc (c : Thread nD τ)))
  (gh : Buf (Elt F) (hvM.view.loc (c : Thread nD τ))) (gc : Buf (Elt F) (cosM.view.loc (c : Thread nD τ))) (gs : Buf (Elt F) (sinM.view.loc (c : Thread nD τ)))

/-- The queries' head `h`, as kept. -/
def stQ (h : ℕ) : FVec F S1x256x128 .f32 := roundV (rotQ c XQ arg5 g5 gh gc gs (Ring.bk 12 (h / 4)) ⟨h % 4, Nat.mod_lt _ (by decide)⟩)
/-- A head of the queries' buffer, loaded. -/
theorem head_at (f : Buf (Elt F) (qvM.view.loc (c : Thread nD τ))) (hf : GoodQ c XQ arg5 g5 gh gc gs 32 f) (h : ℕ) (hh : h < 32) {off : Fin 3 → ℕ} (e : off = ![h, 0, 0]) (hi) :
    qvM.view.readAt (Elt F) (Rect.unit (s := S32x288x128) off S1x256x128.size hi).toLoadRect f = stQ c XQ arg5 g5 gh gc gs h := by
  subst e
  funext x
  have x0 : (x 0).val < 1 := (x 0).isLt
  have x1 : (x 1).val < 256 := (x 1).isLt
  obtain ⟨y, hy⟩ : ∃ y : S32x288x128.Idx, y = (Rect.unit (s := S32x288x128) ![h, 0, 0] S1x256x128.size hi).emb x := ⟨_, rfl⟩
  have y0 : (y 0).val = h := by rw [hy]; show h + 1 * (x 0).val = h; omega
  have y1 : (y 1).val = (x 1).val := by rw [hy]; show 0 + 1 * (x 1).val = _; omega
  have y2 : (y 2).val = (x 2).val := by rw [hy]; show 0 + 1 * (x 2).val = _; omega
  have key := hf y (by omega) (by omega)
  refine Eq.trans (congrArg (qvM.view.read (Elt F) f) hy.symm) (key.trans ?_)
  unfold valQ stQ
  have e0 : (⟨(y 0).val % 4, Nat.mod_lt _ (by decide)⟩ : Fin 4) = ⟨h % 4, Nat.mod_lt _ (by decide)⟩ := Fin.ext (by show (y 0).val % 4 = h % 4; rw [y0])
  have e1 : Ring.bk 12 ((y 0).val / 4) = Ring.bk 12 (h / 4) := by rw [y0]
  rw [e1, e0]
  refine congrArg _ (funext fun a => Fin.ext ?_)
  fin_cases a
  · show 0 = (x 0).val; omega
  · show (y 1).val % 256 = (x 1).val; omega
  · exact y2

/-- The queries by row, two heads at a time. -/
def valP2 (y : S256x32x128.Idx) : Elt F .bf16 :=
  k0_pay25 (stQ c XQ arg5 g5 gh gc gs (2 * ((y 1).val / 2))) (stQ c XQ arg5 g5 gh gc gs (2 * ((y 1).val / 2) + 1))
    (ValueIdx.ix3 (n0 := 256) (n1 := 2) (n2 := 128) (y 0) ⟨(y 1).val % 2, Nat.mod_lt _ (by decide)⟩ (y 2))
/-- The pairs before `p` are right. -/
def GoodP2 (p : ℕ) (f : Buf (Elt F) (qpM.view.loc (c : Thread nD τ))) : Prop :=
  ∀ y : S256x32x128.Idx, (y 1).val < 2 * p → qpM.view.read (Elt F) f y = valP2 c XQ arg5 g5 gh gc gs y
theorem goodP2_cons (p m : ℕ) (hm : m = p + 1) (f : Buf (Elt F) (qpM.view.loc (c : Thread nD τ))) (L) {off : Fin 3 → ℕ} (ho : off = ![0, 2 * p, 0]) (hi)
    (w : S256x2x128.Idx → Elt F .bf16) (hw : w = k0_pay25 (stQ c XQ arg5 g5 gh gc gs (2 * p)) (stQ c XQ arg5 g5 gh gc gs (2 * p + 1)))
    (h : GoodP2 c XQ arg5 g5 gh gc gs p (qpM.view.writes (Elt F) f L)) :
    GoodP2 c XQ arg5 g5 gh gc gs m (qpM.view.writes (Elt F) f (⟨Rect.unit (s := S256x32x128) off S256x2x128.size hi, w⟩ :: L)) := by
  intro y hy
  by_cases hlt : (y 1).val < 2 * p
  · rw [View.read_writes_cons_unit_of_not_mem qpM.view f _ _ L y ho 1 (.inl hlt)]
    exact h y hlt
  · have e0 : (y 1).val / 2 = p := by omega
    have ev : valP2 c XQ arg5 g5 gh gc gs y = w (ValueIdx.ix3 (n0 := 256) (n1 := 2) (n2 := 128) (y 0) ⟨(y 1).val % 2, Nat.mod_lt _ (by decide)⟩ (y 2)) := by
      rw [hw, valP2, e0]
    rw [ev]
    refine View.read_writes_cons_unit_of_mem qpM.view f _ _ L y _ ho fun a => ?_
    fin_cases a
    · show (y 0).val = 0 + (y 0).val; omega
    · show (y 1).val = 2 * p + (y 1).val % 2; omega
    · show (y 2).val = 0 + (y 2).val; omega

/-- A pair of the queries' heads, loaded and packed. -/
theorem pack_at (f : Buf (Elt F) (qvM.view.loc (c : Thread nD τ))) (hf : GoodQ c XQ arg5 g5 gh gc gs 32 f) (p : ℕ) (hp : p < 16) {off off' : Fin 3 → ℕ}
    (e : off = ![2 * p, 0, 0]) (e' : off' = ![2 * p + 1, 0, 0]) (hi hi') :
    k0_pay25 (qvM.view.readAt (Elt F) (Rect.unit (s := S32x288x128) off S1x256x128.size hi).toLoadRect f)
      (qvM.view.readAt (Elt F) (Rect.unit (s := S32x288x128) off' S1x256x128.size hi').toLoadRect f)
      = k0_pay25 (stQ c XQ arg5 g5 gh gc gs (2 * p)) (stQ c XQ arg5 g5 gh gc gs (2 * p + 1)) := by
  rw [head_at c XQ arg5 g5 gh gc gs f hf (2 * p) (by omega) e hi, head_at c XQ arg5 g5 gh gc gs f hf (2 * p + 1) (by omega) e' hi']

/-- A scale, loaded. -/
abbrev wordV (M : Memref sig .tc .smem S1 .f32) (g : Buf (Elt F) (M.view.loc (c : Thread nD τ))) : Elt F .f32 :=
  M.view.readAt (Elt F) (Rect.unit (s := S1) ![0] S1.size inb_S1_S1_0).toLoadRect g (Shape.Idx.first (by decide))
/-- The keys' codes; -/
def valK (y : S256x8x128.Idx) : Elt F .fp8e4m3 :=
  codeV (rotQ c XQ arg5 g5 gh gc gs (Ring.bk 12 (8 + (y 1).val / 4)) ⟨(y 1).val % 4, Nat.mod_lt _ (by decide)⟩) (wordV c arg1 g1)
    (ValueIdx.ix3 (n0 := 256) (n1 := 1) (n2 := 128) (y 0) 0 (y 2))
/-- the values'. -/
def valV (y : S256x8x128.Idx) : Elt F .fp8e4m3 :=
  codeV (headV (tileQ c XQ arg5 g5 gh (Ring.bk 12 (10 + (y 1).val / 4))) ⟨(y 1).val % 4, Nat.mod_lt _ (by decide)⟩) (wordV c arg2 g2)
    (ValueIdx.ix3 (n0 := 256) (n1 := 1) (n2 := 128) (y 0) 0 (y 2))
/-- A head's codes are the keys'; -/
theorem valK_at (n : ℕ) (b : Fin 12) (i : Fin 4) (hb : b = Ring.bk 12 (8 + n / 4)) (hi : i.val = n % 4) (pay : S256x1x128.Idx → Elt F .fp8e4m3)
    (hp : pay = codeV (rotQ c XQ arg5 g5 gh gc gs b i) (wordV c arg1 g1)) (y : S256x8x128.Idx) (hy : (y 1).val = n) :
    valK c XQ arg1 arg5 g1 g5 gh gc gs y = pay (ValueIdx.ix3 (n0 := 256) (n1 := 1) (n2 := 128) (y 0) 0 (y 2)) := by
  have ei : (⟨(y 1).val % 4, Nat.mod_lt _ (by decide)⟩ : Fin 4) = i := Fin.ext (by show (y 1).val % 4 = i.val; rw [hi, hy])
  have eb : Ring.bk 12 (8 + (y 1).val / 4) = b := by rw [hb, hy]
  rw [hp, valK, ei, eb]
/-- the values'. -/
theorem valV_at (n : ℕ) (b : Fin 12) (i : Fin 4) (hb : b = Ring.bk 12 (10 + n / 4)) (hi : i.val = n % 4) (pay : S256x1x128.Idx → Elt F .fp8e4m3)
    (hp : pay = codeV (headV (tileQ c XQ arg5 g5 gh b) i) (wordV c arg2 g2)) (y : S256x8x128.Idx) (hy : (y 1).val = n) :
    valV c XQ arg2 arg5 g2 g5 gh y = pay (ValueIdx.ix3 (n0 := 256) (n1 := 1) (n2 := 128) (y 0) 0 (y 2)) := by
  have ei : (⟨(y 1).val % 4, Nat.mod_lt _ (by decide)⟩ : Fin 4) = i := Fin.ext (by show (y 1).val % 4 = i.val; rw [hi, hy])
  have eb : Ring.bk 12 (10 + (y 1).val / 4) = b := by rw [hb, hy]
  rw [hp, valV, ei, eb]

end Tail

end Cert.Proof.FrontIdeal

end
-- ==== Proof.FrontIdealBody.lean ====
/-
  The body: the copies in and out around the two loops, the queries' packing and the last four tiles.
-/
module

public import proofs.«01_k».proof.Defs
public import proofs.«01_k».proof.Proof.Gen.FrontIdeal
public import proofs.«01_k».proof.Proof.Gen.FrontIdeal.Skeleton
public import proofs.«01_k».proof.Proof.Gen.FrontIdeal.Loops
public import proofs.«01_k».proof.Proof.Gen.FrontIdeal.Launch
public import proofs.«01_k».proof.Proof.Gen.FrontIdeal.Points
public import proofs.«01_k».proof.Proof.Gen.FrontIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.VecWindow
public import Idealize.ShloMosaic.Lib.Tactic
public import proofs.«01_k».proof.Proof.FrontIdealPos
public import proofs.«01_k».proof.Proof.FrontIdealQ
public import proofs.«01_k».proof.Proof.FrontIdealBlocks
public import proofs.«01_k».proof.Proof.FrontIdealCodes

@[expose] public section

set_option maxRecDepth 16384

noncomputable section

namespace Cert.Proof.FrontIdeal

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

theorem ent_of_eq {P Q : sProp 𝕄} (h : P = Q) : P ⊢ Q := by subst h; iintro H; iexact H

section Body

variable (c : Dev nD) (X : Buf (Elt F) (xM.view.loc (c : Thread nD τ))) (XQ : Buf (Elt F) (wMQ.view.loc (c : Thread nD τ)))
  (arg0 : Memref sig .tc .smem S256 .i32) (harg0 : arg0.IsWhole) (arg1 : Memref sig .tc .smem S1 .f32) (harg1 : arg1.IsWhole)
  (arg2 : Memref sig .tc .smem S1 .f32) (harg2 : arg2.IsWhole) (arg3 : Memref sig .tc .vmem S1x128 .f32) (harg3 : arg3.IsWhole)
  (arg4 : Memref sig .tc .vmem S1x2560 .f32) (harg4 : arg4.IsWhole) (arg5 : Memref sig .tc .vmem S1x6144 .f32) (harg5 : arg5.IsWhole)
  (g0 : Buf (Elt F) (arg0.view.loc (c : Thread nD τ)))
  (g1 : Buf (Elt F) (arg1.view.loc (c : Thread nD τ)))
  (g2 : Buf (Elt F) (arg2.view.loc (c : Thread nD τ)))
  (g3 : Buf (Elt F) (arg3.view.loc (c : Thread nD τ)))
  (g4 : Buf (Elt F) (arg4.view.loc (c : Thread nD τ)))
  (g5 : Buf (Elt F) (arg5.view.loc (c : Thread nD τ)))

abbrev bodyG : Prog (TpuEff nD τ sig (Elt F) Λ₀ .tc) PUnit := cc0_layer (F := F) arg0 harg0 arg1 harg1 arg2 harg2 arg3 harg3 arg4 harg4 arg5 harg5 xM (Memref.isWhole_whole _) wMQ (Memref.isWhole_whole _) qM (Memref.isWhole_whole _) kcM (Memref.isWhole_whole _) vcM (Memref.isWhole_whole _) xvM (Memref.isWhole_whole _) hvM (Memref.isWhole_whole _) kvM (Memref.isWhole_whole _) vvM (Memref.isWhole_whole _) ringMQ (Memref.isWhole_whole _) cc0_scratch5 cc0_scratch6 cc0_scratch7 qvM (Memref.isWhole_whole _) qpM (Memref.isWhole_whole _) cosM (Memref.isWhole_whole _) sinM (Memref.isWhole_whole _)

/-! ## What the buffers hold between the phases -/

/-- The positions, a row each; -/
def GP : Buf (Elt F) (cosM.view.loc (c : Thread nD τ)) := cosM.view.rep (valP c arg0 g0)
/-- the angles; -/
def angV : FVec F S256x128 .f32 :=
  k0_pay19 (cosM.view.readAt (Elt F) (Rect.unit (s := S256x128) ![0, 0] S256x128.size inb_S256x128_S256x128_0_0).toLoadRect (GP c arg0 g0))
    (arg3.view.readAt (Elt F) (Rect.unit (s := S1x128) ![0, 0] S1x128.size inb_S1x128_S1x128_0_0).toLoadRect g3)
/-- their cosines, -/
def csV : FVec F S256x128 .f32 :=
  k0_pay20 (cosM.view.readAt (Elt F) (Rect.unit (s := S256x128) ![0, 0] S256x128.size inb_S256x128_S256x128_0_0).toLoadRect (GP c arg0 g0))
    (arg3.view.readAt (Elt F) (Rect.unit (s := S1x128) ![0, 0] S1x128.size inb_S1x128_S1x128_0_0).toLoadRect g3)
def GC : Buf (Elt F) (cosM.view.loc (c : Thread nD τ)) := cosM.view.rep (csV c arg0 arg3 g0 g3)
/-- their sines under the rotation's signs; -/
def GS : Buf (Elt F) (sinM.view.loc (c : Thread nD τ)) :=
  sinM.view.rep (k0_pay21 (angV c arg0 arg3 g0 g3) (iota .tc S1x128 32 [1] iota_S1x128_d1_w32))
/-- the input in VMEM; -/
def GX : Buf (Elt F) (xvM.view.loc (c : Thread nD τ)) := xvM.view.rep (xM.view.read (Elt F) X)
/-- its normalization. -/
def GH : Buf (Elt F) (hvM.view.loc (c : Thread nD τ)) := hvM.view.rep
  (k0_pay22 (xvM.view.readAt (Elt F) (Rect.unit (s := S256x2560) ![0, 0] S256x2560.size inb_S256x2560_S256x2560_0_0).toLoadRect (GX c X))
    (arg4.view.readAt (Elt F) (Rect.unit (s := S1x2560) ![0, 0] S1x2560.size inb_S1x2560_S1x2560_0_0).toLoadRect g4))

abbrev xP (f : Buf (Elt F) (xM.view.loc (c : Thread nD τ))) : sProp 𝕄 := xM.view.loc (c : Thread nD τ) ↦[xM.view.set]{fullShare} f
abbrev xvP (f : Buf (Elt F) (xvM.view.loc (c : Thread nD τ))) : sProp 𝕄 := xvM.view.loc (c : Thread nD τ) ↦[xvM.view.set]{fullShare} f
abbrev kvP (f : Buf (Elt F) (kvM.view.loc (c : Thread nD τ))) : sProp 𝕄 := kvM.view.loc (c : Thread nD τ) ↦[kvM.view.set]{fullShare} f
abbrev vvP (f : Buf (Elt F) (vvM.view.loc (c : Thread nD τ))) : sProp 𝕄 := vvM.view.loc (c : Thread nD τ) ↦[vvM.view.set]{fullShare} f
abbrev qpP (f : Buf (Elt F) (qpM.view.loc (c : Thread nD τ))) : sProp 𝕄 := qpM.view.loc (c : Thread nD τ) ↦[qpM.view.set]{fullShare} f
abbrev qP (f : Buf (Elt F) (qM.view.loc (c : Thread nD τ))) : sProp 𝕄 := qM.view.loc (c : Thread nD τ) ↦[qM.view.set]{fullShare} f
abbrev kcP (f : Buf (Elt F) (kcM.view.loc (c : Thread nD τ))) : sProp 𝕄 := kcM.view.loc (c : Thread nD τ) ↦[kcM.view.set]{fullShare} f
abbrev vcP (f : Buf (Elt F) (vcM.view.loc (c : Thread nD τ))) : sProp 𝕄 := vcM.view.loc (c : Thread nD τ) ↦[vcM.view.set]{fullShare} f

/-- The input copy's semaphore, and the three copies out's. -/
abbrev xsm : SemLoc sig := .dma cc0_scratch5.sem
abbrev osm0 : SemLoc sig := .dma ((cc0_scratch7.slice (Rect.unit (s := S3) ![0] S1.size inb_S3_S1_0)).squeeze S_ squeezes_S1_S_).sem
abbrev osm1 : SemLoc sig := .dma ((cc0_scratch7.slice (Rect.unit (s := S3) ![1] S1.size inb_S3_S1_1)).squeeze S_ squeezes_S1_S_).sem
abbrev osm2 : SemLoc sig := .dma ((cc0_scratch7.slice (Rect.unit (s := S3) ![2] S1.size inb_S3_S1_2)).squeeze S_ squeezes_S1_S_).sem
abbrev semP (s : SemLoc sig) : sProp 𝕄 := semVal ((c : Thread nD τ), s) 0

/-- The staged operands. -/
abbrev inP : sProp 𝕄 :=
  iprop((arg0.view.loc (c : Thread nD τ) ↦[arg0.view.set]{fullShare} g0)
    ∗ (arg1.view.loc (c : Thread nD τ) ↦[arg1.view.set]{fullShare} g1)
    ∗ (arg2.view.loc (c : Thread nD τ) ↦[arg2.view.set]{fullShare} g2)
    ∗ (arg3.view.loc (c : Thread nD τ) ↦[arg3.view.set]{fullShare} g3)
    ∗ (arg4.view.loc (c : Thread nD τ) ↦[arg4.view.set]{fullShare} g4)
    ∗ (arg5.view.loc (c : Thread nD τ) ↦[arg5.view.set]{fullShare} g5))
/-- The scratch buffers, at anything. -/
abbrev scrP : sProp 𝕄 :=
  iprop((∃ f, xvP (F := F) c f) ∗ (∃ f, hvP (F := F) c f) ∗ (∃ f, kvP (F := F) c f) ∗ (∃ f, vvP (F := F) c f)
    ∗ (∃ f, qvP (F := F) c f) ∗ (∃ f, qpP (F := F) c f) ∗ (∃ f, cosP (F := F) c f) ∗ (∃ f, sinP (F := F) c f))
abbrev freeQ3 : sProp 𝕄 := iprop(freeQ (F := F) c 0 ∗ freeQ (F := F) c 1 ∗ freeQ (F := F) c 2)
abbrev homesQ0 : sProp 𝕄 := iprop(homeQ c XQ 0 ∗ homeQ c XQ 1 ∗ homeQ c XQ 2 ∗ bigSep (Ring.homeSet 3 0) (homeQ c XQ))
abbrev semsP : sProp 𝕄 := iprop(semP (F := F) c xsm ∗ semP (F := F) c osm0 ∗ semP (F := F) c osm1 ∗ semP (F := F) c osm2)

/-- What the body is handed. -/
def PRE (fq : Buf (Elt F) (qM.view.loc (c : Thread nD τ))) (fk : Buf (Elt F) (kcM.view.loc (c : Thread nD τ)))
    (fv : Buf (Elt F) (vcM.view.loc (c : Thread nD τ))) (W : Waits sig Unit) : sProp 𝕄 :=
  iprop(inP c arg0 arg1 arg2 arg3 arg4 arg5 g0 g1 g2 g3 g4 g5 ∗ scrP (F := F) c ∗ xP c X
    ∗ homesQ0 c XQ ∗ freeQ3 (F := F) c ∗ qP c fq ∗ kcP c fk ∗ vcP c fv ∗ semsP (F := F) c ∗ owes (c : Thread nD τ) 0 W)

/-- What it hands back. -/
def POST : sProp 𝕄 :=
  iprop(inP c arg0 arg1 arg2 arg3 arg4 arg5 g0 g1 g2 g3 g4 g5 ∗ scrP (F := F) c ∗ xP c X
    ∗ bigSep (Ring.homeSet 3 12) (homeQ c XQ) ∗ freeQ3 (F := F) c
    ∗ (∃ f, ⌜∀ y, qM.view.read (Elt F) f y = valP2 c XQ arg5 g5 (GH c X arg4 g4) (GC c arg0 arg3 g0 g3) (GS c arg0 arg3 g0 g3) y⌝ ∗ qP c f)
    ∗ (∃ f, ⌜∀ y, kcM.view.read (Elt F) f y = valK c XQ arg1 arg5 g1 g5 (GH c X arg4 g4) (GC c arg0 arg3 g0 g3) (GS c arg0 arg3 g0 g3) y⌝ ∗ kcP c f)
    ∗ (∃ f, ⌜∀ y, vcM.view.read (Elt F) f y = valV c XQ arg2 arg5 g2 g5 (GH c X arg4 g4) y⌝ ∗ vcP c f)
    ∗ semsP (F := F) c ∗ ∃ W, owes (c : Thread nD τ) 0 W)

/-- A buffer written whole is held at what was written. -/
theorem xv_rep (f : Buf (Elt F) (xvM.view.loc (c : Thread nD τ))) (w) :
    xvP c (xvM.view.writes (Elt F) f [⟨Rect.whole S256x2560, w⟩]) ⊢ xvP c (xvM.view.rep w) :=
  pointsTo_rep_of_read (c : Thread nD τ) xvM _ fullShare w (View.read_writes_whole _ _ _)
theorem cos_rep (f : Buf (Elt F) (cosM.view.loc (c : Thread nD τ))) (w) :
    cosP c (cosM.view.writes (Elt F) f [⟨Rect.unit (s := S256x128) ![0, 0] S256x128.size inb_S256x128_S256x128_0_0, w⟩]) ⊢ cosP c (cosM.view.rep w) :=
  pointsTo_rep_of_read (c : Thread nD τ) cosM _ fullShare w (View.read_writes_full _ _ _ _ _)
theorem sin_rep (f : Buf (Elt F) (sinM.view.loc (c : Thread nD τ))) (w) :
    sinP c (sinM.view.writes (Elt F) f [⟨Rect.unit (s := S256x128) ![0, 0] S256x128.size inb_S256x128_S256x128_0_0, w⟩]) ⊢ sinP c (sinM.view.rep w) :=
  pointsTo_rep_of_read (c : Thread nD τ) sinM _ fullShare w (View.read_writes_full _ _ _ _ _)
theorem h_rep (f : Buf (Elt F) (hvM.view.loc (c : Thread nD τ))) (w) :
    hvP c (hvM.view.writes (Elt F) f [⟨Rect.unit (s := S256x2560) ![0, 0] S256x2560.size inb_S256x2560_S256x2560_0_0, w⟩]) ⊢ hvP c (hvM.view.rep w) :=
  pointsTo_rep_of_read (c : Thread nD τ) hvM _ fullShare w (View.read_writes_full _ _ _ _ _)
theorem q_out (f : Buf (Elt F) (qM.view.loc (c : Thread nD τ))) (w) :
    qP c (qM.view.writes (Elt F) f [⟨Rect.whole S256x32x128, w⟩]) ⊢ iprop(∃ h, ⌜∀ y, qM.view.read (Elt F) h y = w y⌝ ∗ qP (F := F) c h) := by
  iintro H
  iexists (qM.view.writes (Elt F) f [⟨Rect.whole S256x32x128, w⟩])
  isplitr
  · ipureintro; exact fun y => congrFun (View.read_writes_whole _ _ _) y
  iexact H
theorem k_out (f : Buf (Elt F) (kcM.view.loc (c : Thread nD τ))) (w) :
    kcP c (kcM.view.writes (Elt F) f [⟨Rect.whole S256x8x128, w⟩]) ⊢ iprop(∃ h, ⌜∀ y, kcM.view.read (Elt F) h y = w y⌝ ∗ kcP (F := F) c h) := by
  iintro H
  iexists (kcM.view.writes (Elt F) f [⟨Rect.whole S256x8x128, w⟩])
  isplitr
  · ipureintro; exact fun y => congrFun (View.read_writes_whole _ _ _) y
  iexact H
theorem v_out (f : Buf (Elt F) (vcM.view.loc (c : Thread nD τ))) (w) :
    vcP c (vcM.view.writes (Elt F) f [⟨Rect.whole S256x8x128, w⟩]) ⊢ iprop(∃ h, ⌜∀ y, vcM.view.read (Elt F) h y = w y⌝ ∗ vcP (F := F) c h) := by
  iintro H
  iexists (vcM.view.writes (Elt F) f [⟨Rect.whole S256x8x128, w⟩])
  isplitr
  · ipureintro; exact fun y => congrFun (View.read_writes_whole _ _ _) y
  iexact H

set_option maxHeartbeats 2000000 in
attribute [local sl_canon] sl3_0 sl3_1 sl3_2 bk12_0 bk12_1 bk12_2 in
theorem bodyRun (fq fk fv W) (Q : PUnit → sProp 𝕄) :
    iprop(PRE c X XQ arg0 arg1 arg2 arg3 arg4 arg5 g0 g1 g2 g3 g4 g5 fq fk fv W ∗ (POST c X XQ arg0 arg1 arg2 arg3 arg4 arg5 g0 g1 g2 g3 g4 g5 -∗ Q ⟨⟩))
      ⊢ wp frame (wpE (defs₀ (F := F)) 𝒱₀ (c : Thread nD τ) none) Set.univ (bodyG arg0 harg0 arg1 harg1 arg2 harg2 arg3 harg3 arg4 harg4 arg5 harg5) Q := by
  unfold PRE
  unfold freeQ3 freeQ
  iintro ⟨⟨⟨H0, H1, H2, H3, H4, H5⟩, ⟨⟨%xv, HX⟩, ⟨%hv, HN⟩, ⟨%kv, HK⟩, ⟨%vv, HV⟩, ⟨%qv, HQ⟩, ⟨%qp, HP⟩, ⟨%cs, HC⟩, ⟨%sn, HS⟩⟩, Hx,
    ⟨HwQ0, HwQ1, HwQ2, HhQ⟩, ⟨⟨⟨%fQ0, HsQ0⟩, HcQ0⟩, ⟨⟨%fQ1, HsQ1⟩, HcQ1⟩, ⟨⟨%fQ2, HsQ2⟩, HcQ2⟩⟩,
    Hqo, Hko, Hvo, ⟨Hxs, Hos0, Hos1, Hos2⟩, HW⟩, Hk⟩
  sl_exec
  ihave HRQ0 : roleQ c XQ 0 $$ [HcQ0]
  · irw [roleQ_here c XQ 0 (by decide)]; iexists fQ0; iexact HcQ0
  ihave HRQ1 : roleQ c XQ (0 + 1) $$ [HcQ1]
  · irw [roleQ_here c XQ (0 + 1) (by decide)]; iexists fQ1; iexact HcQ1
  ihave HRQ2 : roleQ c XQ (0 + 2) $$ [HcQ2]
  · irw [roleQ_here c XQ (0 + 2) (by decide)]; iexists fQ2; iexact HcQ2
  sl_for (invP c arg0 g0) $$ [H0 HC]
  · exact fun k u => stepP c arg0 harg0 arg1 harg1 arg2 harg2 arg3 harg3 arg4 harg4 arg5 harg5 g0 k u
  · unfold invP
    iexists cs
    isplitr
    · ipureintro; exact fun y hy => absurd hy (Nat.not_lt_zero _)
    isplitl [H0]; · iexact H0
    iexact HC
  iintro %u1 HI
  ihave HI := (ent_of_eq (show invP c arg0 g0 k0_t1_loop.trips u1 = invP c arg0 g0 32 u1 by rw [trips1])) $$ HI
  unfold invP
  icases HI with ⟨%fp, %hgp, H0, HC⟩
  ihave HC := (pointsTo_rep_of_read (c : Thread nD τ) cosM _ fullShare (valP c arg0 g0) (funext fun y => hgp y (y 0).isLt)) $$ HC
  ihave HC : cosP c (GP c arg0 g0) $$ [HC]
  · iexact HC
  sl_exec
  ihave HX := (xv_rep c _ _) $$ HX
  ihave HX : xvP c (GX c X) $$ [HX]
  · iexact HX
  ihave HC := (cos_rep c _ (csV c arg0 arg3 g0 g3)) $$ [HC]
  · iexact HC
  ihave HC : cosP c (GC c arg0 arg3 g0 g3) $$ [HC]
  · iexact HC
  ihave HS := (sin_rep c _ (k0_pay21 (angV c arg0 arg3 g0 g3) (iota .tc S1x128 32 [1] iota_S1x128_d1_w32))) $$ [HS]
  · iexact HS
  ihave HS : sinP c (GS c arg0 arg3 g0 g3) $$ [HS]
  · iexact HS
  ihave HN := (h_rep c _ (k0_pay22 (xvM.view.readAt (Elt F) (Rect.unit (s := S256x2560) ![0, 0] S256x2560.size inb_S256x2560_S256x2560_0_0).toLoadRect (GX c X))
    (arg4.view.readAt (Elt F) (Rect.unit (s := S1x2560) ![0, 0] S1x2560.size inb_S1x2560_S1x2560_0_0).toLoadRect g4))) $$ [HN]
  · iexact HN
  ihave HN : hvP c (GH c X arg4 g4) $$ [HN]
  · iexact HN
  sl_for (invQ c XQ arg5 g5 (GH c X arg4 g4) (GC c arg0 arg3 g0 g3) (GS c arg0 arg3 g0 g3)) $$ [H5 HN HC HS HQ HW HhQ HRQ0 HRQ1 HRQ2]
  · exact fun k a => stepQ c XQ arg0 harg0 arg1 harg1 arg2 harg2 arg3 harg3 arg4 harg4 arg5 harg5 g5 (GH c X arg4 g4) (GC c arg0 arg3 g0 g3) (GS c arg0 arg3 g0 g3) _ _ _ k a
  · unfold invQ resQ ringQ
    iexists qv
    isplitr
    · ipureintro; exact fun y hy => absurd hy (Nat.not_lt_zero _)
    isplitl [H5 HN HC HS]
    · isplitl [H5]; · iexact H5
      isplitl [HN]; · iexact HN
      isplitl [HC]; · iexact HC
      iexact HS
    isplitl [HQ]; · iexact HQ
    isplitl [HW]; · iexists _; iexact HW
    isplitl [HhQ]; · iexact HhQ
    isplitl [HRQ0]; · iexact HRQ0
    isplitl [HRQ1]; · iexact HRQ1
    iexact HRQ2
  iintro %a2 HI
  ihave HI := (ent_of_eq (show invQ c XQ arg5 g5 (GH c X arg4 g4) (GC c arg0 arg3 g0 g3) (GS c arg0 arg3 g0 g3) k0_t2_loop.trips a2 = invQ c XQ arg5 g5 (GH c X arg4 g4) (GC c arg0 arg3 g0 g3) (GS c arg0 arg3 g0 g3) 8 a2 by rw [trips2])) $$ HI
  unfold invQ resQ ringQ
  rw [roleQ_here c XQ 8 (by decide), roleQ_here c XQ (8 + 1) (by decide), roleQ_here c XQ (8 + 2) (by decide), homesQ_here c XQ 8 (by decide),
    sl3_8, sl3_9, sl3_10, bk12_8, bk12_9, bk12_10, bk12_11]
  icases HI with ⟨%fq8, %hgq, ⟨H5, HN, HC, HS⟩, HQ, ⟨%W2, HW⟩, ⟨Hg11, Hrest⟩, ⟨%fA, HFA⟩, ⟨%fB, HFB⟩, ⟨%fC, HFC⟩⟩
  sl_exec
  sl_step
  iapply Hk
  unfold POST freeQ3 freeQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HX HN HK HV HQ HP HC HS]
  · isplitl [HX]; · iexists _; iexact HX
    isplitl [HN]; · iexists _; iexact HN
    isplitl [HK]; · iexists _; iexact HK
    isplitl [HV]; · iexists _; iexact HV
    isplitl [HQ]; · iexists _; iexact HQ
    isplitl [HP]; · iexists _; iexact HP
    isplitl [HC]; · iexists _; iexact HC
    iexists _; iexact HS
  isplitl [Hx]; · iexact Hx
  isplitl [HFA_src HFB_src HFC_src Hg11 Hrest]
  · irw [homesQ_tail c XQ 11 (by decide) (by decide), homesQ_tail c XQ 10 (by decide) (by decide), homesQ_tail c XQ 9 (by decide) (by decide), homesQ_next c XQ 8 (by decide)]
    isplitl [Hg11]; · iexact Hg11
    isplitl [HFC_src]; · iexact HFC_src
    isplitl [HFB_src]; · iexact HFB_src
    isplitl [HFA_src]; · iexact HFA_src
    iexact Hrest
  isplitl [HFA_dst HFA HFB_dst HFB HFC_dst HFC]
  · isplitl [HFB_dst HFB]
    · isplitl [HFB_dst]; · iexists _; iexact HFB_dst
      iexact HFB
    isplitl [HFC_dst HFC]
    · isplitl [HFC_dst]; · iexists _; iexact HFC_dst
      iexact HFC
    isplitl [HFA_dst]; · iexists _; iexact HFA_dst
    iexact HFA
  isplitl [Hqo]
  · ihave Ho := (q_out c _ _) $$ Hqo
    icases Ho with ⟨%out, %hout, Ho⟩
    iexists out
    isplitr
    · ipureintro
      refine fun y => (hout y).trans ?_
      show qpM.view.read (Elt F) (qpM.view.writes (Elt F) qp (bodyRun.sl.HP_16 c fq8)) y = _
      have hq : GoodP2 c XQ arg5 g5 (GH c X arg4 g4) (GC c arg0 arg3 g0 g3) (GS c arg0 arg3 g0 g3) 16 (qpM.view.writes (Elt F) qp (bodyRun.sl.HP_16 c fq8)) := by
        unfold bodyRun.sl.HP_16
        refine goodP2_cons c XQ arg5 g5 (GH c X arg4 g4) (GC c arg0 arg3 g0 g3) (GS c arg0 arg3 g0 g3) 15 _ rfl qp _ rfl _ _ ?_ ?_
        · exact pack_at c XQ arg5 g5 (GH c X arg4 g4) (GC c arg0 arg3 g0 g3) (GS c arg0 arg3 g0 g3) fq8 hgq 15 (by decide) (off := ![30, 0, 0]) (off' := ![31, 0, 0]) rfl rfl inb_S32x288x128_S1x256x128_30_0_0 inb_S32x288x128_S1x256x128_31_0_0
        refine goodP2_cons c XQ arg5 g5 (GH c X arg4 g4) (GC c arg0 arg3 g0 g3) (GS c arg0 arg3 g0 g3) 14 _ rfl qp _ rfl _ _ ?_ ?_
        · exact pack_at c XQ arg5 g5 (GH c X arg4 g4) (GC c arg0 arg3 g0 g3) (GS c arg0 arg3 g0 g3) fq8 hgq 14 (by decide) (off := ![28, 0, 0]) (off' := ![29, 0, 0]) rfl rfl inb_S32x288x128_S1x256x128_28_0_0 inb_S32x288x128_S1x256x128_29_0_0
        refine goodP2_cons c XQ arg5 g5 (GH c X arg4 g4) (GC c arg0 arg3 g0 g3) (GS c arg0 arg3 g0 g3) 13 _ rfl qp _ rfl _ _ ?_ ?_
        · exact pack_at c XQ arg5 g5 (GH c X arg4 g4) (GC c arg0 arg3 g0 g3) (GS c arg0 arg3 g0 g3) fq8 hgq 13 (by decide) (off := ![26, 0, 0]) (off' := ![27, 0, 0]) rfl rfl inb_S32x288x128_S1x256x128_26_0_0 inb_S32x288x128_S1x256x128_27_0_0
        refine goodP2_cons c XQ arg5 g5 (GH c X arg4 g4) (GC c arg0 arg3 g0 g3) (GS c arg0 arg3 g0 g3) 12 _ rfl qp _ rfl _ _ ?_ ?_
        · exact pack_at c XQ arg5 g5 (GH c X arg4 g4) (GC c arg0 arg3 g0 g3) (GS c arg0 arg3 g0 g3) fq8 hgq 12 (by decide) (off := ![24, 0, 0]) (off' := ![25, 0, 0]) rfl rfl inb_S32x288x128_S1x256x128_24_0_0 inb_S32x288x128_S1x256x128_25_0_0
        refine goodP2_cons c XQ arg5 g5 (GH c X arg4 g4) (GC c arg0 arg3 g0 g3) (GS c arg0 arg3 g0 g3) 11 _ rfl qp _ rfl _ _ ?_ ?_
        · exact pack_at c XQ arg5 g5 (GH c X arg4 g4) (GC c arg0 arg3 g0 g3) (GS c arg0 arg3 g0 g3) fq8 hgq 11 (by decide) (off := ![22, 0, 0]) (off' := ![23, 0, 0]) rfl rfl inb_S32x288x128_S1x256x128_22_0_0 inb_S32x288x128_S1x256x128_23_0_0
        refine goodP2_cons c XQ arg5 g5 (GH c X arg4 g4) (GC c arg0 arg3 g0 g3) (GS c arg0 arg3 g0 g3) 10 _ rfl qp _ rfl _ _ ?_ ?_
        · exact pack_at c XQ arg5 g5 (GH c X arg4 g4) (GC c arg0 arg3 g0 g3) (GS c arg0 arg3 g0 g3) fq8 hgq 10 (by decide) (off := ![20, 0, 0]) (off' := ![21, 0, 0]) rfl rfl inb_S32x288x128_S1x256x128_20_0_0 inb_S32x288x128_S1x256x128_21_0_0
        refine goodP2_cons c XQ arg5 g5 (GH c X arg4 g4) (GC c arg0 arg3 g0 g3) (GS c arg0 arg3 g0 g3) 9 _ rfl qp _ rfl _ _ ?_ ?_
        · exact pack_at c XQ arg5 g5 (GH c X arg4 g4) (GC c arg0 arg3 g0 g3) (GS c arg0 arg3 g0 g3) fq8 hgq 9 (by decide) (off := ![18, 0, 0]) (off' := ![19, 0, 0]) rfl rfl inb_S32x288x128_S1x256x128_18_0_0 inb_S32x288x128_S1x256x128_19_0_0
        refine goodP2_cons c XQ arg5 g5 (GH c X arg4 g4) (GC c arg0 arg3 g0 g3) (GS c arg0 arg3 g0 g3) 8 _ rfl qp _ rfl _ _ ?_ ?_
        · exact pack_at c XQ arg5 g5 (GH c X arg4 g4) (GC c arg0 arg3 g0 g3) (GS c arg0 arg3 g0 g3) fq8 hgq 8 (by decide) (off := ![16, 0, 0]) (off' := ![17, 0, 0]) rfl rfl inb_S32x288x128_S1x256x128_16_0_0 inb_S32x288x128_S1x256x128_17_0_0
        refine goodP2_cons c XQ arg5 g5 (GH c X arg4 g4) (GC c arg0 arg3 g0 g3) (GS c arg0 arg3 g0 g3) 7 _ rfl qp _ rfl _ _ ?_ ?_
        · exact pack_at c XQ arg5 g5 (GH c X arg4 g4) (GC c arg0 arg3 g0 g3) (GS c arg0 arg3 g0 g3) fq8 hgq 7 (by decide) (off := ![14, 0, 0]) (off' := ![15, 0, 0]) rfl rfl inb_S32x288x128_S1x256x128_14_0_0 inb_S32x288x128_S1x256x128_15_0_0
        refine goodP2_cons c XQ arg5 g5 (GH c X arg4 g4) (GC c arg0 arg3 g0 g3) (GS c arg0 arg3 g0 g3) 6 _ rfl qp _ rfl _ _ ?_ ?_
        · exact pack_at c XQ arg5 g5 (GH c X arg4 g4) (GC c arg0 arg3 g0 g3) (GS c arg0 arg3 g0 g3) fq8 hgq 6 (by decide) (off := ![12, 0, 0]) (off' := ![13, 0, 0]) rfl rfl inb_S32x288x128_S1x256x128_12_0_0 inb_S32x288x128_S1x256x128_13_0_0
        refine goodP2_cons c XQ arg5 g5 (GH c X arg4 g4) (GC c arg0 arg3 g0 g3) (GS c arg0 arg3 g0 g3) 5 _ rfl qp _ rfl _ _ ?_ ?_
        · exact pack_at c XQ arg5 g5 (GH c X arg4 g4) (GC c arg0 arg3 g0 g3) (GS c arg0 arg3 g0 g3) fq8 hgq 5 (by decide) (off := ![10, 0, 0]) (off' := ![11, 0, 0]) rfl rfl inb_S32x288x128_S1x256x128_10_0_0 inb_S32x288x128_S1x256x128_11_0_0
        refine goodP2_cons c XQ arg5 g5 (GH c X arg4 g4) (GC c arg0 arg3 g0 g3) (GS c arg0 arg3 g0 g3) 4 _ rfl qp _ rfl _ _ ?_ ?_
        · exact pack_at c XQ arg5 g5 (GH c X arg4 g4) (GC c arg0 arg3 g0 g3) (GS c arg0 arg3 g0 g3) fq8 hgq 4 (by decide) (off := ![8, 0, 0]) (off' := ![9, 0, 0]) rfl rfl inb_S32x288x128_S1x256x128_8_0_0 inb_S32x288x128_S1x256x128_9_0_0
        refine goodP2_cons c XQ arg5 g5 (GH c X arg4 g4) (GC c arg0 arg3 g0 g3) (GS c arg0 arg3 g0 g3) 3 _ rfl qp _ rfl _ _ ?_ ?_
        · exact pack_at c XQ arg5 g5 (GH c X arg4 g4) (GC c arg0 arg3 g0 g3) (GS c arg0 arg3 g0 g3) fq8 hgq 3 (by decide) (off := ![6, 0, 0]) (off' := ![7, 0, 0]) rfl rfl inb_S32x288x128_S1x256x128_6_0_0 inb_S32x288x128_S1x256x128_7_0_0
        refine goodP2_cons c XQ arg5 g5 (GH c X arg4 g4) (GC c arg0 arg3 g0 g3) (GS c arg0 arg3 g0 g3) 2 _ rfl qp _ rfl _ _ ?_ ?_
        · exact pack_at c XQ arg5 g5 (GH c X arg4 g4) (GC c arg0 arg3 g0 g3) (GS c arg0 arg3 g0 g3) fq8 hgq 2 (by decide) (off := ![4, 0, 0]) (off' := ![5, 0, 0]) rfl rfl inb_S32x288x128_S1x256x128_4_0_0 inb_S32x288x128_S1x256x128_5_0_0
        refine goodP2_cons c XQ arg5 g5 (GH c X arg4 g4) (GC c arg0 arg3 g0 g3) (GS c arg0 arg3 g0 g3) 1 _ rfl qp _ rfl _ _ ?_ ?_
        · exact pack_at c XQ arg5 g5 (GH c X arg4 g4) (GC c arg0 arg3 g0 g3) (GS c arg0 arg3 g0 g3) fq8 hgq 1 (by decide) (off := ![2, 0, 0]) (off' := ![3, 0, 0]) rfl rfl inb_S32x288x128_S1x256x128_2_0_0 inb_S32x288x128_S1x256x128_3_0_0
        refine goodP2_cons c XQ arg5 g5 (GH c X arg4 g4) (GC c arg0 arg3 g0 g3) (GS c arg0 arg3 g0 g3) 0 _ rfl qp _ rfl _ _ ?_ ?_
        · exact pack_at c XQ arg5 g5 (GH c X arg4 g4) (GC c arg0 arg3 g0 g3) (GS c arg0 arg3 g0 g3) fq8 hgq 0 (by decide) (off := ![0, 0, 0]) (off' := ![1, 0, 0]) rfl rfl inb_S32x288x128_S1x256x128_0_0_0 inb_S32x288x128_S1x256x128_1_0_0
        exact fun y hy => absurd hy (Nat.not_lt_zero _)
      exact hq y (y 1).isLt
    iexact Ho
  isplitl [Hko]
  · ihave Ho := (k_out c _ _) $$ Hko
    icases Ho with ⟨%out, %hout, Ho⟩
    iexists out
    isplitr
    · ipureintro
      refine fun y => (hout y).trans ?_
      have eT8 := tileQ_at c XQ arg5 g5 (GH c X arg4 g4) 8 2 (off := ![2, 0, 0]) (by decide) inb_S3x2560x512_S1x2560x512_2_0_0 (rslotQ 2).view.junk (off' := ![0, 4096]) (by decide) inb_S1x6144_S1x512_0_4096
      have eT9 := tileQ_at c XQ arg5 g5 (GH c X arg4 g4) 9 0 (off := ![0, 0, 0]) (by decide) inb_S3x2560x512_S1x2560x512_0_0_0 (rslotQ 0).view.junk (off' := ![0, 4608]) (by decide) inb_S1x6144_S1x512_0_4608
      have hc : ∀ f, GoodC c kvM (valK c XQ arg1 arg5 g1 g5 (GH c X arg4 g4) (GC c arg0 arg3 g0 g3) (GS c arg0 arg3 g0 g3)) 8 (kvM.view.writes (Elt F) f (bodyRun.sl.HK_8 c X XQ arg0 arg1 arg3 arg4 arg5 g0 g1 g3 g4 g5 kv)) := by
        unfold bodyRun.sl.HK_8
        refine goodC_cons c kvM (valK c XQ arg1 arg5 g1 g5 (GH c X arg4 g4) (GC c arg0 arg3 g0 g3) (GS c arg0 arg3 g0 g3)) 1 3 7 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 7 9 3 (by decide) rfl _ (by rw [rotQ, ← eT9]; rfl)
        unfold bodyRun.sl.HK_7
        refine goodC_cons c kvM (valK c XQ arg1 arg5 g1 g5 (GH c X arg4 g4) (GC c arg0 arg3 g0 g3) (GS c arg0 arg3 g0 g3)) 1 2 6 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 6 9 2 (by decide) rfl _ (by rw [rotQ, ← eT9]; rfl)
        unfold bodyRun.sl.HK_6
        refine goodC_cons c kvM (valK c XQ arg1 arg5 g1 g5 (GH c X arg4 g4) (GC c arg0 arg3 g0 g3) (GS c arg0 arg3 g0 g3)) 1 1 5 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 5 9 1 (by decide) rfl _ (by rw [rotQ, ← eT9]; rfl)
        unfold bodyRun.sl.HK_5
        refine goodC_cons c kvM (valK c XQ arg1 arg5 g1 g5 (GH c X arg4 g4) (GC c arg0 arg3 g0 g3) (GS c arg0 arg3 g0 g3)) 1 0 4 _ rfl (by decide) (by decide) rfl _ rfl _ rfl _ _ _ _ rfl (.inl rfl) ?_ ?_
        · exact valK_at c XQ arg1 arg5 g1 g5 (GH c X arg4 g4) (GC c arg0 arg3 g0 g3) (GS c arg0 arg3 g0 g3) 4 9 0 (by decide) rfl _ (by rw [rotQ, ← eT9]; rfl)
        refine goodC_cons c kvM (valK c XQ arg1 arg5 g1 g5 (GH c X arg4 g4) (GC c arg0 arg3 g0 g3) (GS c arg0 arg3 g0 g3)) 0 3 3 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 3 8 3 (by decide) rfl _ (by rw [rotQ, ← eT8]; rfl)
        unfold bodyRun.sl.HK_3
        refine goodC_cons c kvM (valK c XQ arg1 arg5 g1 g5 (GH c X arg4 g4) (GC c arg0 arg3 g0 g3) (GS c arg0 arg3 g0 g3)) 0 2 2 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 2 8 2 (by decide) rfl _ (by rw [rotQ, ← eT8]; rfl)
        unfold bodyRun.sl.HK_2
        refine goodC_cons c kvM (valK c XQ arg1 arg5 g1 g5 (GH c X arg4 g4) (GC c arg0 arg3 g0 g3) (GS c arg0 arg3 g0 g3)) 0 1 1 _ rfl (by decide) (by decide) rfl _ rfl _ rfl _ _ _ _ rfl (.inr rfl) ?_ ?_
        · exact valK_at c XQ arg1 arg5 g1 g5 (GH c X arg4 g4) (GC c arg0 arg3 g0 g3) (GS c arg0 arg3 g0 g3) 1 8 1 (by decide) rfl _ (by rw [rotQ, ← eT8]; rfl)
        unfold bodyRun.sl.HK_1
        refine goodC_cons c kvM (valK c XQ arg1 arg5 g1 g5 (GH c X arg4 g4) (GC c arg0 arg3 g0 g3) (GS c arg0 arg3 g0 g3)) 0 0 0 _ rfl (by decide) (by decide) rfl _ rfl _ rfl _ _ _ _ rfl (.inl rfl) ?_ ?_
        · exact valK_at c XQ arg1 arg5 g1 g5 (GH c X arg4 g4) (GC c arg0 arg3 g0 g3) (GS c arg0 arg3 g0 g3) 0 8 0 (by decide) rfl _ (by rw [rotQ, ← eT8]; rfl)
        exact fun f y hy => absurd hy (Nat.not_lt_zero _)
      exact hc _ y (y 1).isLt
    iexact Ho
  isplitl [Hvo]
  · ihave Ho := (v_out c _ _) $$ Hvo
    icases Ho with ⟨%out, %hout, Ho⟩
    iexists out
    isplitr
    · ipureintro
      refine fun y => (hout y).trans ?_
      have eT10 := tileQ_at c XQ arg5 g5 (GH c X arg4 g4) 10 1 (off := ![1, 0, 0]) (by decide) inb_S3x2560x512_S1x2560x512_1_0_0 (rslotQ 1).view.junk (off' := ![0, 5120]) (by decide) inb_S1x6144_S1x512_0_5120
      have eT11 := tileQ_at2 c XQ arg5 g5 (GH c X arg4 g4) 11 2 (off := ![2, 0, 0]) (by decide) inb_S3x2560x512_S1x2560x512_2_0_0 (rslotQ 2).view.junk (payloadQ c XQ 8) (bodyRun.sl.dma67 c XQ) rfl (off' := ![0, 5632]) (by decide) inb_S1x6144_S1x512_0_5632
      have hc : ∀ f, GoodC c vvM (valV c XQ arg2 arg5 g2 g5 (GH c X arg4 g4)) 8 (vvM.view.writes (Elt F) f (bodyRun.sl.HV_8 c X XQ arg2 arg4 arg5 g2 g4 g5 vv)) := by
        unfold bodyRun.sl.HV_8
        refine goodC_cons c vvM (valV c XQ arg2 arg5 g2 g5 (GH c X arg4 g4)) 1 3 7 _ rfl (by decide) (by decide) rfl _ rfl _ rfl _ _ _ _ rfl (.inr rfl) ?_ ?_
        · exact valV_at c XQ arg2 arg5 g2 g5 (GH c X arg4 g4) 7 11 3 (by decide) rfl _ (by rw [← eT11]; rfl)
        unfold bodyRun.sl.HV_7
        refine goodC_cons c vvM (valV c XQ arg2 arg5 g2 g5 (GH c X arg4 g4)) 1 2 6 _ rfl (by decide) (by decide) rfl _ rfl _ rfl _ _ _ _ rfl (.inr rfl) ?_ ?_
        · exact valV_at c XQ arg2 arg5 g2 g5 (GH c X arg4 g4) 6 11 2 (by decide) rfl _ (by rw [← eT11]; rfl)
        unfold bodyRun.sl.HV_6
        refine goodC_cons c vvM (valV c XQ arg2 arg5 g2 g5 (GH c X arg4 g4)) 1 1 5 _ rfl (by decide) (by decide) rfl _ rfl _ rfl _ _ _ _ rfl (.inr rfl) ?_ ?_
        · exact valV_at c XQ arg2 arg5 g2 g5 (GH c X arg4 g4) 5 11 1 (by decide) rfl _ (by rw [← eT11]; rfl)
        unfold bodyRun.sl.HV_5
        refine goodC_cons c vvM (valV c XQ arg2 arg5 g2 g5 (GH c X arg4 g4)) 1 0 4 _ rfl (by decide) (by decide) rfl _ rfl _ rfl _ _ _ _ rfl (.inl rfl) ?_ ?_
        · exact valV_at c XQ arg2 arg5 g2 g5 (GH c X arg4 g4) 4 11 0 (by decide) rfl _ (by rw [← eT11]; rfl)
        refine goodC_cons c vvM (valV c XQ arg2 arg5 g2 g5 (GH c X arg4 g4)) 0 3 3 _ rfl (by decide) (by decide) rfl _ rfl _ rfl _ _ _ _ rfl (.inr rfl) ?_ ?_
        · exact valV_at c XQ arg2 arg5 g2 g5 (GH c X arg4 g4) 3 10 3 (by decide) rfl _ (by rw [← eT10]; rfl)
        unfold bodyRun.sl.HV_3
        refine goodC_cons c vvM (valV c XQ arg2 arg5 g2 g5 (GH c X arg4 g4)) 0 2 2 _ rfl (by decide) (by decide) rfl _ rfl _ rfl _ _ _ _ rfl (.inr rfl) ?_ ?_
        · exact valV_at c XQ arg2 arg5 g2 g5 (GH c X arg4 g4) 2 10 2 (by decide) rfl _ (by rw [← eT10]; rfl)
        unfold bodyRun.sl.HV_2
        refine goodC_cons c vvM (valV c XQ arg2 arg5 g2 g5 (GH c X arg4 g4)) 0 1 1 _ rfl (by decide) (by decide) rfl _ rfl _ rfl _ _ _ _ rfl (.inr rfl) ?_ ?_
        · exact valV_at c XQ arg2 arg5 g2 g5 (GH c X arg4 g4) 1 10 1 (by decide) rfl _ (by rw [← eT10]; rfl)
        unfold bodyRun.sl.HV_1
        refine goodC_cons c vvM (valV c XQ arg2 arg5 g2 g5 (GH c X arg4 g4)) 0 0 0 _ rfl (by decide) (by decide) rfl _ rfl _ rfl _ _ _ _ rfl (.inl rfl) ?_ ?_
        · exact valV_at c XQ arg2 arg5 g2 g5 (GH c X arg4 g4) 0 10 0 (by decide) rfl _ (by rw [← eT10]; rfl)
        exact fun f y hy => absurd hy (Nat.not_lt_zero _)
      exact hc _ y (y 1).isLt
    iexact Ho
  isplitl [Hxs Hos0 Hos1 Hos2]
  · isplitl [Hxs]; · iexact Hxs
    isplitl [Hos0]; · iexact Hos0
    isplitl [Hos1]; · iexact Hos1
    iexact Hos2
  iexists _; iexact HW

end Body

end Cert.Proof.FrontIdeal

end
-- ==== Proof.FrontIdealRun.lean ====
/-
  The launch around the body's run: every weakly fair execution ends, the arguments are as launched, the semaphores at zero,
  and the three results' arrays hold the values of the body.
-/
module

public import proofs.«01_k».proof.Defs
public import proofs.«01_k».proof.Proof.Gen.FrontIdeal
public import proofs.«01_k».proof.Proof.Gen.FrontIdeal.Skeleton
public import proofs.«01_k».proof.Proof.Gen.FrontIdeal.Loops
public import proofs.«01_k».proof.Proof.Gen.FrontIdeal.Launch
public import proofs.«01_k».proof.Proof.Gen.FrontIdeal.Points
public import proofs.«01_k».proof.Proof.Gen.FrontIdeal.Frame
public import Idealize.ShloMosaic.Lib.Pipeline.FrameValue
public import Idealize.ShloMosaic.Lib.Pipeline.Value
public import Idealize.ShloMosaic.Lib.Ring
public import Idealize.ShloMosaic.Lib.Ring.Trips
public import Idealize.ShloMosaic.Lib.Batch
public import Idealize.ShloMosaic.Lib.WritesUnit
public import Idealize.ShloMosaic.Lib.ValueIdx
public import Idealize.ShloMosaic.Lib.Tactic
public import proofs.«01_k».proof.Proof.FrontIdealBody

@[expose] public section

set_option maxRecDepth 16384

noncomputable section

namespace Cert.Proof.FrontIdeal

open Cert.FrontIdeal Cert.FrontIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UU nD τ) ℕ

section Wholes
variable (c : Dev nD)
omit [FloatOps F] [Named F] in
theorem xvP_whole (f : Buf (Elt F) ((c : Thread nD τ).loc cc0_scratch0)) :
    (((c : Thread nD τ).loc cc0_scratch0) ↦{fullShare} f : sProp 𝕄) = xvP (F := F) c f :=
  congrArg (fun S => (((c : Thread nD τ).loc cc0_scratch0) ↦[S]{fullShare} f : sProp 𝕄)) (View.set_whole cc0_scratch0).symm
omit [FloatOps F] [Named F] in
theorem hvP_whole (f : Buf (Elt F) ((c : Thread nD τ).loc cc0_scratch1)) :
    (((c : Thread nD τ).loc cc0_scratch1) ↦{fullShare} f : sProp 𝕄) = hvP (F := F) c f :=
  congrArg (fun S => (((c : Thread nD τ).loc cc0_scratch1) ↦[S]{fullShare} f : sProp 𝕄)) (View.set_whole cc0_scratch1).symm
omit [FloatOps F] [Named F] in
theorem kvP_whole (f : Buf (Elt F) ((c : Thread nD τ).loc cc0_scratch2)) :
    (((c : Thread nD τ).loc cc0_scratch2) ↦{fullShare} f : sProp 𝕄) = kvP (F := F) c f :=
  congrArg (fun S => (((c : Thread nD τ).loc cc0_scratch2) ↦[S]{fullShare} f : sProp 𝕄)) (View.set_whole cc0_scratch2).symm
omit [FloatOps F] [Named F] in
theorem vvP_whole (f : Buf (Elt F) ((c : Thread nD τ).loc cc0_scratch3)) :
    (((c : Thread nD τ).loc cc0_scratch3) ↦{fullShare} f : sProp 𝕄) = vvP (F := F) c f :=
  congrArg (fun S => (((c : Thread nD τ).loc cc0_scratch3) ↦[S]{fullShare} f : sProp 𝕄)) (View.set_whole cc0_scratch3).symm
omit [FloatOps F] [Named F] in
theorem qvP_whole (f : Buf (Elt F) ((c : Thread nD τ).loc cc0_scoped0)) :
    (((c : Thread nD τ).loc cc0_scoped0) ↦{fullShare} f : sProp 𝕄) = qvP (F := F) c f :=
  congrArg (fun S => (((c : Thread nD τ).loc cc0_scoped0) ↦[S]{fullShare} f : sProp 𝕄)) (View.set_whole cc0_scoped0).symm
omit [FloatOps F] [Named F] in
theorem qpP_whole (f : Buf (Elt F) ((c : Thread nD τ).loc cc0_scoped1)) :
    (((c : Thread nD τ).loc cc0_scoped1) ↦{fullShare} f : sProp 𝕄) = qpP (F := F) c f :=
  congrArg (fun S => (((c : Thread nD τ).loc cc0_scoped1) ↦[S]{fullShare} f : sProp 𝕄)) (View.set_whole cc0_scoped1).symm
omit [FloatOps F] [Named F] in
theorem cosP_whole (f : Buf (Elt F) ((c : Thread nD τ).loc cc0_scoped2)) :
    (((c : Thread nD τ).loc cc0_scoped2) ↦{fullShare} f : sProp 𝕄) = cosP (F := F) c f :=
  congrArg (fun S => (((c : Thread nD τ).loc cc0_scoped2) ↦[S]{fullShare} f : sProp 𝕄)) (View.set_whole cc0_scoped2).symm
omit [FloatOps F] [Named F] in
theorem sinP_whole (f : Buf (Elt F) ((c : Thread nD τ).loc cc0_scoped3)) :
    (((c : Thread nD τ).loc cc0_scoped3) ↦{fullShare} f : sProp 𝕄) = sinP (F := F) c f :=
  congrArg (fun S => (((c : Thread nD τ).loc cc0_scoped3) ↦[S]{fullShare} f : sProp 𝕄)) (View.set_whole cc0_scoped3).symm
omit [FloatOps F] [Named F] in
theorem xP_whole (f : Buf (Elt F) ((c : Thread nD τ).loc main_arg0)) :
    (((c : Thread nD τ).loc main_arg0) ↦{fullShare} f : sProp 𝕄) = xP (F := F) c f :=
  congrArg (fun S => (((c : Thread nD τ).loc main_arg0) ↦[S]{fullShare} f : sProp 𝕄)) (View.set_whole main_arg0).symm
omit [FloatOps F] [Named F] in
theorem qP_whole (f : Buf (Elt F) ((c : Thread nD τ).loc main_v12_0)) :
    (((c : Thread nD τ).loc main_v12_0) ↦{fullShare} f : sProp 𝕄) = qP (F := F) c f :=
  congrArg (fun S => (((c : Thread nD τ).loc main_v12_0) ↦[S]{fullShare} f : sProp 𝕄)) (View.set_whole main_v12_0).symm
omit [FloatOps F] [Named F] in
theorem kcP_whole (f : Buf (Elt F) ((c : Thread nD τ).loc main_v12_1)) :
    (((c : Thread nD τ).loc main_v12_1) ↦{fullShare} f : sProp 𝕄) = kcP (F := F) c f :=
  congrArg (fun S => (((c : Thread nD τ).loc main_v12_1) ↦[S]{fullShare} f : sProp 𝕄)) (View.set_whole main_v12_1).symm
omit [FloatOps F] [Named F] in
theorem vcP_whole (f : Buf (Elt F) ((c : Thread nD τ).loc main_v12_2)) :
    (((c : Thread nD τ).loc main_v12_2) ↦{fullShare} f : sProp 𝕄) = vcP (F := F) c f :=
  congrArg (fun S => (((c : Thread nD τ).loc main_v12_2) ↦[S]{fullShare} f : sProp 𝕄)) (View.set_whole main_v12_2).symm

end Wholes

/-! ## The kernel's own semaphores -/

abbrev osem0 : Fin 7 → SemLoc sig := fun j => (![xsm, .dma (csmQ 0).sem, .dma (csmQ 1).sem, .dma (csmQ 2).sem, osm0, osm1, osm2] : Fin 7 → SemLoc sig) j
theorem ownSemFacts0 : Pipeline.OwnSemFacts spec0 osem0 := by decide
/-- The semaphores at zero. -/
abbrev cellsP (c : Dev nD) : sProp 𝕄 :=
  iprop(semP (F := F) c xsm ∗ cellQ (F := F) c 0 ∗ cellQ (F := F) c 1 ∗ cellQ (F := F) c 2
    ∗ semP (F := F) c osm0 ∗ semP (F := F) c osm1 ∗ semP (F := F) c osm2)
omit [FloatOps F] [Named F] in
theorem ownSems00_eq (c : Dev nD) :
    (Pipeline.ownSems0 (Ix := Unit) (Name := ℕ) (U := UU nD τ) (Lvl := ℕ) (Val := Elt F) (τ := τ) osem0 c : sProp 𝕄) = cellsP (F := F) c := by
  rw [Pipeline.ownSems0_eq_of_list c osem0 [0, 1, 2, 3, 4, 5, 6] (by decide) (by decide)]; rfl

/-! ## The pipeline's proof data -/

variable (m : (ℓ : Loc nD τ sig) → Buf (Elt F) ℓ) (ρ : Dev nD → PrngReg)

theorem hmain : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The buffers the body's copies read and the ones they write, all left in HBM. -/
abbrev H0 : Finset (Ref sig .tc) := {main_arg0, main_arg5}
abbrev R0 : Finset (Ref sig .tc) := {main_v12_0, main_v12_1, main_v12_2}
theorem H0_sub : H0 ⊆ Pipeline.restRefs sig spec0 := by decide
theorem R0_sub : R0 ⊆ Pipeline.restRefs sig spec0 \ H0 := by decide

abbrev hst0_0 (t : Fin cfg0.N) : (st0_0 t).IsWhole := hstage0_0 0
abbrev hst0_1 (t : Fin cfg0.N) : (st0_1 t).IsWhole := hstage0_1 0
abbrev hst0_2 (t : Fin cfg0.N) : (st0_2 t).IsWhole := hstage0_2 0
abbrev hst0_3 (t : Fin cfg0.N) : (st0_3 t).IsWhole := hstage0_3 0
abbrev hst0_4 (t : Fin cfg0.N) : (st0_4 t).IsWhole := hstage0_4 0
abbrev hst0_5 (t : Fin cfg0.N) : (st0_5 t).IsWhole := hstage0_5 0

section Results
variable (c : Dev nD)
/-- Operand 0 as staged. -/
abbrev sg0 : Buf (Elt F) ((st0_0 t0_0).view.loc (c : Thread nD τ)) := (st0_0 t0_0).view.rep (iblk m c 0 t0_0)
/-- Operand 1 as staged. -/
abbrev sg1 : Buf (Elt F) ((st0_1 t0_0).view.loc (c : Thread nD τ)) := (st0_1 t0_0).view.rep (iblk m c 1 t0_0)
/-- Operand 2 as staged. -/
abbrev sg2 : Buf (Elt F) ((st0_2 t0_0).view.loc (c : Thread nD τ)) := (st0_2 t0_0).view.rep (iblk m c 2 t0_0)
/-- Operand 3 as staged. -/
abbrev sg3 : Buf (Elt F) ((st0_3 t0_0).view.loc (c : Thread nD τ)) := (st0_3 t0_0).view.rep (iblk m c 3 t0_0)
/-- Operand 4 as staged. -/
abbrev sg4 : Buf (Elt F) ((st0_4 t0_0).view.loc (c : Thread nD τ)) := (st0_4 t0_0).view.rep (iblk m c 4 t0_0)
/-- Operand 5 as staged. -/
abbrev sg5 : Buf (Elt F) ((st0_5 t0_0).view.loc (c : Thread nD τ)) := (st0_5 t0_0).view.rep (iblk m c 5 t0_0)
/-- The normalized input, the cosines and the signed sines. -/
def nrm : Buf (Elt F) (hvM.view.loc (c : Thread nD τ)) := GH c (V m c main_arg0) (st0_4 t0_0) (sg4 m c)
def cosT : Buf (Elt F) (cosM.view.loc (c : Thread nD τ)) := GC c (st0_0 t0_0) (st0_3 t0_0) (sg0 m c) (sg3 m c)
def sinT : Buf (Elt F) (sinM.view.loc (c : Thread nD τ)) := GS c (st0_0 t0_0) (st0_3 t0_0) (sg0 m c) (sg3 m c)
/-- The rotated queries; -/
def resQ0 : Buf (Elt F) ((c : Thread nD τ).loc main_v12_0) :=
  fun y => valP2 c (V m c main_arg5) (st0_5 t0_0) (sg5 m c) (nrm m c) (cosT m c) (sinT m c) y
/-- the keys' codes; -/
def resK : Buf (Elt F) ((c : Thread nD τ).loc main_v12_1) :=
  fun y => valK c (V m c main_arg5) (st0_1 t0_0) (st0_5 t0_0) (sg1 m c) (sg5 m c) (nrm m c) (cosT m c) (sinT m c) y
/-- the values' codes. -/
def resV : Buf (Elt F) ((c : Thread nD τ).loc main_v12_2) :=
  fun y => valV c (V m c main_arg5) (st0_2 t0_0) (st0_5 t0_0) (sg2 m c) (sg5 m c) (nrm m c) y
end Results

/-- The buffers as the region leaves them. -/
def G (c : Dev nD) : (b : Ref sig .tc) → Buf (Elt F) ((c : Thread nD τ).loc b) :=
  Function.update (Function.update (Function.update (V m c) main_v12_0 (resQ0 m c)) main_v12_1 (resK m c)) main_v12_2 (resV m c)

theorem G_v (c : Dev nD) : G m c main_v12_2 = resV m c := Function.update_self ..
theorem G_k (c : Dev nD) : G m c main_v12_1 = resK m c := (Function.update_of_ne (by decide) ..).trans (Function.update_self ..)
theorem G_q (c : Dev nD) : G m c main_v12_0 = resQ0 m c :=
  (Function.update_of_ne (by decide) ..).trans ((Function.update_of_ne (by decide) ..).trans (Function.update_self ..))

/-- The invariant: before the point the buffers as the region finds them, after it as it leaves them. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := if t.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem Φ_in (c : Dev nD) : (dats m 0 c).Φ t0_0.castSucc = Pipeline.ΦDRG osem0 spec0 H0 R0 (V m) (V m) c := by
  dsimp only [dats]; exact if_pos (by decide)
theorem Φ_out (c : Dev nD) : (dats m 0 c).Φ t0_0.succ = Pipeline.ΦDRG osem0 spec0 H0 R0 (V m) (G m) c := by
  dsimp only [dats]; exact if_neg (by decide)

/-- The scratch buffers, at anything. -/
abbrev scratchP (c : Dev nD) : sProp 𝕄 :=
  iprop((∃ f, xvP (F := F) c f) ∗ (∃ f, hvP (F := F) c f) ∗ (∃ f, kvP (F := F) c f) ∗ (∃ f, vvP (F := F) c f)
    ∗ (∃ f : Buf (Elt F) ((c : Thread nD τ).loc cc0_scratch4), ((c : Thread nD τ).loc cc0_scratch4) ↦{fullShare} f)
    ∗ (∃ f, qvP (F := F) c f) ∗ (∃ f, qpP (F := F) c f) ∗ (∃ f, cosP (F := F) c f) ∗ (∃ f, sinP (F := F) c f))
/-- The invariant's conjuncts. -/
theorem Φ_eq (c : Dev nD) (W : (c : Dev nD) → (b : Ref sig .tc) → Buf (Elt F) ((c : Thread nD τ).loc b)) :
    (Pipeline.ΦDRG osem0 spec0 H0 R0 (V m) W c : sProp 𝕄)
      = iprop(scratchP (F := F) c ∗ (∃ r, prngReg c r) ∗ cellsP (F := F) c
          ∗ (xP c (V m c main_arg0) ∗ bigSep Finset.univ (homeQ c (V m c main_arg5)))
          ∗ (qP c (W c main_v12_0) ∗ kcP c (W c main_v12_1) ∗ vcP c (W c main_v12_2))) := by
  rw [Pipeline.ΦDRG_eq, scopedRest0_eq, ownSems00_eq, ← wQ_eq, ← xP_whole, ← qP_whole, ← kcP_whole, ← vcP_whole]
  unfold Pipeline.routed
  have eH : ∀ Φ : Ref sig .tc → sProp 𝕄, bigSep H0 Φ = iprop(Φ main_arg0 ∗ Φ main_arg5) := fun Φ => by
    rw [H0, bigSep_insert (by decide), BI.bigSep_singleton]; rfl
  have eR : ∀ Φ : Ref sig .tc → sProp 𝕄, bigSep R0 Φ = iprop(Φ main_v12_0 ∗ Φ main_v12_1 ∗ Φ main_v12_2) := fun Φ => by
    rw [R0, bigSep_insert (by decide), bigSep_insert (by decide), BI.bigSep_singleton]; rfl
  rw [eH, eR]
  simp only [xvP_whole, hvP_whole, kvP_whole, vvP_whole, qvP_whole, qpP_whole, cosP_whole, sinP_whole]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) := rfl
theorem prog_eq (t : Fin cfg0.N) : (defs₀ (F := F)) .tc cfg0.body (cfg0.bodyArgs t (cfg0.slots t))
    = bodyG (st0_0 t) (hst0_0 t) (st0_1 t) (hst0_1 t) (st0_2 t) (hst0_2 t) (st0_3 t) (hst0_3 t) (st0_4 t) (hst0_4 t) (st0_5 t) (hst0_5 t) :=
  (congrFun defs_tc _).trans rfl

set_option maxHeartbeats 1000000 in
set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, before_w3, before_w4, before_w5, after_w0, after_w1, after_w2, after_w3, after_w4, after_w5]
  rw [Φ_in, Φ_out, Φ_eq, Φ_eq, G_q, G_k, G_v]
  unfold Dat.owesAt Pipeline.owesWithin
  rw [show (dats m 0 c).owed t0_0.castSucc = 0 from rfl, show (dats m 0 c).owed t0_0.succ = 0 from rfl]
  unfold owns
  iintro ⟨⟨⟨HX, HN, HK, HV, Hr, HQ, HP, HC, HS⟩, Hg, ⟨Hxs, Hc0, Hc1, Hc2, Ho0, Ho1, Ho2⟩, ⟨Hx, Hh⟩, ⟨Hqo, Hko, Hvo⟩⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  ihave Hq := (ent_of_eq (homesQ_zero c (V m c main_arg5))) $$ Hh
  icases Hq with ⟨Hw0, Hw1, Hw2, Hh⟩
  ihave Hq := (ringQ_split c) $$ Hr
  icases Hq with ⟨Hs0, Hs1, Hs2⟩
  ihave H0 := (pointsTo_rep_entails (c : Thread nD τ) (st0_0 t0_0) g0 fullShare) $$ H0
  ihave H1 := (pointsTo_rep_entails (c : Thread nD τ) (st0_1 t0_0) g1 fullShare) $$ H1
  ihave H2 := (pointsTo_rep_entails (c : Thread nD τ) (st0_2 t0_0) g2 fullShare) $$ H2
  ihave H3 := (pointsTo_rep_entails (c : Thread nD τ) (st0_3 t0_0) g3 fullShare) $$ H3
  ihave H4 := (pointsTo_rep_entails (c : Thread nD τ) (st0_4 t0_0) g4 fullShare) $$ H4
  ihave H5 := (pointsTo_rep_entails (c : Thread nD τ) (st0_5 t0_0) g5 fullShare) $$ H5
  rw [hg0, hg1, hg2, hg3, hg4, hg5]
  sl_rw [prog_eq t0_0]
  iapply (bodyRun c (V m c main_arg0) (V m c main_arg5) (st0_0 t0_0) (hst0_0 t0_0) (st0_1 t0_0) (hst0_1 t0_0) (st0_2 t0_0) (hst0_2 t0_0) (st0_3 t0_0) (hst0_3 t0_0) (st0_4 t0_0) (hst0_4 t0_0) (st0_5 t0_0) (hst0_5 t0_0) (sg0 m c) (sg1 m c) (sg2 m c) (sg3 m c) (sg4 m c) (sg5 m c) (V m c main_v12_0) (V m c main_v12_1) (V m c main_v12_2) W)
  unfold PRE POST freeQ3 freeQ
  isplitl [H0 H1 H2 H3 H4 H5 HX HN HK HV HQ HP HC HS Hx Hw0 Hw1 Hw2 Hh Hs0 Hs1 Hs2 Hc0 Hc1 Hc2 Hqo Hko Hvo Hxs Ho0 Ho1 Ho2 HW]
  · isplitl [H0 H1 H2 H3 H4 H5]
    · isplitl [H0]; · iexact H0
      isplitl [H1]; · iexact H1
      isplitl [H2]; · iexact H2
      isplitl [H3]; · iexact H3
      isplitl [H4]; · iexact H4
      iexact H5
    isplitl [HX HN HK HV HQ HP HC HS]
    · isplitl [HX]; · iexact HX
      isplitl [HN]; · iexact HN
      isplitl [HK]; · iexact HK
      isplitl [HV]; · iexact HV
      isplitl [HQ]; · iexact HQ
      isplitl [HP]; · iexact HP
      isplitl [HC]; · iexact HC
      iexact HS
    isplitl [Hx]; · iexact Hx
    isplitl [Hw0 Hw1 Hw2 Hh]
    · isplitl [Hw0]; · iexact Hw0
      isplitl [Hw1]; · iexact Hw1
      isplitl [Hw2]; · iexact Hw2
      iexact Hh
    isplitl [Hs0 Hs1 Hs2 Hc0 Hc1 Hc2]
    · isplitl [Hs0 Hc0]
      · isplitl [Hs0]; · iexact Hs0
        iexact Hc0
      isplitl [Hs1 Hc1]
      · isplitl [Hs1]; · iexact Hs1
        iexact Hc1
      isplitl [Hs2]; · iexact Hs2
      iexact Hc2
    isplitl [Hqo]; · iexact Hqo
    isplitl [Hko]; · iexact Hko
    isplitl [Hvo]; · iexact Hvo
    isplitl [Hxs Ho0 Ho1 Ho2]
    · isplitl [Hxs]; · iexact Hxs
      isplitl [Ho0]; · iexact Ho0
      isplitl [Ho1]; · iexact Ho1
      iexact Ho2
    iexact HW
  · iintro ⟨⟨H0, H1, H2, H3, H4, H5⟩, ⟨HX, HN, HK, HV, HQ, HP, HC, HS⟩, Hx, Hh, ⟨⟨Hs0, Hc0⟩, ⟨Hs1, Hc1⟩, ⟨Hs2, Hc2⟩⟩, ⟨%fq, %hq, Hqo⟩, ⟨%fk, %hk, Hko⟩, ⟨%fv, %hv, Hvo⟩, ⟨Hxs, Ho0, Ho1, Ho2⟩, ⟨%W', HW⟩⟩
    have eq0 : fq = resQ0 m c := funext hq
    have ek : fk = resK m c := funext hk
    have ev : fv = resV m c := funext hv
    subst eq0 ek ev
    isplitl [HX HN HK HV Hs0 Hs1 Hs2 HQ HP HC HS Hg Hxs Hc0 Hc1 Hc2 Ho0 Ho1 Ho2 Hx Hh Hqo Hko Hvo]
    · isplitl [HX HN HK HV Hs0 Hs1 Hs2 HQ HP HC HS]
      · isplitl [HX]; · iexact HX
        isplitl [HN]; · iexact HN
        isplitl [HK]; · iexact HK
        isplitl [HV]; · iexact HV
        isplitl [Hs0 Hs1 Hs2]
        · iapply (ringQ_join c)
          isplitl [Hs0]; · iexact Hs0
          isplitl [Hs1]; · iexact Hs1
          iexact Hs2
        isplitl [HQ]; · iexact HQ
        isplitl [HP]; · iexact HP
        isplitl [HC]; · iexact HC
        iexact HS
      isplitl [Hg]; · iexact Hg
      isplitl [Hxs Hc0 Hc1 Hc2 Ho0 Ho1 Ho2]
      · isplitl [Hxs]; · iexact Hxs
        isplitl [Hc0]; · iexact Hc0
        isplitl [Hc1]; · iexact Hc1
        isplitl [Hc2]; · iexact Hc2
        isplitl [Ho0]; · iexact Ho0
        isplitl [Ho1]; · iexact Ho1
        iexact Ho2
      isplitl [Hx Hh]
      · isplitl [Hx]; · iexact Hx
        iapply (ent_of_eq (congrArg (fun S => bigSep S (homeQ c (V m c main_arg5))) homesQ_end)); iexact Hh
      isplitl [Hqo]; · iexact Hqo
      isplitl [Hko]; · iexact Hko
      iexact Hvo
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    · iexists _; isplitr; · ipureintro; exact View.read_rep _ _
      iexact H5

/-! ## The run -/

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := hmain m) (hA := A_eq m) (G := G m)
    (hin := fun c => by rw [show (dats m 0 c).Φ 0 = _ from Φ_in m c])
    (hout := fun c => by rw [show (dats m 0 c).Φ (Fin.last cfg0.N) = _ from Φ_out m c])

/-- Every run ends with the three results at their values, the arguments as launched and the semaphores at zero. -/
theorem run : θ_run defs (onTc (τ := τ) (main (F := F))) ⟨m, fun _ => 0, ρ⟩ (fun r => (∀ c : Dev nD,
      r.2.mem ((c.tc : Thread nD τ).loc main_v12_0) = resQ0 m c
      ∧ r.2.mem ((c.tc : Thread nD τ).loc main_v12_1) = resK m c
      ∧ r.2.mem ((c.tc : Thread nD τ).loc main_v12_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.2 c main_v12_0 (by decide)).trans (G_q m c),
      (h.1.2 c main_v12_1 (by decide)).trans (G_k m c),
      (h.1.2 c main_v12_2 (by decide)).trans (G_v m c),
      ((h.1.1 c).2 main_arg0 (Finset.mem_sdiff.mpr ⟨Pipeline.mem_restRefs_of main_arg0 (by decide) (by decide), by decide⟩)).trans (V_main_arg0 m c),
      ((h.1.1 c).1 0).trans (((dats m 0 c).arrAt_in 0 rfl _).trans ((A_eq m c 0).trans (V_main_arg1 m c))),
      ((h.1.1 c).1 1).trans (((dats m 0 c).arrAt_in 1 rfl _).trans ((A_eq m c 1).trans (V_main_arg2 m c))),
      ((h.1.1 c).1 2).trans (((dats m 0 c).arrAt_in 2 rfl _).trans ((A_eq m c 2).trans (V_main_arg3 m c))),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩, h.2⟩)
    (run_main m ρ)

end Cert.Proof.FrontIdeal

end
-- ==== Proof.RefFrontValue.lean ====
/-
  The front reference's run with its values: the result arrays end holding the body's payloads of the argument arrays.
-/
module

public import proofs.«01_k».proof.Defs
public import proofs.«01_k».proof.Proof.Gen.ReferenceFrontIdeal.Frame
public import Idealize.ShloMosaic.Lib.Pipeline.Value
public import Idealize.ShloMosaic.Lib.Affine
public import Idealize.ShloMosaic.Lib.Claim
public import Idealize.ShloMosaic.Lib.Pointwise

@[expose] public section

noncomputable section

namespace Cert.Proof.RefFront

open Idealize.ShloMosaic Idealize.SL.Sem Cert.ReferenceFrontIdeal
open Cert.ReferenceFrontIdeal.Gen Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-! ## The input windows' blocks are their whole arrays -/

theorem iblk0_eq (c : Dev nD) : iblk (F := F) m c 0 t0_0 = V m c main_v8 :=
  Memref.read_access_unit_zero (Elt F) main_v8 (funext fun a => by fin_cases a <;> decide) (fun a => by fin_cases a <;> decide) _
theorem iblk1_eq (c : Dev nD) : iblk (F := F) m c 1 t0_0 = V m c main_v9 :=
  Memref.read_access_unit_zero (Elt F) main_v9 (funext fun a => by fin_cases a <;> decide) (fun a => by fin_cases a <;> decide) _
theorem iblk2_eq (c : Dev nD) : iblk (F := F) m c 2 t0_0 = V m c main_v10 :=
  Memref.read_access_unit_zero (Elt F) main_v10 (funext fun a => by fin_cases a <;> decide) (fun a => by fin_cases a <;> decide) _
theorem iblk3_eq (c : Dev nD) : iblk (F := F) m c 3 t0_0 = V m c main_v11 :=
  Memref.read_access_unit_zero (Elt F) main_v11 (funext fun a => by fin_cases a <;> decide) (fun a => by fin_cases a <;> decide) _
theorem iblk4_eq (c : Dev nD) : iblk (F := F) m c 4 t0_0 = V m c main_v12 :=
  Memref.read_access_unit_zero (Elt F) main_v12 (funext fun a => by fin_cases a <;> decide) (fun a => by fin_cases a <;> decide) _
theorem iblk5_eq (c : Dev nD) : iblk (F := F) m c 5 t0_0 = V m c main_v13 :=
  Memref.read_access_unit_zero (Elt F) main_v13 (funext fun a => by fin_cases a <;> decide) (fun a => by fin_cases a <;> decide) _
theorem iblk6_eq (c : Dev nD) : iblk (F := F) m c 6 t0_0 = m ((c : Thread nD τ).loc main_arg0) :=
  (Memref.read_access_unit_zero (Elt F) main_arg0 (funext fun a => by fin_cases a <;> decide) (fun a => by fin_cases a <;> decide) _).trans (V_main_arg0 m c)
theorem iblk7_eq (c : Dev nD) : iblk (F := F) m c 7 t0_0 = m ((c : Thread nD τ).loc main_arg5) :=
  (Memref.read_access_unit_zero (Elt F) main_arg5 (funext fun a => by fin_cases a <;> decide) (fun a => by fin_cases a <;> decide) _).trans (V_main_arg5 m c)

/-! ## What the one grid point writes back is what each result array ends holding -/

theorem blocks8 (c : Dev nD) :
    ((cfg0.win 8).blk t0_0).view.read (Elt F) ((dats (F := F) m 0 c).arrAt 8 cfg0.N)
      = (cfg0.win 8).cut (grid0.coords t0_0) (out0_8 (iblk m c 0 t0_0) (iblk m c 1 t0_0) (iblk m c 2 t0_0) (iblk m c 3 t0_0) (iblk m c 4 t0_0) (iblk m c 5 t0_0) (iblk m c 6 t0_0) (iblk m c 7 t0_0)) := by
  refine ((dats (F := F) m 0 c).read_blk_arrAt_eq_flushed 8 (fun t t' _ _ hne => absurd (Subsingleton.elim (α := Fin 1) t t') hne) cfg0.N t0_0 t0_0.isLt (by decide)).trans ?_
  show (cfg0.win 8).cut (grid0.coords t0_0) ((dats (F := F) m 0 c).after 8 t0_0) = _
  rw [after0_8]
theorem blocks9 (c : Dev nD) :
    ((cfg0.win 9).blk t0_0).view.read (Elt F) ((dats (F := F) m 0 c).arrAt 9 cfg0.N)
      = (cfg0.win 9).cut (grid0.coords t0_0) (out0_9 (iblk m c 0 t0_0) (iblk m c 1 t0_0) (iblk m c 2 t0_0) (iblk m c 3 t0_0) (iblk m c 4 t0_0) (iblk m c 5 t0_0) (iblk m c 6 t0_0) (iblk m c 7 t0_0)) := by
  refine ((dats (F := F) m 0 c).read_blk_arrAt_eq_flushed 9 (fun t t' _ _ hne => absurd (Subsingleton.elim (α := Fin 1) t t') hne) cfg0.N t0_0 t0_0.isLt (by decide)).trans ?_
  show (cfg0.win 9).cut (grid0.coords t0_0) ((dats (F := F) m 0 c).after 9 t0_0) = _
  rw [after0_9]
theorem blocks10 (c : Dev nD) :
    ((cfg0.win 10).blk t0_0).view.read (Elt F) ((dats (F := F) m 0 c).arrAt 10 cfg0.N)
      = (cfg0.win 10).cut (grid0.coords t0_0) (out0_10 (iblk m c 0 t0_0) (iblk m c 1 t0_0) (iblk m c 2 t0_0) (iblk m c 3 t0_0) (iblk m c 4 t0_0) (iblk m c 5 t0_0) (iblk m c 6 t0_0) (iblk m c 7 t0_0)) := by
  refine ((dats (F := F) m 0 c).read_blk_arrAt_eq_flushed 10 (fun t t' _ _ hne => absurd (Subsingleton.elim (α := Fin 1) t t') hne) cfg0.N t0_0 t0_0.isLt (by decide)).trans ?_
  show (cfg0.win 10).cut (grid0.coords t0_0) ((dats (F := F) m 0 c).after 10 t0_0) = _
  rw [after0_10]
theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 6).trans (((dats m 0 c).arrAt_in 6 rfl _).trans ((A_eq m c 6).trans (V_main_arg0 m c)))
theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))
theorem kept6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-! ## The results as functions of the argument arrays -/

/-- The projection, and the angles' cosines and sines; -/
abbrev qkvV (c : Dev nD) : FVec F S256x6144 .f32 := k0_pay2 (m ((c : Thread nD τ).loc main_arg0)) (V m c main_v12) (m ((c : Thread nD τ).loc main_arg5)) (V m c main_v13)
abbrev cosV (c : Dev nD) : FVec F S256x1x128 .f32 := k0_pay4 (V m c main_v8) (V m c main_v11)
abbrev sinV (c : Dev nD) : FVec F S256x1x128 .f32 := k0_pay5 (V m c main_v8) (V m c main_v11)
/-- the queries; -/
abbrev qV (c : Dev nD) : FVec F S256x32x128 .bf16 :=
  k0_pay8 (sinV m c) (k0_pay6 (m ((c : Thread nD τ).loc main_arg0)) (V m c main_v12) (m ((c : Thread nD τ).loc main_arg5)) (V m c main_v13))
    (k0_pay7 (m ((c : Thread nD τ).loc main_arg0)) (V m c main_v12) (m ((c : Thread nD τ).loc main_arg5)) (V m c main_v13) (V m c main_v8) (V m c main_v11))
/-- the keys' codes; -/
abbrev kV (c : Dev nD) : FVec F S256x8x128 .fp8e4m3 := k0_pay9 (qkvV m c) (cosV m c) (sinV m c) (V m c main_v9)
/-- the values'. -/
abbrev vV (c : Dev nD) : FVec F S256x8x128 .fp8e4m3 := k0_pay1 (k0_pay10 (qkvV m c)) (k0_pay11 (V m c main_v10))

theorem hz : (![0, 0] : Fin 2 → Nat) = fun _ => 0 := funext fun a => by fin_cases a <;> rfl
theorem hz3 : (![0, 0, 0] : Fin 3 → Nat) = fun _ => 0 := funext fun a => by fin_cases a <;> rfl

theorem final8 (c : Dev nD) : (dats (F := F) m 0 c).arrAt 8 cfg0.N = qV m c := by
  have ho := blocks8 (F := F) m c
  have hr := fun f => Memref.read_access_unit_zero (Elt F) main_v14_0 (funext fun a => by fin_cases a <;> decide : (fun a => (win0_8.index t0_0) a * main_v14_0.ty.shape.size a) = fun _ => 0) (fun a => by fin_cases a <;> decide) f
  rw [hr] at ho
  rw [ho, iblk0_eq, iblk1_eq, iblk2_eq, iblk3_eq, iblk4_eq, iblk5_eq, iblk6_eq, iblk7_eq]
  show out0_8 _ _ _ _ _ _ _ _ = _
  unfold out0_8 k0_pay13
  rw [View.canon_unit_zero hz3]
  repeat rw [View.ld_unit_zero hz]

theorem final9 (c : Dev nD) : (dats (F := F) m 0 c).arrAt 9 cfg0.N = kV m c := by
  have ho := blocks9 (F := F) m c
  have hr := fun f => Memref.read_access_unit_zero (Elt F) main_v14_1 (funext fun a => by fin_cases a <;> decide : (fun a => (win0_9.index t0_0) a * main_v14_1.ty.shape.size a) = fun _ => 0) (fun a => by fin_cases a <;> decide) f
  rw [hr] at ho
  rw [ho, iblk0_eq, iblk1_eq, iblk2_eq, iblk3_eq, iblk4_eq, iblk5_eq, iblk6_eq, iblk7_eq]
  show out0_9 _ _ _ _ _ _ _ _ = _
  unfold out0_9 k0_pay13 k0_pay12
  rw [View.canon_unit_zero hz3]
  repeat rw [View.ld_unit_zero hz]

theorem final10 (c : Dev nD) : (dats (F := F) m 0 c).arrAt 10 cfg0.N = vV m c := by
  have ho := blocks10 (F := F) m c
  have hr := fun f => Memref.read_access_unit_zero (Elt F) main_v14_2 (funext fun a => by fin_cases a <;> decide : (fun a => (win0_10.index t0_0) a * main_v14_2.ty.shape.size a) = fun _ => 0) (fun a => by fin_cases a <;> decide) f
  rw [hr] at ho
  rw [ho, iblk0_eq, iblk1_eq, iblk2_eq, iblk3_eq, iblk4_eq, iblk5_eq, iblk6_eq, iblk7_eq]
  show out0_10 _ _ _ _ _ _ _ _ = _
  unfold out0_10 k0_pay12
  rw [View.canon_unit_zero hz3]
  repeat rw [View.ld_unit_zero hz]

theorem run : θ_run (defs (F := F)) (onTc (τ := τ) (main (F := F))) ⟨m, fun _ => 0, ρ⟩ (fun r => ∀ c : Dev nD,
      r.2.mem ((c : Thread nD τ).loc main_v14_0) = qV m c
      ∧ r.2.mem ((c : Thread nD τ).loc main_v14_1) = kV m c
      ∧ r.2.mem ((c : Thread nD τ).loc main_v14_2) = vV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => ⟨((h c).1 8).trans (final8 m c), ((h c).1 9).trans (final9 m c), ((h c).1 10).trans (final10 m c),
      kept0 m r h c, kept1 m r h c, kept2 m r h c, kept3 m r h c, kept4 m r h c, kept5 m r h c, kept6 m r h c⟩)
    (run_main m ρ)

end Cert.Proof.RefFront

end
-- ==== Proof.FrontExpr.lean ====
/-
  The front slices' results at an element: expressions of the argument arrays that both programs' results are.
-/
module

public import proofs.«01_k».proof.Proof.Value

@[expose] public section

set_option maxRecDepth 16384

noncomputable section

namespace Cert.Proof.FrontExpr

open Idealize.ShloMosaic Idealize.SL.Sem
open Idealize.ShloMosaic.TcCoe Idealize.ShloMosaic.Tactic

/-- The angle of a row's position at a lane: the position times the lane's frequency, the 64 frequencies repeated. -/
def angAt (pos : (⟨1, ![256]⟩ : Shape).Idx → BitVec 32) (inv : Fin 64 → EReal) (r : Fin 256) (d : Fin 128) : EReal :=
  (((pos (ValueIdx.ix1 r)).toInt : ℝ) : EReal) * inv ⟨d.val % 64, Nat.mod_lt _ (by decide)⟩

/-- A head rotated by an angle. -/
def ropeAt (q : Fin 128 → EReal) (a : EReal) (d : Fin 128) : EReal :=
  q d * Ideal.cos a + (if h : d.val < 64 then -(q ⟨d.val + 64, by omega⟩) else q ⟨d.val - 64, by omega⟩) * Ideal.sin a

/-- A code under a scale: the quotient, clipped to 448. -/
def codeAt (t v : EReal) : EReal :=
  min (Ideal.ofBits .f32 0x43E00000#32) (max (Ideal.ofBits .f32 0xC3E00000#32) (t * Ideal.div (Ideal.ofBits .f32 0x3F800000#32) v))

/-- A head of the projection. -/
def headAt (h : (⟨2, ![256, 2560]⟩ : Shape).Idx → EReal) (w : (⟨2, ![2560, 6144]⟩ : Shape).Idx → EReal) (s : (⟨2, ![1, 6144]⟩ : Shape).Idx → EReal)
    (r : Fin 256) (n : ℕ) (hn : n < 48) (d : Fin 128) : EReal := linAt h w s r ⟨128 * n + d.val, by omega⟩

/-- The queries; -/
def qF (h : (⟨2, ![256, 2560]⟩ : Shape).Idx → EReal) (w : (⟨2, ![2560, 6144]⟩ : Shape).Idx → EReal) (s : (⟨2, ![1, 6144]⟩ : Shape).Idx → EReal)
    (pos : (⟨1, ![256]⟩ : Shape).Idx → BitVec 32) (inv : Fin 64 → EReal) (y : (⟨3, ![256, 32, 128]⟩ : Shape).Idx) : EReal :=
  have hy : (y 1).val < 32 := (y 1).isLt
  ropeAt (headAt h w s (y 0) (y 1).val (by omega)) (angAt pos inv (y 0) (y 2)) (y 2)
/-- the keys' codes; -/
def kF (h : (⟨2, ![256, 2560]⟩ : Shape).Idx → EReal) (w : (⟨2, ![2560, 6144]⟩ : Shape).Idx → EReal) (s : (⟨2, ![1, 6144]⟩ : Shape).Idx → EReal)
    (pos : (⟨1, ![256]⟩ : Shape).Idx → BitVec 32) (inv : Fin 64 → EReal) (v : EReal) (y : (⟨3, ![256, 8, 128]⟩ : Shape).Idx) : EReal :=
  have hy : (y 1).val < 8 := (y 1).isLt
  codeAt (ropeAt (headAt h w s (y 0) (32 + (y 1).val) (by omega)) (angAt pos inv (y 0) (y 2)) (y 2)) v
/-- the values'. -/
def vF (h : (⟨2, ![256, 2560]⟩ : Shape).Idx → EReal) (w : (⟨2, ![2560, 6144]⟩ : Shape).Idx → EReal) (s : (⟨2, ![1, 6144]⟩ : Shape).Idx → EReal)
    (v : EReal) (y : (⟨3, ![256, 8, 128]⟩ : Shape).Idx) : EReal :=
  have hy : (y 1).val < 8 := (y 1).isLt
  codeAt (headAt h w s (y 0) (40 + (y 1).val) (by omega) (y 2)) v

end Cert.Proof.FrontExpr

end
-- ==== Proof.FrontKernelValue.lean ====
/-
  The front kernel's results at an element, over the extended reals.
-/
module

public import proofs.«01_k».proof.Proof.FrontExpr
public import proofs.«01_k».proof.Proof.FrontIdealRun
public import Idealize.ShloMosaic.Lib.KernelVsHost

@[expose] public section

set_option maxRecDepth 16384

noncomputable section

namespace Cert.Proof.FrontExpr

open Idealize.ShloMosaic Idealize.SL.Sem
open Idealize.ShloMosaic.TcCoe Idealize.ShloMosaic.Tactic

open Cert.FrontIdeal Cert.FrontIdeal.Gen Cert.Proof.FrontIdeal

/-- The kernel's named reciprocal is the rational 1/2560. -/
theorem inv_n : Named.named (F := Ideal) Cert.FrontIdeal.κ "inv_n" (φ := .f32) 0x39CCCCCD#32 = ((1 / 2560 : ℝ) : EReal) :=
  IdealRules.named_const.ideal_named_scalar _ _ _ _ rfl
/-- A read through a rectangle of a buffer that holds `X` is `X` at the rectangle's index. -/
theorem readAt_rep {sp : Space} {s : Shape} {e : EltTy} (M : Memref sig .tc sp s e) (X : s.Idx → Elt Ideal e) (R : LoadRect s) :
    M.view.readAt (Elt Ideal) R (M.view.rep X) = fun x => X (R.idx x) := by
  funext x
  rw [View.readAt_apply, View.read_rep]
/-- The whole of a buffer that holds `X`, read. -/
theorem readAt_whole {s : Shape} {e : EltTy} (M : Memref sig .tc .vmem s e) (X : s.Idx → Elt Ideal e) (off : Fin s.rank → ℕ) (inb) (h0 : ∀ a, off a = 0) :
    M.view.readAt (Elt Ideal) (Rect.unit (s := s) off s.size inb).toLoadRect (M.view.rep X) = X := by
  rw [readAt_rep]
  funext x
  refine congrArg X (funext fun a => Fin.ext ?_)
  show off a + 1 * (x a).val = (x a).val
  rw [h0 a]; omega

/-! ### The body's values at an element -/

theorem tileV_apply (h : Vec Ideal S256x2560 .bf16) (w : FVec Ideal S2560x512 .fp8e4m3) (s : Vec Ideal S1x512 .f32)
    (r : Fin 256) (j : Fin 512) : tileV h w s (ValueIdx.ix2 r j) = linAt h w s r j := by
  unfold tileV linAt
  pointwise
  rfl
theorem pay22_apply (h : Vec Ideal S256x2560 .bf16) (g : Vec Ideal S1x2560 .f32) (r : Fin 256) (j : Fin 2560) :
    k0_pay22 h g (ValueIdx.ix2 r j) = nrmAt h g r j := by
  unfold k0_pay22 nrmAt
  simp only [inv_n]
  pointwise
  rfl
theorem pay1_apply (p : Elt Ideal .i32) (d : Fin 128) : k0_pay1 (F := Ideal) p (ValueIdx.ix2 0 d) = (((p : BitVec 32).toInt : ℝ) : EReal) := by
  unfold k0_pay1
  pointwise
theorem pay19_apply (p : Vec Ideal S256x128 .f32) (f : Vec Ideal S1x128 .f32) (r : Fin 256) (d : Fin 128) :
    k0_pay19 p f (ValueIdx.ix2 r d) = p (ValueIdx.ix2 r d) * f (ValueIdx.ix2 0 d) := by
  unfold k0_pay19
  pointwise
  rfl
theorem pay20_apply (p : Vec Ideal S256x128 .f32) (f : Vec Ideal S1x128 .f32) (r : Fin 256) (d : Fin 128) :
    k0_pay20 p f (ValueIdx.ix2 r d) = Ideal.cos (p (ValueIdx.ix2 r d) * f (ValueIdx.ix2 0 d)) := by
  unfold k0_pay20 k0_pay19
  pointwise
  rfl
theorem lane_slt : ∀ d : Fin 128, IntOp.cmpi CmpIPredicate.slt (BitVec.ofNat 32 d.val) 64#32 = if d.val < 64 then 1#1 else 0#1 := by decide
theorem one_eq : Ideal.ofBits .f32 0x3F800000#32 = 1 := by
  simp [Ideal.ofBits, Ideal.ieee, -EReal.coe_mul]; norm_num
theorem neg_one_eq : Ideal.ofBits .f32 0xBF800000#32 = -1 := by
  simp [Ideal.ofBits, Ideal.ieee, -EReal.coe_mul]; norm_num
theorem pay21_apply (a : FVec Ideal S256x128 .f32) (r : Fin 256) (d : Fin 128) :
    k0_pay21 a (iota .tc S1x128 32 [1] iota_S1x128_d1_w32) (ValueIdx.ix2 r d)
      = Ideal.sin (a (ValueIdx.ix2 r d)) * (if d.val < 64 then -1 else 1) := by
  unfold k0_pay21
  pointwise
  show Ideal.sin (a (ValueIdx.ix2 r d)) * Scalar.select (IntOp.cmpi CmpIPredicate.slt (BitVec.ofNat 32 d.val) 64#32) (Ideal.ofBits FTy.f32 0xBF800000#32) 1 = _
  rw [lane_slt, neg_one_eq]
  by_cases h : d.val < 64
  · rw [if_pos h, if_pos h]; rfl
  · rw [if_neg h, if_neg h]; rfl
theorem headV_apply (T : FVec Ideal S256x512 .f32) (i : Fin 4) (r : Fin 256) (d : Fin 128) :
    headV T i (ValueIdx.ix2 r d) = T (ValueIdx.ix2 r ⟨128 * i.val + d.val, by omega⟩) := by
  unfold headV
  fin_cases i <;> dsimp only <;> pointwise <;> rfl
theorem rot_apply (t : FVec Ideal S256x128 .f32) (r : Fin 256) (d : Fin 128) :
    dynamicRotate 1 64#32 none t rotates_S256x128_d1 (ValueIdx.ix2 r d)
      = if h : d.val < 64 then t (ValueIdx.ix2 r ⟨d.val + 64, by omega⟩) else t (ValueIdx.ix2 r ⟨d.val - 64, by omega⟩) := by
  refine (dynamicRotate_apply (1 : Fin 2) 64#32 t rotates_S256x128_d1 _
    (ValueIdx.ix2 r (⟨(d.val + 128 - 64 % 128) % 128, Nat.mod_lt _ (by omega)⟩ : Fin 128)) (by
      intro b
      match b with
      | ⟨0, _⟩ => rfl
      | ⟨1, _⟩ => rfl)).trans ?_
  by_cases h : d.val < 64
  · rw [dif_pos h]
    exact congrArg (fun x => t (ValueIdx.ix2 r x)) (Fin.ext (by show (d.val + 128 - 64 % 128) % 128 = d.val + 64; omega))
  · rw [dif_neg h]
    exact congrArg (fun x => t (ValueIdx.ix2 r x)) (Fin.ext (by show (d.val + 128 - 64 % 128) % 128 = d.val - 64; have := d.isLt; omega))
theorem codeV_apply (t : FVec Ideal S256x128 .f32) (v : Elt Ideal .f32) (r : Fin 256) (d : Fin 128) :
    codeV t v (ValueIdx.ix3 (n0 := 256) (n1 := 1) (n2 := 128) r 0 d) = codeAt (t (ValueIdx.ix2 r d)) v := by
  unfold codeV codeAt
  pointwise
  rfl
theorem roundV_apply (t : FVec Ideal S256x128 .f32) (r : Fin 256) (d : Fin 128) :
    roundV t (ValueIdx.ix3 (n0 := 1) (n1 := 256) (n2 := 128) 0 r d) = t (ValueIdx.ix2 r d) := by
  unfold roundV
  pointwise
  rfl
/-- Two arrays of rows, interleaved. -/
theorem interleave_apply {α : Type} (lo hi : S256x1x128.Idx → α) (h : S256x2x128.Bitcasts 16 S256x1x128 32) (r : Fin 256) (p : Fin 2) (d : Fin 128) :
    interleaveRows S256x2x128 lo hi h (ValueIdx.ix3 (n0 := 256) (n1 := 2) (n2 := 128) r p d)
      = if p.val = 0 then lo (ValueIdx.ix3 r 0 d) else hi (ValueIdx.ix3 r 0 d) := by
  unfold interleaveRows
  dsimp only
  have hp := p.isLt
  have hr : S256x2x128.row (ValueIdx.ix3 (n0 := 256) (n1 := 2) (n2 := 128) r p d) % 2 = p.val := by
    show p.val % 2 = p.val
    omega
  have hj : ∀ k : S256x1x128.Idx, (k 0).val = r.val → (k 2).val = d.val → k = ValueIdx.ix3 (n0 := 256) (n1 := 1) (n2 := 128) r 0 d := fun k h0 h2 => by
    funext a
    fin_cases a <;> apply Fin.ext
    · exact h0
    · have : (k 1).val < 1 := (k 1).isLt
      show (k 1).val = 0
      omega
    · exact h2
  by_cases h : p.val = 0
  · rw [hr, if_pos h, if_pos h]
    exact congrArg lo (hj _ rfl rfl)
  · rw [hr, if_neg h, if_neg h]
    exact congrArg hi (hj _ rfl rfl)
theorem pay25_apply (a b : Vec Ideal S1x256x128 .f32) (r : Fin 256) (p : Fin 2) (d : Fin 128) :
    k0_pay25 a b (ValueIdx.ix3 (n0 := 256) (n1 := 2) (n2 := 128) r p d)
      = if p.val = 0 then a (ValueIdx.ix3 0 r d) else b (ValueIdx.ix3 0 r d) := by
  refine (interleave_apply _ _ bitcasts_S256x2x128_w16_S256x1x128_w32 r p d).trans ?_
  by_cases h : p.val = 0
  · rw [if_pos h, if_pos h]; pointwise; rfl
  · rw [if_neg h, if_neg h]; pointwise; rfl

/-! ### The heads -/

theorem payloadQ_apply (c : Dev nD) (X) (b : Fin 12) (x : S2560x512.Idx) :
    payloadQ (F := Ideal) c X b x = X ((Rect.unit (s := S2560x6144) (blkOffQ b) S2560x512.size (blkOffQ_inb b)).toLoadRect.idx x) := rfl

/-- A head of the projection; -/
theorem head_apply (c : Dev nD) (XQ) (arg5 : Memref sig .tc .vmem S1x6144 .f32) (S : Vec Ideal S1x6144 .f32) (H : Vec Ideal S256x2560 .bf16)
    (b : Fin 12) (i : Fin 4) (n : ℕ) (hn : n < 48) (hb : b.val = n / 4) (hi : i.val = n % 4) (r : Fin 256) (d : Fin 128) :
    headV (tileQ (F := Ideal) c XQ arg5 (arg5.view.rep S) (hvM.view.rep H) b) i (ValueIdx.ix2 r d) = headAt H XQ S r n hn d := by
  rw [headV_apply]
  unfold tileQ sQ
  rw [readAt_whole hvM H _ _ (fun a => by fin_cases a <;> rfl), readAt_rep]
  refine (tileV_apply _ _ _ _ _).trans ?_
  unfold headAt linAt
  refine congrArg₂ (· * ·) (Finset.sum_congr rfl fun k _ => congrArg₂ (· * ·) rfl ((payloadQ_apply c XQ _ _).trans (congrArg XQ ?_))) (congrArg S ?_)
  · funext a; fin_cases a <;> apply Fin.ext
    · show 0 + 1 * k.val = k.val; omega
    · show 512 * b.val + 1 * (128 * i.val + d.val) = 128 * n + d.val; omega
  · funext a; fin_cases a <;> apply Fin.ext
    · rfl
    · show 512 * b.val + 1 * (128 * i.val + d.val) = 128 * n + d.val; omega

/-- rotated: the rotation by half the lanes under the sines' signs is the reference's half swap; -/
theorem rope_apply (t cs sn : FVec Ideal S256x128 .f32) (q : Fin 128 → EReal) (a : EReal) (r : Fin 256) (d : Fin 128)
    (ht : ∀ d, t (ValueIdx.ix2 r d) = q d) (hc : cs (ValueIdx.ix2 r d) = Ideal.cos a)
    (hs : sn (ValueIdx.ix2 r d) = Ideal.sin a * (if d.val < 64 then -1 else 1)) :
    ropeV t cs sn (ValueIdx.ix2 r d) = ropeAt q a d := by
  have e : ropeV t cs sn (ValueIdx.ix2 r d)
      = t (ValueIdx.ix2 r d) * cs (ValueIdx.ix2 r d) + dynamicRotate 1 64#32 none t rotates_S256x128_d1 (ValueIdx.ix2 r d) * sn (ValueIdx.ix2 r d) := rfl
  rw [e, rot_apply, ht, hc, hs]
  unfold ropeAt
  by_cases h : d.val < 64
  · rw [dif_pos h, dif_pos h, if_pos h, ht, mul_neg, mul_one, mul_neg, neg_mul]
  · rw [dif_neg h, dif_neg h, if_neg h, ht, mul_one]

/-! ### The results over the operands' contents -/

section Res
variable (c : Dev nD) (XQ : Buf (Elt Ideal) (wMQ.view.loc (c : Thread nD τ)))
  (arg5 : Memref sig .tc .vmem S1x6144 .f32) (S : Vec Ideal S1x6144 .f32) (H : Vec Ideal S256x2560 .bf16)
  (C N : FVec Ideal S256x128 .f32) (pos : S256.Idx → BitVec 32) (inv : Fin 64 → EReal)
  (hC : ∀ r d, C (ValueIdx.ix2 r d) = Ideal.cos (angAt pos inv r d))
  (hN : ∀ r d, N (ValueIdx.ix2 r d) = Ideal.sin (angAt pos inv r d) * (if d.val < 64 then -1 else 1))
include hC hN

theorem rotQ_apply (b : Fin 12) (i : Fin 4) (n : ℕ) (hn : n < 48) (hb : b.val = n / 4) (hi : i.val = n % 4) (r : Fin 256) (d : Fin 128) :
    rotQ (F := Ideal) c XQ arg5 (arg5.view.rep S) (hvM.view.rep H) (cosM.view.rep C) (sinM.view.rep N) b i (ValueIdx.ix2 r d)
      = ropeAt (headAt H XQ S r n hn) (angAt pos inv r d) d := by
  unfold rotQ cosV sinV
  rw [readAt_whole cosM C _ _ (fun a => by fin_cases a <;> rfl), readAt_whole sinM N _ _ (fun a => by fin_cases a <;> rfl)]
  exact rope_apply _ _ _ _ _ r d (fun d => head_apply c XQ arg5 S H b i n hn hb hi r d) (hC r d) (hN r d)
theorem stQ_apply (n : ℕ) (hn : n < 32) (r : Fin 256) (d : Fin 128) :
    stQ (F := Ideal) c XQ arg5 (arg5.view.rep S) (hvM.view.rep H) (cosM.view.rep C) (sinM.view.rep N) n (ValueIdx.ix3 (n0 := 1) (n1 := 256) (n2 := 128) 0 r d)
      = ropeAt (headAt H XQ S r n (by omega)) (angAt pos inv r d) d :=
  (roundV_apply _ r d).trans (rotQ_apply c XQ arg5 S H C N pos inv hC hN _ _ n _ (Ring.bk_val (by omega)) rfl r d)
theorem valP2_apply (r : Fin 256) (n : Fin 32) (d : Fin 128) :
    valP2 (F := Ideal) c XQ arg5 (arg5.view.rep S) (hvM.view.rep H) (cosM.view.rep C) (sinM.view.rep N) (ValueIdx.ix3 r n d)
      = qF H XQ S pos inv (ValueIdx.ix3 r n d) := by
  have hn := n.isLt
  have hcong : ∀ k (hk : k < 32), k = n.val → ropeAt (headAt H XQ S r k (by omega)) (angAt pos inv r d) d = qF H XQ S pos inv (ValueIdx.ix3 r n d) := fun k hk e => by
    subst e; rfl
  refine (pay25_apply _ _ r _ d).trans ?_
  show (if n.val % 2 = 0 then _ else _) = _
  by_cases h : n.val % 2 = 0
  · rw [if_pos h]
    have hk : 2 * (n.val / 2) < 32 := by omega
    exact (stQ_apply c XQ arg5 S H C N pos inv hC hN _ hk r d).trans (hcong _ hk (by omega))
  · rw [if_neg h]
    have hk : 2 * (n.val / 2) + 1 < 32 := by omega
    exact (stQ_apply c XQ arg5 S H C N pos inv hC hN _ hk r d).trans (hcong _ hk (by omega))
end Res

/-- A scale, loaded. -/
theorem wordV_rep (c : Dev nD) (M : Memref sig .tc .smem S1 .f32) (X : S1.Idx → Elt Ideal .f32) : wordV (F := Ideal) c M (M.view.rep X) = X (ValueIdx.ix1 (n := 1) 0) := by
  unfold wordV
  rw [readAt_rep]
  refine congrArg X (funext fun a => Fin.ext ?_)
  fin_cases a
  have h : (Shape.Idx.first (s := S1) (by decide) (0 : Fin 1)).val < 1 := (Shape.Idx.first (s := S1) (by decide) (0 : Fin 1)).isLt
  show 0 + 1 * (Shape.Idx.first (s := S1) (by decide) (0 : Fin 1)).val = 0
  omega

theorem valK_apply (c : Dev nD) (XQ) (arg1 : Memref sig .tc .smem S1 .f32) (arg5 : Memref sig .tc .vmem S1x6144 .f32) (X1 : S1.Idx → Elt Ideal .f32)
    (S : Vec Ideal S1x6144 .f32) (H : Vec Ideal S256x2560 .bf16) (C N : FVec Ideal S256x128 .f32) (pos : S256.Idx → BitVec 32) (inv : Fin 64 → EReal)
    (hC : ∀ r d, C (ValueIdx.ix2 r d) = Ideal.cos (angAt pos inv r d))
    (hN : ∀ r d, N (ValueIdx.ix2 r d) = Ideal.sin (angAt pos inv r d) * (if d.val < 64 then -1 else 1)) (r : Fin 256) (n : Fin 8) (d : Fin 128) :
    valK (F := Ideal) c XQ arg1 arg5 (arg1.view.rep X1) (arg5.view.rep S) (hvM.view.rep H) (cosM.view.rep C) (sinM.view.rep N) (ValueIdx.ix3 r n d)
      = kF H XQ S pos inv (X1 (ValueIdx.ix1 (n := 1) 0)) (ValueIdx.ix3 r n d) := by
  have hn := n.isLt
  unfold valK
  rw [wordV_rep]
  refine (codeV_apply _ _ r d).trans (congrArg (codeAt · _) ?_)
  exact rotQ_apply c XQ arg5 S H C N pos inv hC hN _ _ (32 + n.val) (by omega)
    ((Ring.bk_val (show 8 + n.val / 4 < 12 by omega)).trans (by omega)) (by show n.val % 4 = (32 + n.val) % 4; omega) r d
theorem valV_apply (c : Dev nD) (XQ) (arg2 : Memref sig .tc .smem S1 .f32) (arg5 : Memref sig .tc .vmem S1x6144 .f32) (X2 : S1.Idx → Elt Ideal .f32)
    (S : Vec Ideal S1x6144 .f32) (H : Vec Ideal S256x2560 .bf16) (r : Fin 256) (n : Fin 8) (d : Fin 128) :
    valV (F := Ideal) c XQ arg2 arg5 (arg2.view.rep X2) (arg5.view.rep S) (hvM.view.rep H) (ValueIdx.ix3 r n d)
      = vF H XQ S (X2 (ValueIdx.ix1 (n := 1) 0)) (ValueIdx.ix3 r n d) := by
  have hn := n.isLt
  unfold valV
  rw [wordV_rep]
  refine (codeV_apply _ _ r d).trans (congrArg (codeAt · _) ?_)
  exact head_apply c XQ arg5 S H _ _ (40 + n.val) (by omega)
    ((Ring.bk_val (show 10 + n.val / 4 < 12 by omega)).trans (by omega)) (by show n.val % 4 = (40 + n.val) % 4; omega) r d

/-! ### The results as functions of the argument arrays -/

variable (m : (ℓ : Loc nD τ sig) → Buf (Elt Ideal) ℓ)

/-- Each input window's block is its whole array. -/
theorem iblk0_eq (c : Dev nD) : iblk m c 0 t0_0 = m ((c : Thread nD τ).loc main_arg1) :=
  (Memref.read_access_unit_zero (Elt Ideal) main_arg1 (funext fun a => by fin_cases a <;> decide) (fun a => by fin_cases a <;> decide) _).trans (V_main_arg1 m c)
theorem iblk1_eq (c : Dev nD) : iblk m c 1 t0_0 = m ((c : Thread nD τ).loc main_arg2) :=
  (Memref.read_access_unit_zero (Elt Ideal) main_arg2 (funext fun a => by fin_cases a <;> decide) (fun a => by fin_cases a <;> decide) _).trans (V_main_arg2 m c)
theorem iblk2_eq (c : Dev nD) : iblk m c 2 t0_0 = m ((c : Thread nD τ).loc main_arg3) :=
  (Memref.read_access_unit_zero (Elt Ideal) main_arg3 (funext fun a => by fin_cases a <;> decide) (fun a => by fin_cases a <;> decide) _).trans (V_main_arg3 m c)
theorem iblk3_eq (c : Dev nD) : iblk m c 3 t0_0 = V m c main_v9 :=
  Memref.read_access_unit_zero (Elt Ideal) main_v9 (funext fun a => by fin_cases a <;> decide) (fun a => by fin_cases a <;> decide) _
theorem iblk4_eq (c : Dev nD) : iblk m c 4 t0_0 = V m c main_v10 :=
  Memref.read_access_unit_zero (Elt Ideal) main_v10 (funext fun a => by fin_cases a <;> decide) (fun a => by fin_cases a <;> decide) _
theorem iblk5_eq (c : Dev nD) : iblk m c 5 t0_0 = V m c main_v11 :=
  Memref.read_access_unit_zero (Elt Ideal) main_v11 (funext fun a => by fin_cases a <;> decide) (fun a => by fin_cases a <;> decide) _

/-- The normalized input; -/
abbrev nrmFK (c : Dev nD) : Vec Ideal S256x2560 .bf16 := nrmF (m ((c : Thread nD τ).loc main_arg0)) (V m c main_v10)
theorem GH_eq (c : Dev nD) (X) (arg4 : Memref sig .tc .vmem S1x2560 .f32) (G : Vec Ideal S1x2560 .f32) :
    GH (F := Ideal) c X arg4 (arg4.view.rep G) = hvM.view.rep (nrmF X G) := by
  unfold GH GX
  rw [readAt_whole xvM _ _ _ (fun a => by fin_cases a <;> rfl), readAt_whole arg4 G _ _ (fun a => by fin_cases a <;> rfl)]
  exact congrArg _ (ext2 fun r j => pay22_apply _ _ r j)
theorem nrm_eq (c : Dev nD) : nrm m c = hvM.view.rep (nrmFK m c) := by
  refine (GH_eq c _ (st0_4 t0_0) _).trans ?_
  rw [iblk4_eq, V_main_arg0]

section Ang0
variable (c : Dev nD) (arg0 : Memref sig .tc .smem S256 .i32) (arg3 : Memref sig .tc .vmem S1x128 .f32) (pos : S256.Idx → BitVec 32) (f : Vec Ideal S1x128 .f32)
  (inv : Fin 64 → EReal) (hi : ∀ d : Fin 128, f (ValueIdx.ix2 0 d) = inv ⟨d.val % 64, Nat.mod_lt _ (by decide)⟩)
include hi

theorem valP_apply (r : Fin 256) (d : Fin 128) : valP (F := Ideal) c arg0 (arg0.view.rep pos) (ValueIdx.ix2 r d) * f (ValueIdx.ix2 0 d) = angAt pos inv r d := by
  rw [hi d]
  refine congrArg (· * _) ?_
  unfold valP
  rw [View.read_rep]
  exact pay1_apply _ d
/-- the angles' cosines; -/
theorem csV_apply (r : Fin 256) (d : Fin 128) :
    csV (F := Ideal) c arg0 arg3 (arg0.view.rep pos) (arg3.view.rep f) (ValueIdx.ix2 r d) = Ideal.cos (angAt pos inv r d) := by
  unfold csV GP
  rw [readAt_whole cosM _ _ _ (fun a => by fin_cases a <;> rfl), readAt_whole arg3 f _ _ (fun a => by fin_cases a <;> rfl)]
  exact (pay20_apply _ _ r d).trans (congrArg Ideal.cos (valP_apply c arg0 pos f inv hi r d))
/-- their sines, signed. -/
theorem snV_apply (r : Fin 256) (d : Fin 128) :
    k0_pay21 (angV (F := Ideal) c arg0 arg3 (arg0.view.rep pos) (arg3.view.rep f)) (iota .tc S1x128 32 [1] iota_S1x128_d1_w32) (ValueIdx.ix2 r d)
      = Ideal.sin (angAt pos inv r d) * (if d.val < 64 then -1 else 1) := by
  refine (pay21_apply _ r d).trans (congrArg (Ideal.sin · * _) ?_)
  unfold angV GP
  rw [readAt_whole cosM _ _ _ (fun a => by fin_cases a <;> rfl), readAt_whole arg3 f _ _ (fun a => by fin_cases a <;> rfl)]
  exact (pay19_apply _ _ r d).trans (valP_apply c arg0 pos f inv hi r d)
end Ang0

section Ang
variable (c : Dev nD) (inv : Fin 64 → EReal) (hi : ∀ d : Fin 128, V m c main_v9 (ValueIdx.ix2 0 d) = inv ⟨d.val % 64, Nat.mod_lt _ (by decide)⟩)
include hi

theorem cs_apply (r : Fin 256) (d : Fin 128) :
    csV (F := Ideal) c (st0_0 t0_0) (st0_3 t0_0) (sg0 m c) (sg3 m c) (ValueIdx.ix2 r d) = Ideal.cos (angAt (m ((c : Thread nD τ).loc main_arg1)) inv r d) := by
  unfold sg0 sg3
  rw [iblk0_eq, iblk3_eq]
  exact csV_apply c (st0_0 t0_0) (st0_3 t0_0) _ _ inv hi r d
theorem sn_apply (r : Fin 256) (d : Fin 128) :
    k0_pay21 (angV (F := Ideal) c (st0_0 t0_0) (st0_3 t0_0) (sg0 m c) (sg3 m c)) (iota .tc S1x128 32 [1] iota_S1x128_d1_w32) (ValueIdx.ix2 r d)
      = Ideal.sin (angAt (m ((c : Thread nD τ).loc main_arg1)) inv r d) * (if d.val < 64 then -1 else 1) := by
  unfold sg0 sg3
  rw [iblk0_eq, iblk3_eq]
  exact snV_apply c (st0_0 t0_0) (st0_3 t0_0) _ _ inv hi r d

theorem resQ0_eq : resQ0 m c = qF (nrmFK m c) (m ((c : Thread nD τ).loc main_arg5)) (V m c main_v11) (m ((c : Thread nD τ).loc main_arg1)) inv := by
  funext y
  rw [ValueIdx.eq_ix3 y]
  unfold resQ0
  rw [nrm_eq]
  unfold cosT sinT GC GS sg5
  rw [iblk5_eq, V_main_arg5]
  exact valP2_apply c _ (st0_5 t0_0) _ _ _ _ _ inv (cs_apply m c inv hi) (sn_apply m c inv hi) _ _ _
theorem resK_eq : resK m c = kF (nrmFK m c) (m ((c : Thread nD τ).loc main_arg5)) (V m c main_v11) (m ((c : Thread nD τ).loc main_arg1)) inv
    (m ((c : Thread nD τ).loc main_arg2) (ValueIdx.ix1 (n := 1) 0)) := by
  funext y
  rw [ValueIdx.eq_ix3 y]
  unfold resK
  rw [nrm_eq]
  unfold cosT sinT GC GS sg5 sg1
  rw [iblk5_eq, iblk1_eq, V_main_arg5]
  exact valK_apply c _ (st0_1 t0_0) (st0_5 t0_0) _ _ _ _ _ _ inv (cs_apply m c inv hi) (sn_apply m c inv hi) _ _ _
end Ang
theorem resV_eq (c : Dev nD) : resV m c = vF (nrmFK m c) (m ((c : Thread nD τ).loc main_arg5)) (V m c main_v11) (m ((c : Thread nD τ).loc main_arg3) (ValueIdx.ix1 (n := 1) 0)) := by
  funext y
  rw [ValueIdx.eq_ix3 y]
  unfold resV
  rw [nrm_eq]
  unfold sg5 sg2
  rw [iblk5_eq, iblk2_eq, V_main_arg5]
  exact valV_apply c _ (st0_2 t0_0) (st0_5 t0_0) _ _ _ _ _ _

end Cert.Proof.FrontExpr

end
-- ==== Proof.FrontRefEq.lean ====
/-
  The front reference's results at an element, over the extended reals.
-/
module

public import proofs.«01_k».proof.Proof.FrontExpr
public import proofs.«01_k».proof.Proof.RefFrontValue

@[expose] public section

set_option maxRecDepth 16384

noncomputable section

namespace Cert.Proof.FrontExpr

open Idealize.ShloMosaic Idealize.SL.Sem
open Idealize.ShloMosaic.TcCoe Idealize.ShloMosaic.Tactic

section Ref
open Cert.ReferenceFrontIdeal Cert.ReferenceFrontIdeal.Gen

theorem ref_qkv_apply (x : Vec Ideal S256x2560 .bf16) (g : Vec Ideal S1x2560 .f32) (w : Vec Ideal S2560x6144 .fp8e4m3) (s : Vec Ideal S1x6144 .f32)
    (r : Fin 256) (j : Fin 6144) : k0_pay2 x g w s (ValueIdx.ix2 r j) = linAt (nrmF x g) w s r j := by
  unfold k0_pay2 linAt nrmF nrmAt
  pointwise
  simp only [ofBits_2560, Ideal.div_coe (by norm_num : (2560 : ℝ) ≠ 0)]
  rfl
theorem ref_ang_apply (p : Vec Ideal S256x1 .i32) (f : Vec Ideal S1x64 .f32) (r : Fin 256) (d : Fin 64) :
    k0_pay3 p f (ValueIdx.ix2 r d) = (((p (ValueIdx.ix2 r 0)).toInt : ℝ) : EReal) * f (ValueIdx.ix2 0 d) := by
  unfold k0_pay3
  pointwise
  rfl
theorem ref_cos_apply (p : Vec Ideal S256x1 .i32) (f : Vec Ideal S1x64 .f32) (r : Fin 256) (d : Fin 128) :
    k0_pay4 p f (ValueIdx.ix3 (n0 := 256) (n1 := 1) (n2 := 128) r 0 d) = Ideal.cos (k0_pay3 p f (ValueIdx.ix2 r ⟨d.val % 64, Nat.mod_lt _ (by decide)⟩)) := by
  unfold k0_pay4
  generalize k0_pay3 p f = a
  by_cases h : d.val < 64
  · pointwise
    refine (dif_pos h).trans (congrArg (fun x => Ideal.cos (a (ValueIdx.ix2 r x))) (Fin.ext ?_))
    show d.val = d.val % 64
    omega
  · pointwise
    refine (dif_neg h).trans (congrArg (fun x => Ideal.cos (a (ValueIdx.ix2 r x))) (Fin.ext ?_))
    have := d.isLt
    show d.val - 64 = d.val % 64
    omega
theorem ref_sin_apply (p : Vec Ideal S256x1 .i32) (f : Vec Ideal S1x64 .f32) (r : Fin 256) (d : Fin 128) :
    k0_pay5 p f (ValueIdx.ix3 (n0 := 256) (n1 := 1) (n2 := 128) r 0 d) = Ideal.sin (k0_pay3 p f (ValueIdx.ix2 r ⟨d.val % 64, Nat.mod_lt _ (by decide)⟩)) := by
  unfold k0_pay5
  generalize k0_pay3 p f = a
  by_cases h : d.val < 64
  · pointwise
    refine (dif_pos h).trans (congrArg (fun x => Ideal.sin (a (ValueIdx.ix2 r x))) (Fin.ext ?_))
    show d.val = d.val % 64
    omega
  · pointwise
    refine (dif_neg h).trans (congrArg (fun x => Ideal.sin (a (ValueIdx.ix2 r x))) (Fin.ext ?_))
    have := d.isLt
    show d.val - 64 = d.val % 64
    omega
theorem ref_q6_apply (x : Vec Ideal S256x2560 .bf16) (g : Vec Ideal S1x2560 .f32) (w : Vec Ideal S2560x6144 .fp8e4m3) (s : Vec Ideal S1x6144 .f32)
    (r : Fin 256) (n : Fin 32) (d : Fin 128) : k0_pay6 x g w s (ValueIdx.ix3 (n0 := 256) (n1 := 32) (n2 := 128) r n d) = k0_pay2 x g w s (ValueIdx.ix2 r ⟨128 * n.val + d.val, by omega⟩) := by
  unfold k0_pay6
  generalize k0_pay2 x g w s = a
  pointwise
  refine congrArg (fun x => a (ValueIdx.ix2 r x)) (Fin.ext ?_)
  show n.val * 128 + d.val = 128 * n.val + d.val
  omega
theorem ref_q7_apply (x : Vec Ideal S256x2560 .bf16) (g : Vec Ideal S1x2560 .f32) (w : Vec Ideal S2560x6144 .fp8e4m3) (s : Vec Ideal S1x6144 .f32)
    (p : Vec Ideal S256x1 .i32) (f : Vec Ideal S1x64 .f32) (r : Fin 256) (n : Fin 32) (d : Fin 128) :
    k0_pay7 x g w s p f (ValueIdx.ix3 (n0 := 256) (n1 := 32) (n2 := 128) r n d) = k0_pay6 x g w s (ValueIdx.ix3 r n d) * k0_pay4 p f (ValueIdx.ix3 r 0 d) := by
  unfold k0_pay7
  generalize k0_pay6 x g w s = a
  generalize k0_pay4 p f = b
  pointwise
  rfl
theorem ref_v10_apply (a : FVec Ideal S256x6144 .f32)
    (r : Fin 256) (n : Fin 8) (d : Fin 128) : k0_pay10 a (ValueIdx.ix3 (n0 := 256) (n1 := 8) (n2 := 128) r n d) = a (ValueIdx.ix2 r ⟨128 * (40 + n.val) + d.val, by omega⟩) := by
  unfold k0_pay10
  pointwise
  refine congrArg (fun x => a (ValueIdx.ix2 r x)) (Fin.ext ?_)
  show 5120 + (n.val * 128 + d.val) = 128 * (40 + n.val) + d.val
  omega
theorem ref_v1_apply (a : FVec Ideal S256x8x128 .f32) (v : Vec Ideal S1x1 .f32) (r : Fin 256) (n : Fin 8) (d : Fin 128) :
    k0_pay1 a (k0_pay11 v) (ValueIdx.ix3 (n0 := 256) (n1 := 8) (n2 := 128) r n d) = codeAt (a (ValueIdx.ix3 r n d)) (v (ValueIdx.ix2 0 0)) := by
  unfold k0_pay1 k0_pay11 codeAt
  pointwise
  rfl
theorem ref_q8_apply (sn : FVec Ideal S256x1x128 .f32) (t u : FVec Ideal S256x32x128 .f32) (r : Fin 256) (n : Fin 32) (d : Fin 128) :
    k0_pay8 sn t u (ValueIdx.ix3 (n0 := 256) (n1 := 32) (n2 := 128) r n d)
      = u (ValueIdx.ix3 r n d) + (if h : d.val < 64 then -(t (ValueIdx.ix3 r n ⟨d.val + 64, by omega⟩)) else t (ValueIdx.ix3 r n ⟨d.val - 64, by omega⟩)) * sn (ValueIdx.ix3 r 0 d) := by
  unfold k0_pay8
  pointwise
  refine congrArg₂ (· + ·) rfl (congrArg₂ (· * ·) ?_ rfl)
  by_cases h : d.val < 64
  · rw [dif_pos h, dif_pos h]
    exact (zero_sub _).trans (congrArg (fun x => -t (ValueIdx.ix3 r n x)) (Fin.ext (Nat.add_comm _ _)))
  · rw [dif_neg h, dif_neg h]
    rfl
theorem ref_k9_apply (a : FVec Ideal S256x6144 .f32) (cs sn : FVec Ideal S256x1x128 .f32) (v : Vec Ideal S1x1 .f32) (r : Fin 256) (n : Fin 8) (d : Fin 128) :
    k0_pay9 a cs sn v (ValueIdx.ix3 (n0 := 256) (n1 := 8) (n2 := 128) r n d)
      = codeAt (a (ValueIdx.ix2 r ⟨128 * (32 + n.val) + d.val, by omega⟩) * cs (ValueIdx.ix3 r 0 d)
          + (if h : d.val < 64 then -(a (ValueIdx.ix2 r ⟨128 * (32 + n.val) + (d.val + 64), by omega⟩)) else a (ValueIdx.ix2 r ⟨128 * (32 + n.val) + (d.val - 64), by omega⟩))
            * sn (ValueIdx.ix3 r 0 d)) (v (ValueIdx.ix2 0 0)) := by
  have hcol : ∀ k l : Fin 6144, k.val = l.val → a (ValueIdx.ix2 r k) = a (ValueIdx.ix2 r l) := fun k l e => by rw [Fin.ext e]
  unfold k0_pay9 codeAt
  pointwise
  refine congrArg₂ min rfl (congrArg₂ max rfl (congrArg₂ (· * ·) (congrArg₂ (· + ·) (congrArg₂ (· * ·) (hcol _ _ ?_) rfl) (congrArg₂ (· * ·) ?_ rfl)) rfl))
  · show 4096 + (n.val * 128 + d.val) = 128 * (32 + n.val) + d.val
    omega
  · by_cases h : d.val < 64
    · rw [dif_pos h, dif_pos h]
      refine (zero_sub _).trans (congrArg (- ·) (hcol _ _ ?_))
      show 4096 + (n.val * 128 + (64 + d.val)) = 128 * (32 + n.val) + (d.val + 64)
      omega
    · rw [dif_neg h, dif_neg h]
      refine hcol _ _ ?_
      show 4096 + (n.val * 128 + (d.val - 64)) = 128 * (32 + n.val) + (d.val - 64)
      omega

section Res
variable (x : Vec Ideal S256x2560 .bf16) (g : Vec Ideal S1x2560 .f32) (w : Vec Ideal S2560x6144 .fp8e4m3) (s : Vec Ideal S1x6144 .f32)
  (p : Vec Ideal S256x1 .i32) (f : Vec Ideal S1x64 .f32) (v : Vec Ideal S1x1 .f32)

/-- The positions and the frequencies as families. -/
abbrev posF : (⟨1, ![256]⟩ : Shape).Idx → BitVec 32 := fun y => p (ValueIdx.ix2 (n0 := 256) (n1 := 1) (y 0) 0)
abbrev invF : Fin 64 → EReal := fun k => f (ValueIdx.ix2 0 k)

theorem ref_q_apply (r : Fin 256) (n : Fin 32) (d : Fin 128) :
    k0_pay8 (k0_pay5 p f) (k0_pay6 x g w s) (k0_pay7 x g w s p f) (ValueIdx.ix3 (n0 := 256) (n1 := 32) (n2 := 128) r n d)
      = qF (nrmF x g) w s (posF p) (invF f) (ValueIdx.ix3 r n d) := by
  have hq : ∀ d, k0_pay6 x g w s (ValueIdx.ix3 (n0 := 256) (n1 := 32) (n2 := 128) r n d) = headAt (nrmF x g) w s r n.val (by omega) d :=
    fun d => (ref_q6_apply x g w s r n d).trans (ref_qkv_apply x g w s r _)
  rw [ref_q8_apply, ref_q7_apply, ref_cos_apply, ref_sin_apply, ref_ang_apply]
  simp only [hq]
  rfl
theorem ref_k_apply (r : Fin 256) (n : Fin 8) (d : Fin 128) :
    k0_pay9 (k0_pay2 x g w s) (k0_pay4 p f) (k0_pay5 p f) v (ValueIdx.ix3 (n0 := 256) (n1 := 8) (n2 := 128) r n d)
      = kF (nrmF x g) w s (posF p) (invF f) (v (ValueIdx.ix2 0 0)) (ValueIdx.ix3 r n d) := by
  rw [ref_k9_apply, ref_cos_apply, ref_sin_apply, ref_ang_apply]
  simp only [ref_qkv_apply]
  rfl
theorem ref_v_apply (r : Fin 256) (n : Fin 8) (d : Fin 128) :
    k0_pay1 (k0_pay10 (k0_pay2 x g w s)) (k0_pay11 v) (ValueIdx.ix3 (n0 := 256) (n1 := 8) (n2 := 128) r n d)
      = vF (nrmF x g) w s (v (ValueIdx.ix2 0 0)) (ValueIdx.ix3 r n d) := by
  rw [ref_v1_apply, ref_v10_apply, ref_qkv_apply]
  rfl
end Res

variable (m : (ℓ : Loc nD τ sig) → Buf (Elt Ideal) ℓ) (c : Dev nD)

theorem qV_eq : RefFront.qV m c = qF (nrmF (m ((c : Thread nD τ).loc main_arg0)) (V m c main_v12)) (m ((c : Thread nD τ).loc main_arg5)) (V m c main_v13)
    (posF (V m c main_v8)) (invF (V m c main_v11)) := by
  funext y
  rw [ValueIdx.eq_ix3 y]
  exact ref_q_apply _ _ _ _ _ _ _ _ _
theorem kV_eq : RefFront.kV m c = kF (nrmF (m ((c : Thread nD τ).loc main_arg0)) (V m c main_v12)) (m ((c : Thread nD τ).loc main_arg5)) (V m c main_v13)
    (posF (V m c main_v8)) (invF (V m c main_v11)) (V m c main_v9 (ValueIdx.ix2 (n0 := 1) (n1 := 1) 0 0)) := by
  funext y
  rw [ValueIdx.eq_ix3 y]
  exact ref_k_apply _ _ _ _ _ _ _ _ _ _
theorem vV_eq : RefFront.vV m c = vF (nrmF (m ((c : Thread nD τ).loc main_arg0)) (V m c main_v12)) (m ((c : Thread nD τ).loc main_arg5)) (V m c main_v13)
    (V m c main_v10 (ValueIdx.ix2 (n0 := 1) (n1 := 1) 0 0)) := by
  funext y
  rw [ValueIdx.eq_ix3 y]
  exact ref_v_apply _ _ _ _ _ _ _ _

end Ref

end Cert.Proof.FrontExpr

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Front
public import proofs.«01_k».proof.Proof.Gen.Front.Skeleton
public import proofs.«01_k».proof.Proof.Gen.Front.Loops
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Loops
public import proofs.«01_k».proof.Proof.Gen.FrontIdeal.Launch
public import proofs.«01_k».proof.Proof.Gen.FrontIdeal.Points
public import proofs.«01_k».proof.Proof.Gen.FrontIdeal.Frame
public import proofs.«01_k».proof.Proof.Gen.ReferenceFrontIdeal
public import proofs.«01_k».proof.Proof.Gen.ReferenceFrontIdeal.Skeleton
public import proofs.«01_k».proof.Proof.Gen.ReferenceFrontIdeal.Launch
public import proofs.«01_k».proof.Proof.Gen.ReferenceFrontIdeal.Points
public import proofs.«01_k».proof.Proof.Gen.ReferenceFrontIdeal.Frame
public import proofs.«01_k».proof.Proof.KernelFrame
public import proofs.«01_k».proof.Proof.KernelIdealRun
public import proofs.«01_k».proof.Proof.RefValue
public import proofs.«01_k».proof.Proof.Value
public import proofs.«01_k».proof.Proof.FrontRun
public import proofs.«01_k».proof.Proof.FrontIdealRun
public import proofs.«01_k».proof.Proof.RefFrontValue
public import proofs.«01_k».proof.Proof.FrontKernelValue
public import proofs.«01_k».proof.Proof.FrontRefEq
public import Idealize.ShloMosaic.Lib.Claim
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

open Idealize.ShloMosaic.TcCoe Idealize.ShloMosaic.Tactic

/-! ## The scales as the two programs' regions find them: the launched arrays reshaped to one row, the same on both sides -/

section Rows
variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)

theorem row0_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.V m' c Cert.ReferenceIdeal.main_v0 = Cert.KernelIdeal.Gen.V m c Cert.KernelIdeal.main_v0 := by
  entry_read
  rw [h]
  rfl
theorem row1_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Gen.V m' c Cert.ReferenceIdeal.main_v1 = Cert.KernelIdeal.Gen.V m c Cert.KernelIdeal.main_v1 := by
  entry_read
  rw [h]
  rfl
theorem row2_eq (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Gen.V m' c Cert.ReferenceIdeal.main_v2 = Cert.KernelIdeal.Gen.V m c Cert.KernelIdeal.main_v2 := by
  entry_read
  rw [h]
  rfl
theorem row3_eq (h : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Gen.V m' c Cert.ReferenceIdeal.main_v3 = Cert.KernelIdeal.Gen.V m c Cert.KernelIdeal.main_v3 := by
  entry_read
  rw [h]
  rfl
theorem row4_eq (h : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Gen.V m' c Cert.ReferenceIdeal.main_v4 = Cert.KernelIdeal.Gen.V m c Cert.KernelIdeal.main_v4 := by
  entry_read
  rw [h]
  rfl

/-- The memories agree on the arguments. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-! ## The results are the same functions of arguments that agree -/

theorem mid_agree (h : Agree m m' c) : Ref.midV m' c = Cert.Proof.KernelIdeal.resMid m c := by
  obtain ⟨h0, h1, h2, h3, h4, h5, h6, h7, h8, h9, h10⟩ := h
  rw [midV_eq, hmV_eq, h0, h1, h3, row1_eq m m' c h4]
  exact (resMid_eq m c).symm
theorem act_agree (h : Agree m m' c) : Ref.actV m' c = Cert.Proof.KernelIdeal.resAct m c := by
  obtain ⟨h0, h1, h2, h3, h4, h5, h6, h7, h8, h9, h10⟩ := h
  rw [actV_eq, nrmV_eq, hmV_eq, h0, h1, h3, h5, h7, row0_eq m m' c h2, row1_eq m m' c h4, row2_eq m m' c h6, row3_eq m m' c h8]
  exact (resAct_eq m c).symm
theorem out_agree (h : Agree m m' c) : Ref.outV m' c = Cert.Proof.KernelIdeal.resOut m c := by
  have ha := (act_agree m m' c h).trans (resAct_eq m c)
  obtain ⟨h0, h1, h2, h3, h4, h5, h6, h7, h8, h9, h10⟩ := h
  rw [outV_eq, ha, hmV_eq, h0, h1, h3, h9, row1_eq m m' c h4, row4_eq m m' c h10]
  exact (resOut_eq m c).symm
end Rows

/-! ## The front slice's operands: the launched arrays laid out by the host, the same entries on both sides -/

section FrontRows
variable (m : (ℓ : Loc Cert.FrontIdeal.nD Cert.FrontIdeal.τ Cert.FrontIdeal.sig) → Buf (Elt Ideal) ℓ)
    (m' : (ℓ : Loc Cert.ReferenceFrontIdeal.nD Cert.ReferenceFrontIdeal.τ Cert.ReferenceFrontIdeal.sig) → Buf (Elt Ideal) ℓ) (c : Dev Cert.FrontIdeal.nD)

theorem front_g (h : m' ((c.tc : Thread Cert.ReferenceFrontIdeal.nD Cert.ReferenceFrontIdeal.τ).loc Cert.ReferenceFrontIdeal.main_arg4) = m ((c.tc : Thread Cert.FrontIdeal.nD Cert.FrontIdeal.τ).loc Cert.FrontIdeal.main_arg4)) : Cert.ReferenceFrontIdeal.Gen.V m' c Cert.ReferenceFrontIdeal.main_v12 = Cert.FrontIdeal.Gen.V m c Cert.FrontIdeal.main_v10 := by
  entry_read
  rw [h]
  rfl
theorem front_s (h : m' ((c.tc : Thread Cert.ReferenceFrontIdeal.nD Cert.ReferenceFrontIdeal.τ).loc Cert.ReferenceFrontIdeal.main_arg6) = m ((c.tc : Thread Cert.FrontIdeal.nD Cert.FrontIdeal.τ).loc Cert.FrontIdeal.main_arg6)) : Cert.ReferenceFrontIdeal.Gen.V m' c Cert.ReferenceFrontIdeal.main_v13 = Cert.FrontIdeal.Gen.V m c Cert.FrontIdeal.main_v11 := by
  entry_read
  rw [h]
  rfl
theorem front_pos (h : m' ((c.tc : Thread Cert.ReferenceFrontIdeal.nD Cert.ReferenceFrontIdeal.τ).loc Cert.ReferenceFrontIdeal.main_arg1) = m ((c.tc : Thread Cert.FrontIdeal.nD Cert.FrontIdeal.τ).loc Cert.FrontIdeal.main_arg1)) : FrontExpr.posF (Cert.ReferenceFrontIdeal.Gen.V m' c Cert.ReferenceFrontIdeal.main_v8) = m ((c.tc : Thread Cert.FrontIdeal.nD Cert.FrontIdeal.τ).loc Cert.FrontIdeal.main_arg1) := by
  rw [← h]
  funext y
  unfold FrontExpr.posF
  entry_read
  pointwise
  exact congrArg _ (ValueIdx.eq_ix1 y).symm
theorem front_ks (h : m' ((c.tc : Thread Cert.ReferenceFrontIdeal.nD Cert.ReferenceFrontIdeal.τ).loc Cert.ReferenceFrontIdeal.main_arg2) = m ((c.tc : Thread Cert.FrontIdeal.nD Cert.FrontIdeal.τ).loc Cert.FrontIdeal.main_arg2)) : Cert.ReferenceFrontIdeal.Gen.V m' c Cert.ReferenceFrontIdeal.main_v9 (ValueIdx.ix2 (n0 := 1) (n1 := 1) 0 0) = m ((c.tc : Thread Cert.FrontIdeal.nD Cert.FrontIdeal.τ).loc Cert.FrontIdeal.main_arg2) (ValueIdx.ix1 (n := 1) 0) := by
  rw [← h]
  entry_read
  pointwise
  rfl
theorem front_vs (h : m' ((c.tc : Thread Cert.ReferenceFrontIdeal.nD Cert.ReferenceFrontIdeal.τ).loc Cert.ReferenceFrontIdeal.main_arg3) = m ((c.tc : Thread Cert.FrontIdeal.nD Cert.FrontIdeal.τ).loc Cert.FrontIdeal.main_arg3)) : Cert.ReferenceFrontIdeal.Gen.V m' c Cert.ReferenceFrontIdeal.main_v10 (ValueIdx.ix2 (n0 := 1) (n1 := 1) 0 0) = m ((c.tc : Thread Cert.FrontIdeal.nD Cert.FrontIdeal.τ).loc Cert.FrontIdeal.main_arg3) (ValueIdx.ix1 (n := 1) 0) := by
  rw [← h]
  entry_read
  pointwise
  rfl
/-- The kernel's 128 frequencies are the reference's 64, twice. -/
theorem front_inv (d : Fin 128) : Cert.FrontIdeal.Gen.V m c Cert.FrontIdeal.main_v9 (ValueIdx.ix2 0 d) = FrontExpr.invF (Cert.ReferenceFrontIdeal.Gen.V m' c Cert.ReferenceFrontIdeal.main_v11) ⟨d.val % 64, Nat.mod_lt _ (by decide)⟩ := by
  unfold FrontExpr.invF
  entry_read
  pointwise
  by_cases h : d.val < 64
  · refine (dif_pos h).trans ?_
    rw [Nat.mod_eq_of_lt h]
  · refine (dif_neg h).trans ?_
    have := d.isLt
    rw [show d.val % 64 = d.val - 64 by omega]

/-- The memories agree on the arguments. -/
abbrev AgreeF : Prop :=
  m' ((c.tc : Thread Cert.ReferenceFrontIdeal.nD Cert.ReferenceFrontIdeal.τ).loc Cert.ReferenceFrontIdeal.main_arg0) = m ((c.tc : Thread Cert.FrontIdeal.nD Cert.FrontIdeal.τ).loc Cert.FrontIdeal.main_arg0)
    ∧ m' ((c.tc : Thread Cert.ReferenceFrontIdeal.nD Cert.ReferenceFrontIdeal.τ).loc Cert.ReferenceFrontIdeal.main_arg1) = m ((c.tc : Thread Cert.FrontIdeal.nD Cert.FrontIdeal.τ).loc Cert.FrontIdeal.main_arg1)
    ∧ m' ((c.tc : Thread Cert.ReferenceFrontIdeal.nD Cert.ReferenceFrontIdeal.τ).loc Cert.ReferenceFrontIdeal.main_arg2) = m ((c.tc : Thread Cert.FrontIdeal.nD Cert.FrontIdeal.τ).loc Cert.FrontIdeal.main_arg2)
    ∧ m' ((c.tc : Thread Cert.ReferenceFrontIdeal.nD Cert.ReferenceFrontIdeal.τ).loc Cert.ReferenceFrontIdeal.main_arg3) = m ((c.tc : Thread Cert.FrontIdeal.nD Cert.FrontIdeal.τ).loc Cert.FrontIdeal.main_arg3)
    ∧ m' ((c.tc : Thread Cert.ReferenceFrontIdeal.nD Cert.ReferenceFrontIdeal.τ).loc Cert.ReferenceFrontIdeal.main_arg4) = m ((c.tc : Thread Cert.FrontIdeal.nD Cert.FrontIdeal.τ).loc Cert.FrontIdeal.main_arg4)
    ∧ m' ((c.tc : Thread Cert.ReferenceFrontIdeal.nD Cert.ReferenceFrontIdeal.τ).loc Cert.ReferenceFrontIdeal.main_arg5) = m ((c.tc : Thread Cert.FrontIdeal.nD Cert.FrontIdeal.τ).loc Cert.FrontIdeal.main_arg5)
    ∧ m' ((c.tc : Thread Cert.ReferenceFrontIdeal.nD Cert.ReferenceFrontIdeal.τ).loc Cert.ReferenceFrontIdeal.main_arg6) = m ((c.tc : Thread Cert.FrontIdeal.nD Cert.FrontIdeal.τ).loc Cert.FrontIdeal.main_arg6)

theorem q_agree (h : AgreeF m m' c) : RefFront.qV m' c = Cert.Proof.FrontIdeal.resQ0 m c := by
  obtain ⟨h0, h1, h2, h3, h4, h5, h6⟩ := h
  rw [FrontExpr.qV_eq, h0, h5, front_g m m' c h4, front_s m m' c h6, front_pos m m' c h1]
  exact (FrontExpr.resQ0_eq m c _ (front_inv m m' c)).symm
theorem k_agree (h : AgreeF m m' c) : RefFront.kV m' c = Cert.Proof.FrontIdeal.resK m c := by
  obtain ⟨h0, h1, h2, h3, h4, h5, h6⟩ := h
  rw [FrontExpr.kV_eq, h0, h5, front_g m m' c h4, front_s m m' c h6, front_pos m m' c h1, front_ks m m' c h2]
  exact (FrontExpr.resK_eq m c _ (front_inv m m' c)).symm
theorem v_agree (h : AgreeF m m' c) : RefFront.vV m' c = Cert.Proof.FrontIdeal.resV m c := by
  obtain ⟨h0, h1, h2, h3, h4, h5, h6⟩ := h
  rw [FrontExpr.vV_eq, h0, h5, front_g m m' c h4, front_s m m' c h6, front_vs m m' c h3]
  exact (FrontExpr.resV_eq m c).symm
end FrontRows

theorem claim : Cert.Claim := ⟨Cert.Kernel.Gen.facts, Cert.KernelIdeal.Gen.facts, Cert.ReferenceIdeal.Gen.facts,
  Cert.Front.Gen.facts, Cert.FrontIdeal.Gen.facts, Cert.ReferenceFrontIdeal.Gen.facts,
  Cert.Proof.Kernel.frame,
  fun m g _ => (θ_run _ _ _).mono (fun r h => ⟨fun c => (h.1 c).2.2.2, h.2⟩) (Cert.Proof.KernelIdeal.run m g),
  fun m g _ => Cert.ReferenceIdeal.Gen.frame m g,
  fun m g _ => (θ_run _ _ _).mono (fun r h => ⟨fun c => (h.1 c).2.2.2, h.2⟩) (Cert.Proof.Front.run m g),
  fun m g _ => (θ_run _ _ _).mono (fun r h => ⟨fun c => (h.1 c).2.2.2, h.2⟩) (Cert.Proof.FrontIdeal.run m g),
  fun m g _ => Cert.ReferenceFrontIdeal.Gen.frame m g,
  IdealRules.named_const.statement Cert.KernelIdeal.κ "inv_n" .f32 0x39CCCCCD#32 ((1 / 2560 : ℝ) : EReal) rfl,
  fun m g m' g' _ hargs => ⟨Cert.Proof.KernelIdeal.resOut m, Cert.Proof.KernelIdeal.resMid m, Cert.Proof.KernelIdeal.resAct m,
    (θ_run _ _ _).mono (fun r h => h.1) (Cert.Proof.KernelIdeal.run m g),
    (θ_run _ _ _).mono (fun r h c => ⟨(h c).1.trans (out_agree m m' c (hargs c)), (h c).2.1.trans (mid_agree m m' c (hargs c)),
      (h c).2.2.1.trans (act_agree m m' c (hargs c)), (h c).2.2.2⟩) (Cert.Proof.Ref.run m' g')⟩,
  ⟨IdealRules.named_const.statement Cert.FrontIdeal.κ "inv_n" .f32 0x39CCCCCD#32 ((1 / 2560 : ℝ) : EReal) rfl,
    IdealRules.bf16_pair.packStatement _, IdealRules.bf16_pair.statement _ _⟩,
  fun m g m' g' _ hargs => ⟨Cert.Proof.FrontIdeal.resQ0 m, Cert.Proof.FrontIdeal.resK m, Cert.Proof.FrontIdeal.resV m,
    (θ_run _ _ _).mono (fun r h => h.1) (Cert.Proof.FrontIdeal.run m g),
    (θ_run _ _ _).mono (fun r h c => ⟨(h c).1.trans (q_agree m m' c (hargs c)), (h c).2.1.trans (k_agree m m' c (hargs c)),
      (h c).2.2.1.trans (v_agree m m' c (hargs c)), (h c).2.2.2⟩) (Cert.Proof.RefFront.run m' g')⟩⟩

end Cert.Proof

end
